-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v22)) (v2 : (c : Dev Cert.Kernel2Ideal.nD) → Buf (Elt Ideal) ((c.tc : Thread Cert.Kernel2Ideal.nD Cert.Kernel2Ideal.τ).loc Cert.Kernel2Ideal.main_v25)) (v3 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v22) = v1 c
          ∧ r.2.mem ((c.tc : Thread Cert.Kernel2Ideal.nD Cert.Kernel2Ideal.τ).loc Cert.Kernel2Ideal.main_v25) = v2 c
          ∧ r.2.mem ((c.tc : Thread Cert.Kernel2Ideal.nD Cert.Kernel2Ideal.τ).loc Cert.Kernel2Ideal.main_v19) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v163) = v0 c
          ∧ r.2.mem ((c.tc : Thread Cert.Reference2Ideal.nD Cert.Reference2Ideal.τ).loc Cert.Reference2Ideal.main_v162) = v1 c
          ∧ r.2.mem ((c.tc : Thread Cert.Reference2Ideal.nD Cert.Reference2Ideal.τ).loc Cert.Reference2Ideal.main_v161) = v2 c
          ∧ r.2.mem ((c.tc : Thread Cert.Reference2Ideal.nD Cert.Reference2Ideal.τ).loc Cert.Reference2Ideal.main_v137) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)) (v2 : (c : Dev Cert.Kernel3Ideal.nD) → Buf (Elt Ideal) ((c.tc : Thread Cert.Kernel3Ideal.nD Cert.Kernel3Ideal.τ).loc Cert.Kernel3Ideal.main_v23_2)) (v3 : (c : Dev Cert.Kernel3Ideal.nD) → Buf (Elt Ideal) ((c.tc : Thread Cert.Kernel3Ideal.nD Cert.Kernel3Ideal.τ).loc Cert.Kernel3Ideal.main_v23_3)) (v4 : (c : Dev Cert.Kernel3Ideal.nD) → Buf (Elt Ideal) ((c.tc : Thread Cert.Kernel3Ideal.nD Cert.Kernel3Ideal.τ).loc Cert.Kernel3Ideal.main_v23_4)) (v5 : (c : Dev Cert.Kernel3Ideal.nD) → Buf (Elt Ideal) ((c.tc : Thread Cert.Kernel3Ideal.nD Cert.Kernel3Ideal.τ).loc Cert.Kernel3Ideal.main_v23_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_v23_2) = v2 c
          ∧ r.2.mem ((c.tc : Thread Cert.Kernel3Ideal.nD Cert.Kernel3Ideal.τ).loc Cert.Kernel3Ideal.main_v23_3) = v3 c
          ∧ r.2.mem ((c.tc : Thread Cert.Kernel3Ideal.nD Cert.Kernel3Ideal.τ).loc Cert.Kernel3Ideal.main_v23_4) = v4 c
          ∧ r.2.mem ((c.tc : Thread Cert.Kernel3Ideal.nD Cert.Kernel3Ideal.τ).loc Cert.Kernel3Ideal.main_v23_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v62) = v3 c
          ∧ r.2.mem ((c.tc : Thread Cert.Reference3Ideal.nD Cert.Reference3Ideal.τ).loc Cert.Reference3Ideal.main_v63) = v4 c
          ∧ r.2.mem ((c.tc : Thread Cert.Reference3Ideal.nD Cert.Reference3Ideal.τ).loc Cert.Reference3Ideal.main_v31) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)) (v4 : (c : Dev Cert.Kernel4Ideal.nD) → Buf (Elt Ideal) ((c.tc : Thread Cert.Kernel4Ideal.nD Cert.Kernel4Ideal.τ).loc Cert.Kernel4Ideal.main_v10_4)) (v5 : (c : Dev Cert.Kernel4Ideal.nD) → Buf (Elt Ideal) ((c.tc : Thread Cert.Kernel4Ideal.nD Cert.Kernel4Ideal.τ).loc Cert.Kernel4Ideal.main_v10_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_v10_4) = v4 c
          ∧ r.2.mem ((c.tc : Thread Cert.Kernel4Ideal.nD Cert.Kernel4Ideal.τ).loc Cert.Kernel4Ideal.main_v10_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_v76) = v2 c
          ∧ r.2.mem ((c.tc : Thread Cert.Reference4Ideal.nD Cert.Reference4Ideal.τ).loc Cert.Reference4Ideal.main_v2) = v3 c
          ∧ r.2.mem ((c.tc : Thread Cert.Reference4Ideal.nD Cert.Reference4Ideal.τ).loc Cert.Reference4Ideal.main_v77) = v4 c
          ∧ r.2.mem ((c.tc : Thread Cert.Reference4Ideal.nD Cert.Reference4Ideal.τ).loc Cert.Reference4Ideal.main_v78) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v23_0)) (v1 : (c : Dev Cert.Kernel6Ideal.nD) → Buf (Elt Ideal) ((c.tc : Thread Cert.Kernel6Ideal.nD Cert.Kernel6Ideal.τ).loc Cert.Kernel6Ideal.main_v23_1)) (v2 : (c : Dev Cert.Kernel6Ideal.nD) → Buf (Elt Ideal) ((c.tc : Thread Cert.Kernel6Ideal.nD Cert.Kernel6Ideal.τ).loc Cert.Kernel6Ideal.main_v23_2)) (v3 : (c : Dev Cert.Kernel6Ideal.nD) → Buf (Elt Ideal) ((c.tc : Thread Cert.Kernel6Ideal.nD Cert.Kernel6Ideal.τ).loc Cert.Kernel6Ideal.main_v23_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23_0) = v0 c
          ∧ r.2.mem ((c.tc : Thread Cert.Kernel6Ideal.nD Cert.Kernel6Ideal.τ).loc Cert.Kernel6Ideal.main_v23_1) = v1 c
          ∧ r.2.mem ((c.tc : Thread Cert.Kernel6Ideal.nD Cert.Kernel6Ideal.τ).loc Cert.Kernel6Ideal.main_v23_2) = v2 c
          ∧ r.2.mem ((c.tc : Thread Cert.Kernel6Ideal.nD Cert.Kernel6Ideal.τ).loc Cert.Kernel6Ideal.main_v23_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_v58) = v1 c
          ∧ r.2.mem ((c.tc : Thread Cert.Reference6Ideal.nD Cert.Reference6Ideal.τ).loc Cert.Reference6Ideal.main_v63) = v2 c
          ∧ r.2.mem ((c.tc : Thread Cert.Reference6Ideal.nD Cert.Reference6Ideal.τ).loc Cert.Reference6Ideal.main_v64) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_v22) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)) (v3 : (c : Dev Cert.Kernel8Ideal.nD) → Buf (Elt Ideal) ((c.tc : Thread Cert.Kernel8Ideal.nD Cert.Kernel8Ideal.τ).loc Cert.Kernel8Ideal.main_v9_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_v9_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v25) = v2 c
          ∧ r.2.mem ((c.tc : Thread Cert.Reference8Ideal.nD Cert.Reference8Ideal.τ).loc Cert.Reference8Ideal.main_v2) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x1024 : Shape := ⟨2, ![8192, 1024]⟩
abbrev S8192x32 : Shape := ⟨2, ![8192, 32]⟩
abbrev S1024 : Shape := ⟨1, ![1024]⟩
abbrev S1024x1792 : Shape := ⟨2, ![1024, 1792]⟩
abbrev S8192x512 : Shape := ⟨2, ![8192, 512]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S8192x32 : S_.BroadcastsInDim S8192x32 (![] : Fin 0 → Fin S8192x32.rank)
  bcast_S_S1024 : S_.BroadcastsInDim S1024 (![] : Fin 0 → Fin S1024.rank)
  bcast_S_S1024x1792 : S_.BroadcastsInDim S1024x1792 (![] : Fin 0 → Fin S1024x1792.rank)
  bcast_S_S8192x512 : S_.BroadcastsInDim S8192x512 (![] : Fin 0 → Fin S8192x512.rank)
  bcast_S_S8192x256 : S_.BroadcastsInDim S8192x256 (![] : Fin 0 → Fin S8192x256.rank)

variable [Facts]

def fn_part1 {F : FTy → Type} [FloatOps F] (main_arg7 : FVec F S8192x256 .f32) (main_arg8 : FVec F S8192x256 .f32) (main_arg9 : FVec F S8192x1024 .f32) (main_v2 : IVec S8192x1024 1) (main_v5 : IVec S8192x32 1) (main_v8 : IVec S8192x32 1) (main_v11 : IVec S1024 1) (main_v14 : IVec S1024x1792 1) (main_v17 : IVec S8192x512 1) : IVec S8192x1024 1 × IVec S8192x32 1 × IVec S8192x32 1 × IVec S1024 1 × IVec S1024x1792 1 × IVec S8192x512 1 × IVec S8192x256 1 × IVec S8192x256 1 × IVec S8192x1024 1 :=
  let main_v18 : FVec F S8192x256 .f32 := Host.absf main_arg7
  let main_cst_5 : FVec F S_ .f32 := constant S_ .f32 0x7F800000#32
  let main_v19 : FVec F S8192x256 .f32 := broadcastInDim S8192x256 ![] bcast_S_S8192x256 main_cst_5
  let main_v20 : IVec S8192x256 1 := cmpf .olt main_v18 main_v19
  let main_v21 : FVec F S8192x256 .f32 := Host.absf main_arg8
  let main_cst_6 : FVec F S_ .f32 := constant S_ .f32 0x7F800000#32
  let main_v22 : FVec F S8192x256 .f32 := broadcastInDim S8192x256 ![] bcast_S_S8192x256 main_cst_6
  let main_v23 : IVec S8192x256 1 := cmpf .olt main_v21 main_v22
  let main_v24 : FVec F S8192x1024 .f32 := Host.absf main_arg9
  let main_cst_7 : FVec F S_ .f32 := constant S_ .f32 0x7F800000#32
  let main_v25 : FVec F S8192x1024 .f32 := broadcastInDim S8192x1024 ![] bcast_S_S8192x1024 main_cst_7
  let main_v26 : IVec S8192x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S8192x32 .f32) (main_arg2 : FVec F S8192x32 .f32) (main_arg3 : FVec F S1024 .f32) (main_arg4 : FVec F S1024x1792 .f32) (main_arg5 : FVec F S8192x1024 .f32) (main_arg6 : FVec F S8192x512 .f32) (main_arg7 : FVec F S8192x256 .f32) (main_arg8 : FVec F S8192x256 .f32) (main_arg9 : FVec F S8192x1024 .f32) : IVec S8192x1024 1 × IVec S8192x32 1 × IVec S8192x32 1 × IVec S1024 1 × IVec S1024x1792 1 × IVec S8192x512 1 × IVec S8192x256 1 × IVec S8192x256 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x32 .f32 := Host.absf main_arg1
  let main_cst_0 : FVec F S_ .f32 := constant S_ .f32 0x7F800000#32
  let main_v4 : FVec F S8192x32 .f32 := broadcastInDim S8192x32 ![] bcast_S_S8192x32 main_cst_0
  let main_v5 : IVec S8192x32 1 := cmpf .olt main_v3 main_v4
  let main_v6 : FVec F S8192x32 .f32 := Host.absf main_arg2
  let main_cst_1 : FVec F S_ .f32 := constant S_ .f32 0x7F800000#32
  let main_v7 : FVec F S8192x32 .f32 := broadcastInDim S8192x32 ![] bcast_S_S8192x32 main_cst_1
  let main_v8 : IVec S8192x32 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1792 .f32 := Host.absf main_arg4
  let main_cst_3 : FVec F S_ .f32 := constant S_ .f32 0x7F800000#32
  let main_v13 : FVec F S1024x1792 .f32 := broadcastInDim S1024x1792 ![] bcast_S_S1024x1792 main_cst_3
  let main_v14 : IVec S1024x1792 1 := cmpf .olt main_v12 main_v13
  let main_v15 : FVec F S8192x512 .f32 := Host.absf main_arg6
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg7 main_arg8 main_arg9 main_v2 main_v5 main_v8 main_v11 main_v14 main_v17
-- ==== Pre_finite2.lean ====
abbrev S8192x512 : Shape := ⟨2, ![8192, 512]⟩
abbrev S8192x128 : Shape := ⟨2, ![8192, 128]⟩
abbrev S8 : Shape := ⟨1, ![8]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)
  bcast_S_S8 : S_.BroadcastsInDim S8 (![] : Fin 0 → Fin S8.rank)

variable [Facts]

def fn {F : FTy → Type} [FloatOps F] (main_arg0 : FVec F S8192x512 .f32) (main_arg1 : FVec F S8192x128 .f32) (main_arg2 : FVec F S8192x128 .f32) (main_arg3 : FVec F S8 .f32) (main_arg4 : FVec F S8192x512 .f32) : IVec S8192x512 1 × IVec S8192x128 1 × IVec S8192x128 1 × IVec S8 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S8192x128 .f32 := Host.absf main_arg2
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Pre_finite3.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S8192x1024 1 × IVec S1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite4.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S1024x2816 .f32) (main_arg7 : FVec F S2816x1024 .f32) (main_arg8 : FVec F S1024 .f32) (main_arg9 : FVec F S8192x1024 .f32) (main_v2 : IVec S8192x1024 1) (main_v5 : IVec S8192x512 1) (main_v8 : IVec S8192x512 1) (main_v11 : IVec S1024x1024 1) (main_v14 : IVec S1024 1) (main_v17 : IVec S1024x2816 1) : IVec S8192x1024 1 × IVec S8192x512 1 × IVec S8192x512 1 × IVec S1024x1024 1 × IVec S1024 1 × IVec S1024x2816 1 × IVec S1024x2816 1 × IVec S2816x1024 1 × IVec S1024 1 × IVec S8192x1024 1 :=
  let main_v18 : FVec F S1024x2816 .f32 := Host.absf main_arg6
  let main_cst_5 : FVec F S_ .f32 := constant S_ .f32 0x7F800000#32
  let main_v19 : FVec F S1024x2816 .f32 := broadcastInDim S1024x2816 ![] bcast_S_S1024x2816 main_cst_5
  let main_v20 : IVec S1024x2816 1 := cmpf .olt main_v18 main_v19
  let main_v21 : FVec F S2816x1024 .f32 := Host.absf main_arg7
  let main_cst_6 : FVec F S_ .f32 := constant S_ .f32 0x7F800000#32
  let main_v22 : FVec F S2816x1024 .f32 := broadcastInDim S2816x1024 ![] bcast_S_S2816x1024 main_cst_6
  let main_v23 : IVec S2816x1024 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S8192x1024 .f32 := Host.absf main_arg9
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S8192x512 .f32) (main_arg2 : FVec F S8192x512 .f32) (main_arg3 : FVec F S1024x1024 .f32) (main_arg4 : FVec F S1024 .f32) (main_arg5 : FVec F S1024x2816 .f32) (main_arg6 : FVec F S1024x2816 .f32) (main_arg7 : FVec F S2816x1024 .f32) (main_arg8 : FVec F S1024 .f32) (main_arg9 : FVec F S8192x1024 .f32) : IVec S8192x1024 1 × IVec S8192x512 1 × IVec S8192x512 1 × IVec S1024x1024 1 × IVec S1024 1 × IVec S1024x2816 1 × IVec S1024x2816 1 × IVec S2816x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x2816 .f32 := Host.absf main_arg5
  let main_cst_4 : FVec F S_ .f32 := constant S_ .f32 0x7F800000#32
  let main_v16 : FVec F S1024x2816 .f32 := broadcastInDim S1024x2816 ![] bcast_S_S1024x2816 main_cst_4
  let main_v17 : IVec S1024x2816 1 := cmpf .olt main_v15 main_v16
  fn_part1 (F := F) main_arg6 main_arg7 main_arg8 main_arg9 main_v2 main_v5 main_v8 main_v11 main_v14 main_v17
-- ==== Pre_finite5.lean ====
abbrev S8192x512 : Shape := ⟨2, ![8192, 512]⟩
abbrev S8192x128 : Shape := ⟨2, ![8192, 128]⟩
abbrev S8 : Shape := ⟨1, ![8]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)
  bcast_S_S8 : S_.BroadcastsInDim S8 (![] : Fin 0 → Fin S8.rank)

variable [Facts]

def fn {F : FTy → Type} [FloatOps F] (main_arg0 : FVec F S8192x512 .f32) (main_arg1 : FVec F S8192x128 .f32) (main_arg2 : FVec F S8192x128 .f32) (main_arg3 : FVec F S8 .f32) : IVec S8192x512 1 × IVec S8192x128 1 × IVec S8192x128 1 × IVec S8 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S8192x128 .f32 := Host.absf main_arg2
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Kernel.lean ====
abbrev S8192x1024 : Shape := ⟨2, ![8192, 1024]⟩
abbrev S8192x32 : Shape := ⟨2, ![8192, 32]⟩
abbrev S1024 : Shape := ⟨1, ![1024]⟩
abbrev S1024x1792 : Shape := ⟨2, ![1024, 1792]⟩
abbrev S8192x512 : Shape := ⟨2, ![8192, 512]⟩
abbrev S8192x256 : Shape := ⟨2, ![8192, 256]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1792x1024 : Shape := ⟨2, ![1792, 1024]⟩
abbrev S512x1024 : Shape := ⟨2, ![512, 1024]⟩
abbrev S1024x1024 : Shape := ⟨2, ![1024, 1024]⟩
abbrev S64x1024 : Shape := ⟨2, ![64, 1024]⟩
abbrev S2048x1024 : Shape := ⟨2, ![2048, 1024]⟩
abbrev S1x1024 : Shape := ⟨2, ![1, 1024]⟩
abbrev S512x512 : Shape := ⟨2, ![512, 512]⟩
abbrev S512x256 : Shape := ⟨2, ![512, 256]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 51
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S8192x32, .f32⟩
  | .hbm, ⟨3, _⟩ => ⟨S1024, .f32⟩
  | .hbm, ⟨4, _⟩ => ⟨S1024x1792, .f32⟩
  | .hbm, ⟨5, _⟩ => ⟨S8192x1024, .f32⟩
  | .hbm, ⟨6, _⟩ => ⟨S8192x512, .f32⟩
  | .hbm, ⟨7, _⟩ => ⟨S8192x256, .f32⟩
  | .hbm, ⟨8, _⟩ => ⟨S8192x256, .f32⟩
  | .hbm, ⟨9, _⟩ => ⟨S8192x1024, .f32⟩
  | .hbm, ⟨10, _⟩ => ⟨S8192x64, .f32⟩
  | .hbm, ⟨11, _⟩ => ⟨S1x8192x1x64, .f32⟩
  | .hbm, ⟨12, _⟩ => ⟨S1x8192x2x64, .f32⟩
  | .hbm, ⟨13, _⟩ => ⟨S8192x128, .f32⟩
  | .hbm, ⟨14, _⟩ => ⟨S8192x32, .f32⟩
  | .hbm, ⟨15, _⟩ => ⟨S8192x64, .f32⟩
  | .hbm, ⟨16, _⟩ => ⟨S1x8192x1x64, .f32⟩
  | .hbm, ⟨17, _⟩ => ⟨S1x8192x2x64, .f32⟩
  | .hbm, ⟨18, _⟩ => ⟨S8192x128, .f32⟩
  | .hbm, ⟨19, _⟩ => ⟨S1792x1024, .f32⟩
  | .hbm, ⟨20, _⟩ => ⟨S1792x1024, .bf16⟩
  | .hbm, ⟨21, _⟩ => ⟨S512x1024, .bf16⟩
  | .hbm, ⟨22, _⟩ => ⟨S1024x1024, .bf16⟩
  | .hbm, ⟨23, _⟩ => ⟨S64x1024, .bf16⟩
  | .hbm, ⟨24, _⟩ => ⟨S64x1024, .bf16⟩
  | .hbm, ⟨25, _⟩ => ⟨S64x1024, .bf16⟩
  | .hbm, ⟨26, _⟩ => ⟨S64x1024, .bf16⟩
  | .hbm, ⟨27, _⟩ => ⟨S64x1024, .bf16⟩
  | .hbm, ⟨28, _⟩ => ⟨S64x1024, .bf16⟩
  | .hbm, ⟨29, _⟩ => ⟨S64x1024, .bf16⟩
  | .hbm, ⟨30, _⟩ => ⟨S64x1024, .bf16⟩
  | .hbm, ⟨31, _⟩ => ⟨S2048x1024, .bf16⟩
  | .hbm, ⟨32, _⟩ => ⟨S1x1024, .f32⟩
  | .hbm, ⟨33, _⟩ => ⟨S8192x1024, .f32⟩
  | .hbm, ⟨34, _⟩ => ⟨S2048x1024, .f32⟩
  | .hbm, ⟨35, _⟩ => ⟨S1x1024, .f32⟩
  | .hbm, ⟨36, _⟩ => ⟨S512x1024, .f32⟩
  | .hbm, ⟨37, _⟩ => ⟨S64x1024, .f32⟩
  | .hbm, ⟨38, _⟩ => ⟨S64x1024, .f32⟩
  | .hbm, ⟨39, _⟩ => ⟨S64x1024, .f32⟩
  | .hbm, ⟨40, _⟩ => ⟨S64x1024, .f32⟩
  | .hbm, ⟨41, _⟩ => ⟨S64x1024, .f32⟩
  | .hbm, ⟨42, _⟩ => ⟨S64x1024, .f32⟩
  | .hbm, ⟨43, _⟩ => ⟨S64x1024, .f32⟩
  | .hbm, ⟨44, _⟩ => ⟨S64x1024, .f32⟩
  | .hbm, ⟨45, _⟩ => ⟨S64x1024, .f32⟩
  | .hbm, ⟨46, _⟩ => ⟨S64x1024, .f32⟩
  | .hbm, ⟨47, _⟩ => ⟨S64x1024, .f32⟩
  | .hbm, ⟨48, _⟩ => ⟨S64x1024, .f32⟩
  | .hbm, ⟨49, _⟩ => ⟨S1024x1024, .f32⟩
  | .hbm, ⟨50, _⟩ => ⟨S1792x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x512, .f32⟩
  | .local _ .vmem, ⟨6, _⟩ => ⟨S512x512, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x1024, .f32⟩
  | .local _ .vmem, ⟨12, _⟩ => ⟨S512x1024, .f32⟩
  | .local _ .vmem, ⟨13, _⟩ => ⟨S2048x1024, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .f32⟩
  | .local _ .vmem, ⟨19, _⟩ => ⟨S512x1024, .f32⟩
  | .local _ .vmem, ⟨20, _⟩ => ⟨S2048x1024, .f32⟩
  | .local _ .vmem, ⟨21, _⟩ => ⟨S1x1024, .f32⟩
  | .local _ .vmem, ⟨22, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S8192x32 : Shape := ⟨2, ![8192, 32]⟩
abbrev S1024 : Shape := ⟨1, ![1024]⟩
abbrev S1024x1792 : Shape := ⟨2, ![1024, 1792]⟩
abbrev S8192x512 : Shape := ⟨2, ![8192, 512]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩
abbrev S8192x8x64 : Shape := ⟨3, ![8192, 8, 64]⟩
abbrev S8192x8x32 : Shape := ⟨3, ![8192, 8, 32]⟩
abbrev S8192x1x32 : Shape := ⟨3, ![8192, 1, 32]⟩
abbrev S8192x128 : Shape := ⟨2, ![8192, 128]⟩
abbrev S8192x2x64 : Shape := ⟨3, ![8192, 2, 64]⟩
abbrev S8192x2x32 : Shape := ⟨3, ![8192, 2, 32]⟩
abbrev S8192x2x2x64 : Shape := ⟨4, ![8192, 2, 2, 64]⟩
abbrev S1792x1024 : Shape := ⟨2, ![1792, 1024]⟩

abbrev nBuf : Space → Nat
  | .hbm => 148
  | .vmem => 0
  | .smem => 0
  | _ => 0

abbrev hbmTy0_0 (i : Nat) : BufTy := match i % 128 with
  | 0 => ⟨S8192x1024, .f32⟩
  | 1 => ⟨S8192x32, .f32⟩
  | 2 => ⟨S8192x32, .f32⟩
  | 3 => ⟨S1024, .f32⟩
  | 4 => ⟨S1024x1792, .f32⟩
  | 5 => ⟨S8192x1024, .f32⟩
  | 6 => ⟨S8192x512, .f32⟩
  | 7 => ⟨S8192x256, .f32⟩
  | 8 => ⟨S8192x256, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S8192x1792, .f32⟩
  | 31 => ⟨S8192x512, .f32⟩
  | 32 => ⟨S8192x8x64, .f32⟩
  | 33 => ⟨S8192x8x32, .f32⟩
  | 34 => ⟨S8192x8x32, .f32⟩
  | 35 => ⟨S8192x1x32, .f32⟩
  | 36 => ⟨S8192x1x32, .f32⟩
  | 37 => ⟨S8192x8x32, .f32⟩
  | 38 => ⟨S8192x8x32, .f32⟩
  | 39 => ⟨S8192x8x32, .f32⟩
  | 40 => ⟨S8192x8x32, .f32⟩
  | 41 => ⟨S8192x8x32, .f32⟩
  | 42 => ⟨S8192x8x32, .f32⟩
  | 43 => ⟨S8192x8x32, .f32⟩
  | 44 => ⟨S8192x8x32, .f32⟩
  | 45 => ⟨S8192x8x32, .f32⟩
  | 46 => ⟨S8192x8x32, .f32⟩
  | 47 => ⟨S8192x8x64, .f32⟩
  | 48 => ⟨S8192x128, .f32⟩
  | 49 => ⟨S8192x2x64, .f32⟩
  | 50 => ⟨S8192x2x32, .f32⟩
  | 51 => ⟨S8192x2x32, .f32⟩
  | 52 => ⟨S8192x1x32, .f32⟩
  | 53 => ⟨S8192x1x32, .f32⟩
  | 54 => ⟨S8192x2x32, .f32⟩
  | 55 => ⟨S8192x2x32, .f32⟩
  | 56 => ⟨S8192x2x32, .f32⟩
  | 57 => ⟨S8192x2x32, .f32⟩
  | 58 => ⟨S8192x2x32, .f32⟩
  | 59 => ⟨S8192x2x32, .f32⟩
  | 60 => ⟨S8192x2x32, .f32⟩
  | 61 => ⟨S8192x2x32, .f32⟩
  | 62 => ⟨S8192x2x32, .f32⟩
  | 63 => ⟨S8192x2x32, .f32⟩
  | 64 => ⟨S8192x2x64, .f32⟩
  | 65 => ⟨S8192x128, .f32⟩
  | 66 => ⟨S8192x2x64, .f32⟩
  | 67 => ⟨S8192x1024, .f32⟩
  | 68 => ⟨S8192x8x64, .f32⟩
  | 69 => ⟨S8192x2x2x64, .f32⟩
  | 70 => ⟨S_, .f32⟩
  | 71 => ⟨S8192x2x64, .f32⟩
  | 72 => ⟨S8192x2x2x64, .f32⟩
  | 73 => ⟨S_, .f32⟩
  | 74 => ⟨S8192x2x64, .f32⟩
  | 75 => ⟨S_, .f32⟩
  | 76 => ⟨S8192x1792, .f32⟩
  | 77 => ⟨S8192x128, .f32⟩
  | 78 => ⟨S_, .f32⟩
  | 79 => ⟨S8192x1792, .f32⟩
  | 80 => ⟨S8192x1792, .f32⟩
  | 81 => ⟨S8192x2x32, .f32⟩
  | 82 => ⟨S8192x2x32, .f32⟩
  | 83 => ⟨S8192x2x32, .f32⟩
  | 84 => ⟨S8192x2x32, .f32⟩
  | 85 => ⟨S8192x2x32, .f32⟩
  | 86 => ⟨S8192x2x32, .f32⟩
  | 87 => ⟨S8192x2x32, .f32⟩
  | 88 => ⟨S8192x2x32, .f32⟩
  | 89 => ⟨S8192x2x32, .f32⟩
  | 90 => ⟨S8192x2x32, .f32⟩
  | 91 => ⟨S8192x2x32, .f32⟩
  | 92 => ⟨S8192x2x32, .f32⟩
  | 93 => ⟨S8192x2x32, .f32⟩
  | 94 => ⟨S8192x2x64, .f32⟩
  | 95 => ⟨S8192x128, .f32⟩
  | 96 => ⟨S_, .f32⟩
  | 97 => ⟨S8192x1792, .f32⟩
  | 98 => ⟨S8192x1792, .f32⟩
  | 99 => ⟨S8192x8x32, .f32⟩
  | 100 => ⟨S8192x8x32, .f32⟩
  | 101 => ⟨S8192x8x32, .f32⟩
  | 102 => ⟨S8192x8x32, .f32⟩
  | 103 => ⟨S8192x8x32, .f32⟩
  | 104 => ⟨S8192x8x32, .f32⟩
  | 105 => ⟨S8192x8x32, .f32⟩
  | 106 => ⟨S8192x8x32, .f32⟩
  | 107 => ⟨S8192x8x32, .f32⟩
  | 108 => ⟨S8192x8x32, .f32⟩
  | 109 => ⟨S8192x8x32, .f32⟩
  | 110 => ⟨S8192x8x32, .f32⟩
  | 111 => ⟨S8192x8x32, .f32⟩
  | 112 => ⟨S8192x8x64, .f32⟩
  | 113 => ⟨S8192x512, .f32⟩
  | 114 => ⟨S_, .f32⟩
  | 115 => ⟨S8192x1792, .f32⟩
  | 116 => ⟨S8192x1792, .f32⟩
  | 117 => ⟨S1792x1024, .f32⟩
  | 118 => ⟨S1024x1792, .f32⟩
  | 119 => ⟨S8192x1024, .f32⟩
  | 120 => ⟨S8192x1024, .f32⟩
  | 121 => ⟨S_, .f32⟩
  | 122 => ⟨S1024, .f32⟩
  | 123 => ⟨S1x1024, .f32⟩
  | 124 => ⟨S8192x1024, .f32⟩
  | 125 => ⟨S8192x1024, .f32⟩
  | 126 => ⟨S_, .f32⟩
  | 127 => ⟨S1024, .f32⟩
  | _ => ⟨S8192x1024, .f32⟩

abbrev hbmTy0_1 (i : Nat) : BufTy := match i % 128 with
  | 0 => ⟨S8192x1024, .f32⟩
  | 1 => ⟨S_, .f32⟩
  | 2 => ⟨S8192, .f32⟩
  | 3 => ⟨S8192x1, .f32⟩
  | 4 => ⟨S8192x1024, .f32⟩
  | 5 => ⟨S8192x1024, .f32⟩
  | 6 => ⟨S8192x1024, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S1792x1024, .f32⟩
  | 19 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_3 : Ref sig .tc := ⟨.hbm, 70, rfl⟩
abbrev main_v56 : Ref sig .tc := ⟨.hbm, 71, rfl⟩
abbrev main_v57 : Ref sig .tc := ⟨.hbm, 72, rfl⟩
abbrev main_cst_4 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_7 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_8 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_9 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_10 : Ref sig .tc := ⟨.hbm, 126, rfl⟩
abbrev main_v105 : Ref sig .tc := ⟨.hbm, 127, rfl⟩
abbrev main_v106 : Ref sig .tc := ⟨.hbm, 128, rfl⟩
abbrev main_cst_11 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_12 : Ref sig .tc := ⟨.hbm, 136, rfl⟩
abbrev main_v113 : Ref sig .tc := ⟨.hbm, 137, rfl⟩
abbrev main_v114 : Ref sig .tc := ⟨.hbm, 138, rfl⟩
abbrev main_cst_13 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩

abbrev nD : Nat := 1
abbrev τ : Topo := Topo.v7x

variable {F : FTy → Type} [FloatOps F]
-- ==== Kernel2.lean ====
abbrev S8192x512 : Shape := ⟨2, ![8192, 512]⟩
abbrev S8192x128 : Shape := ⟨2, ![8192, 128]⟩
abbrev S8 : Shape := ⟨1, ![8]⟩
abbrev S2x4 : Shape := ⟨2, ![2, 4]⟩
abbrev S2x4x128 : Shape := ⟨3, ![2, 4, 128]⟩
abbrev S2x512 : Shape := ⟨2, ![2, 512]⟩
abbrev S2x1x512 : Shape := ⟨3, ![2, 1, 512]⟩
abbrev S_ : Shape := ⟨0, ![]⟩
abbrev S8192x2x1x64 : Shape := ⟨4, ![8192, 2, 1, 64]⟩
abbrev S8192x2x2x64 : Shape := ⟨4, ![8192, 2, 2, 64]⟩
abbrev S8192x256 : Shape := ⟨2, ![8192, 256]⟩
abbrev S512x512 : Shape := ⟨2, ![512, 512]⟩
abbrev S256x512 : Shape := ⟨2, ![256, 512]⟩
abbrev S128x128 : Shape := ⟨2, ![128, 128]⟩
abbrev S512x128 : Shape := ⟨2, ![512, 128]⟩
abbrev S256x128 : Shape := ⟨2, ![256, 128]⟩
abbrev S1x1x512 : Shape := ⟨3, ![1, 1, 512]⟩
abbrev S1x512 : Shape := ⟨2, ![1, 512]⟩
abbrev S512 : Shape := ⟨1, ![512]⟩
abbrev S8192x2x64 : Shape := ⟨3, ![8192, 2, 64]⟩

abbrev nBuf : Space → Nat
  | .hbm => 38
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8, .f32⟩
  | .hbm, ⟨4, _⟩ => ⟨S8192x512, .f32⟩
  | .hbm, ⟨5, _⟩ => ⟨S2x4, .f32⟩
  | .hbm, ⟨6, _⟩ => ⟨S2x4x128, .f32⟩
  | .hbm, ⟨7, _⟩ => ⟨S2x512, .f32⟩
  | .hbm, ⟨8, _⟩ => ⟨S2x1x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .bf16⟩
  | .hbm, ⟨13, _⟩ => ⟨S8192x2x1x64, .f32⟩
  | .hbm, ⟨14, _⟩ => ⟨S8192x2x2x64, .f32⟩
  | .hbm, ⟨15, _⟩ => ⟨S8192x256, .f32⟩
  | .hbm, ⟨16, _⟩ => ⟨S8192x256, .bf16⟩
  | .hbm, ⟨17, _⟩ => ⟨S8192x2x1x64, .f32⟩
  | .hbm, ⟨18, _⟩ => ⟨S8192x2x2x64, .f32⟩
  | .hbm, ⟨19, _⟩ => ⟨S8192x256, .f32⟩
  | .hbm, ⟨20, _⟩ => ⟨S8192x256, .bf16⟩
  | .hbm, ⟨21, _⟩ => ⟨S8192x512, .bf16⟩
  | .hbm, ⟨22, _⟩ => ⟨S8192x512, .f32⟩
  | .hbm, ⟨23, _⟩ => ⟨S8192x256, .f32⟩
  | .hbm, ⟨24, _⟩ => ⟨S8192x256, .f32⟩
  | .hbm, ⟨25, _⟩ => ⟨S2x1x512, .f32⟩
  | .hbm, ⟨26, _⟩ => ⟨S2x4x128, .f32⟩
  | .hbm, ⟨27, _⟩ => ⟨S_, .f32⟩
  | .hbm, ⟨28, _⟩ => ⟨S2x4, .f32⟩
  | .hbm, ⟨29, _⟩ => ⟨S8, .f32⟩
  | .hbm, ⟨30, _⟩ => ⟨S8192x2x2x64, .f32⟩
  | .hbm, ⟨31, _⟩ => ⟨S_, .f32⟩
  | .hbm, ⟨32, _⟩ => ⟨S8192x2x64, .f32⟩
  | .hbm, ⟨33, _⟩ => ⟨S8192x128, .f32⟩
  | .hbm, ⟨34, _⟩ => ⟨S8192x2x2x64, .f32⟩
  | .hbm, ⟨35, _⟩ => ⟨S_, .f32⟩
  | .hbm, ⟨36, _⟩ => ⟨S8192x2x64, .f32⟩
  | .hbm, ⟨37, _⟩ => ⟨S8192x128, .f32⟩
  | .local _ .vmem, ⟨0, _⟩ => ⟨S512x512, .bf16⟩
  | .local _ .vmem, ⟨1, _⟩ => ⟨S512x512, .bf16⟩
  | .local _ .vmem, ⟨2, _⟩ => ⟨S8192x256, .bf16⟩
  | .local _ .vmem, ⟨3, _⟩ => ⟨S8192x256, .bf16⟩
  | .local _ .vmem, ⟨4, _⟩ => ⟨S512x512, .bf16⟩
  | .local _ .vmem, ⟨5, _⟩ => ⟨S512x512, .bf16⟩
  | .local _ .vmem, ⟨6, _⟩ => ⟨S2x1x512, .f32⟩
  | .local _ .vmem, ⟨7, _⟩ => ⟨S512x512, .f32⟩
  | .local _ .vmem, ⟨8, _⟩ => ⟨S512x512, .f32⟩
  | .local _ .vmem, ⟨9, _⟩ => ⟨S8192x256, .f32⟩
  | .local _ .vmem, ⟨10, _⟩ => ⟨S8192x256, .f32⟩
  | .local _ .vmem, ⟨11, _⟩ => ⟨S2x1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let c1_i32 : BitVec 32 := 1#32
  let v5 : BitVec 32 := Scalar.subi v4 c1_i32
  let c0_i32_2 : BitVec 32 := 0#32
  let v6 : BitVec 32 := Scalar.maxsi v5 c0_i32_2
  let c128_i32 : BitVec 32 := 128#32
  let v7 : BitVec 32 := Scalar.muli v6 c128_i32
  v7
def k0_mult2 (i : grid0.Coords) : BitVec 32 :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let c128_i32_3 : BitVec 32 := 128#32
  let v9 : BitVec 32 := Scalar.muli v4 c128_i32_3
  v9
def k0_off1 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c1_i32 : BitVec 32 := 1#32
  let v5 : BitVec 32 := Scalar.subi v4 c1_i32
  let c0_i32_2 : BitVec 32 := 0#32
  let v6 : BitVec 32 := Scalar.maxsi v5 c0_i32_2
  let c128_i32 : BitVec 32 := 128#32
  let v7 : BitVec 32 := Scalar.muli v6 c128_i32
  let v8 : BitVec 32 := v7
  let v66 : Index := Scalar.indexCast v8
  let c0_21 : Index := 0#32
  ![v66.toNat, 0]
def k0_off2 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c128_i32_3 : BitVec 32 := 128#32
  let v9 : BitVec 32 := Scalar.muli v4 c128_i32_3
  let v10 : BitVec 32 := v9
  let v69 : Index := Scalar.indexCast v10
  let c0_22 : Index := 0#32
  ![v69.toNat, 0]
def k0_off3 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c1_i32 : BitVec 32 := 1#32
  let v5 : BitVec 32 := Scalar.subi v4 c1_i32
  let c0_i32_2 : BitVec 32 := 0#32
  let v6 : BitVec 32 := Scalar.maxsi v5 c0_i32_2
  let c128_i32 : BitVec 32 := 128#32
  let v7 : BitVec 32 := Scalar.muli v6 c128_i32
  let v8 : BitVec 32 := v7
  let v189 : Index := Scalar.indexCast v8
  let c128_69 : Index := 128#32
  ![v189.toNat, 128]
def k0_off4 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c128_i32_3 : BitVec 32 := 128#32
  let v9 : BitVec 32 := Scalar.muli v4 c128_i32_3
  let v10 : BitVec 32 := v9
  let v192 : Index := Scalar.indexCast v10
  let c128_70 : Index := 128#32
  ![v192.toNat, 128]
def k0_mult3 (i : grid0.Coords) : BitVec 32 :=
  let arg0 : BitVec 32 := BitVec.ofNat 32 (i 0).val
  let c4_i32_106 : BitVec 32 := 4#32
  let v286 : BitVec 32 := Scalar.muli arg0 c4_i32_106
  let c1_i32_107 : BitVec 32 := 1#32
  let v287 : BitVec 32 := Scalar.addi v286 c1_i32_107
  let c1_i32_108 : BitVec 32 := 1#32
  let v288 : BitVec 32 := Scalar.subi v287 c1_i32_108
  let c0_i32_109 : BitVec 32 := 0#32
  let v289 : BitVec 32 := Scalar.maxsi v288 c0_i32_109
  let c128_i32_110 : BitVec 32 := 128#32
  let v290 : BitVec 32 := Scalar.muli v289 c128_i32_110
  v290
def k0_mult4 (i : grid0.Coords) : BitVec 32 :=
  let arg0 : BitVec 32 := BitVec.ofNat 32 (i 0).val
  let c4_i32_106 : BitVec 32 := 4#32
  let v286 : BitVec 32 := Scalar.muli arg0 c4_i32_106
  let c1_i32_107 : BitVec 32 := 1#32
  let v287 : BitVec 32 := Scalar.addi v286 c1_i32_107
  let c128_i32_111 : BitVec 32 := 128#32
  let v292 : BitVec 32 := Scalar.muli v287 c128_i32_111
  v292
def k0_mult5 (i : grid0.Coords) : BitVec 32 :=
  let arg0 : BitVec 32 := BitVec.ofNat 32 (i 0).val
  let c4_i32_221 : BitVec 32 := 4#32
  let v569 : BitVec 32 := Scalar.muli arg0 c4_i32_221
  let c2_i32 : BitVec 32 := 2#32
  let v570 : BitVec 32 := Scalar.addi v569 c2_i32
  let c1_i32_222 : BitVec 32 := 1#32
  let v571 : BitVec 32 := Scalar.subi v570 c1_i32_222
  let c0_i32_223 : BitVec 32 := 0#32
  let v572 : BitVec 32 := Scalar.maxsi v571 c0_i32_223
  let c128_i32_224 : BitVec 32 := 128#32
  let v573 : BitVec 32 := Scalar.muli v572 c128_i32_224
  v573
def k0_mult6 (i : grid0.Coords) : BitVec 32 :=
  let arg0 : BitVec 32 := BitVec.ofNat 32 (i 0).val
  let c4_i32_221 : BitVec 32 := 4#32
  let v569 : BitVec 32 := Scalar.muli arg0 c4_i32_221
  let c2_i32 : BitVec 32 := 2#32
  let v570 : BitVec 32 := Scalar.addi v569 c2_i32
  let c128_i32_225 : BitVec 32 := 128#32
  let v575 : BitVec 32 := Scalar.muli v570 c128_i32_225
  v575
def k0_mult7 (i : grid0.Coords) : BitVec 32 :=
  let arg0 : BitVec 32 := BitVec.ofNat 32 (i 0).val
  let c4_i32_335 : BitVec 32 := 4#32
  let v852 : BitVec 32 := Scalar.muli arg0 c4_i32_335
  let c3_i32 : BitVec 32 := 3#32
  let v853 : BitVec 32 := Scalar.addi v852 c3_i32
  let c1_i32_336 : BitVec 32 := 1#32
  let v854 : BitVec 32 := Scalar.subi v853 c1_i32_336
  let c0_i32_337 : BitVec 32 := 0#32
  let v855 : BitVec 32 := Scalar.maxsi v854 c0_i32_337
  let c128_i32_338 : BitVec 32 := 128#32
  let v856 : BitVec 32 := Scalar.muli v855 c128_i32_338
  v856
def k0_mult8 (i : grid0.Coords) : BitVec 32 :=
  let arg0 : BitVec 32 := BitVec.ofNat 32 (i 0).val
  let c4_i32_335 : BitVec 32 := 4#32
  let v852 : BitVec 32 := Scalar.muli arg0 c4_i32_335
  let c3_i32 : BitVec 32 := 3#32
  let v853 : BitVec 32 := Scalar.addi v852 c3_i32
  let c128_i32_339 : BitVec 32 := 128#32
  let v858 : BitVec 32 := Scalar.muli v853 c128_i32_339
  v858
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8192x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8192x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S8192x512 : Shape := ⟨2, ![8192, 512]⟩
abbrev S8192x128 : Shape := ⟨2, ![8192, 128]⟩
abbrev S8 : Shape := ⟨1, ![8]⟩
abbrev S1x8192x8x64 : Shape := ⟨4, ![1, 8192, 8, 64]⟩
abbrev S1x8192x2x64 : Shape := ⟨4, ![1, 8192, 2, 64]⟩
abbrev S1x64x128x2x4x64 : Shape := ⟨6, ![1, 64, 128, 2, 4, 64]⟩
abbrev S1x64x128x2x64 : Shape := ⟨5, ![1, 64, 128, 2, 64]⟩
abbrev S1x1x128x2x64 : Shape := ⟨5, ![1, 1, 128, 2, 64]⟩
abbrev S_ : Shape := ⟨0, ![]⟩
abbrev S1x63x128x2x64 : Shape := ⟨5, ![1, 63, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S1x8192x512 : Shape := ⟨3, ![1, 8192, 512]⟩
abbrev S1x64x2x64x256 : Shape := ⟨5, ![1, 64, 2, 64, 256]⟩
abbrev S1x2x4x1 : Shape := ⟨4, ![1, 2, 4, 1]⟩
abbrev S64x2x4x128 : Shape := ⟨4, ![64, 2, 4, 128]⟩
abbrev S1x64x2x128x4x64 : Shape := ⟨6, ![1, 64, 2, 128, 4, 64]⟩
abbrev S1x64x2x256x64 : Shape := ⟨5, ![1, 64, 2, 256, 64]⟩

abbrev nBuf : Space → Nat
  | .hbm => 207
  | .vmem => 0
  | .smem => 0
  | _ => 0

abbrev hbmTy0_0 (i : Nat) : BufTy := match i % 128 with
  | 0 => ⟨S8192x512, .f32⟩
  | 1 => ⟨S8192x128, .f32⟩
  | 2 => ⟨S8192x128, .f32⟩
  | 3 => ⟨S8, .f32⟩
  | 4 => ⟨S8192x512, .f32⟩
  | 5 => ⟨S1x8192x8x64, .f32⟩
  | 6 => ⟨S1x8192x2x64, .f32⟩
  | 7 => ⟨S1x8192x2x64, .f32⟩
  | 8 => ⟨S1x64x128x2x4x64, .f32⟩
  | 9 => ⟨S1x64x128x2x64, .f32⟩
  | 10 => ⟨S1x1x128x2x64, .f32⟩
  | 11 => ⟨S_, .f32⟩
  | 12 => ⟨S1x1x128x2x64, .f32⟩
  | 13 => ⟨S1x63x128x2x64, .f32⟩
  | 14 => ⟨S1x64x128x2x64, .f32⟩
  | 15 => ⟨S_, .f32⟩
  | 16 => ⟨S1x1x128x2x64, .f32⟩
  | 17 => ⟨S1x64x256x2x64, .f32⟩
  | 18 => ⟨S1x64x128x2x64, .f32⟩
  | 19 => ⟨S1x1x128x2x64, .f32⟩
  | 20 => ⟨S_, .f32⟩
  | 21 => ⟨S1x1x128x2x64, .f32⟩
  | 22 => ⟨S1x63x128x2x64, .f32⟩
  | 23 => ⟨S1x64x128x2x64, .f32⟩
  | 24 => ⟨S_, .f32⟩
  | 25 => ⟨S1x1x128x2x64, .f32⟩
  | 26 => ⟨S1x64x256x2x64, .f32⟩
  | 27 => ⟨S1x64x2x256x128x4, .f32⟩
  | 28 => ⟨S1x64x2x4x128x256, .f32⟩
  | 29 => ⟨S_, .f32⟩
  | 30 => ⟨S1x64x2x4x128x256, .f32⟩
  | 31 => ⟨S1x64x2x4x128x256, .f32⟩
  | 32 => ⟨S128, .i32⟩
  | 33 => ⟨S128x1, .i32⟩
  | 34 => ⟨S_, .i32⟩
  | 35 => ⟨S128x1, .i32⟩
  | 36 => ⟨S128x1, .i32⟩
  | 37 => ⟨S256, .i32⟩
  | 38 => ⟨S1x256, .i32⟩
  | 39 => ⟨S128x256, .i32⟩
  | 40 => ⟨S128x256, .i32⟩
  | 41 => ⟨S128x256, .i32⟩
  | 42 => ⟨S_, .i32⟩
  | 43 => ⟨S128x256, .i32⟩
  | 44 => ⟨S128x256, .i1⟩
  | 45 => ⟨S_, .i32⟩
  | 46 => ⟨S128x256, .i32⟩
  | 47 => ⟨S128x256, .i1⟩
  | 48 => ⟨S128x256, .i1⟩
  | 49 => ⟨S64, .i32⟩
  | 50 => ⟨S64x1, .i32⟩
  | 51 => ⟨S_, .i32⟩
  | 52 => ⟨S64x1, .i32⟩
  | 53 => ⟨S64x1, .i1⟩
  | 54 => ⟨S_, .i32⟩
  | 55 => ⟨S1x256, .i32⟩
  | 56 => ⟨S1x256, .i1⟩
  | 57 => ⟨S64x256, .i1⟩
  | 58 => ⟨S64x256, .i1⟩
  | 59 => ⟨S64x256, .i1⟩
  | 60 => ⟨S1x128x256, .i1⟩
  | 61 => ⟨S64x1x256, .i1⟩
  | 62 => ⟨S64x128x256, .i1⟩
  | 63 => ⟨S64x128x256, .i1⟩
  | 64 => ⟨S64x128x256, .i1⟩
  | 65 => ⟨S1x64x1x1x128x256, .i1⟩
  | 66 => ⟨S_, .f32⟩
  | 67 => ⟨S_, .f32⟩
  | 68 => ⟨S1x64x2x4x128x256, .i1⟩
  | 69 => ⟨S1x64x2x4x128x256, .f32⟩
  | 70 => ⟨S1x64x2x4x128x256, .f32⟩
  | 71 => ⟨S_, .f32⟩
  | 72 => ⟨S1x64x2x4x128x256, .f32⟩
  | 73 => ⟨S2x4, .f32⟩
  | 74 => ⟨S1x1x2x4x1x1, .f32⟩
  | 75 => ⟨S_, .f32⟩
  | 76 => ⟨S1x64x2x4x128, .f32⟩
  | 77 => ⟨S1x64x2x4x128x1, .f32⟩
  | 78 => ⟨S1x64x2x4x128x256, .f32⟩
  | 79 => ⟨S1x64x2x4x128x256, .i1⟩
  | 80 => ⟨S1x64x2x4x128x256, .f32⟩
  | 81 => ⟨S_, .f32⟩
  | 82 => ⟨S1x64x2x4x128, .f32⟩
  | 83 => ⟨S1x64x2x4x128x1, .f32⟩
  | 84 => ⟨S1x64x2x4x128x1, .f32⟩
  | 85 => ⟨S1x64x2x4x128x1, .f32⟩
  | 86 => ⟨S1x64x2x4x128x1, .f32⟩
  | 87 => ⟨S1x64x2x4x128x1, .i1⟩
  | 88 => ⟨S1x64x2x4x128x1, .f32⟩
  | 89 => ⟨S1x64x2x4x128x1, .i1⟩
  | 90 => ⟨S_, .f32⟩
  | 91 => ⟨S1x64x2x4x128x1, .f32⟩
  | 92 => ⟨S_, .f32⟩
  | 93 => ⟨S1x64x2x4x128x1, .f32⟩
  | 94 => ⟨S_, .f32⟩
  | 95 => ⟨S1x64x2x4x128x1, .f32⟩
  | 96 => ⟨S1x64x2x4x128x1, .f32⟩
  | 97 => ⟨S1x64x2x4x128x1, .f32⟩
  | 98 => ⟨S1x64x2x4x128x1, .f32⟩
  | 99 => ⟨S1x64x2x4x128x1, .i1⟩
  | 100 => ⟨S1x64x2x4x128x1, .f32⟩
  | 101 => ⟨S1x64x2x4x128x1, .i1⟩
  | 102 => ⟨S_, .f32⟩
  | 103 => ⟨S1x64x2x4x128x1, .f32⟩
  | 104 => ⟨S_, .f32⟩
  | 105 => ⟨S1x64x2x4x128x1, .f32⟩
  | 106 => ⟨S_, .f32⟩
  | 107 => ⟨S1x64x2x4x128x1, .f32⟩
  | 108 => ⟨S1x64x2x4x128x1, .f32⟩
  | 109 => ⟨S1x64x2x4x128x1, .f32⟩
  | 110 => ⟨S1x64x2x4x128x256, .f32⟩
  | 111 => ⟨S1x64x2x4x128x256, .f32⟩
  | 112 => ⟨S1x64x2x4x128x256, .f32⟩
  | 113 => ⟨S_, .f32⟩
  | 114 => ⟨S1x64x2x4x128, .f32⟩
  | 115 => ⟨S1x64x2x4x128x1, .f32⟩
  | 116 => ⟨S1x64x2x4x128x1, .f32⟩
  | 117 => ⟨S1x64x2x4x128x1, .f32⟩
  | 118 => ⟨S1x64x2x4x128x1, .f32⟩
  | 119 => ⟨S1x64x2x4x128x1, .f32⟩
  | 120 => ⟨S1x64x2x4x128x256, .f32⟩
  | 121 => ⟨S1x64x2x4x128x256, .f32⟩
  | 122 => ⟨S1x64x2x4x128x1, .f32⟩
  | 123 => ⟨S_, .f32⟩
  | 124 => ⟨S1x64x2x4x128x1, .f32⟩
  | 125 => ⟨S1x64x2x4x128x1, .f32⟩
  | 126 => ⟨S1x64x2x64x4x128, .f32⟩
  | 127 => ⟨S1x64x128x2x4x64, .f32⟩
  | _ => ⟨S8192x512, .f32⟩

abbrev hbmTy0_1 (i : Nat) : BufTy := match i % 128 with
  | 0 => ⟨S1x8192x512, .f32⟩
  | 1 => ⟨S1x8192x512, .f32⟩
  | 2 => ⟨S1x64x128x2x4x64, .f32⟩
  | 3 => ⟨S1x64x2x64x4x128, .f32⟩
  | 4 => ⟨S1x64x2x4x128x256, .f32⟩
  | 5 => ⟨S1x64x2x64x256, .f32⟩
  | 6 => ⟨S1x64x256x2x64, .f32⟩
  | 7 => ⟨S1x64x2x4x128x256, .f32⟩
  | 8 => ⟨S1x64x2x4x128x256, .f32⟩
  | 9 => ⟨S1x64x2x4x128x256, .f32⟩
  | 10 => ⟨S_, .f32⟩
  | 11 => ⟨S1x64x2x4x128, .f32⟩
  | 12 => ⟨S1x64x2x4x128x1, .f32⟩
  | 13 => ⟨S1x64x2x4x128x1, .f32⟩
  | 14 => ⟨S1x64x2x4x128x256, .f32⟩
  | 15 => ⟨S1x64x2x4x128x256, .f32⟩
  | 16 => ⟨S1x64x2x4x128x1, .f32⟩
  | 17 => ⟨S_, .f32⟩
  | 18 => ⟨S1x2x4x1, .f32⟩
  | 19 => ⟨S1x1x2x4x1x1, .f32⟩
  | 20 => ⟨S1x64x2x4x128x1, .f32⟩
  | 21 => ⟨S_, .f32⟩
  | 22 => ⟨S64x2x4x128, .f32⟩
  | 23 => ⟨S1x64x2x4x128, .f32⟩
  | 24 => ⟨S1x64x2x4x128x256, .f32⟩
  | 25 => ⟨S1x64x2x4x128x256, .f32⟩
  | 26 => ⟨S1x64x2x4x128x256, .f32⟩
  | 27 => ⟨S1x64x2x4x128x256, .f32⟩
  | 28 => ⟨S_, .f32⟩
  | 29 => ⟨S1x64x2x4x128, .f32⟩
  | 30 => ⟨S1x64x2x4x128x1, .f32⟩
  | 31 => ⟨S1x64x2x4x128x1, .f32⟩
  | 32 => ⟨S1x64x2x4x128x1, .f32⟩
  | 33 => ⟨S_, .f32⟩
  | 34 => ⟨S1x2x4x1, .f32⟩
  | 35 => ⟨S1x1x2x4x1x1, .f32⟩
  | 36 => ⟨S1x1x2x4x1x1, .f32⟩
  | 37 => ⟨S1x64x2x4x128x1, .f32⟩
  | 38 => ⟨S_, .f32⟩
  | 39 => ⟨S64x2x4x128, .f32⟩
  | 40 => ⟨S1x64x2x4x128, .f32⟩
  | 41 => ⟨S1x64x2x4x128, .f32⟩
  | 42 => ⟨S1x64x2x4x128x256, .f32⟩
  | 43 => ⟨S1x64x2x4x128x256, .f32⟩
  | 44 => ⟨S1x64x2x4x128x256, .f32⟩
  | 45 => ⟨S_, .f32⟩
  | 46 => ⟨S2x4, .f32⟩
  | 47 => ⟨S8, .f32⟩
  | 48 => ⟨S_, .f32⟩
  | 49 => ⟨S1x64x2x4x128x256, .f32⟩
  | 50 => ⟨S1x64x2x4x128x256, .f32⟩
  | 51 => ⟨S_, .f32⟩
  | 52 => ⟨S1x64x2x4x128x256, .f32⟩
  | 53 => ⟨S1x64x2x4x128x256, .f32⟩
  | 54 => ⟨S1x64x2x256x128x4, .f32⟩
  | 55 => ⟨S1x64x2x128x4x64, .f32⟩
  | 56 => ⟨S1x64x128x2x4x64, .f32⟩
  | 57 => ⟨S1x64x2x256x64, .f32⟩
  | 58 => ⟨S1x64x256x2x64, .f32⟩
  | 59 => ⟨S1x64x128x2x64, .f32⟩
  | 60 => ⟨S1x64x128x2x64, .f32⟩
  | 61 => ⟨S1x1x128x2x64, .f32⟩
  | 62 => ⟨S1x63x128x2x64, .f32⟩
  | 63 => ⟨S_, .f32⟩
  | 64 => ⟨S1x64x128x2x64, .f32⟩
  | 65 => ⟨S1x64x128x2x64, .f32⟩
  | 66 => ⟨S1x8192x2x64, .f32⟩
  | 67 => ⟨S1x64x128x2x64, .f32⟩
  | 68 => ⟨S1x64x128x2x64, .f32⟩
  | 69 => ⟨S1x1x128x2x64, .f32⟩
  | 70 => ⟨S1x63x128x2x64, .f32⟩
  | 71 => ⟨S_, .f32⟩
  | 72 => ⟨S1x64x128x2x64, .f32⟩
  | 73 => ⟨S1x64x128x2x64, .f32⟩
  | 74 => ⟨S1x8192x2x64, .f32⟩
  | 75 => ⟨S1x8192x8x64, .f32⟩
  | 76 => ⟨S8192x128, .f32⟩
  | 77 => ⟨S8192x128, .f32⟩
  | 78 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_call0_v0 : Ref sig .tc := ⟨.hbm, 67, rfl⟩
abbrev main_v51_1 : Ref sig .tc := ⟨.hbm, 68, rfl⟩
abbrev main_call0_v2 : Ref sig .tc := ⟨.hbm, 69, rfl⟩
abbrev main_v51_0 : Ref sig .tc := ⟨.hbm, 70, rfl⟩
abbrev main_call0_cst : Ref sig .tc := ⟨.hbm, 71, rfl⟩
abbrev main_v51_2 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_18 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_19 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_20 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_21 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_22 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_23 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_24 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_25 : Ref sig .tc := ⟨.hbm, 173, rfl⟩
abbrev main_v136 : Ref sig .tc := ⟨.hbm, 174, rfl⟩
abbrev main_v137 : Ref sig .tc := ⟨.hbm, 175, rfl⟩
abbrev main_call1_cst : Ref sig .tc := ⟨.hbm, 176, rfl⟩
abbrev main_call1_v0 : Ref sig .tc := ⟨.hbm, 177, rfl⟩
abbrev main_v138 : Ref sig .tc := ⟨.hbm, 178, rfl⟩
abbrev main_cst_26 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_27 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_28 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S256x256 : Shape := ⟨2, ![256, 256]⟩

abbrev nBuf : Space → Nat
  | .hbm => 38
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .bf16⟩
  | .hbm, ⟨28, _⟩ => ⟨S8192x2816, .f32⟩
  | .hbm, ⟨29, _⟩ => ⟨S8192x2816, .bf16⟩
  | .hbm, ⟨30, _⟩ => ⟨S1x1024, .f32⟩
  | .hbm, ⟨31, _⟩ => ⟨S2816x1024, .bf16⟩
  | .hbm, ⟨32, _⟩ => ⟨S8192x1024, .f32⟩
  | .hbm, ⟨33, _⟩ => ⟨S8192x2816, .bf16⟩
  | .hbm, ⟨34, _⟩ => ⟨S8192x2816, .bf16⟩
  | .hbm, ⟨35, _⟩ => ⟨S8192x1024, .bf16⟩
  | .hbm, ⟨36, _⟩ => ⟨S1x1024, .f32⟩
  | .hbm, ⟨37, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S2816x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x2816, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S1024x2816, .f32⟩
  | .hbm, ⟨56, _⟩ => ⟨S2816x1024, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x1024, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x2816, .bf16⟩
  | .hbm, ⟨94, _⟩ => ⟨S8192x2816, .bf16⟩
  | .hbm, ⟨95, _⟩ => ⟨S8192x1024, .bf16⟩
  | .hbm, ⟨96, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S1x1 : Shape := ⟨2, ![1, 1]⟩
abbrev S512x1024 : Shape := ⟨2, ![512, 1024]⟩
abbrev S512x512 : Shape := ⟨2, ![512, 512]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1 : Shape := ⟨1, ![1]⟩

abbrev nBuf : Space → Nat
  | .hbm => 26
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S8192x1024, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S8192x512, .bf16⟩
  | .hbm, ⟨15, _⟩ => ⟨S8192x512, .bf16⟩
  | .hbm, ⟨16, _⟩ => ⟨S1024x1024, .bf16⟩
  | .hbm, ⟨17, _⟩ => ⟨S1x1024, .f32⟩
  | .hbm, ⟨18, _⟩ => ⟨S2816x1024, .bf16⟩
  | .hbm, ⟨19, _⟩ => ⟨S1x1024, .f32⟩
  | .hbm, ⟨20, _⟩ => ⟨S8192x1024, .f32⟩
  | .hbm, ⟨21, _⟩ => ⟨S8192x2816, .bf16⟩
  | .hbm, ⟨22, _⟩ => ⟨S8192x2816, .bf16⟩
  | .hbm, ⟨23, _⟩ => ⟨S8192x1024, .f32⟩
  | .hbm, ⟨24, _⟩ => ⟨S1x1, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | .local _ .vmem, ⟨20, _⟩ => ⟨S512x1024, .f32⟩
  | .local _ .vmem, ⟨21, _⟩ => ⟨S512x1024, .f32⟩
  | .local _ .vmem, ⟨22, _⟩ => ⟨S1x1, .f32⟩
  | .local _ .vmem, ⟨23, _⟩ => ⟨S1x1024, .f32⟩
  | .local _ .vmem, ⟨24, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S1024, .f32⟩
  | .hbm, ⟨97, _⟩ => ⟨S8192x1024, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S8192x1024, .f32⟩
  | .hbm, ⟨102, _⟩ => ⟨S8192x1024, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x2816, .bf16⟩
  | .hbm, ⟨115, _⟩ => ⟨S8192x2816, .bf16⟩
  | .hbm, ⟨116, _⟩ => ⟨S1x1, .f32⟩
  | .hbm, ⟨117, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_cst_11 : Ref sig .tc := ⟨.hbm, 78, rfl⟩
abbrev main_v48 : Ref sig .tc := ⟨.hbm, 79, rfl⟩
abbrev main_cst_12 : Ref sig .tc := ⟨.hbm, 80, rfl⟩
abbrev main_cst_13 : Ref sig .tc := ⟨.hbm, 81, rfl⟩
abbrev main_v49 : Ref sig .tc := ⟨.hbm, 82, rfl⟩
abbrev main_v50 : Ref sig .tc := ⟨.hbm, 83, rfl⟩
abbrev main_cst_14 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_15 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_16 : Ref sig .tc := ⟨.hbm, 95, rfl⟩
abbrev main_v60 : Ref sig .tc := ⟨.hbm, 96, rfl⟩
abbrev main_v61 : Ref sig .tc := ⟨.hbm, 97, rfl⟩
abbrev main_cst_17 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_18 : Ref sig .tc := ⟨.hbm, 104, rfl⟩
abbrev main_v67 : Ref sig .tc := ⟨.hbm, 105, rfl⟩
abbrev main_v68 : Ref sig .tc := ⟨.hbm, 106, rfl⟩
abbrev main_cst_19 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩

abbrev nD : Nat := 1
abbrev τ : Topo := Topo.v7x

variable {F : FTy → Type} [FloatOps F]
-- ==== Kernel5.lean ====
abbrev S8192x512 : Shape := ⟨2, ![8192, 512]⟩
abbrev S8192x128 : Shape := ⟨2, ![8192, 128]⟩
abbrev S8 : Shape := ⟨1, ![8]⟩
abbrev S2x4 : Shape := ⟨2, ![2, 4]⟩
abbrev S2x4x128 : Shape := ⟨3, ![2, 4, 128]⟩
abbrev S2x512 : Shape := ⟨2, ![2, 512]⟩
abbrev S2x1x512 : Shape := ⟨3, ![2, 1, 512]⟩
abbrev S_ : Shape := ⟨0, ![]⟩
abbrev S8192x2x1x64 : Shape := ⟨4, ![8192, 2, 1, 64]⟩
abbrev S8192x2x2x64 : Shape := ⟨4, ![8192, 2, 2, 64]⟩
abbrev S8192x256 : Shape := ⟨2, ![8192, 256]⟩
abbrev S512x512 : Shape := ⟨2, ![512, 512]⟩
abbrev S256x512 : Shape := ⟨2, ![256, 512]⟩
abbrev S128x128 : Shape := ⟨2, ![128, 128]⟩
abbrev S512x128 : Shape := ⟨2, ![512, 128]⟩
abbrev S256x128 : Shape := ⟨2, ![256, 128]⟩
abbrev S1x1x512 : Shape := ⟨3, ![1, 1, 512]⟩
abbrev S1x512 : Shape := ⟨2, ![1, 512]⟩
abbrev S512 : Shape := ⟨1, ![512]⟩

abbrev nBuf : Space → Nat
  | .hbm => 21
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8, .f32⟩
  | .hbm, ⟨4, _⟩ => ⟨S2x4, .f32⟩
  | .hbm, ⟨5, _⟩ => ⟨S2x4x128, .f32⟩
  | .hbm, ⟨6, _⟩ => ⟨S2x512, .f32⟩
  | .hbm, ⟨7, _⟩ => ⟨S2x1x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .bf16⟩
  | .hbm, ⟨12, _⟩ => ⟨S8192x2x1x64, .f32⟩
  | .hbm, ⟨13, _⟩ => ⟨S8192x2x2x64, .f32⟩
  | .hbm, ⟨14, _⟩ => ⟨S8192x256, .f32⟩
  | .hbm, ⟨15, _⟩ => ⟨S8192x256, .bf16⟩
  | .hbm, ⟨16, _⟩ => ⟨S8192x2x1x64, .f32⟩
  | .hbm, ⟨17, _⟩ => ⟨S8192x2x2x64, .f32⟩
  | .hbm, ⟨18, _⟩ => ⟨S8192x256, .f32⟩
  | .hbm, ⟨19, _⟩ => ⟨S8192x256, .bf16⟩
  | .hbm, ⟨20, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S8192x256, .bf16⟩
  | .local _ .vmem, ⟨3, _⟩ => ⟨S8192x256, .bf16⟩
  | .local _ .vmem, ⟨4, _⟩ => ⟨S2x1x512, .f32⟩
  | .local _ .vmem, ⟨5, _⟩ => ⟨S512x512, .bf16⟩
  | .local _ .vmem, ⟨6, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  v4
def k0_mult2 (i : grid0.Coords) : BitVec 32 :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c128_i32_1 : BitVec 32 := 128#32
  let v6 : BitVec 32 := Scalar.muli v1 c128_i32_1
  v6
def k0_off1 (i : grid0.Coords) (c0_i32 : BitVec 32) : Fin 2 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  let v5 : BitVec 32 := v4
  let v50 : Index := Scalar.indexCast v5
  let c0_13 : Index := 0#32
  ![v50.toNat, 0]
def k0_off2 (i : grid0.Coords) (c0_i32 : BitVec 32) : Fin 2 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let c128_i32_1 : BitVec 32 := 128#32
  let v6 : BitVec 32 := Scalar.muli v1 c128_i32_1
  let v7 : BitVec 32 := v6
  let v53 : Index := Scalar.indexCast v7
  let c0_14 : Index := 0#32
  ![v53.toNat, 0]
def k0_off3 (i : grid0.Coords) (c0_i32 : BitVec 32) : Fin 2 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  let v5 : BitVec 32 := v4
  let v112 : Index := Scalar.indexCast v5
  let c128_35 : Index := 128#32
  ![v112.toNat, 128]
def k0_off4 (i : grid0.Coords) (c0_i32 : BitVec 32) : Fin 2 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let c128_i32_1 : BitVec 32 := 128#32
  let v6 : BitVec 32 := Scalar.muli v1 c128_i32_1
  let v7 : BitVec 32 := v6
  let v115 : Index := Scalar.indexCast v7
  let c128_36 : Index := 128#32
  ![v115.toNat, 128]
def k0_mult3 (i : grid0.Coords) : BitVec 32 :=
  let arg0 : BitVec 32 := BitVec.ofNat 32 (i 0).val
  let c4_i32_52 : BitVec 32 := 4#32
  let v161 : BitVec 32 := Scalar.muli arg0 c4_i32_52
  let c1_i32_53 : BitVec 32 := 1#32
  let v162 : BitVec 32 := Scalar.addi v161 c1_i32_53
  let c1_i32_54 : BitVec 32 := 1#32
  let v163 : BitVec 32 := Scalar.subi v162 c1_i32_54
  let c0_i32_55 : BitVec 32 := 0#32
  let v164 : BitVec 32 := Scalar.maxsi v163 c0_i32_55
  let c128_i32_56 : BitVec 32 := 128#32
  let v165 : BitVec 32 := Scalar.muli v164 c128_i32_56
  v165
def k0_mult4 (i : grid0.Coords) : BitVec 32 :=
  let arg0 : BitVec 32 := BitVec.ofNat 32 (i 0).val
  let c4_i32_52 : BitVec 32 := 4#32
  let v161 : BitVec 32 := Scalar.muli arg0 c4_i32_52
  let c1_i32_53 : BitVec 32 := 1#32
  let v162 : BitVec 32 := Scalar.addi v161 c1_i32_53
  let c128_i32_57 : BitVec 32 := 128#32
  let v167 : BitVec 32 := Scalar.muli v162 c128_i32_57
  v167
def k0_mult5 (i : grid0.Coords) : BitVec 32 :=
  let arg0 : BitVec 32 := BitVec.ofNat 32 (i 0).val
  let c4_i32_115 : BitVec 32 := 4#32
  let v322 : BitVec 32 := Scalar.muli arg0 c4_i32_115
  let c2_i32 : BitVec 32 := 2#32
  let v323 : BitVec 32 := Scalar.addi v322 c2_i32
  let c1_i32_116 : BitVec 32 := 1#32
  let v324 : BitVec 32 := Scalar.subi v323 c1_i32_116
  let c0_i32_117 : BitVec 32 := 0#32
  let v325 : BitVec 32 := Scalar.maxsi v324 c0_i32_117
  let c128_i32_118 : BitVec 32 := 128#32
  let v326 : BitVec 32 := Scalar.muli v325 c128_i32_118
  v326
def k0_mult6 (i : grid0.Coords) : BitVec 32 :=
  let arg0 : BitVec 32 := BitVec.ofNat 32 (i 0).val
  let c4_i32_115 : BitVec 32 := 4#32
  let v322 : BitVec 32 := Scalar.muli arg0 c4_i32_115
  let c2_i32 : BitVec 32 := 2#32
  let v323 : BitVec 32 := Scalar.addi v322 c2_i32
  let c128_i32_119 : BitVec 32 := 128#32
  let v328 : BitVec 32 := Scalar.muli v323 c128_i32_119
  v328
def k0_mult7 (i : grid0.Coords) : BitVec 32 :=
  let arg0 : BitVec 32 := BitVec.ofNat 32 (i 0).val
  let c4_i32_177 : BitVec 32 := 4#32
  let v483 : BitVec 32 := Scalar.muli arg0 c4_i32_177
  let c3_i32 : BitVec 32 := 3#32
  let v484 : BitVec 32 := Scalar.addi v483 c3_i32
  let c1_i32_178 : BitVec 32 := 1#32
  let v485 : BitVec 32 := Scalar.subi v484 c1_i32_178
  let c0_i32_179 : BitVec 32 := 0#32
  let v486 : BitVec 32 := Scalar.maxsi v485 c0_i32_179
  let c128_i32_180 : BitVec 32 := 128#32
  let v487 : BitVec 32 := Scalar.muli v486 c128_i32_180
  v487
def k0_mult8 (i : grid0.Coords) : BitVec 32 :=
  let arg0 : BitVec 32 := BitVec.ofNat 32 (i 0).val
  let c4_i32_177 : BitVec 32 := 4#32
  let v483 : BitVec 32 := Scalar.muli arg0 c4_i32_177
  let c3_i32 : BitVec 32 := 3#32
  let v484 : BitVec 32 := Scalar.addi v483 c3_i32
  let c128_i32_181 : BitVec 32 := 128#32
  let v489 : BitVec 32 := Scalar.muli v484 c128_i32_181
  v489
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x512 : Shape := ⟨2, ![8192, 512]⟩
abbrev S8192x128 : Shape := ⟨2, ![8192, 128]⟩
abbrev S8 : Shape := ⟨1, ![8]⟩
abbrev S1x8192x8x64 : Shape := ⟨4, ![1, 8192, 8, 64]⟩
abbrev S1x8192x2x64 : Shape := ⟨4, ![1, 8192, 2, 64]⟩
abbrev S1x64x128x2x4x64 : Shape := ⟨6, ![1, 64, 128, 2, 4, 64]⟩
abbrev S1x64x128x2x64 : Shape := ⟨5, ![1, 64, 128, 2, 64]⟩
abbrev S1x1x128x2x64 : Shape := ⟨5, ![1, 1, 128, 2, 64]⟩
abbrev S_ : Shape := ⟨0, ![]⟩
abbrev S1x63x128x2x64 : Shape := ⟨5, ![1, 63, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S1x8192x512 : Shape := ⟨3, ![1, 8192, 512]⟩

abbrev nBuf : Space → Nat
  | .hbm => 90
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8, .f32⟩
  | .hbm, ⟨4, _⟩ => ⟨S1x8192x8x64, .f32⟩
  | .hbm, ⟨5, _⟩ => ⟨S1x8192x2x64, .f32⟩
  | .hbm, ⟨6, _⟩ => ⟨S1x8192x2x64, .f32⟩
  | .hbm, ⟨7, _⟩ => ⟨S1x64x128x2x4x64, .f32⟩
  | .hbm, ⟨8, _⟩ => ⟨S1x64x128x2x64, .f32⟩
  | .hbm, ⟨9, _⟩ => ⟨S1x1x128x2x64, .f32⟩
  | .hbm, ⟨10, _⟩ => ⟨S_, .f32⟩
  | .hbm, ⟨11, _⟩ => ⟨S1x1x128x2x64, .f32⟩
  | .hbm, ⟨12, _⟩ => ⟨S1x63x128x2x64, .f32⟩
  | .hbm, ⟨13, _⟩ => ⟨S1x64x128x2x64, .f32⟩
  | .hbm, ⟨14, _⟩ => ⟨S1x64x256x2x64, .f32⟩
  | .hbm, ⟨15, _⟩ => ⟨S1x64x128x2x64, .f32⟩
  | .hbm, ⟨16, _⟩ => ⟨S1x1x128x2x64, .f32⟩
  | .hbm, ⟨17, _⟩ => ⟨S_, .f32⟩
  | .hbm, ⟨18, _⟩ => ⟨S1x1x128x2x64, .f32⟩
  | .hbm, ⟨19, _⟩ => ⟨S1x63x128x2x64, .f32⟩
  | .hbm, ⟨20, _⟩ => ⟨S1x64x128x2x64, .f32⟩
  | .hbm, ⟨21, _⟩ => ⟨S1x64x256x2x64, .f32⟩
  | .hbm, ⟨22, _⟩ => ⟨S1x64x2x256x128x4, .f32⟩
  | .hbm, ⟨23, _⟩ => ⟨S1x64x2x4x128x256, .f32⟩
  | .hbm, ⟨24, _⟩ => ⟨S_, .f32⟩
  | .hbm, ⟨25, _⟩ => ⟨S1x64x2x4x128x256, .f32⟩
  | .hbm, ⟨26, _⟩ => ⟨S1x64x2x4x128x256, .f32⟩
  | .hbm, ⟨27, _⟩ => ⟨S128, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S64, .i32⟩
  | .hbm, ⟨45, _⟩ => ⟨S64x1, .i32⟩
  | .hbm, ⟨46, _⟩ => ⟨S_, .i32⟩
  | .hbm, ⟨47, _⟩ => ⟨S64x1, .i32⟩
  | .hbm, ⟨48, _⟩ => ⟨S64x1, .i1⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S64x256, .i1⟩
  | .hbm, ⟨53, _⟩ => ⟨S64x256, .i1⟩
  | .hbm, ⟨54, _⟩ => ⟨S64x256, .i1⟩
  | .hbm, ⟨55, _⟩ => ⟨S1x128x256, .i1⟩
  | .hbm, ⟨56, _⟩ => ⟨S64x1x256, .i1⟩
  | .hbm, ⟨57, _⟩ => ⟨S64x128x256, .i1⟩
  | .hbm, ⟨58, _⟩ => ⟨S64x128x256, .i1⟩
  | .hbm, ⟨59, _⟩ => ⟨S64x128x256, .i1⟩
  | .hbm, ⟨60, _⟩ => ⟨S1x64x1x1x128x256, .i1⟩
  | .hbm, ⟨61, _⟩ => ⟨S_, .f32⟩
  | .hbm, ⟨62, _⟩ => ⟨S_, .f32⟩
  | .hbm, ⟨63, _⟩ => ⟨S1x64x2x4x128x256, .i1⟩
  | .hbm, ⟨64, _⟩ => ⟨S1x64x2x4x128x256, .f32⟩
  | .hbm, ⟨65, _⟩ => ⟨S1x64x2x4x128x256, .f32⟩
  | .hbm, ⟨66, _⟩ => ⟨S2x4, .f32⟩
  | .hbm, ⟨67, _⟩ => ⟨S1x1x2x4x1x1, .f32⟩
  | .hbm, ⟨68, _⟩ => ⟨S_, .f32⟩
  | .hbm, ⟨69, _⟩ => ⟨S1x64x2x4x128, .f32⟩
  | .hbm, ⟨70, _⟩ => ⟨S1x64x2x4x128x1, .f32⟩
  | .hbm, ⟨71, _⟩ => ⟨S1x64x2x4x128x1, .f32⟩
  | .hbm, ⟨72, _⟩ => ⟨S1x64x2x4x128x1, .f32⟩
  | .hbm, ⟨73, _⟩ => ⟨S1x64x2x4x128x256, .f32⟩
  | .hbm, ⟨74, _⟩ => ⟨S1x64x2x4x128x256, .f32⟩
  | .hbm, ⟨75, _⟩ => ⟨S1x64x2x4x128x256, .f32⟩
  | .hbm, ⟨76, _⟩ => ⟨S_, .f32⟩
  | .hbm, ⟨77, _⟩ => ⟨S1x64x2x4x128, .f32⟩
  | .hbm, ⟨78, _⟩ => ⟨S1x64x2x4x128x1, .f32⟩
  | .hbm, ⟨79, _⟩ => ⟨S1x64x2x4x128x1, .f32⟩
  | .hbm, ⟨80, _⟩ => ⟨S1x64x2x4x128x1, .f32⟩
  | .hbm, ⟨81, _⟩ => ⟨S1x64x2x4x128x1, .f32⟩
  | .hbm, ⟨82, _⟩ => ⟨S1x64x2x4x128x1, .f32⟩
  | .hbm, ⟨83, _⟩ => ⟨S1x64x2x4x128x256, .f32⟩
  | .hbm, ⟨84, _⟩ => ⟨S1x64x2x4x128x256, .f32⟩
  | .hbm, ⟨85, _⟩ => ⟨S1x64x2x64x4x128, .f32⟩
  | .hbm, ⟨86, _⟩ => ⟨S1x64x128x2x4x64, .f32⟩
  | .hbm, ⟨87, _⟩ => ⟨S1x8192x512, .f32⟩
  | .hbm, ⟨88, _⟩ => ⟨S8192x512, .f32⟩
  | .hbm, ⟨89, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Kernel6.lean ====
abbrev S8192x1024 : Shape := ⟨2, ![8192, 1024]⟩
abbrev S8192x32 : Shape := ⟨2, ![8192, 32]⟩
abbrev S1024 : Shape := ⟨1, ![1024]⟩
abbrev S1024x1792 : Shape := ⟨2, ![1024, 1792]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1792x1024 : Shape := ⟨2, ![1792, 1024]⟩
abbrev S512x1024 : Shape := ⟨2, ![512, 1024]⟩
abbrev S1024x1024 : Shape := ⟨2, ![1024, 1024]⟩
abbrev S64x1024 : Shape := ⟨2, ![64, 1024]⟩
abbrev S2048x1024 : Shape := ⟨2, ![2048, 1024]⟩
abbrev S1x1024 : Shape := ⟨2, ![1, 1024]⟩
abbrev S8192x512 : Shape := ⟨2, ![8192, 512]⟩
abbrev S8192x256 : Shape := ⟨2, ![8192, 256]⟩
abbrev S512x128 : Shape := ⟨2, ![512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩

abbrev nBuf : Space → Nat
  | .hbm => 32
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S8192x32, .f32⟩
  | .hbm, ⟨3, _⟩ => ⟨S1024, .f32⟩
  | .hbm, ⟨4, _⟩ => ⟨S1024x1792, .f32⟩
  | .hbm, ⟨5, _⟩ => ⟨S8192x64, .f32⟩
  | .hbm, ⟨6, _⟩ => ⟨S1x8192x1x64, .f32⟩
  | .hbm, ⟨7, _⟩ => ⟨S1x8192x2x64, .f32⟩
  | .hbm, ⟨8, _⟩ => ⟨S8192x128, .f32⟩
  | .hbm, ⟨9, _⟩ => ⟨S8192x32, .f32⟩
  | .hbm, ⟨10, _⟩ => ⟨S8192x64, .f32⟩
  | .hbm, ⟨11, _⟩ => ⟨S1x8192x1x64, .f32⟩
  | .hbm, ⟨12, _⟩ => ⟨S1x8192x2x64, .f32⟩
  | .hbm, ⟨13, _⟩ => ⟨S8192x128, .f32⟩
  | .hbm, ⟨14, _⟩ => ⟨S1792x1024, .f32⟩
  | .hbm, ⟨15, _⟩ => ⟨S1792x1024, .bf16⟩
  | .hbm, ⟨16, _⟩ => ⟨S512x1024, .bf16⟩
  | .hbm, ⟨17, _⟩ => ⟨S1024x1024, .bf16⟩
  | .hbm, ⟨18, _⟩ => ⟨S64x1024, .bf16⟩
  | .hbm, ⟨19, _⟩ => ⟨S64x1024, .bf16⟩
  | .hbm, ⟨20, _⟩ => ⟨S64x1024, .bf16⟩
  | .hbm, ⟨21, _⟩ => ⟨S64x1024, .bf16⟩
  | .hbm, ⟨22, _⟩ => ⟨S64x1024, .bf16⟩
  | .hbm, ⟨23, _⟩ => ⟨S64x1024, .bf16⟩
  | .hbm, ⟨24, _⟩ => ⟨S64x1024, .bf16⟩
  | .hbm, ⟨25, _⟩ => ⟨S64x1024, .bf16⟩
  | .hbm, ⟨26, _⟩ => ⟨S2048x1024, .bf16⟩
  | .hbm, ⟨27, _⟩ => ⟨S1x1024, .f32⟩
  | .hbm, ⟨28, _⟩ => ⟨S8192x512, .bf16⟩
  | .hbm, ⟨29, _⟩ => ⟨S8192x256, .bf16⟩
  | .hbm, ⟨30, _⟩ => ⟨S8192x256, .bf16⟩
  | .hbm, ⟨31, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2048x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev main_v23_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8192x1024 : Shape := ⟨2, ![8192, 1024]⟩
abbrev S8192x32 : Shape := ⟨2, ![8192, 32]⟩
abbrev S1024 : Shape := ⟨1, ![1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩
abbrev S8192x512 : Shape := ⟨2, ![8192, 512]⟩
abbrev S8192x8x64 : Shape := ⟨3, ![8192, 8, 64]⟩
abbrev S8192x8x32 : Shape := ⟨3, ![8192, 8, 32]⟩
abbrev S8192x1x32 : Shape := ⟨3, ![8192, 1, 32]⟩
abbrev S8192x128 : Shape := ⟨2, ![8192, 128]⟩
abbrev S8192x2x64 : Shape := ⟨3, ![8192, 2, 64]⟩
abbrev S8192x2x32 : Shape := ⟨3, ![8192, 2, 32]⟩
abbrev S8192x2x1x64 : Shape := ⟨4, ![8192, 2, 1, 64]⟩
abbrev S8192x2x2x64 : Shape := ⟨4, ![8192, 2, 2, 64]⟩
abbrev S8192x256 : Shape := ⟨2, ![8192, 256]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S8192x32, .f32⟩
  | .hbm, ⟨3, _⟩ => ⟨S1024, .f32⟩
  | .hbm, ⟨4, _⟩ => ⟨S1024x1792, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1792, .f32⟩
  | .hbm, ⟨22, _⟩ => ⟨S8192x512, .f32⟩
  | .hbm, ⟨23, _⟩ => ⟨S8192x8x64, .f32⟩
  | .hbm, ⟨24, _⟩ => ⟨S8192x8x32, .f32⟩
  | .hbm, ⟨25, _⟩ => ⟨S8192x8x32, .f32⟩
  | .hbm, ⟨26, _⟩ => ⟨S8192x1x32, .f32⟩
  | .hbm, ⟨27, _⟩ => ⟨S8192x1x32, .f32⟩
  | .hbm, ⟨28, _⟩ => ⟨S8192x8x32, .f32⟩
  | .hbm, ⟨29, _⟩ => ⟨S8192x8x32, .f32⟩
  | .hbm, ⟨30, _⟩ => ⟨S8192x8x32, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x32, .f32⟩
  | .hbm, ⟨36, _⟩ => ⟨S8192x8x32, .f32⟩
  | .hbm, ⟨37, _⟩ => ⟨S8192x8x32, .f32⟩
  | .hbm, ⟨38, _⟩ => ⟨S8192x8x64, .f32⟩
  | .hbm, ⟨39, _⟩ => ⟨S_, .f32⟩
  | .hbm, ⟨40, _⟩ => ⟨S8192x8x64, .f32⟩
  | .hbm, ⟨41, _⟩ => ⟨S8192x8x64, .f32⟩
  | .hbm, ⟨42, _⟩ => ⟨S8192x128, .f32⟩
  | .hbm, ⟨43, _⟩ => ⟨S8192x2x64, .f32⟩
  | .hbm, ⟨44, _⟩ => ⟨S8192x2x32, .f32⟩
  | .hbm, ⟨45, _⟩ => ⟨S8192x2x32, .f32⟩
  | .hbm, ⟨46, _⟩ => ⟨S8192x1x32, .f32⟩
  | .hbm, ⟨47, _⟩ => ⟨S8192x1x32, .f32⟩
  | .hbm, ⟨48, _⟩ => ⟨S8192x2x32, .f32⟩
  | .hbm, ⟨49, _⟩ => ⟨S8192x2x32, .f32⟩
  | .hbm, ⟨50, _⟩ => ⟨S8192x2x32, .f32⟩
  | .hbm, ⟨51, _⟩ => ⟨S8192x2x32, .f32⟩
  | .hbm, ⟨52, _⟩ => ⟨S8192x2x32, .f32⟩
  | .hbm, ⟨53, _⟩ => ⟨S8192x2x32, .f32⟩
  | .hbm, ⟨54, _⟩ => ⟨S8192x2x32, .f32⟩
  | .hbm, ⟨55, _⟩ => ⟨S8192x2x32, .f32⟩
  | .hbm, ⟨56, _⟩ => ⟨S8192x2x32, .f32⟩
  | .hbm, ⟨57, _⟩ => ⟨S8192x2x32, .f32⟩
  | .hbm, ⟨58, _⟩ => ⟨S8192x2x64, .f32⟩
  | .hbm, ⟨59, _⟩ => ⟨S8192x128, .f32⟩
  | .hbm, ⟨60, _⟩ => ⟨S8192x2x64, .f32⟩
  | .hbm, ⟨61, _⟩ => ⟨S8192x512, .f32⟩
  | .hbm, ⟨62, _⟩ => ⟨S8192x512, .bf16⟩
  | .hbm, ⟨63, _⟩ => ⟨S8192x2x1x64, .f32⟩
  | .hbm, ⟨64, _⟩ => ⟨S8192x2x1x64, .f32⟩
  | .hbm, ⟨65, _⟩ => ⟨S8192x2x2x64, .f32⟩
  | .hbm, ⟨66, _⟩ => ⟨S8192x256, .f32⟩
  | .hbm, ⟨67, _⟩ => ⟨S8192x256, .bf16⟩
  | .hbm, ⟨68, _⟩ => ⟨S8192x2x1x64, .f32⟩
  | .hbm, ⟨69, _⟩ => ⟨S8192x2x1x64, .f32⟩
  | .hbm, ⟨70, _⟩ => ⟨S8192x2x2x64, .f32⟩
  | .hbm, ⟨71, _⟩ => ⟨S8192x256, .f32⟩
  | .hbm, ⟨72, _⟩ => ⟨S8192x256, .bf16⟩
  | .hbm, ⟨73, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S1x1024, .f32⟩
  | .hbm, ⟨10, _⟩ => ⟨S2816x1024, .bf16⟩
  | .hbm, ⟨11, _⟩ => ⟨S8192x1024, .f32⟩
  | .hbm, ⟨12, _⟩ => ⟨S8192x2816, .bf16⟩
  | .hbm, ⟨13, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2816, .bf16⟩
  | .hbm, ⟨39, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel8.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S512x1024 : Shape := ⟨2, ![512, 1024]⟩
abbrev S512x512 : Shape := ⟨2, ![512, 512]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 21
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S8192x512, .bf16⟩
  | .hbm, ⟨13, _⟩ => ⟨S8192x512, .bf16⟩
  | .hbm, ⟨14, _⟩ => ⟨S1024x1024, .bf16⟩
  | .hbm, ⟨15, _⟩ => ⟨S1x1024, .f32⟩
  | .hbm, ⟨16, _⟩ => ⟨S2816x1024, .bf16⟩
  | .hbm, ⟨17, _⟩ => ⟨S8192x1024, .f32⟩
  | .hbm, ⟨18, _⟩ => ⟨S8192x2816, .bf16⟩
  | .hbm, ⟨19, _⟩ => ⟨S8192x2816, .bf16⟩
  | .hbm, ⟨20, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x1024, .f32⟩
  | .local _ .vmem, ⟨18, _⟩ => ⟨S512x1024, .f32⟩
  | .local _ .vmem, ⟨19, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2816, .bf16⟩
  | .hbm, ⟨45, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Proof.Reals.lean ====
/- Extended reals that are real: sums, products, quotients, inverse roots and exponentials of reals stay real, so an
   equation between two programs' results at finite arguments becomes an equation of real numbers. -/
module

public import Idealize.ShloMosaic.Lib.Pointwise
public import Idealize.ShloMosaic.PureOps.Ideal.Laws

@[expose] public section

set_option maxRecDepth 16384

noncomputable section

namespace Cert.Proof.Reals

open Idealize.ShloMosaic

/-- A finite sum of reals, summed as extended reals, is their real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe (x y : ℝ) (h : y ≠ 0) : Ideal.div (x : EReal) (y : EReal) = ((x / y : ℝ) : EReal) := by
  rw [Ideal.div_coe h, ← EReal.coe_mul, mul_one_div]

/-- The inverse root of a positive real. -/
theorem rsqrt_coe_pos (x : ℝ) (h : 0 < x) : Ideal.rsqrt (x : EReal) = (((Real.sqrt x)⁻¹ : ℝ) : EReal) := by
  rw [Ideal.rsqrt_coe, if_neg (not_lt.2 h.le), if_neg h.ne']

/-- A choice between two reals. -/
theorem ite_coe (p : Prop) [Decidable p] (x y : ℝ) :
    (if p then (x : EReal) else (y : EReal)) = ((if p then x else y : ℝ) : EReal) := by split <;> rfl

theorem bits_1024 : Ideal.ofBits .f32 1149239296#32 = ((1024 : ℝ) : EReal) := by
  simp [Ideal.ofBits, Ideal.ieee, -EReal.coe_mul]; norm_num

theorem bits_neg_half : Ideal.ofBits .f32 3204448256#32 = ((-(1 / 2) : ℝ) : EReal) := by
  simp [Ideal.ofBits, Ideal.ieee, -EReal.coe_mul]; norm_num

theorem bits_half : Ideal.ofBits .f32 1056964608#32 = ((1 / 2 : ℝ) : EReal) := by
  simp [Ideal.ofBits, Ideal.ieee, -EReal.coe_mul]; norm_num

/-- The norms' small summand, as the real the f32 constant is. -/
def eps : ℝ := 2748779 / 274877906944

theorem eps_pos : 0 < eps := by norm_num [eps]

theorem bits_eps : Ideal.ofBits .f32 925353388#32 = ((eps : ℝ) : EReal) := by
  simp [Ideal.ofBits, Ideal.ieee, eps, -EReal.coe_mul]; norm_num

end Cert.Proof.Reals
-- ==== Proof.Finite.lean ====
/- What a finiteness precondition says: an argument whose absolute value is below infinity everywhere is an array of reals. -/
module

public import proofs.«01_k».proof.Proof.Reals

@[expose] public section

set_option maxRecDepth 16384

noncomputable section

namespace Cert.Proof.Reals

open Idealize.ShloMosaic

theorem bits_top : Ideal.ofBits .f32 2139095040#32 = (⊤ : EReal) := by simp [Ideal.ofBits, Ideal.ieee]

/-- An array that passes the test is real at every index. -/
theorem real_of_finite {s : Shape} (x : FVec Ideal s .f32) (b : (⟨0, ![]⟩ : Shape).BroadcastsInDim s (![] : Fin 0 → Fin s.rank))
    (h : cmpf .olt (Host.absf x) (broadcastInDim s ![] b (constant ⟨0, ![]⟩ .f32 0x7F800000#32)) = fun _ => 1#1) (i : s.Idx) :
    ∃ r : ℝ, x i = (r : EReal) := by
  have hi := congrFun h i
  pointwise at hi
  rw [bits_top] at hi
  by_cases ht : (x i : EReal) = ⊤
  · rw [show FloatOps.absf (x i) = max (x i : EReal) (-(x i : EReal)) from rfl, ht] at hi
    simp at hi
  by_cases hb : (x i : EReal) = ⊥
  · rw [show FloatOps.absf (x i) = max (x i : EReal) (-(x i : EReal)) from rfl, hb] at hi
    simp at hi
  exact ⟨EReal.toReal (x i), (EReal.coe_toReal ht hb).symm⟩

/-- A vector of reals, as a function of the index. -/
theorem choose1 {n : ℕ} (F : Fin n → EReal) (h : ∀ i, ∃ r : ℝ, F i = (r : EReal)) :
    ∃ X : ℕ → ℝ, ∀ i : Fin n, F i = ((X i.val : ℝ) : EReal) := by
  choose X hX using h
  exact ⟨fun i => if hi : i < n then X ⟨i, hi⟩ else 0, fun i => by simpa using hX i⟩

/-- A matrix of reals, as a function of the two indices. -/
theorem choose2 {n k : ℕ} (F : Fin n → Fin k → EReal) (h : ∀ i j, ∃ r : ℝ, F i j = (r : EReal)) :
    ∃ X : ℕ → ℕ → ℝ, ∀ (i : Fin n) (j : Fin k), F i j = ((X i.val j.val : ℝ) : EReal) := by
  choose X hX using h
  exact ⟨fun i j => if hi : i < n ∧ j < k then X ⟨i, hi.1⟩ ⟨j, hi.2⟩ else 0, fun i j => by simpa using hX i j⟩

end Cert.Proof.Reals
-- ==== Proof.InMath.lean ====
/- The real arithmetic of the input projection's backward pass: one row's gradient with respect to the projection, as
   the kernel lays it out (keys and values repeated, 2048 columns) and as the projection has it (1792 columns). -/
module

public import proofs.«01_k».proof.Proof.Reals

@[expose] public section

set_option maxRecDepth 16384

noncomputable section

namespace Cert.Proof.InProj

open Finset

/-- The transpose of the rotary rotation of one row, in heads of 64 columns: the first half of a head takes its own
    cosine and the second half's sine, the second half its own cosine and minus the first half's sine. -/
def rope (C S d : ℕ → ℝ) (c : ℕ) : ℝ :=
  if c % 64 < 32 then d c * C (c % 32) + d (c + 32) * S (c % 32) else d c * C (c % 32) + d (c - 32) * -S (c % 32)

/-- The gradient of one row with respect to the wide projection: queries, keys, values, the convolution's input. -/
def wide (C S Q K V U : ℕ → ℝ) (c : ℕ) : ℝ :=
  if c < 512 then rope C S Q c else if c < 768 then rope C S K (c - 512)
  else if c < 1024 then V (c - 768) else U (c - 1024)

/-- The projection's column that a wide column repeats. -/
def src (c : ℕ) : ℕ := if c < 512 then c else if c < 1024 then 512 + (c - 512) / 128 * 64 + (c - 512) % 64 else c - 256

/-- A wide row summed over the two repeats of each column. -/
def fold (f : ℕ → ℝ) (j : ℕ) : ℝ :=
  if j < 512 then f j else if j < 768 then f (512 + (j - 512) / 64 * 128 + (j - 512) % 64)
      + f (512 + (j - 512) / 64 * 128 + (j - 512) % 64 + 64)
  else f (j + 256)

theorem sum_two (f : ℕ → ℝ) (n m : ℕ) :
    ∑ c ∈ range (n + m), f c = ∑ c ∈ range n, f c + ∑ c ∈ range m, f (n + c) := sum_range_add f n m

/-- A product with a matrix whose rows are repeated is the folded row's product with the matrix. -/
theorem sum_fold (f w : ℕ → ℝ) :
    ∑ c ∈ range 2048, f c * w (src c) = ∑ j ∈ range 1792, fold f j * w j := by
  have piece (b : ℕ) (hb : b < 4) :
      ∑ c ∈ range 128, f (512 + 128 * b + c) * w (src (512 + 128 * b + c))
        = ∑ j ∈ range 64, fold f (512 + 64 * b + j) * w (512 + 64 * b + j) := by
    rw [show (128 : ℕ) = 64 + 64 from rfl, sum_two, ← sum_add_distrib]
    refine sum_congr rfl fun j hj => ?_
    have hj := mem_range.1 hj
    have e1 : src (512 + (64 + 64) * b + j) = 512 + 64 * b + j := by unfold src; split_ifs <;> omega
    have e2 : src (512 + (64 + 64) * b + (64 + j)) = 512 + 64 * b + j := by unfold src; split_ifs <;> omega
    have e3 : fold f (512 + 64 * b + j) = f (512 + (64 + 64) * b + j) + f (512 + (64 + 64) * b + (64 + j)) := by
      unfold fold
      rw [if_neg (by omega), if_pos (by omega)]
      congr 2 <;> omega
    rw [e1, e2, e3]
    ring
  have left : ∑ c ∈ range 512, f c * w (src c) = ∑ j ∈ range 512, fold f j * w j :=
    sum_congr rfl fun j hj => by
      have hj := mem_range.1 hj
      unfold src fold; rw [if_pos hj, if_pos hj]
  have right : ∑ c ∈ range 1024, f (1024 + c) * w (src (1024 + c)) = ∑ j ∈ range 1024, fold f (768 + j) * w (768 + j) :=
    sum_congr rfl fun j hj => by
      unfold src fold
      rw [if_neg (by omega), if_neg (by omega), if_neg (by omega), if_neg (by omega)]
      congr 2 <;> omega
  have mid : ∀ n ≤ 4, ∑ c ∈ range (128 * n), f (512 + c) * w (src (512 + c))
      = ∑ j ∈ range (64 * n), fold f (512 + j) * w (512 + j) := by
    intro n
    induction n with
    | zero => intro _; simp
    | succ n ih =>
      intro hn
      rw [Nat.mul_succ, Nat.mul_succ, sum_two, sum_two, ih (by omega)]
      simpa only [add_assoc] using congrArg _ (piece n (by omega))
  rw [show (2048 : ℕ) = 512 + 128 * 4 + 1024 from rfl, sum_two, sum_two, left, mid 4 le_rfl,
    show (1792 : ℕ) = 512 + 64 * 4 + 1024 from rfl, sum_two, sum_two]
  exact congrArg _ right

/-- The same over finite index types. -/
theorem sum_fold_fin (f w : ℕ → ℝ) :
    ∑ c : Fin 2048, f c * w (src c) = ∑ j : Fin 1792, fold f j * w j := by
  rw [Fin.sum_univ_eq_sum_range (fun c => f c * w (src c)), Fin.sum_univ_eq_sum_range (fun j => fold f j * w j), sum_fold]

/-- Folding commutes with sums over the rows. -/
theorem fold_sum {ι : Type} (s : Finset ι) (f : ι → ℕ → ℝ) (j : ℕ) :
    fold (fun c => ∑ t ∈ s, f t c) j = ∑ t ∈ s, fold (f t) j := by
  unfold fold
  split_ifs <;> simp [sum_add_distrib]

theorem fold_mul (f : ℕ → ℝ) (a : ℝ) (j : ℕ) : fold (fun c => f c * a) j = fold f j * a := by
  unfold fold
  split_ifs <;> ring

/-- A row's mean square, with the norm's small summand. -/
def meanSq (x : ℕ → ℝ) : ℝ := (∑ k : Fin 1024, x k * x k) / 1024 + Reals.eps

theorem meanSq_pos (x : ℕ → ℝ) : 0 < meanSq x :=
  add_pos_of_nonneg_of_pos (div_nonneg (sum_nonneg fun k _ => mul_self_nonneg (x k)) (by norm_num)) Reals.eps_pos

/-- Its inverse root. -/
def inv (x : ℕ → ℝ) : ℝ := (√(meanSq x))⁻¹

/-- The norm's gradient as the kernel computes it is the derivative. -/
theorem norm_grad (x d : ℕ → ℝ) (j : ℕ) :
    d j * inv x + (x j * ((∑ k : Fin 1024, x k * d k) * (-(1 / 2) * (inv x / meanSq x)) / 1024)
        + (∑ k : Fin 1024, x k * d k) * (-(1 / 2) * (inv x / meanSq x)) / 1024 * x j)
      = inv x * (d j - x j * inv x * ((∑ k : Fin 1024, d k * (x k * inv x)) / 1024)) := by
  have hs := meanSq_pos x
  have hr : inv x * inv x = 1 / meanSq x := by
    unfold inv
    rw [← mul_inv, Real.mul_self_sqrt hs.le, one_div]
  have hsum : ∑ k : Fin 1024, d k * (x k * inv x) = (∑ k : Fin 1024, x k * d k) * inv x := by
    rw [sum_mul]; exact sum_congr rfl fun k _ => by ring
  rw [hsum, show inv x / meanSq x = inv x * (1 / meanSq x) by ring, ← hr]
  ring

end Cert.Proof.InProj
-- ==== Proof.InBlock.lean ====
/- One block of 512 rows of the input projection's backward pass: what the kernel's stored values are, as reals. -/
module

public import proofs.«01_k».proof.Proof.Gen.KernelIdeal.Frame
public import proofs.«01_k».proof.Proof.InMath
public import Idealize.ShloMosaic.Lib.Pipeline.ValueKit
public import Idealize.ShloMosaic.Lib.Pointwise

@[expose] public section

set_option maxRecDepth 16384

noncomputable section

namespace Cert.Proof.InProj

open Cert.KernelIdeal Cert.KernelIdeal.Gen Idealize.ShloMosaic Idealize.ShloMosaic.TcCoe Idealize.SL.Sem Idealize.ShloMosaic.StableHlo

/-- The kernel's test of a lane: is it in the first half of its head of 64? -/
def half (c : ℕ) : BitVec 1 :=
  IntOp.cmpi CmpIPredicate.slt
    (Scalar.select
      (IntOp.andi
        (IntOp.xori
          (IntOp.cmpi CmpIPredicate.slt
            (IntOp.remsi ArithUnit.vector (BitVec.ofNat 32 c)
              (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 c)
            (Scalar.select (Scalar.cmpi CmpIPredicate.eq 64#32 0#32) 1#32 64#32)) 0#32))
      (IntOp.addi
        (IntOp.remsi ArithUnit.vector (BitVec.ofNat 32 c)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 c)
        (Scalar.select (Scalar.cmpi CmpIPredicate.eq 64#32 0#32) 1#32 64#32))) 32#32

theorem half_eq : ∀ c : Fin 128, half c.val = if c.val % 64 < 32 then 1#1 else 0#1 := by decide +kernel

section Tile

variable {C S D : ℕ → ℕ → ℝ} {o : ℕ} {a b d : Vec Ideal S512x128 .f32}

/-- A lane of the rotated tile. -/
theorem rope_lane (ho : o % 128 = 0) (ha : ∀ i c, a (ix2 i c) = ((C i.val (c.val % 32) : ℝ) : EReal))
    (hb : ∀ i c, b (ix2 i c) = ((if c.val % 64 < 32 then -S i.val (c.val % 32) else S i.val (c.val % 32) : ℝ) : EReal))
    (hd : ∀ i c, d (ix2 i c) = ((D i.val (o + c.val) : ℝ) : EReal)) (i : Fin 512) (c : Fin 128) (h1 h2) :
    d (ix2 i c) * a (ix2 i c) + Scalar.select (half c.val)
        (d (ix2 i ⟨(c.val + 128 - 96) % 128, h1⟩) * b (ix2 i ⟨(c.val + 128 - 96) % 128, h1⟩))
        (d (ix2 i ⟨(c.val + 128 - 32) % 128, h2⟩) * b (ix2 i ⟨(c.val + 128 - 32) % 128, h2⟩))
      = ((rope (C i.val) (S i.val) (D i.val) (o + c.val) : ℝ) : EReal) := by
  have hc := c.isLt
  rw [half_eq c]
  unfold rope
  by_cases h : c.val % 64 < 32
  · rw [if_pos h, if_pos (by omega : (o + c.val) % 64 < 32)]
    show _ + d _ * b _ = _
    rw [ha, hd, hd, hb]
    dsimp only
    rw [if_neg (by omega), ← EReal.coe_mul, ← EReal.coe_mul, ← EReal.coe_add,
      show o + (c.val + 128 - 96) % 128 = o + c.val + 32 by omega,
      show (c.val + 128 - 96) % 128 % 32 = (o + c.val) % 32 by omega, show c.val % 32 = (o + c.val) % 32 by omega]
  · rw [if_neg h, if_neg (by omega : ¬ (o + c.val) % 64 < 32)]
    show _ + d _ * b _ = _
    rw [ha, hd, hd, hb]
    dsimp only
    rw [if_pos (by omega), ← EReal.coe_mul, ← EReal.coe_mul, ← EReal.coe_add,
      show o + (c.val + 128 - 32) % 128 = o + c.val - 32 by omega,
      show (c.val + 128 - 32) % 128 % 32 = (o + c.val) % 32 by omega, show c.val % 32 = (o + c.val) % 32 by omega]

variable (ho : o % 128 = 0) (ha : ∀ i c, a (ix2 i c) = ((C i.val (c.val % 32) : ℝ) : EReal))
    (hb : ∀ i c, b (ix2 i c) = ((if c.val % 64 < 32 then -S i.val (c.val % 32) else S i.val (c.val % 32) : ℝ) : EReal))
    (hd : ∀ i c, d (ix2 i c) = ((D i.val (o + c.val) : ℝ) : EReal)) (i : Fin 512) (c : Fin 128)

include ho ha hb hd

theorem tile0 : k0_pay7 (F := Ideal) a b d (ix2 i c) = ((rope (C i.val) (S i.val) (D i.val) (o + c.val) : ℝ) : EReal) := by
  pointwise [k0_pay7, k0_pay5, k0_pay6]
  exact rope_lane ho ha hb hd i c _ _

theorem tile1 : k0_pay8 (F := Ideal) (k0_pay5 a) (k0_pay6 b) d (ix2 i c)
    = ((rope (C i.val) (S i.val) (D i.val) (o + c.val) : ℝ) : EReal) := by
  pointwise [k0_pay8, k0_pay5, k0_pay6]
  exact rope_lane ho ha hb hd i c _ _

theorem tile2 : k0_pay12 (F := Ideal) (k0_pay5 a) (k0_pay6 b) d 64#32 k0_pay9 k0_pay10 k0_pay11 (ix2 i c)
    = ((rope (C i.val) (S i.val) (D i.val) (o + c.val) : ℝ) : EReal) := by
  pointwise [k0_pay12, k0_pay9, k0_pay10, k0_pay11, k0_pay5, k0_pay6]
  exact rope_lane ho ha hb hd i c _ _

theorem tile3 : k0_pay16 (F := Ideal) (k0_pay5 a) d k0_pay13 (k0_pay14 (k0_pay6 b) d) (k0_pay15 (k0_pay6 b) d) 32#32 (ix2 i c)
    = ((rope (C i.val) (S i.val) (D i.val) (o + c.val) : ℝ) : EReal) := by
  pointwise [k0_pay16, k0_pay13, k0_pay14, k0_pay15, k0_pay5, k0_pay6]
  exact rope_lane ho ha hb hd i c _ _

theorem tile4 : k0_pay17 (F := Ideal) (k0_pay5 a) (k0_pay6 b) d (ix2 i c)
    = ((rope (C i.val) (S i.val) (D i.val) (o + c.val) : ℝ) : EReal) := by
  pointwise [k0_pay17, k0_pay5, k0_pay6]
  exact rope_lane ho ha hb hd i c _ _

theorem tile5 : k0_pay18 (F := Ideal) (k0_pay5 a) (k0_pay6 b) d (iota Kind.tc S512x128 32 [1] iota_S512x128_d1_w32) 64#32 (ix2 i c)
    = ((rope (C i.val) (S i.val) (D i.val) (o + c.val) : ℝ) : EReal) := by
  pointwise [k0_pay18, k0_pay5, k0_pay6]
  exact rope_lane ho ha hb hd i c _ _

end Tile

section Block

variable {X P W : ℕ → ℕ → ℝ} {G : ℕ → ℝ} {p : Vec Ideal S512x2048 .bf16} {x : Vec Ideal S512x1024 .f32}
  {g : Vec Ideal S1x1024 .f32} {w : Vec Ideal S2048x1024 .bf16}
  (hp : ∀ i c, p (ix2 i c) = ((P i.val c.val : ℝ) : EReal)) (hx : ∀ i j, x (ix2 i j) = ((X i.val j.val : ℝ) : EReal))
  (hg : ∀ i j, g (ix2 i j) = ((G j.val : ℝ) : EReal)) (hw : ∀ c j, w (ix2 c j) = ((W (src c.val) j.val : ℝ) : EReal))

/-- The gradient of the normalised row. -/
def dh (W : ℕ → ℕ → ℝ) (p : ℕ → ℝ) (j : ℕ) : ℝ := ∑ k : Fin 1792, fold p k * W k j

include hx in
theorem rms_block (i : Fin 512) :
    Ideal.rsqrt (Ideal.div (∑ k : Fin 1024, x (ix2 i k) * x (ix2 i k)) (Ideal.ofBits FTy.f32 1149239296#32)
      + Ideal.ofBits FTy.f32 925353388#32) = ((inv (X i.val) : ℝ) : EReal) := by
  simp only [hx, ← EReal.coe_mul, Reals.sum_coe, Reals.bits_1024, Reals.bits_eps]
  rw [Reals.div_coe_coe _ _ (by norm_num), ← EReal.coe_add]
  exact Reals.rsqrt_coe_pos _ (meanSq_pos (X i.val))

include hp hw in
theorem dh_block (i : Fin 512) (j : Fin 1024) :
    ∑ c : Fin 2048, p (ix2 i c) * w (ix2 c j) = ((dh W (P i.val) j.val : ℝ) : EReal) := by
  simp only [hp, hw, ← EReal.coe_mul, Reals.sum_coe]
  exact congrArg _ (sum_fold_fin (P i.val) fun k => W k j.val)

include hp hx hg hw in
theorem dx_block (y : Vec Ideal S512x1024 .f32) (i : Fin 512) (j : Fin 1024) :
    k0_pay1 (k0_pay27 (F := Ideal) p x g w) y (ix2 i j)
      = y (ix2 i j) + ((inv (X i.val) * (dh W (P i.val) j.val * G j.val - X i.val j.val * inv (X i.val)
          * ((∑ k : Fin 1024, dh W (P i.val) k * G k * (X i.val k * inv (X i.val))) / 1024)) : ℝ) : EReal) := by
  pointwise [k0_pay27, k0_pay1, k0_pay24, k0_pay23, k0_pay22, k0_pay21]
  simp only [rms_block hx, dh_block hp hw]
  simp only [hg, hx, ← EReal.coe_mul, Reals.sum_coe, Reals.bits_1024]
  rw [Reals.div_coe_coe _ _ (by norm_num), ← EReal.coe_mul, ← EReal.coe_sub, ← EReal.coe_mul]

include hp hx hg in
theorem dw_block (y : Vec Ideal S2048x1024 .f32) (c : Fin 2048) (j : Fin 1024) :
    k0_pay25 (F := Ideal) p x g y (ix2 c j)
      = y (ix2 c j) + ((∑ i : Fin 512, P i c.val * (X i j.val * inv (X i) * G j.val) : ℝ) : EReal) := by
  pointwise [k0_pay25, k0_pay23, k0_pay22, k0_pay21]
  simp only [rms_block hx]
  simp only [hp, hg, hx, ← EReal.coe_mul, Reals.sum_coe]

include hp hx hw in
theorem dg_block (y : Vec Ideal S1x1024 .f32) (u : Fin 1) (j : Fin 1024) :
    k0_pay2 (k0_pay26 (F := Ideal) p x w) y (ix2 u j)
      = y (ix2 u j) + ((∑ i : Fin 512, dh W (P i) j.val * (X i j.val * inv (X i)) : ℝ) : EReal) := by
  pointwise [k0_pay26, k0_pay2, k0_pay24, k0_pay22, k0_pay21]
  simp only [rms_block hx, dh_block hp hw]
  simp only [hx, ← EReal.coe_mul, Reals.sum_coe]

end Block

/-- What a row adds to the input's gradient. -/
def dxRow (W : ℕ → ℕ → ℝ) (G x p : ℕ → ℝ) (j : ℕ) : ℝ :=
  inv x * (dh W p j * G j - x j * inv x * ((∑ k : Fin 1024, dh W p k * G k * (x k * inv x)) / 1024))

end Cert.Proof.InProj
-- ==== Proof.InRef.lean ====
/- The reference's results at an index, as real numbers, for real arguments. -/
module

public import proofs.«01_k».proof.Proof.Gen.ReferenceIdeal.Read
public import proofs.«01_k».proof.Proof.InBlock

@[expose] public section

set_option maxRecDepth 16384

noncomputable section

namespace Cert.Proof.InProj

open Cert.ReferenceIdeal Cert.ReferenceIdeal.Gen Cert.ReferenceIdeal.Read Idealize.ShloMosaic Idealize.ShloMosaic.TcCoe Idealize.SL.Sem Idealize.ShloMosaic.StableHlo

variable {x0 : FVec Ideal S8192x1024 .f32} {x1 x2 : FVec Ideal S8192x32 .f32} {x3 : FVec Ideal S1024 .f32}
  {x4 : FVec Ideal S1024x1792 .f32} {x5 : FVec Ideal S8192x1024 .f32} {x6 : FVec Ideal S8192x512 .f32}
  {x7 x8 : FVec Ideal S8192x256 .f32} {x9 : FVec Ideal S8192x1024 .f32}
  {X C S : ℕ → ℕ → ℝ} {G : ℕ → ℝ} {W Q K Y U : ℕ → ℕ → ℝ}

theorem wide_key (C S Q K Y U : ℕ → ℝ) (c : ℕ) (h : 512 ≤ c) (h' : c < 768) : wide C S Q K Y U c = rope C S K (c - 512) := by
  rw [wide, if_neg (by omega), if_pos h']

theorem wide_val (C S Q K Y U : ℕ → ℝ) (c : ℕ) (h : 768 ≤ c) (h' : c < 1024) : wide C S Q K Y U c = Y (c - 768) := by
  rw [wide, if_neg (by omega), if_neg (by omega), if_pos h']

theorem wide_conv (C S Q K Y U : ℕ → ℝ) (c : ℕ) (h : 1024 ≤ c) : wide C S Q K Y U c = U (c - 1024) := by
  rw [wide, if_neg (by omega), if_neg (by omega), if_neg (by omega)]

theorem meanSq_coe (x : ℕ → ℝ) : Ideal.div (∑ k : Fin 1024, ((x k.val : ℝ) : EReal) * ((x k.val : ℝ) : EReal)) (Ideal.ofBits .f32 1149239296#32)
    + Ideal.ofBits .f32 925353388#32 = ((meanSq x : ℝ) : EReal) := by
  rw [Reals.bits_1024, Reals.bits_eps]
  simp only [← EReal.coe_mul, Reals.sum_coe]
  rw [Reals.div_coe_coe _ _ (by norm_num), ← EReal.coe_add]
  rfl

theorem inv_coe (x : ℕ → ℝ) : Ideal.rsqrt ((meanSq x : ℝ) : EReal) = ((inv x : ℝ) : EReal) :=
  Reals.rsqrt_coe_pos _ (meanSq_pos x)

set_option maxHeartbeats 1000000 in
/-- The gradient with respect to the projection. -/
theorem ref_dp (h1 : ∀ t j, x1 (ix2 t j) = ((C t.val j.val : ℝ) : EReal)) (h2 : ∀ t j, x2 (ix2 t j) = ((S t.val j.val : ℝ) : EReal))
    (h6 : ∀ t j, x6 (ix2 t j) = ((Q t.val j.val : ℝ) : EReal)) (h7 : ∀ t j, x7 (ix2 t j) = ((K t.val j.val : ℝ) : EReal))
    (h8 : ∀ t j, x8 (ix2 t j) = ((Y t.val j.val : ℝ) : EReal)) (h9 : ∀ t j, x9 (ix2 t j) = ((U t.val j.val : ℝ) : EReal))
    (t : Fin 8192) (j : Fin 1792) :
    val_main_v96 (F := Ideal) x1 x2 x6 x7 x8 x9 (ix2 t j) = ((fold (wide (C t.val) (S t.val) (Q t.val) (K t.val) (Y t.val) (U t.val)) j.val : ℝ) : EReal) := by
  pointwise [val_main_v21, val_main_v22, val_main_v38, val_main_v39, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_cst_3, val_main_cst_4, val_main_cst_5, val_main_cst_6, val_main_cst_7, val_main_cst_8]
  simp only [h1, h2, h6, h7, h8, h9]
  have hj := j.isLt
  generalize j.val = j at hj ⊢
  unfold fold
  by_cases a : j < 512
  · rw [dif_neg (by omega), dif_neg (by omega), dif_neg (by omega), dif_pos a, if_pos a, zero_add, zero_add, zero_add, wide, if_pos a]
    by_cases b : j % 64 < 32
    · rw [dif_pos b, rope, if_pos b, show j / 64 * 64 + (32 + j % 64) = j + 32 by omega, show j / 64 * 64 + j % 64 = j by omega,
        show j % 64 = j % 32 by omega, add_comm, EReal.coe_add, EReal.coe_mul, EReal.coe_mul]
    · rw [dif_neg b, rope, if_neg b, show j / 64 * 64 + (32 + (j % 64 - 32)) = j by omega, show j / 64 * 64 + (j % 64 - 32) = j - 32 by omega,
        show j % 64 - 32 = j % 32 by omega, ← EReal.coe_neg, ← EReal.coe_mul, ← EReal.coe_mul, ← EReal.coe_add, neg_mul, mul_neg]
  rw [if_neg a]
  by_cases b : j < 640
  · obtain ⟨e, f, he, rfl⟩ : ∃ e f, f < 64 ∧ j = 512 + (64 * e + f) := ⟨(j - 512) / 64, (j - 512) % 64, by omega, by omega⟩
    rw [dif_neg (by omega), dif_neg (by omega), dif_pos (by omega), dif_neg a, if_pos (by omega), add_zero, zero_add, zero_add,
      show 512 + (64 * e + f) - 512 = 64 * e + f by omega, show (64 * e + f) / 64 = e by omega, show (64 * e + f) % 64 = f by omega,
      wide_key _ _ _ _ _ _ _ (by omega) (by omega), wide_key _ _ _ _ _ _ _ (by omega) (by omega)]
    simp only [Fin.sum_univ_two, Fin.val_zero, Fin.val_one]
    by_cases b : f < 32
    · rw [dif_pos b, rope, if_pos (by omega), rope, if_pos (by omega), show (512 + e * 128 + f - 512) % 32 = f by omega,
        show (512 + e * 128 + f + 64 - 512) % 32 = f by omega, show 512 + e * 128 + f - 512 = e * 128 + 0 * 64 + f by omega,
        show 512 + e * 128 + f + 64 - 512 = e * 128 + 1 * 64 + f by omega, show e * 128 + 0 * 64 + (32 + f) = e * 128 + 0 * 64 + f + 32 by omega,
        show e * 128 + 1 * 64 + (32 + f) = e * 128 + 1 * 64 + f + 32 by omega]
      simp only [← EReal.coe_mul, ← EReal.coe_add]
      exact congrArg (fun z : ℝ => (z : EReal)) (by ring)
    · rw [dif_neg b, rope, if_neg (by omega), rope, if_neg (by omega), show (512 + e * 128 + f - 512) % 32 = f - 32 by omega,
        show (512 + e * 128 + f + 64 - 512) % 32 = f - 32 by omega, show 512 + e * 128 + f - 512 = e * 128 + 0 * 64 + f by omega,
        show 512 + e * 128 + f + 64 - 512 = e * 128 + 1 * 64 + f by omega, show e * 128 + 0 * 64 + (32 + (f - 32)) = e * 128 + 0 * 64 + f by omega,
        show e * 128 + 1 * 64 + (32 + (f - 32)) = e * 128 + 1 * 64 + f by omega, show e * 128 + 0 * 64 + (f - 32) = e * 128 + 0 * 64 + f - 32 by omega,
        show e * 128 + 1 * 64 + (f - 32) = e * 128 + 1 * 64 + f - 32 by omega]
      simp only [← EReal.coe_mul, ← EReal.coe_add, ← EReal.coe_neg]
      exact congrArg (fun z : ℝ => (z : EReal)) (by ring)
  by_cases c : j < 768
  · obtain ⟨e, f, he, rfl⟩ : ∃ e f, f < 64 ∧ j = 640 + (64 * e + f) := ⟨(j - 640) / 64, (j - 640) % 64, by omega, by omega⟩
    rw [dif_neg (by omega), dif_pos (by omega), dif_neg (by omega), dif_neg a, if_pos c, add_zero, add_zero, zero_add,
      wide_val _ _ _ _ _ _ _ (by omega) (by omega), wide_val _ _ _ _ _ _ _ (by omega) (by omega), EReal.coe_add,
      show (640 + (64 * e + f) - 640) / 64 = e by omega, show (640 + (64 * e + f) - 640) % 64 = f by omega,
      show 512 + (640 + (64 * e + f) - 512) / 64 * 128 + (640 + (64 * e + f) - 512) % 64 - 768 = e * 128 + 0 * 64 + f by omega,
      show 512 + (640 + (64 * e + f) - 512) / 64 * 128 + (640 + (64 * e + f) - 512) % 64 + 64 - 768 = e * 128 + 1 * 64 + f by omega]
    simp only [Fin.sum_univ_two, Fin.val_zero, Fin.val_one]
  · rw [dif_pos (by omega), dif_neg (by omega), dif_neg (by omega), dif_neg a, if_neg c, add_zero, add_zero, add_zero,
      wide_conv _ _ _ _ _ _ _ (by omega), show j + 256 - 1024 = j - 768 by omega]

set_option maxHeartbeats 1000000 in
theorem ref_dh (h4 : ∀ k j, x4 (ix2 k j) = ((W j.val k.val : ℝ) : EReal)) (P : ℕ → ℕ → ℝ)
    (hp : ∀ t j, val_main_v96 (F := Ideal) x1 x2 x6 x7 x8 x9 (ix2 t j) = ((fold (P t.val) j.val : ℝ) : EReal)) (t : Fin 8192) (j : Fin 1024) :
    val_main_v99 (F := Ideal) x1 x2 x4 x6 x7 x8 x9 (ix2 t j) = ((dh W (P t.val) j.val : ℝ) : EReal) := by
  pointwise [val_main_v99]
  simp only [hp, h4, ← EReal.coe_mul, Reals.sum_coe]
  rfl

set_option maxHeartbeats 1000000 in
theorem ref_dx (h0 : ∀ t j, x0 (ix2 t j) = ((X t.val j.val : ℝ) : EReal)) (h3 : ∀ j, x3 (ix1 j) = ((G j.val : ℝ) : EReal)) (P : ℕ → ℕ → ℝ)
    (hd : ∀ t j, val_main_v99 (F := Ideal) x1 x2 x4 x6 x7 x8 x9 (ix2 t j) = ((dh W (P t.val) j.val : ℝ) : EReal))
    (t : Fin 8192) (j : Fin 1024) :
    val_main_v120 (F := Ideal) x0 x1 x2 x3 x4 x5 x6 x7 x8 x9 (ix2 t j) = x5 (ix2 t j) + ((dxRow W G (X t.val) (P t.val) j.val : ℝ) : EReal) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_cst, val_main_cst_0, val_main_cst_1, val_main_cst_2, val_main_cst_9, val_main_cst_10, val_main_cst_11, val_main_cst_12, val_main_cst_13]
  simp only [h0, h3, hd]
  simp only [meanSq_coe]
  simp only [inv_coe, Reals.bits_neg_half, Reals.bits_1024, Reals.div_coe_coe _ _ (meanSq_pos _).ne', ← EReal.coe_mul, Reals.sum_coe]
  simp only [Reals.div_coe_coe _ _ (show (1024 : ℝ) ≠ 0 by norm_num), ← EReal.coe_mul, Reals.sum_coe, add_assoc, ← EReal.coe_add]
  refine congrArg (fun z : ℝ => x5 (ix2 t j) + (z : EReal)) ?_
  simp only [Fin.sum_univ_one]
  exact norm_grad (X t.val) (fun j => dh W (P t.val) j * G j) j.val

set_option maxHeartbeats 1000000 in
theorem ref_dw (h0 : ∀ t j, x0 (ix2 t j) = ((X t.val j.val : ℝ) : EReal)) (h3 : ∀ j, x3 (ix1 j) = ((G j.val : ℝ) : EReal)) (P : ℕ → ℕ → ℝ)
    (hp : ∀ t j, val_main_v96 (F := Ideal) x1 x2 x6 x7 x8 x9 (ix2 t j) = ((fold (P t.val) j.val : ℝ) : EReal))
    (k : Fin 1792) (j : Fin 1024) :
    val_main_v121 (F := Ideal) x0 x1 x2 x3 x6 x7 x8 x9 (ix2 k j)
      = ((∑ r : Fin 8192, fold (P r.val) k.val * (X r.val j.val * inv (X r.val) * G j.val) : ℝ) : EReal) := by
  pointwise [val_main_v97, val_main_v98, val_main_v121, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2, val_main_cst_9, val_main_cst_10, val_main_cst_11, val_main_cst_12, val_main_cst_13]
  simp only [h0, h3, hp]
  simp only [meanSq_coe]
  simp only [inv_coe, ← EReal.coe_mul, Reals.sum_coe]

set_option maxHeartbeats 1000000 in
theorem ref_dg (h0 : ∀ t j, x0 (ix2 t j) = ((X t.val j.val : ℝ) : EReal)) (P : ℕ → ℕ → ℝ)
    (hd : ∀ t j, val_main_v99 (F := Ideal) x1 x2 x4 x6 x7 x8 x9 (ix2 t j) = ((dh W (P t.val) j.val : ℝ) : EReal))
    (u : Fin 1) (j : Fin 1024) :
    val_main_v122 (F := Ideal) x0 x1 x2 x4 x6 x7 x8 x9 (ix2 u j)
      = ((∑ r : Fin 8192, dh W (P r.val) j.val * (X r.val j.val * inv (X r.val)) : ℝ) : EReal) := by
  pointwise [val_main_v101, val_main_v100, val_main_v102, val_main_v105, val_main_v122, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2, val_main_cst_9, val_main_cst_10, val_main_cst_11, val_main_cst_12, val_main_cst_13]
  simp only [h0, hd]
  simp only [meanSq_coe]
  simp only [inv_coe, ← EReal.coe_mul, Reals.sum_coe, Fin.sum_univ_one]
  exact congrArg (fun z : ℝ => (z : EReal)) (Finset.sum_congr rfl fun r _ => mul_comm _ _)

end Cert.Proof.InProj
-- ==== Proof.InRead.lean ====
/- What one point of the kernel's grid reads: the arguments' rows, and the tables and the widened matrix that the host
   lines prepare. -/
module

public import proofs.«01_k».proof.Proof.InBlock

@[expose] public section

set_option maxRecDepth 16384

noncomputable section

namespace Cert.Proof.InProj

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The projection's matrix transposed. -/
def wT (w : FVec Ideal S1024x1792 .f32) : FVec Ideal S1792x1024 .bf16 :=
  truncf .bf16 (transpose S1792x1024 [1, 0] w transposes_S1024x1792_S1792x1024_1_0) bitsLt_bf16_f32

/-- Its rows with the keys' and values' repeated, as the host lines lay them out. -/
def wExt (w : FVec Ideal S1024x1792 .f32) : FVec Ideal S2048x1024 .bf16 :=
  concatenate S2048x1024 0
    [⟨S512x1024, extractStridedSlice S512x1024 ![0, 0] (wT w) slices_S1792x1024_S512x1024_0_0⟩,
     ⟨S64x1024, extractStridedSlice S64x1024 ![512, 0] (wT w) slices_S1792x1024_S64x1024_512_0⟩,
     ⟨S64x1024, extractStridedSlice S64x1024 ![512, 0] (wT w) slices_S1792x1024_S64x1024_512_0⟩,
     ⟨S64x1024, extractStridedSlice S64x1024 ![576, 0] (wT w) slices_S1792x1024_S64x1024_576_0⟩,
     ⟨S64x1024, extractStridedSlice S64x1024 ![576, 0] (wT w) slices_S1792x1024_S64x1024_576_0⟩,
     ⟨S64x1024, extractStridedSlice S64x1024 ![640, 0] (wT w) slices_S1792x1024_S64x1024_640_0⟩,
     ⟨S64x1024, extractStridedSlice S64x1024 ![640, 0] (wT w) slices_S1792x1024_S64x1024_640_0⟩,
     ⟨S64x1024, extractStridedSlice S64x1024 ![704, 0] (wT w) slices_S1792x1024_S64x1024_704_0⟩,
     ⟨S64x1024, extractStridedSlice S64x1024 ![704, 0] (wT w) slices_S1792x1024_S64x1024_704_0⟩,
     ⟨S1024x1024, extractStridedSlice S1024x1024 ![768, 0] (wT w) slices_S1792x1024_S1024x1024_768_0⟩] concatenates_S512x1024_S64x1024_S64x1024_S64x1024_S64x1024_S64x1024_S64x1024_S64x1024_S64x1024_S1024x1024_S2048x1024_d0

theorem V_w : (show FVec Ideal S2048x1024 .bf16 from V m c main_v21) = wExt (m ((c : Thread nD τ).loc main_arg4)) := by
  show (StableHlo.after hostOps0 (fun b => m (c, b)) (Proc.devRef .tc main_v21) : FVec Ideal S2048x1024 .bf16) = _
  after_results
  rfl

set_option maxHeartbeats 2000000 in
theorem wExt_apply (w : FVec Ideal S1024x1792 .f32) (t : Fin 2048) (j : Fin 1024) (h : src t.val < 1792) :
    wExt w (ix2 t j) = w (ix2 j ⟨src t.val, h⟩) := by
  pointwise [wExt, wT]
  have := t.isLt
  unfold src
  split_ifs <;> (first | (exfalso; omega) | blk_ext) <;> (try (split_ifs <;> omega))

theorem src_lt (c : Fin 2048) : src c.val < 1792 := by
  have := c.isLt
  unfold src; split_ifs <;> omega

theorem cos_lane (t : Fin 8192) (j : Fin 128) : (show FVec Ideal S8192x128 .f32 from V m c main_v3) (ix2 t j)
    = (show FVec Ideal S8192x32 .f32 from m ((c : Thread nD τ).loc main_arg1)) (ix2 t ⟨j.val % 32, Nat.mod_lt _ (by decide)⟩) := by
  show (StableHlo.after hostOps0 (fun b => m (c, b)) (Proc.devRef .tc main_v3) : FVec Ideal S8192x128 .f32) (ix2 t j) = _
  after_results
  pointwise
  split_ifs <;> blk_ext

theorem sin_lane (t : Fin 8192) (j : Fin 128) : (show FVec Ideal S8192x128 .f32 from V m c main_v8) (ix2 t j)
    = if j.val % 64 < 32 then
        -(show EReal from (show FVec Ideal S8192x32 .f32 from m ((c : Thread nD τ).loc main_arg2)) (ix2 t ⟨j.val % 32, Nat.mod_lt _ (by decide)⟩))
      else (show FVec Ideal S8192x32 .f32 from m ((c : Thread nD τ).loc main_arg2)) (ix2 t ⟨j.val % 32, Nat.mod_lt _ (by decide)⟩) := by
  show (StableHlo.after hostOps0 (fun b => m (c, b)) (Proc.devRef .tc main_v8) : FVec Ideal S8192x128 .f32) (ix2 t j) = _
  after_results
  pointwise
  by_cases h : j.val % 64 < 32
  · rw [dif_pos h, if_pos h]
    refine congrArg (fun z : EReal => -z) ?_
    blk_ext
  · rw [dif_neg h, if_neg h]
    blk_ext

theorem gain_lane (u : Fin 1) (j : Fin 1024) : (show FVec Ideal S1x1024 .f32 from V m c main_v22) (ix2 u j)
    = (show FVec Ideal S1024 .f32 from m ((c : Thread nD τ).loc main_arg3)) (ix1 j) := by
  show (StableHlo.after hostOps0 (fun b => m (c, b)) (Proc.devRef .tc main_v22) : FVec Ideal S1x1024 .f32) (ix2 u j) = _
  after_results
  pointwise

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] ∧ win0_9.index t = ![t.val, 0] ∧ win0_10.index t = ![t.val, 0]
    ∧ win0_11.index t = ![0, 0] ∧ win0_12.index t = ![0, 0] :=
  (by decide +kernel : ∀ t : Fin grid0.N, _)

theorem row_lt (t : Fin cfg0.N) (i : Fin 512) : 512 * t.val + i.val < 8192 := by
  have : cfg0.N = 16 := N_0
  omega

/-- The arguments that enter products, as real functions of their coordinates. -/
structure Args (X C S : ℕ → ℕ → ℝ) (G : ℕ → ℝ) (W Q K Y U : ℕ → ℕ → ℝ) : Prop where
  x : ∀ (t : Fin 8192) (j : Fin 1024), (show FVec Ideal S8192x1024 .f32 from m ((c : Thread nD τ).loc main_arg0)) (ix2 t j) = ((X t.val j.val : ℝ) : EReal)
  cos : ∀ (t : Fin 8192) (j : Fin 32), (show FVec Ideal S8192x32 .f32 from m ((c : Thread nD τ).loc main_arg1)) (ix2 t j) = ((C t.val j.val : ℝ) : EReal)
  sin : ∀ (t : Fin 8192) (j : Fin 32), (show FVec Ideal S8192x32 .f32 from m ((c : Thread nD τ).loc main_arg2)) (ix2 t j) = ((S t.val j.val : ℝ) : EReal)
  g : ∀ j : Fin 1024, (show FVec Ideal S1024 .f32 from m ((c : Thread nD τ).loc main_arg3)) (ix1 j) = ((G j.val : ℝ) : EReal)
  w : ∀ (j : Fin 1024) (k : Fin 1792), (show FVec Ideal S1024x1792 .f32 from m ((c : Thread nD τ).loc main_arg4)) (ix2 j k) = ((W k.val j.val : ℝ) : EReal)
  q : ∀ (t : Fin 8192) (j : Fin 512), (show FVec Ideal S8192x512 .f32 from m ((c : Thread nD τ).loc main_arg6)) (ix2 t j) = ((Q t.val j.val : ℝ) : EReal)
  k : ∀ (t : Fin 8192) (j : Fin 256), (show FVec Ideal S8192x256 .f32 from m ((c : Thread nD τ).loc main_arg7)) (ix2 t j) = ((K t.val j.val : ℝ) : EReal)
  y : ∀ (t : Fin 8192) (j : Fin 256), (show FVec Ideal S8192x256 .f32 from m ((c : Thread nD τ).loc main_arg8)) (ix2 t j) = ((Y t.val j.val : ℝ) : EReal)
  u : ∀ (t : Fin 8192) (j : Fin 1024), (show FVec Ideal S8192x1024 .f32 from m ((c : Thread nD τ).loc main_arg9)) (ix2 t j) = ((U t.val j.val : ℝ) : EReal)

variable {m c} {X C S : ℕ → ℕ → ℝ} {G : ℕ → ℝ} {W Q K Y U : ℕ → ℕ → ℝ} (A : Args m c X C S G W Q K Y U) (t : Fin cfg0.N)

include A

theorem read_x (i : Fin 512) (j : Fin 1024) :
    (show FVec Ideal S512x1024 .f32 from iblk m c 0 t) (ix2 i j) = ((X (512 * t.val + i.val) j.val : ℝ) : EReal) := by
  rw [← A.x ⟨512 * t.val + i.val, row_lt t i⟩ j]
  blk_point [iblk, V, idx t]

theorem read_g (i : Fin 1) (j : Fin 1024) :
    (show FVec Ideal S1x1024 .f32 from iblk m c 1 t) (ix2 i j) = ((G j.val : ℝ) : EReal) := by
  rw [← A.g j, ← gain_lane m c i j]
  blk_point [iblk, idx t]

theorem read_q (i : Fin 512) (j : Fin 512) :
    (show FVec Ideal S512x512 .f32 from iblk m c 3 t) (ix2 i j) = ((Q (512 * t.val + i.val) j.val : ℝ) : EReal) := by
  rw [← A.q ⟨512 * t.val + i.val, row_lt t i⟩ j]
  blk_point [iblk, V, idx t]

theorem read_k (i : Fin 512) (j : Fin 256) :
    (show FVec Ideal S512x256 .f32 from iblk m c 4 t) (ix2 i j) = ((K (512 * t.val + i.val) j.val : ℝ) : EReal) := by
  rw [← A.k ⟨512 * t.val + i.val, row_lt t i⟩ j]
  blk_point [iblk, V, idx t]

theorem read_y (i : Fin 512) (j : Fin 256) :
    (show FVec Ideal S512x256 .f32 from iblk m c 5 t) (ix2 i j) = ((Y (512 * t.val + i.val) j.val : ℝ) : EReal) := by
  rw [← A.y ⟨512 * t.val + i.val, row_lt t i⟩ j]
  blk_point [iblk, V, idx t]

theorem read_u (i : Fin 512) (j : Fin 1024) :
    (show FVec Ideal S512x1024 .f32 from iblk m c 6 t) (ix2 i j) = ((U (512 * t.val + i.val) j.val : ℝ) : EReal) := by
  rw [← A.u ⟨512 * t.val + i.val, row_lt t i⟩ j]
  blk_point [iblk, V, idx t]

theorem read_w (k : Fin 2048) (j : Fin 1024) :
    (show FVec Ideal S2048x1024 .bf16 from iblk m c 7 t) (ix2 k j) = ((W (src k.val) j.val : ℝ) : EReal) := by
  rw [← A.w j ⟨src k.val, src_lt k⟩]
  refine Eq.trans ?_ (wExt_apply _ k j (src_lt k))
  rw [← V_w]
  blk_point [iblk, idx t]

theorem read_cos (i : Fin 512) (j : Fin 128) :
    (show FVec Ideal S512x128 .f32 from iblk m c 8 t) (ix2 i j) = ((C (512 * t.val + i.val) (j.val % 32) : ℝ) : EReal) := by
  refine Eq.trans ?_ ((cos_lane m c ⟨512 * t.val + i.val, row_lt t i⟩ j).trans (A.cos _ _))
  blk_point [iblk, idx t]

theorem read_sin (i : Fin 512) (j : Fin 128) :
    (show FVec Ideal S512x128 .f32 from iblk m c 9 t) (ix2 i j)
      = ((if j.val % 64 < 32 then -S (512 * t.val + i.val) (j.val % 32) else S (512 * t.val + i.val) (j.val % 32) : ℝ) : EReal) := by
  refine Eq.trans ?_ ((sin_lane m c ⟨512 * t.val + i.val, row_lt t i⟩ j).trans ?_)
  · blk_point [iblk, idx t]
  · rw [A.sin, ← EReal.coe_neg, Reals.ite_coe]

end Cert.Proof.InProj
-- ==== Proof.InScratch.lean ====
/- The kernel's scratch: one block's gradient with respect to the wide projection, stored in eight pieces. -/
module

public import proofs.«01_k».proof.Proof.InRead

@[expose] public section

set_option maxRecDepth 16384

noncomputable section

namespace Cert.Proof.InProj

open Cert.KernelIdeal Cert.KernelIdeal.Gen Idealize.ShloMosaic Idealize.ShloMosaic.TcCoe Idealize.SL.Sem Idealize.ShloMosaic.StableHlo

/-- The eight stores into the scratch, the last first. -/
abbrev pieces (w7 : FVec Ideal S512x1024 .bf16) (w6 : FVec Ideal S512x256 .bf16)
    (w5 w4 w3 w2 w1 w0 : FVec Ideal S512x128 .bf16) : List (View.Piece (Elt Ideal) S512x2048 .bf16) :=
  [(⟨Rect.unit (s := S512x2048) ![0, 1024] S512x1024.size inb_S512x2048_S512x1024_0_1024, w7⟩ : View.Piece (Elt Ideal) S512x2048 .bf16),
    ⟨Rect.unit (s := S512x2048) ![0, 768] S512x256.size inb_S512x2048_S512x256_0_768, w6⟩,
    ⟨Rect.unit (s := S512x2048) ![0, 640] S512x128.size inb_S512x2048_S512x128_0_640, w5⟩,
    ⟨Rect.unit (s := S512x2048) ![0, 512] S512x128.size inb_S512x2048_S512x128_0_512, w4⟩,
    ⟨Rect.unit (s := S512x2048) ![0, 384] S512x128.size inb_S512x2048_S512x128_0_384, w3⟩,
    ⟨Rect.unit (s := S512x2048) ![0, 256] S512x128.size inb_S512x2048_S512x128_0_256, w2⟩,
    ⟨Rect.unit (s := S512x2048) ![0, 128] S512x128.size inb_S512x2048_S512x128_0_128, w1⟩,
    ⟨Rect.unit (s := S512x2048) ![0, 0] S512x128.size inb_S512x2048_S512x128_0_0, w0⟩]

/-- The scratch read back is the eight stored pieces side by side. -/
theorem scratch (P : ℕ → ℕ → ℝ) (w7 : FVec Ideal S512x1024 .bf16) (w6 : FVec Ideal S512x256 .bf16)
    (w5 w4 w3 w2 w1 w0 : FVec Ideal S512x128 .bf16)
    (h7 : ∀ i j, w7 (ix2 i j) = ((P i.val (1024 + j.val) : ℝ) : EReal)) (h6 : ∀ i j, w6 (ix2 i j) = ((P i.val (768 + j.val) : ℝ) : EReal))
    (h5 : ∀ i j, w5 (ix2 i j) = ((P i.val (640 + j.val) : ℝ) : EReal)) (h4 : ∀ i j, w4 (ix2 i j) = ((P i.val (512 + j.val) : ℝ) : EReal))
    (h3 : ∀ i j, w3 (ix2 i j) = ((P i.val (384 + j.val) : ℝ) : EReal)) (h2 : ∀ i j, w2 (ix2 i j) = ((P i.val (256 + j.val) : ℝ) : EReal))
    (h1 : ∀ i j, w1 (ix2 i j) = ((P i.val (128 + j.val) : ℝ) : EReal)) (h0 : ∀ i j, w0 (ix2 i j) = ((P i.val (0 + j.val) : ℝ) : EReal))
    (i : Fin 512) (k : Fin 2048) :
    (show FVec Ideal S512x2048 .bf16 from (View.whole cc0_scratch0).readCov
      (pieces w7 w6 w5 w4 w3 w2 w1 w0)
      (Rect.unit (s := S512x2048) ![0, 0] S512x2048.size inb_S512x2048_S512x2048_0_0).toLoadRect) (ix2 i k)
      = ((P i.val k.val : ℝ) : EReal) := by
  rw [View.readCov_eq_canon']
  dsimp only
  canon_tiles x hh using (View.cover_of_tiledBy (pieces w7 w6 w5 w4 w3 w2 w1 w0) ![512, 128] (by sl_kernel_rfl) _)
  all_goals
    change 0 + 1 * i.val = _ at hh0
    change 0 + 1 * k.val = _ at hh1
    first
      | refine (congrArg w7 (ValueIdx.eq_ix2 x)).trans ((h7 _ _).trans ?_)
      | refine (congrArg w6 (ValueIdx.eq_ix2 x)).trans ((h6 _ _).trans ?_)
      | refine (congrArg w5 (ValueIdx.eq_ix2 x)).trans ((h5 _ _).trans ?_)
      | refine (congrArg w4 (ValueIdx.eq_ix2 x)).trans ((h4 _ _).trans ?_)
      | refine (congrArg w3 (ValueIdx.eq_ix2 x)).trans ((h3 _ _).trans ?_)
      | refine (congrArg w2 (ValueIdx.eq_ix2 x)).trans ((h2 _ _).trans ?_)
      | refine (congrArg w1 (ValueIdx.eq_ix2 x)).trans ((h1 _ _).trans ?_)
      | refine (congrArg w0 (ValueIdx.eq_ix2 x)).trans ((h0 _ _).trans ?_)
    refine congrArg (fun z : ℝ => (z : EReal)) (congr (congrArg P ?_) ?_) <;> omega

variable {m : (ℓ : Loc nD τ sig) → Buf (Elt Ideal) ℓ} {c : Dev nD}
  {X C S : ℕ → ℕ → ℝ} {G : ℕ → ℝ} {W Q K Y U : ℕ → ℕ → ℝ} (A : Args m c X C S G W Q K Y U)

/-- The gradient of row `t` with respect to the wide projection. -/
abbrev wideAt (C S Q K Y U : ℕ → ℕ → ℝ) (t : ℕ) : ℕ → ℝ := wide (C t) (S t) (Q t) (K t) (Y t) (U t)

theorem wide_q (C S Q K Y U : ℕ → ℝ) (k : ℕ) (h : k < 512) : wide C S Q K Y U k = rope C S Q k := by
  unfold wide; rw [if_pos h]

theorem wide_k (C S Q K Y U : ℕ → ℝ) (o j : ℕ) (h : o + j < 256) : wide C S Q K Y U (512 + o + j) = rope C S K (o + j) := by
  unfold wide
  rw [if_neg (by omega), if_pos (by omega), show 512 + o + j - 512 = o + j by omega]

/-- A tile of 128 lanes loaded from a block. -/
theorem ld_tile {n : ℕ} (v : FVec Ideal ⟨2, ![512, n]⟩ .f32) (o : ℕ) (inb) (i : Fin 512) (k : Fin 128) (h : o + k.val < n) :
    (show FVec Ideal S512x128 .f32 from View.ld (Val := Elt Ideal) (e' := .f32) v (Rect.unit (s := ⟨2, ![512, n]⟩) ![0, o] S512x128.size inb)) (ix2 i k)
      = v (ix2 i ⟨o + k.val, h⟩) := by
  show v _ = v _
  refine congrArg v (funext fun a => Fin.ext ?_)
  match a with
  | ⟨0, _⟩ => show 0 + 1 * i.val = i.val; omega
  | ⟨1, _⟩ => show o + 1 * k.val = o + k.val; omega

variable (t : Fin cfg0.N)

/-- The blocks a point reads, at their types. -/
abbrev bq (m : (ℓ : Loc nD τ sig) → Buf (Elt Ideal) ℓ) (c : Dev nD) (t : Fin cfg0.N) : FVec Ideal S512x512 .f32 := iblk m c 3 t
abbrev bk (m : (ℓ : Loc nD τ sig) → Buf (Elt Ideal) ℓ) (c : Dev nD) (t : Fin cfg0.N) : FVec Ideal S512x256 .f32 := iblk m c 4 t
abbrev bc (m : (ℓ : Loc nD τ sig) → Buf (Elt Ideal) ℓ) (c : Dev nD) (t : Fin cfg0.N) : FVec Ideal S512x128 .f32 := iblk m c 8 t
abbrev bs (m : (ℓ : Loc nD τ sig) → Buf (Elt Ideal) ℓ) (c : Dev nD) (t : Fin cfg0.N) : FVec Ideal S512x128 .f32 := iblk m c 9 t

/-- The scratch as a point fills it. -/
abbrev stored (m : (ℓ : Loc nD τ sig) → Buf (Elt Ideal) ℓ) (c : Dev nD) (t : Fin cfg0.N) : FVec Ideal S512x2048 .bf16 :=
  (View.whole cc0_scratch0).readCov
    (pieces (k0_pay20 (F := Ideal) (iblk m c 6 t)) (k0_pay19 (F := Ideal) (iblk m c 5 t))
      (k0_pay18 (F := Ideal) (k0_pay5 (F := Ideal) (bc m c t)) (k0_pay6 (F := Ideal) (bs m c t))
        (View.ld (bk m c t) (Rect.unit (s := S512x256) ![0, 128] S512x128.size inb_S512x256_S512x128_0_128))
        (iota Kind.tc S512x128 32 [1] iota_S512x128_d1_w32) 64#32)
      (k0_pay17 (F := Ideal) (k0_pay5 (F := Ideal) (bc m c t)) (k0_pay6 (F := Ideal) (bs m c t))
        (View.ld (bk m c t) (Rect.unit (s := S512x256) ![0, 0] S512x128.size inb_S512x256_S512x128_0_0)))
      (k0_pay16 (F := Ideal) (k0_pay5 (F := Ideal) (bc m c t))
        (View.ld (bq m c t) (Rect.unit (s := S512x512) ![0, 384] S512x128.size inb_S512x512_S512x128_0_384)) k0_pay13
        (k0_pay14 (F := Ideal) (k0_pay6 (F := Ideal) (bs m c t))
          (View.ld (bq m c t) (Rect.unit (s := S512x512) ![0, 384] S512x128.size inb_S512x512_S512x128_0_384)))
        (k0_pay15 (F := Ideal) (k0_pay6 (F := Ideal) (bs m c t))
          (View.ld (bq m c t) (Rect.unit (s := S512x512) ![0, 384] S512x128.size inb_S512x512_S512x128_0_384))) 32#32)
      (k0_pay12 (F := Ideal) (k0_pay5 (F := Ideal) (bc m c t)) (k0_pay6 (F := Ideal) (bs m c t))
        (View.ld (bq m c t) (Rect.unit (s := S512x512) ![0, 256] S512x128.size inb_S512x512_S512x128_0_256)) 64#32 k0_pay9
        k0_pay10 k0_pay11)
      (k0_pay8 (F := Ideal) (k0_pay5 (F := Ideal) (bc m c t)) (k0_pay6 (F := Ideal) (bs m c t))
        (View.ld (bq m c t) (Rect.unit (s := S512x512) ![0, 128] S512x128.size inb_S512x512_S512x128_0_128)))
      (k0_pay7 (F := Ideal) (bc m c t) (bs m c t)
        (View.ld (bq m c t) (Rect.unit (s := S512x512) ![0, 0] S512x128.size inb_S512x512_S512x128_0_0))))
    (Rect.unit (s := S512x2048) ![0, 0] S512x2048.size inb_S512x2048_S512x2048_0_0).toLoadRect

include A

/-- A tile of queries or keys, rotated: lanes `o` onwards of the row. -/
theorem lane_q (o : ℕ) (inb) (h : o + 128 ≤ 512) (i : Fin 512) (k : Fin 128) :
    (show FVec Ideal S512x128 .f32 from View.ld (Val := Elt Ideal) (e' := .f32) (bq m c t) (Rect.unit (s := S512x512) ![0, o] S512x128.size inb)) (ix2 i k)
      = ((Q (512 * t.val + i.val) (o + k.val) : ℝ) : EReal) :=
  (ld_tile (bq m c t) o inb i k (by omega)).trans (read_q A t i _)

theorem lane_k (o : ℕ) (inb) (h : o + 128 ≤ 256) (i : Fin 512) (k : Fin 128) :
    (show FVec Ideal S512x128 .f32 from View.ld (Val := Elt Ideal) (e' := .f32) (bk m c t) (Rect.unit (s := S512x256) ![0, o] S512x128.size inb)) (ix2 i k)
      = ((K (512 * t.val + i.val) (o + k.val) : ℝ) : EReal) :=
  (ld_tile (bk m c t) o inb i k (by omega)).trans (read_k A t i _)

theorem stored_apply (i : Fin 512) (k : Fin 2048) :
    stored m c t (ix2 i k) = ((wideAt C S Q K Y U (512 * t.val + i.val) k.val : ℝ) : EReal) := by
  refine scratch (fun i k => wideAt C S Q K Y U (512 * t.val + i) k) _ _ _ _ _ _ _ _ ?_ ?_ ?_ ?_ ?_ ?_ ?_ ?_ i k
  · intro i j
    pointwise [k0_pay20]
    rw [show wideAt C S Q K Y U (512 * t.val + i.val) (1024 + j.val) = U (512 * t.val + i.val) j.val by
      unfold wideAt wide
      rw [if_neg (by omega), if_neg (by omega), if_neg (by omega), Nat.add_sub_cancel_left]]
    exact read_u A t i j
  · intro i j
    pointwise [k0_pay19]
    rw [show wideAt C S Q K Y U (512 * t.val + i.val) (768 + j.val) = Y (512 * t.val + i.val) j.val by
      have := j.isLt
      unfold wideAt wide
      rw [if_neg (by omega), if_neg (by omega), if_pos (by omega), Nat.add_sub_cancel_left]]
    exact read_y A t i j
  · intro i j
    refine (tile5 (C := fun i => C (512 * t.val + i)) (S := fun i => S (512 * t.val + i)) (D := fun i => K (512 * t.val + i)) (o := 128) rfl
      (read_cos A t) (read_sin A t) (lane_k A t 128 _ (by omega)) i j).trans ?_
    rw [show wideAt C S Q K Y U (512 * t.val + i.val) (640 + j.val) = _ from wide_k _ _ _ _ _ _ 128 j.val (by omega)]
  · intro i j
    refine (tile4 (C := fun i => C (512 * t.val + i)) (S := fun i => S (512 * t.val + i)) (D := fun i => K (512 * t.val + i)) (o := 0) rfl
      (read_cos A t) (read_sin A t) (lane_k A t 0 _ (by omega)) i j).trans ?_
    rw [show wideAt C S Q K Y U (512 * t.val + i.val) (512 + j.val) = _ from wide_k _ _ _ _ _ _ 0 j.val (by omega)]
  · intro i j
    refine (tile3 (C := fun i => C (512 * t.val + i)) (S := fun i => S (512 * t.val + i)) (D := fun i => Q (512 * t.val + i)) (o := 384) rfl
      (read_cos A t) (read_sin A t) (lane_q A t 384 _ (by omega)) i j).trans ?_
    rw [show wideAt C S Q K Y U (512 * t.val + i.val) (384 + j.val) = _ from wide_q _ _ _ _ _ _ _ (by omega)]
  · intro i j
    refine (tile2 (C := fun i => C (512 * t.val + i)) (S := fun i => S (512 * t.val + i)) (D := fun i => Q (512 * t.val + i)) (o := 256) rfl
      (read_cos A t) (read_sin A t) (lane_q A t 256 _ (by omega)) i j).trans ?_
    rw [show wideAt C S Q K Y U (512 * t.val + i.val) (256 + j.val) = _ from wide_q _ _ _ _ _ _ _ (by omega)]
  · intro i j
    refine (tile1 (C := fun i => C (512 * t.val + i)) (S := fun i => S (512 * t.val + i)) (D := fun i => Q (512 * t.val + i)) (o := 128) rfl
      (read_cos A t) (read_sin A t) (lane_q A t 128 _ (by omega)) i j).trans ?_
    rw [show wideAt C S Q K Y U (512 * t.val + i.val) (128 + j.val) = _ from wide_q _ _ _ _ _ _ _ (by omega)]
  · intro i j
    refine (tile0 (C := fun i => C (512 * t.val + i)) (S := fun i => S (512 * t.val + i)) (D := fun i => Q (512 * t.val + i)) (o := 0) rfl
      (read_cos A t) (read_sin A t) (lane_q A t 0 _ (by omega)) i j).trans ?_
    rw [show wideAt C S Q K Y U (512 * t.val + i.val) (0 + j.val) = _ from wide_q _ _ _ _ _ _ _ (by omega)]

end Cert.Proof.InProj
-- ==== Proof.InPoint.lean ====
/- The arrays the kernel's region leaves: the input's gradient row by row, and the gradients of the widened matrix and of
   the norm's gain summed over the blocks of rows. -/
module

public import proofs.«01_k».proof.Proof.InScratch

@[expose] public section

set_option maxRecDepth 16384

noncomputable section

namespace Cert.Proof.InProj

open Cert.KernelIdeal Cert.KernelIdeal.Gen Idealize.ShloMosaic Idealize.ShloMosaic.TcCoe Idealize.SL.Sem Idealize.ShloMosaic.StableHlo

/-- The sixteen blocks of 512 rows are the rows. -/
theorem sum_rows (f : ℕ → ℝ) : ∑ s : Fin 16, ∑ i : Fin 512, f (512 * s.val + i.val) = ∑ t : Fin 8192, f t.val := by
  rw [← Fin.sum_mul_add_fin 16 512 (fun l : Fin 8192 => f l.val)]
  refine Fin.sum_fin_congr fun s => Fin.sum_fin_congr fun i => ?_
  rw [Nat.mul_comm]

variable {m : (ℓ : Loc nD τ sig) → Buf (Elt Ideal) ℓ} {c : Dev nD}
  {X C S : ℕ → ℕ → ℝ} {G : ℕ → ℝ} {W Q K Y U : ℕ → ℕ → ℝ} (A : Args m c X C S G W Q K Y U) (t : Fin cfg0.N)

include A

theorem out_dx (i : Fin 512) (j : Fin 1024) : (show FVec Ideal S512x1024 .f32 from (outsAt0 m c t.val t.isLt).1) (ix2 i j)
      = (show FVec Ideal S8192x1024 .f32 from m ((c : Thread nD τ).loc main_arg5)) (ix2 ⟨512 * t.val + i.val, row_lt t i⟩ j)
        + ((dxRow W G (X (512 * t.val + i.val)) (wideAt C S Q K Y U (512 * t.val + i.val)) j.val : ℝ) : EReal) := by
  have hr : (show FVec Ideal S512x1024 .f32 from iblk m c 2 t) (ix2 i j)
      = (show FVec Ideal S8192x1024 .f32 from m ((c : Thread nD τ).loc main_arg5)) (ix2 ⟨512 * t.val + i.val, row_lt t i⟩ j) := by
    blk_point [iblk, V, idx t]
  rw [← hr]
  by_cases h0 : t.val % 16 = 0
  · rw [outsAt0_A m c t h0]
    frame_out
    exact dx_block (X := fun i => X (512 * t.val + i)) (P := fun i => wideAt C S Q K Y U (512 * t.val + i)) (p := stored m c t)
      (stored_apply A t) (read_x A t) (read_g A t) (read_w A t) _ i j
  · rw [outsAt0_B m c t h0]
    frame_out
    exact dx_block (X := fun i => X (512 * t.val + i)) (P := fun i => wideAt C S Q K Y U (512 * t.val + i)) (p := stored m c t)
      (stored_apply A t) (read_x A t) (read_g A t) (read_w A t) _ i j

/-- A block's part of the widened matrix's gradient. -/
def dwPart (X P : ℕ → ℕ → ℝ) (G : ℕ → ℝ) (p k j : ℕ) : ℝ :=
  ∑ i : Fin 512, P (512 * p + i.val) k * (X (512 * p + i.val) j * inv (X (512 * p + i.val)) * G j)

/-- A block's part of the gain's gradient. -/
def dgPart (W X P : ℕ → ℕ → ℝ) (p j : ℕ) : ℝ :=
  ∑ i : Fin 512, dh W (P (512 * p + i.val)) j * (X (512 * p + i.val) j * inv (X (512 * p + i.val)))

theorem zero_dw (k : Fin 2048) (j : Fin 1024) : k0_pay3 (F := Ideal) (ix2 k j) = 0 := by pointwise [k0_pay3]

theorem zero_dg (k : Fin 1) (j : Fin 1024) : k0_pay4 (F := Ideal) (ix2 k j) = 0 := by pointwise [k0_pay4]

theorem part_dw (y : Vec Ideal S2048x1024 .f32) (k : Fin 2048) (j : Fin 1024) :
    k0_pay25 (F := Ideal) (stored m c t) (iblk m c 0 t) (iblk m c 1 t) y (ix2 k j)
      = y (ix2 k j) + ((dwPart X (wideAt C S Q K Y U) G t.val k.val j.val : ℝ) : EReal) :=
  dw_block (X := fun i => X (512 * t.val + i)) (P := fun i => wideAt C S Q K Y U (512 * t.val + i)) (p := stored m c t)
    (stored_apply A t) (read_x A t) (read_g A t) y k j

theorem part_dg (y : Vec Ideal S1x1024 .f32) (u : Fin 1) (j : Fin 1024) :
    k0_pay2 (k0_pay26 (F := Ideal) (stored m c t) (iblk m c 0 t) (iblk m c 7 t)) y (ix2 u j)
      = y (ix2 u j) + ((dgPart W X (wideAt C S Q K Y U) t.val j.val : ℝ) : EReal) :=
  dg_block (X := fun i => X (512 * t.val + i)) (P := fun i => wideAt C S Q K Y U (512 * t.val + i)) (p := stored m c t)
    (stored_apply A t) (read_x A t) (read_w A t) y u j

theorem acc_dw (hf : t.val % 16 = 16 - 1) (i : S2048x1024.Idx) :
    (show FVec Ideal S2048x1024 .f32 from (outsAt0 m c t.val t.isLt).2.1) i
      = ((∑ r : Fin 8192, wideAt C S Q K Y U r.val (i 0).val * (X r.val (i 1).val * inv (X r.val) * G (i 1).val) : ℝ) : EReal) := by
  have hN : cfg0.N = 16 := N_0
  refine (Pipeline.eq_sum_fin_of_reset_step_apply_of_flush
    (fun n h => (show FVec Ideal S2048x1024 .f32 from (outsAt0 m c n h).2.1)) 16 (fun _ => (0 : EReal))
    (fun p i => ((dwPart X (wideAt C S Q K Y U) G p.val (i 0).val (i 1).val : ℝ) : EReal))
    (fun t h i => ?_) (fun t h i => ?_) t hf i).trans ?_
  · rw [ValueIdx.eq_ix2 i, outsAt0_A m c t h]
    frame_out
    exact (part_dw A t _ (i 0) (i 1)).trans (congrArg (fun z : EReal => z + _) (zero_dw A (i 0) (i 1)))
  · rw [ValueIdx.eq_ix2 i, outsAt0_B m c t h]
    frame_out
    exact part_dw A t _ (i 0) (i 1)
  · rw [zero_add, Reals.sum_coe, ← sum_rows fun r => wideAt C S Q K Y U r (i 0).val * (X r (i 1).val * inv (X r) * G (i 1).val)]
    refine congrArg (fun z : ℝ => (z : EReal)) (Fin.sum_fin_congr fun s => ?_)
    exact congrArg (fun p => dwPart X (wideAt C S Q K Y U) G p (i 0).val (i 1).val) (show 16 * (t.val / 16) + s.val = s.val by omega)

theorem acc_dg (hf : t.val % 16 = 16 - 1) (i : S1x1024.Idx) :
    (show FVec Ideal S1x1024 .f32 from (outsAt0 m c t.val t.isLt).2.2) i
      = ((∑ r : Fin 8192, dh W (wideAt C S Q K Y U r.val) (i 1).val * (X r.val (i 1).val * inv (X r.val)) : ℝ) : EReal) := by
  have hN : cfg0.N = 16 := N_0
  refine (Pipeline.eq_sum_fin_of_reset_step_apply_of_flush
    (fun n h => (show FVec Ideal S1x1024 .f32 from (outsAt0 m c n h).2.2)) 16 (fun _ => (0 : EReal))
    (fun p i => ((dgPart W X (wideAt C S Q K Y U) p.val (i 1).val : ℝ) : EReal))
    (fun t h i => ?_) (fun t h i => ?_) t hf i).trans ?_
  · rw [ValueIdx.eq_ix2 i, outsAt0_A m c t h]
    frame_out
    exact (part_dg A t _ (i 0) (i 1)).trans (congrArg (fun z : EReal => z + _) (zero_dg A (i 0) (i 1)))
  · rw [ValueIdx.eq_ix2 i, outsAt0_B m c t h]
    frame_out
    exact part_dg A t _ (i 0) (i 1)
  · rw [zero_add, Reals.sum_coe, ← sum_rows fun r => dh W (wideAt C S Q K Y U r) (i 1).val * (X r (i 1).val * inv (X r))]
    refine congrArg (fun z : ℝ => (z : EReal)) (Fin.sum_fin_congr fun s => ?_)
    exact congrArg (fun p => dgPart W X (wideAt C S Q K Y U) p (i 1).val) (show 16 * (t.val / 16) + s.val = s.val by omega)

/-- The region's first result: the input's gradient. -/
theorem arr_dx : (dats m 0 c).arrAt 10 cfg0.N = (show FVec Ideal S8192x1024 .f32 from fun q =>
    (show FVec Ideal S8192x1024 .f32 from m ((c : Thread nD τ).loc main_arg5)) q
      + ((dxRow W G (X (q 0).val) (wideAt C S Q K Y U (q 0).val) (q 1).val : ℝ) : EReal)) := by
  refine (dats m 0 c).arrAt_eq_of_covers 10 _ (by decide +kernel) fun t _ y => ?_
  blk_simp
  rw [after0_10]
  refine (congrArg (show FVec Ideal S512x1024 .f32 from (outsAt0 m c t.val t.isLt).1) (ValueIdx.eq_ix2 y)).trans
    ((out_dx A t (y 0) (y 1)).trans ?_)
  have h0 : win0_10.index t 0 * 512 + (y 0).val = 512 * t.val + (y 0).val := by simp [idx t, Nat.mul_comm]
  have h1 : win0_10.index t 1 * 1024 + (y 1).val = (y 1).val := by simp [idx t]
  rw [h0, h1]
  refine congrArg (fun z : EReal => z + _) ?_
  blk_ext [idx t]

theorem arr_dw : (dats m 0 c).arrAt 11 cfg0.N = (show FVec Ideal S2048x1024 .f32 from fun i =>
    ((∑ r : Fin 8192, wideAt C S Q K Y U r.val (i 0).val * (X r.val (i 1).val * inv (X r.val) * G (i 1).val) : ℝ) : EReal)) := by
  refine (dats m 0 c).arrAt_eq_of_covers 11 _ (by decide +kernel) fun t hf y => ?_
  blk_simp
  rw [after0_11]
  refine (acc_dw A t ((flush0_11 t).mp hf) y).trans ?_
  have h0 : win0_11.index t 0 * 2048 + (y 0).val = (y 0).val := by simp [idx t]
  have h1 : win0_11.index t 1 * 1024 + (y 1).val = (y 1).val := by simp [idx t]
  rw [h0, h1]

theorem arr_dg : (dats m 0 c).arrAt 12 cfg0.N = (show FVec Ideal S1x1024 .f32 from fun i =>
    ((∑ r : Fin 8192, dh W (wideAt C S Q K Y U r.val) (i 1).val * (X r.val (i 1).val * inv (X r.val)) : ℝ) : EReal)) := by
  refine (dats m 0 c).arrAt_eq_of_covers 12 _ (by decide +kernel) fun t hf y => ?_
  blk_simp
  rw [after0_12]
  refine (acc_dg A t ((flush0_12 t).mp hf) y).trans ?_
  have h1 : win0_12.index t 1 * 1024 + (y 1).val = (y 1).val := by simp [idx t]
  rw [h1]

end Cert.Proof.InProj
-- ==== Proof.InTail.lean ====
/- The kernel's host lines after the region: the gradients of the repeated rows are added and the rows laid side by side. -/
module

public import proofs.«01_k».proof.Proof.InPoint

@[expose] public section

set_option maxRecDepth 16384

noncomputable section

namespace Cert.Proof.InProj

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- 64 rows and the next 64 added. -/
abbrev pair (o o' : ℕ) (h : Shape.Slices S2048x1024 ![o, 0] S64x1024) (h' : Shape.Slices S2048x1024 ![o', 0] S64x1024)
    (w : FVec Ideal S2048x1024 .f32) : FVec Ideal S64x1024 .f32 :=
  addf (extractStridedSlice S64x1024 ![o, 0] w h) (extractStridedSlice S64x1024 ![o', 0] w h')

/-- The 2048 rows folded to 1792. -/
def foldExt (w : FVec Ideal S2048x1024 .f32) : FVec Ideal S1792x1024 .f32 :=
  concatenate S1792x1024 0
    [⟨S512x1024, extractStridedSlice S512x1024 ![0, 0] w slices_S2048x1024_S512x1024_0_0⟩,
     ⟨S64x1024, pair 512 576 slices_S2048x1024_S64x1024_512_0 slices_S2048x1024_S64x1024_576_0 w⟩,
     ⟨S64x1024, pair 640 704 slices_S2048x1024_S64x1024_640_0 slices_S2048x1024_S64x1024_704_0 w⟩,
     ⟨S64x1024, pair 768 832 slices_S2048x1024_S64x1024_768_0 slices_S2048x1024_S64x1024_832_0 w⟩,
     ⟨S64x1024, pair 896 960 slices_S2048x1024_S64x1024_896_0 slices_S2048x1024_S64x1024_960_0 w⟩,
     ⟨S1024x1024, extractStridedSlice S1024x1024 ![1024, 0] w slices_S2048x1024_S1024x1024_1024_0⟩]
    concatenates_S512x1024_S64x1024_S64x1024_S64x1024_S64x1024_S1024x1024_S1792x1024_d0

theorem after_tail (V : Valuation τ sig (Elt Ideal)) :
    (StableHlo.after hostOps1 V (Proc.devRef .tc main_v38) : FVec Ideal S1792x1024 .f32)
      = foldExt (V (Proc.devRef .tc main_v23_1) : FVec Ideal S2048x1024 .f32) := by
  after_results
  rfl

theorem tail : (show FVec Ideal S1792x1024 .f32 from Pipeline.afterTail₀ cfgs (dats m) 0 (V0 m) [hostOps1] c main_v38)
    = foldExt (show FVec Ideal S2048x1024 .f32 from (dats m 0 c).arrAt 11 cfg0.N) :=
  (after_tail (Pipeline.withArrays spec0 c (V0 m c) fun w => (dats m 0 c).arrAt w cfg0.N)).trans
    (congrArg foldExt (Pipeline.withArrays_arr spec0 launch0.win.arr_inj c (V0 m c) (fun w => (dats m 0 c).arrAt w cfg0.N) 11))

set_option maxHeartbeats 2000000 in
theorem foldExt_apply (w : FVec Ideal S2048x1024 .f32) (f : ℕ → ℕ → ℝ) (hw : ∀ k j, w (ix2 k j) = ((f k.val j.val : ℝ) : EReal))
    (k : Fin 1792) (j : Fin 1024) : foldExt w (ix2 k j) = ((fold (fun c => f c j.val) k.val : ℝ) : EReal) := by
  pointwise [foldExt]
  simp only [hw]
  have hk := k.isLt
  generalize k.val = k at hk ⊢
  unfold fold
  split_ifs <;> first
    | (exfalso; omega)
    | rfl
    | (rw [← EReal.coe_add]; exact congrArg (fun z : ℝ => (z : EReal)) (by congr 2 <;> omega))
    | exact congrArg (fun z : ℝ => (z : EReal)) (by congr 1; omega)

end Cert.Proof.InProj
-- ==== Proof.InClaim.lean ====
/- The input projection's backward pass: both programs end with the same three arrays. -/
module

public import proofs.«01_k».proof.Defs
public import Idealize.ShloMosaic.Lib.Quiescent
public import proofs.«01_k».proof.Proof.Gen.ReferenceIdeal
public import proofs.«01_k».proof.Proof.Gen.ReferenceIdeal.Run
public import proofs.«01_k».proof.Proof.Finite
public import proofs.«01_k».proof.Proof.InRef
public import proofs.«01_k».proof.Proof.InTail

@[expose] public section

set_option maxRecDepth 16384

noncomputable section

namespace Cert.Proof.InProj

open Idealize.ShloMosaic Idealize.ShloMosaic.TcCoe Idealize.SL.Sem Cert.KernelIdeal

theorem pre_facts : Cert.Pre_finite.Facts := ⟨by decide, by decide, by decide, by decide, by decide, by decide⟩

variable (m : (ℓ : Loc nD τ sig) → Buf (Elt Ideal) ℓ)

/-- Finite arguments are real. -/
theorem args (h : Cert.Pre_KernelIdeal_finite (hPre_finite := pre_facts) m) (c : Dev nD) :
    ∃ (X C S : ℕ → ℕ → ℝ) (G : ℕ → ℝ) (W Q K Y U : ℕ → ℕ → ℝ), Args m c X C S G W Q K Y U := by
  obtain ⟨h0, h1, h2, h3, h4, h6, h7, h8, h9⟩ := h c
  obtain ⟨X, hX⟩ := Reals.choose2 (fun i j => _) fun i j => Reals.real_of_finite _ _ h0 (ix2 i j)
  obtain ⟨C, hC⟩ := Reals.choose2 (fun i j => _) fun i j => Reals.real_of_finite _ _ h1 (ix2 i j)
  obtain ⟨S, hS⟩ := Reals.choose2 (fun i j => _) fun i j => Reals.real_of_finite _ _ h2 (ix2 i j)
  obtain ⟨G, hG⟩ := Reals.choose1 (fun i => _) fun i => Reals.real_of_finite _ _ h3 (ix1 i)
  obtain ⟨W, hW⟩ := Reals.choose2 (fun i j => _) fun i j => Reals.real_of_finite _ _ h4 (ix2 i j)
  obtain ⟨Q, hQ⟩ := Reals.choose2 (fun i j => _) fun i j => Reals.real_of_finite _ _ h6 (ix2 i j)
  obtain ⟨K, hK⟩ := Reals.choose2 (fun i j => _) fun i j => Reals.real_of_finite _ _ h7 (ix2 i j)
  obtain ⟨Y, hY⟩ := Reals.choose2 (fun i j => _) fun i j => Reals.real_of_finite _ _ h8 (ix2 i j)
  obtain ⟨U, hU⟩ := Reals.choose2 (fun i j => _) fun i j => Reals.real_of_finite _ _ h9 (ix2 i j)
  exact ⟨X, C, S, G, fun k j => W j k, Q, K, Y, U, hX, hC, hS, hG, hW, hQ, hK, hY, hU⟩

variable {m} {c : Dev nD} {X C S : ℕ → ℕ → ℝ} {G : ℕ → ℝ} {W Q K Y U : ℕ → ℕ → ℝ} (A : Args m c X C S G W Q K Y U)

include A

/-- The reference's three results of the kernel's arguments are the kernel's. -/
theorem same_dx : (show FVec Ideal S8192x1024 .f32 from Cert.ReferenceIdeal.Read.val_main_v120 (F := Ideal) (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7)) (m (c.tc.loc main_arg8)) (m (c.tc.loc main_arg9)))
      = (Gen.dats m 0 c).arrAt 10 cfg0.N := by
  rw [arr_dx A]
  funext i
  rw [ValueIdx.eq_ix2 i]
  exact ref_dx A.x A.g (wideAt C S Q K Y U) (ref_dh A.w _ (ref_dp A.cos A.sin A.q A.k A.y A.u)) (i 0) (i 1)

theorem same_dw : (show FVec Ideal S1792x1024 .f32 from Cert.ReferenceIdeal.Read.val_main_v121 (F := Ideal) (m (c.tc.loc main_arg0)) (m (c.tc.loc main_arg1)) (m (c.tc.loc main_arg2))
    (m (c.tc.loc main_arg3)) (m (c.tc.loc main_arg6)) (m (c.tc.loc main_arg7)) (m (c.tc.loc main_arg8)) (m (c.tc.loc main_arg9)))
      = Pipeline.afterTail₀ cfgs (Gen.dats m) 0 (Gen.V0 m) [Gen.hostOps1] c main_v38 := by
  refine Eq.trans ?_ (tail m c).symm
  rw [arr_dw A]
  funext i
  rw [ValueIdx.eq_ix2 i]
  refine (ref_dw A.x A.g (wideAt C S Q K Y U) (ref_dp A.cos A.sin A.q A.k A.y A.u) (i 0) (i 1)).trans ?_
  refine Eq.trans ?_ (foldExt_apply _ (fun k j => ∑ r : Fin 8192, wideAt C S Q K Y U r.val k * (X r.val j * inv (X r.val) * G j)) (fun _ _ => rfl) (i 0) (i 1)).symm
  rw [fold_sum]
  simp only [fold_mul]

theorem same_dg : (show FVec Ideal S1x1024 .f32 from Cert.ReferenceIdeal.Read.val_main_v122 (F := Ideal) (m (c.tc.loc main_arg0)) (m (c.tc.loc main_arg1)) (m (c.tc.loc main_arg2))
    (m (c.tc.loc main_arg4)) (m (c.tc.loc main_arg6)) (m (c.tc.loc main_arg7)) (m (c.tc.loc main_arg8)) (m (c.tc.loc main_arg9)))
      = (Gen.dats m 0 c).arrAt 12 cfg0.N := by
  rw [arr_dg A]
  funext i
  rw [ValueIdx.eq_ix2 i]
  exact ref_dg A.x (wideAt C S Q K Y U) (ref_dh A.w _ (ref_dp A.cos A.sin A.q A.k A.y A.u)) (i 0) (i 1)

omit A

/-- The input projection's gradients are the reference's. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hag
  refine ⟨fun c => (Gen.dats m 0 c).arrAt 10 cfg0.N, fun c => Pipeline.afterTail₀ cfgs (Gen.dats m) 0 (Gen.V0 m) [Gen.hostOps1] c main_v38,
    fun c => (Gen.dats m 0 c).arrAt 12 cfg0.N, ?_, ?_⟩
  · refine (θ_run defs _ _).mono (fun r h c => ⟨((h.2 c).1 10), (h.2 c).2 main_v38 (Pipeline.mem_restRefs_of main_v38 (by decide) (by decide)), (h.2 c).1 12, h.1 c⟩)
      (θ_run_and (Gen.unchanged m g) (Gen.run_main m g))
  · refine (θ_run Cert.ReferenceIdeal.defs _ _).mono (fun r h c => ?_) (Cert.ReferenceIdeal.Value.run m' g')
    obtain ⟨X, C, S, G, W, Q, K, Y, U, A⟩ := args m hpre c
    obtain ⟨a0, a1, a2, a3, a4, a5, a6, a7, a8, a9⟩ := hag c
    obtain ⟨r0, r1, r2, rest⟩ := h c
    refine ⟨r0.trans ?_, r1.trans ?_, r2.trans ?_, rest⟩
    · rw [Cert.ReferenceIdeal.Read.val_main_v120_eq, a0, a1, a2, a3, a4, a5, a6, a7, a8, a9]
      exact same_dx A
    · rw [Cert.ReferenceIdeal.Read.val_main_v121_eq, a0, a1, a2, a3, a6, a7, a8, a9]
      exact same_dw A
    · rw [Cert.ReferenceIdeal.Read.val_main_v122_eq, a0, a1, a2, a4, a6, a7, a8, a9]
      exact same_dg A

/-- The reference's frame: it has no semaphores. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems rfl r.2⟩)
    (Cert.ReferenceIdeal.Value.run m ρ)

end Cert.Proof.InProj
-- ==== Proof.AtMath.lean ====
/-
The real arithmetic of one query's attention and of its gradient: the weights of the keys it sees beside a sink, and the
gradients of its scores and of its sink from the gradient of its weights.
-/
module

public import proofs.«01_k».proof.Proof.Reals

@[expose] public section

set_option maxRecDepth 16384

noncomputable section

namespace Attn

open Finset Cert.Proof

section Row
variable (see : ℕ → Bool) (sc dp : ℕ → ℝ) (sk : ℝ)

/-- The exponential of a score, nothing where the key is not seen. -/
def wt (b : ℕ) : ℝ := if see b then Real.exp (sc b) else 0

/-- The exponentials' sum, the sink's among them. -/
def total : ℝ := ∑ b : Fin 256, wt see sc b + Real.exp sk

/-- The weight of a key. -/
def prb (b : ℕ) : ℝ := wt see sc b / total see sc sk

/-- The weight of the sink. -/
def prbSink : ℝ := Real.exp sk / total see sc sk

/-- The mean of the weights' gradient. -/
def mean : ℝ := ∑ b : Fin 256, prb see sc sk b * dp b

/-- The gradient of a score. -/
def dsc (b : ℕ) : ℝ := prb see sc sk b * (dp b - mean see sc dp sk)

/-- The gradient of the sink. -/
def dsk : ℝ := -(prbSink see sc sk * mean see sc dp sk)

theorem wt_nonneg (b : ℕ) : 0 ≤ wt see sc b := by unfold wt; split <;> positivity

theorem total_pos : 0 < total see sc sk :=
  add_pos_of_nonneg_of_pos (sum_nonneg fun b _ => wt_nonneg see sc b) (Real.exp_pos _)

theorem prb_unseen {b : ℕ} (h : see b = false) : prb see sc sk b = 0 := by simp [prb, wt, h]

theorem dsc_unseen {b : ℕ} (h : see b = false) : dsc see sc dp sk b = 0 := by rw [dsc, prb_unseen see sc sk h, zero_mul]

/-- The gradients of the scores and of the sink cancel: a number added to all changes nothing. -/
theorem sum_dsc : -dsk see sc dp sk + ∑ b : Fin 256, -dsc see sc dp sk b.val = 0 := by
  have hp := total_pos see sc sk
  have h1 : ∑ b : Fin 256, prb see sc sk b.val + prbSink see sc sk = 1 := by
    unfold prb prbSink
    rw [← sum_div, ← add_div, ← total, div_self hp.ne']
  have h2 : ∑ b : Fin 256, dsc see sc dp sk b.val = mean see sc dp sk - (∑ b : Fin 256, prb see sc sk b.val) * mean see sc dp sk := by
    simp only [dsc, mul_sub]
    rw [sum_sub_distrib, ← sum_mul, ← mean]
  rw [sum_neg_distrib, h2, dsk]
  linear_combination mean see sc dp sk * h1

/-- Only the scores of the keys seen matter, -/
theorem wt_congr {sc' : ℕ → ℝ} (h : ∀ b, see b = true → sc b = sc' b) (b : ℕ) : wt see sc b = wt see sc' b := by
  unfold wt
  split
  · next hs => rw [h b hs]
  · rfl

theorem total_congr {sc' : ℕ → ℝ} (h : ∀ b, see b = true → sc b = sc' b) : total see sc sk = total see sc' sk := by
  unfold total
  simp only [wt_congr see sc h]

theorem prb_congr {sc' : ℕ → ℝ} (h : ∀ b, see b = true → sc b = sc' b) (b : ℕ) : prb see sc sk b = prb see sc' sk b := by
  unfold prb
  rw [wt_congr see sc h, total_congr see sc sk h]

/-- and only their weights' gradients. -/
theorem mean_congr {sc' dp' : ℕ → ℝ} (h : ∀ b, see b = true → sc b = sc' b) (hd : ∀ b, see b = true → dp b = dp' b) :
    mean see sc dp sk = mean see sc' dp' sk := by
  unfold mean
  refine sum_congr rfl fun b _ => ?_
  rw [prb_congr see sc sk h]
  by_cases hs : see b.val = true
  · rw [hd _ hs]
  · rw [prb_unseen see sc' sk (Bool.eq_false_iff.mpr hs), zero_mul, zero_mul]

theorem dsc_congr {sc' dp' : ℕ → ℝ} (h : ∀ b, see b = true → sc b = sc' b) (hd : ∀ b, see b = true → dp b = dp' b) (b : ℕ) :
    dsc see sc dp sk b = dsc see sc' dp' sk b := by
  unfold dsc
  rw [prb_congr see sc sk h, mean_congr see sc dp sk h hd]
  by_cases hs : see b = true
  · rw [hd _ hs]
  · rw [prb_unseen see sc' sk (Bool.eq_false_iff.mpr hs), zero_mul, zero_mul]

theorem dsk_congr {sc' dp' : ℕ → ℝ} (h : ∀ b, see b = true → sc b = sc' b) (hd : ∀ b, see b = true → dp b = dp' b) :
    dsk see sc dp sk = dsk see sc' dp' sk := by
  unfold dsk prbSink
  rw [total_congr see sc sk h, mean_congr see sc dp sk h hd]

/-! ## As a program computes them: from scores that are −∞ where a key is not seen, less their greatest -/

/-- The score as a program has it. -/
def score (b : ℕ) : EReal := if see b then ((sc b : ℝ) : EReal) else ⊥

open Idealize.ShloMosaic

/-- The greatest of some values, none of them +∞, and a real is real. -/
theorem top_real {ι : Type} (s : Finset ι) (f : ι → EReal) (hf : ∀ i, f i ≠ ⊤) (r : ℝ) :
    ∃ M : ℝ, max (s.fold max ⊥ f) (r : EReal) = (M : EReal) := by
  have h : s.fold max ⊥ f ≠ ⊤ := by
    induction s using Finset.cons_induction with
    | empty => simp
    | cons a s ha ih =>
      rw [fold_cons]
      exact (max_lt (lt_top_iff_ne_top.mpr (hf a)) (lt_top_iff_ne_top.mpr ih)).ne
  refine ⟨(max (s.fold max ⊥ f) (r : EReal)).toReal, (EReal.coe_toReal ?_ ?_).symm⟩
  · exact (max_lt (lt_top_iff_ne_top.mpr h) (EReal.coe_lt_top r)).ne
  · exact (lt_of_lt_of_le (EReal.bot_lt_coe r) (le_max_right _ _)).ne'

theorem score_ne_top (b : ℕ) : score see sc b ≠ ⊤ := by
  unfold score
  split
  · exact EReal.coe_ne_top _
  · exact bot_ne_top

/-- The exponential of a score less a real. -/
theorem exp_score (M : ℝ) (b : ℕ) : Ideal.exp (score see sc b - (M : EReal)) = ((wt see sc b * Real.exp (-M) : ℝ) : EReal) := by
  unfold score wt
  split
  · rw [← EReal.coe_sub, Ideal.exp_coe, sub_eq_add_neg, Real.exp_add]
  · rw [show (⊥ : EReal) - (M : EReal) = ⊥ from EReal.bot_sub _, zero_mul]; simp

theorem exp_sink (M : ℝ) : Ideal.exp ((sk : EReal) - (M : EReal)) = ((Real.exp sk * Real.exp (-M) : ℝ) : EReal) := by
  rw [← EReal.coe_sub, Ideal.exp_coe, sub_eq_add_neg, Real.exp_add]

/-- The exponentials' sum, each scaled. -/
theorem total_scaled (E : ℝ) : ∑ b : Fin 256, wt see sc b * E + Real.exp sk * E = total see sc sk * E := by
  rw [← sum_mul, ← add_mul, total]

theorem prb_scaled (E : ℝ) (h : 0 < E) (b : ℕ) : wt see sc b * E * (1 / (total see sc sk * E)) = prb see sc sk b := by
  have := total_pos see sc sk
  unfold prb
  field_simp

theorem prbSink_scaled (E : ℝ) (h : 0 < E) : Real.exp sk * E * (1 / (total see sc sk * E)) = prbSink see sc sk := by
  have := total_pos see sc sk
  unfold prbSink
  field_simp

end Row

end Attn

end
-- ==== Proof.AtSpec.lean ====
/-
What the attention's backward pass adds block by block, over the reals: the rows of the sequence in blocks of 128, each block
of queries against the band of the block before and the block itself, the query heads in two groups of four.
-/
module

public import proofs.«01_k».proof.Proof.AtMath

@[expose] public section

set_option maxRecDepth 16384

noncomputable section

namespace Attn

open Finset

/-- The query in row `a` of block `n` sees the key at place `b` of its band: one of the 128 up to its own, in a block there is. -/
def seen (n a b : ℕ) : Bool := decide (a < b ∧ b ≤ a + 128 ∧ (0 < n ∨ 128 ≤ b))

/-- The row of the sequence at place `b` of block `n`'s band; the first block has itself before it, which it does not see. -/
def keyRow (n b : ℕ) : ℕ := if b < 128 then 128 * (n - 1) + b else 128 * n + (b - 128)

/-- A group's rows of a block, its four heads one under the other, each in its own half of 128 lanes. -/
def stk (X : ℕ → ℕ → ℝ) (n g c e : ℕ) : ℝ :=
  if e / 64 = c / 128 % 2 then X (128 * n + c % 128) (256 * g + (64 * (c / 128) + e % 64)) else 0

/-- A group's band of keys, repeated in the two halves of 128 lanes. -/
def bnd (Y : ℕ → ℕ → ℝ) (n g b e : ℕ) : ℝ := Y (keyRow n b) (128 * g + e)

section
variable (Q K V D : ℕ → ℕ → ℝ) (T : ℕ → ℝ)

/-- The products of a block's rows with its band. -/
def prd (K Q : ℕ → ℕ → ℝ) (n g c b : ℕ) : ℝ := ∑ e : Fin 128, bnd K n g b e.val * stk Q n g c e.val

/-- The weights of a block, -/
def prB (n g c b : ℕ) : ℝ := prb (seen n (c % 128)) (prd K Q n g c) (T (4 * g + c / 128)) b

/-- the gradients of its scores -/
def dsB (n g c b : ℕ) : ℝ := dsc (seen n (c % 128)) (prd K Q n g c) (prd V D n g c) (T (4 * g + c / 128)) b

/-- and of its sinks. -/
def dkB (n g c : ℕ) : ℝ := dsk (seen n (c % 128)) (prd K Q n g c) (prd V D n g c) (T (4 * g + c / 128))

/-- What a block adds to the keys' gradient at a place of its band, -/
def wK (n g b e : ℕ) : ℝ := ∑ c : Fin 512, dsB Q K V D T n g c.val b * stk Q n g c.val e

/-- to the values' gradient, -/
def wV (n g b e : ℕ) : ℝ := ∑ c : Fin 512, prB Q K T n g c.val b * stk D n g c.val e

/-- and the queries' gradient, stacked. -/
def wQ (n g c e : ℕ) : ℝ := (∑ b : Fin 256, dsB Q K V D T n g c b.val * bnd K n g b.val e) * (1 / 8)

/-- The queries' gradient, row by row. -/
def dqR (s j : ℕ) : ℝ := wQ Q K V D T (s / 128) (j / 256) (128 * (j % 256 / 64) + s % 128) (j % 128)

end

/-- What a block adds at a row of the sequence, from what it adds at its band's places. -/
def adds (w : ℕ → ℕ → ℕ → ℕ → ℝ) (n s c : ℕ) : ℝ :=
  (if s / 128 = n - 1 then w n (c / 128) (s % 128) (c % 128) else 0)
    + if s / 128 = n then w n (c / 128) (128 + s % 128) (c % 128) else 0

end Attn

end
-- ==== Proof.AtBlock.lean ====
/-
One block of the attention's backward pass, as a program over any floats: the body of the kernel is eight of them, one for each
quarter of the tile's rows and each pair of key heads, after the first point has cleared the sums.
-/
module

public import proofs.«01_k».proof.Proof.Gen.Kernel2Ideal

@[expose] public section

set_option maxRecDepth 16384

noncomputable section

namespace Attn

open Idealize.ShloMosaic Idealize.SL.Sem
open Cert.Kernel2Ideal Cert.Kernel2Ideal.Gen

variable {F : FTy → Type} [FloatOps F]

/-! ## The values a block computes -/

/-- The lanes of the lower head of a pair. -/
def lower : IVec S128x128 1 := cmpi .slt (iota .tc S128x128 32 [1] iota_S128x128_d1_w32) (broadcast S128x128 64#32)

/-- No value. -/
def blank : FVec F S128x128 .bf16 := broadcast S128x128 (Scalar.ofBits .bf16 0x0000#16)

/-- A tile as loaded. -/
def tile (x : Vec F S128x128 .bf16) : FVec F S128x128 .bf16 := shapeCast S128x128 x shapeCasts_S128x128_S128x128

/-- The four query heads of a group one under the other, each in its own half of the lanes. -/
def stack (x y : Vec F S128x128 .bf16) : FVec F S512x128 .bf16 :=
  concatenate S512x128 0
    [⟨S128x128, select lower (tile x) blank⟩, ⟨S128x128, select lower blank (tile x)⟩,
     ⟨S128x128, select lower (tile y) blank⟩, ⟨S128x128, select lower blank (tile y)⟩]
    concatenates_S128x128_S128x128_S128x128_S128x128_S512x128_d0

/-- The band's keys: the block before, then the block itself. -/
def band (x y : Vec F S128x128 .bf16) : FVec F S256x128 .bf16 :=
  concatenate S256x128 0 [⟨S128x128, tile x⟩, ⟨S128x128, tile y⟩] concatenates_S128x128_S128x128_S256x128_d0

/-- The key's place in the band. -/
def keyAt : IVec S256x512 32 := iota .tc S256x512 32 [0] iota_S256x512_d0_w32

/-- The divisor of the queries' places, as the remainder takes it. -/
def wordOf128 : BitVec 32 := Scalar.select (Scalar.cmpi .eq 128#32 0#32) 1#32 128#32

/-- The remainder of the query's place in the stack. -/
def rawRow : IVec S256x512 32 := remsi (iota .tc S256x512 32 [1] iota_S256x512_d1_w32) (broadcast S256x512 wordOf128)

/-- The query's row in its block. -/
def queryRow : IVec S256x512 32 :=
  select (andi (xori (cmpi .slt rawRow (broadcast S256x512 0#32))
      (broadcastTo S256x512 (broadcast S256x512 (Scalar.cmpi .slt wordOf128 0#32)) broadcasts_S256x512_S256x512))
      (cmpi .ne rawRow (broadcast S256x512 0#32)))
    (addi rawRow (broadcast S256x512 wordOf128)) rawRow

/-- Which keys of the band a query of block `n` sees. -/
def mask (n : BitVec 32) : IVec S256x512 1 :=
  andi (andi (cmpi .sgt keyAt queryRow) (cmpi .sle keyAt (addi queryRow (broadcast S256x512 128#32))))
    (ori (broadcast S256x512 (Scalar.cmpi .sgt n 0#32)) (cmpi .sge keyAt (broadcast S256x512 128#32)))

/-- The scores, keys down and queries across, −∞ where the query does not see the key. -/
def scores (mk : IVec S256x512 1) (k : FVec F S256x128 .bf16) (q : FVec F S512x128 .bf16) : FVec F S256x512 .f32 :=
  select mk (matmul dot_S256x128_S512x128_S256x512_1_1_0_0_n_n none k q (constant S256x512 .f32 0x00000000#32))
    (broadcast S256x512 (Scalar.ofBits .f32 0xFF800000#32))

/-- The sinks' row, as loaded. -/
def sinkRow (s : Vec F S1x1x512 .f32) : FVec F S1x512 .f32 := shapeCast S1x512 s shapeCasts_S1x1x512_S1x512

/-- A row's sum over the keys. -/
def keySum (x : FVec F S256x512 .f32) : FVec F S1x512 .f32 :=
  shapeCast S1x512 (multiReduction .add [0] S512 x 0x00000000#32 reduces_S256x512_S512 (.inl rfl) rfl) shapeCasts_S512_S1x512

/-- The greatest score of a query, its sink among them. -/
def top (st : FVec F S256x512 .f32) (sk : FVec F S1x512 .f32) : FVec F S1x512 .f32 :=
  maximumf (shapeCast S1x512 (multiReduction .maximumf [0] S512 st 0xFF800000#32 reduces_S256x512_S512 (.inl rfl) rfl) shapeCasts_S512_S1x512) sk

/-- A row under every key. -/
def down (x : FVec F S1x512 .f32) : FVec F S256x512 .f32 := broadcastTo S256x512 x broadcasts_S1x512_S256x512

/-- The exponentials of the scores. -/
def ex (st : FVec F S256x512 .f32) (sk : FVec F S1x512 .f32) : FVec F S256x512 .f32 := exp (subf st (down (top st sk)))

/-- The exponential of the sink. -/
def exSink (st : FVec F S256x512 .f32) (sk : FVec F S1x512 .f32) : FVec F S1x512 .f32 := exp (subf sk (top st sk))

/-- One over the sum of the exponentials. -/
def inv (st : FVec F S256x512 .f32) (sk : FVec F S1x512 .f32) : FVec F S1x512 .f32 :=
  divf (broadcast S1x512 (Scalar.ofBits .f32 0x3F800000#32)) (addf (keySum (ex st sk)) (exSink st sk))

/-- The attention's weights. -/
def prob (st : FVec F S256x512 .f32) (sk : FVec F S1x512 .f32) : FVec F S256x512 .f32 := mulf (ex st sk) (down (inv st sk))

/-- The weights' gradient before the normalisation. -/
def dprob (v : FVec F S256x128 .bf16) (o : FVec F S512x128 .bf16) : FVec F S256x512 .f32 :=
  matmul dot_S256x128_S512x128_S256x512_1_1_0_0_n_n none v o (constant S256x512 .f32 0x00000000#32)

/-- The mean of the weights' gradient under the weights. -/
def delta (p dp : FVec F S256x512 .f32) : FVec F S1x512 .f32 := keySum (mulf p dp)

/-- The scores' gradient. -/
def dscore (p dp : FVec F S256x512 .f32) : FVec F S256x512 .bf16 :=
  truncf .bf16 (mulf p (subf dp (down (delta p dp)))) bitsLt_bf16_f32

/-- What a block adds to the sinks' gradient. -/
def dsinkOf (st : FVec F S256x512 .f32) (sk : FVec F S1x512 .f32) (dp : FVec F S256x512 .f32) : FVec F S1x512 .f32 :=
  mulf (subf (broadcast S1x512 (Scalar.ofBits .f32 0x00000000#32)) (mulf (exSink st sk) (inv st sk))) (delta (prob st sk) dp)

/-- What a block adds to the values' gradient. -/
def dvOf (p : FVec F S256x512 .f32) (o : FVec F S512x128 .bf16) : FVec F S256x128 .f32 :=
  matmul dot_S256x512_S512x128_S256x128_1_0_0_1_n_n none (truncf .bf16 p bitsLt_bf16_f32) o (constant S256x128 .f32 0x00000000#32)

/-- What a block adds to the keys' gradient. -/
def dkOf (d : FVec F S256x512 .bf16) (q : FVec F S512x128 .bf16) : FVec F S256x128 .f32 :=
  matmul dot_S256x512_S512x128_S256x128_1_0_0_1_n_n none d q (constant S256x128 .f32 0x00000000#32)

/-- The queries' gradient, stacked. -/
def dqOf (d : FVec F S256x512 .bf16) (k : FVec F S256x128 .bf16) : FVec F S512x128 .f32 :=
  mulf (matmul dot_S256x512_S256x128_S512x128_0_0_1_1_n_n none d k (constant S512x128 .f32 0x00000000#32))
    (broadcast S512x128 (Scalar.ofBits .f32 0x3E000000#32))

/-- The first pair of heads of a stack, side by side again. -/
def unstackLo (x : FVec F S512x128 .f32) : FVec F S128x128 .f32 :=
  select lower (extractStridedSlice S128x128 ![0, 0] x slices_S512x128_o0_0_S128x128)
    (extractStridedSlice S128x128 ![128, 0] x slices_S512x128_o128_0_S128x128)

/-- The second pair. -/
def unstackHi (x : FVec F S512x128 .f32) : FVec F S128x128 .f32 :=
  select lower (extractStridedSlice S128x128 ![256, 0] x slices_S512x128_o256_0_S128x128)
    (extractStridedSlice S128x128 ![384, 0] x slices_S512x128_o384_0_S128x128)

/-- The rows of the band's first half. -/
def halfLo (x : FVec F S256x128 .f32) : FVec F S128x128 .f32 := extractStridedSlice S128x128 ![0, 0] x slices_S256x128_o0_0_S128x128

/-- The rows of its second half. -/
def halfHi (x : FVec F S256x128 .f32) : FVec F S128x128 .f32 := extractStridedSlice S128x128 ![128, 0] x slices_S256x128_o128_0_S128x128

/-- A tile of a sum with an addend. -/
def plus (x : Vec F S128x128 .f32) (w : FVec F S128x128 .f32) : FVec F S128x128 .f32 :=
  addf (shapeCast S128x128 x shapeCasts_S128x128_S128x128) w

/-- A row of the sinks' gradient with an addend. -/
def plusRow (x : Vec F S1x1x512 .f32) (w : FVec F S1x512 .f32) : FVec F S1x1x512 .f32 :=
  shapeCast S1x1x512 (addf (shapeCast S1x512 x shapeCasts_S1x1x512_S1x512) w) shapeCasts_S1x512_S1x1x512

/-! ## The program -/

/-- The number of the block of 128 rows that quarter `r` of the tile at `i` is. -/
def blockNo (i : grid0.Coords) (r : BitVec 32) : BitVec 32 := Scalar.addi (Scalar.muli (BitVec.ofNat 32 (i 0).val) 4#32) r

/-- One block: it reads its rows of the queries and of the cotangent at `lo` and `hi`, its keys and values at `pv` and `cu`, its sinks at
    `so`, leaves the queries' gradient, and adds the keys', the values' and the sinks' where it read them. -/
def block (mk : IVec S256x512 1) (lo hi : Fin 2 → ℕ) (hlo : ∀ a, lo a + S128x128.size a ≤ S512x512.size a)
    (hhi : ∀ a, hi a + S128x128.size a ≤ S512x512.size a) (pv cu : Fin 2 → ℕ) (hpv : ∀ a, pv a + S128x128.size a ≤ S8192x256.size a)
    (hcu : ∀ a, cu a + S128x128.size a ≤ S8192x256.size a) (so : Fin 3 → ℕ) (hso : ∀ a, so a + S1x1x512.size a ≤ S2x1x512.size a)
    (arg1 : Memref sig .tc .vmem S512x512 .bf16) (arg2 arg3 : Memref sig .tc .vmem S8192x256 .bf16) (arg4 : Memref sig .tc .vmem S512x512 .bf16)
    (arg5 : Memref sig .tc .vmem S2x1x512 .f32) (arg6 : Memref sig .tc .vmem S512x512 .f32) (arg7 arg8 : Memref sig .tc .vmem S8192x256 .f32)
    (arg9 : Memref sig .tc .vmem S2x1x512 .f32) : Prog (TpuEff nD τ sig (Elt F) Λ₀ .tc) PUnit := do
  let q0 : Vec F S128x128 .bf16 ← Prog.lift (.load arg1 (Rect.unit (s := S512x512) lo S128x128.size hlo).toLoadRect (View.loadsAt_vmem h_S128x128))
  let q1 : Vec F S128x128 .bf16 ← Prog.lift (.load arg1 (Rect.unit (s := S512x512) hi S128x128.size hhi).toLoadRect (View.loadsAt_vmem h_S128x128))
  let o0 : Vec F S128x128 .bf16 ← Prog.lift (.load arg4 (Rect.unit (s := S512x512) lo S128x128.size hlo).toLoadRect (View.loadsAt_vmem h_S128x128))
  let o1 : Vec F S128x128 .bf16 ← Prog.lift (.load arg4 (Rect.unit (s := S512x512) hi S128x128.size hhi).toLoadRect (View.loadsAt_vmem h_S128x128))
  let k0 : Vec F S128x128 .bf16 ← Prog.lift (.load arg2 (Rect.unit (s := S8192x256) pv S128x128.size hpv).toLoadRect (View.loadsAt_vmem h_S128x128))
  let k1 : Vec F S128x128 .bf16 ← Prog.lift (.load arg2 (Rect.unit (s := S8192x256) cu S128x128.size hcu).toLoadRect (View.loadsAt_vmem h_S128x128))
  let v0 : Vec F S128x128 .bf16 ← Prog.lift (.load arg3 (Rect.unit (s := S8192x256) pv S128x128.size hpv).toLoadRect (View.loadsAt_vmem h_S128x128))
  let v1 : Vec F S128x128 .bf16 ← Prog.lift (.load arg3 (Rect.unit (s := S8192x256) cu S128x128.size hcu).toLoadRect (View.loadsAt_vmem h_S128x128))
  let s : Vec F S1x1x512 .f32 ← Prog.lift (.load arg5 (Rect.unit (s := S2x1x512) so S1x1x512.size hso).toLoadRect (View.loadsAt_vmem h_S1x1x512))
  let st := scores mk (band k0 k1) (stack q0 q1)
  let p := prob st (sinkRow s)
  let dp := dprob (band v0 v1) (stack o0 o1)
  let d := dscore p dp
  let a : Vec F S1x1x512 .f32 ← Prog.lift (.load arg9 (Rect.unit (s := S2x1x512) so S1x1x512.size hso).toLoadRect (View.loadsAt_vmem h_S1x1x512))
  let _b : Vec F S1x1x512 .f32 ← Prog.lift (.load arg9 (Rect.unit (s := S2x1x512) so S1x1x512.size hso).toLoadRect (View.loadsAt_vmem h_S1x1x512))
  Prog.lift (.store arg9 (Rect.unit (s := S2x1x512) so S1x1x512.size hso) (plusRow a (dsinkOf st (sinkRow s) dp)) Finset.univ (View.stores_vmem_bits_univ h_S1x1x512 rfl) (.inl rfl))
  let _b : Vec F S128x128 .f32 ← Prog.lift (.load arg6 (Rect.unit (s := S512x512) lo S128x128.size hlo).toLoadRect (View.loadsAt_vmem h_S128x128))
  Prog.lift (.store arg6 (Rect.unit (s := S512x512) lo S128x128.size hlo) (unstackLo (dqOf d (band k0 k1))) Finset.univ (View.stores_vmem_bits_univ h_S128x128 rfl) (.inl rfl))
  let _b : Vec F S128x128 .f32 ← Prog.lift (.load arg6 (Rect.unit (s := S512x512) hi S128x128.size hhi).toLoadRect (View.loadsAt_vmem h_S128x128))
  Prog.lift (.store arg6 (Rect.unit (s := S512x512) hi S128x128.size hhi) (unstackHi (dqOf d (band k0 k1))) Finset.univ (View.stores_vmem_bits_univ h_S128x128 rfl) (.inl rfl))
  let a : Vec F S128x128 .f32 ← Prog.lift (.load arg7 (Rect.unit (s := S8192x256) pv S128x128.size hpv).toLoadRect (View.loadsAt_vmem h_S128x128))
  let _b : Vec F S128x128 .f32 ← Prog.lift (.load arg7 (Rect.unit (s := S8192x256) pv S128x128.size hpv).toLoadRect (View.loadsAt_vmem h_S128x128))
  Prog.lift (.store arg7 (Rect.unit (s := S8192x256) pv S128x128.size hpv) (plus a (halfLo (dkOf d (stack q0 q1)))) Finset.univ (View.stores_vmem_bits_univ h_S128x128 rfl) (.inl rfl))
  let a : Vec F S128x128 .f32 ← Prog.lift (.load arg7 (Rect.unit (s := S8192x256) cu S128x128.size hcu).toLoadRect (View.loadsAt_vmem h_S128x128))
  let _b : Vec F S128x128 .f32 ← Prog.lift (.load arg7 (Rect.unit (s := S8192x256) cu S128x128.size hcu).toLoadRect (View.loadsAt_vmem h_S128x128))
  Prog.lift (.store arg7 (Rect.unit (s := S8192x256) cu S128x128.size hcu) (plus a (halfHi (dkOf d (stack q0 q1)))) Finset.univ (View.stores_vmem_bits_univ h_S128x128 rfl) (.inl rfl))
  let a : Vec F S128x128 .f32 ← Prog.lift (.load arg8 (Rect.unit (s := S8192x256) pv S128x128.size hpv).toLoadRect (View.loadsAt_vmem h_S128x128))
  let _b : Vec F S128x128 .f32 ← Prog.lift (.load arg8 (Rect.unit (s := S8192x256) pv S128x128.size hpv).toLoadRect (View.loadsAt_vmem h_S128x128))
  Prog.lift (.store arg8 (Rect.unit (s := S8192x256) pv S128x128.size hpv) (plus a (halfLo (dvOf p (stack o0 o1)))) Finset.univ (View.stores_vmem_bits_univ h_S128x128 rfl) (.inl rfl))
  let a : Vec F S128x128 .f32 ← Prog.lift (.load arg8 (Rect.unit (s := S8192x256) cu S128x128.size hcu).toLoadRect (View.loadsAt_vmem h_S128x128))
  let _b : Vec F S128x128 .f32 ← Prog.lift (.load arg8 (Rect.unit (s := S8192x256) cu S128x128.size hcu).toLoadRect (View.loadsAt_vmem h_S128x128))
  Prog.lift (.store arg8 (Rect.unit (s := S8192x256) cu S128x128.size hcu) (plus a (halfHi (dvOf p (stack o0 o1)))) Finset.univ (View.stores_vmem_bits_univ h_S128x128 rfl) (.inl rfl))
  pure ⟨⟩

/-- The first point clears the three sums. -/
def clear (arg7 arg8 : Memref sig .tc .vmem S8192x256 .f32) (arg9 : Memref sig .tc .vmem S2x1x512 .f32) :
    Prog (TpuEff nD τ sig (Elt F) Λ₀ .tc) PUnit := do
  let z : F .f32 := Scalar.ofBits .f32 0x00000000#32
  let _b : Vec F S8192x256 .f32 ← Prog.lift (.load arg7 (Rect.unit (s := S8192x256) ![0, 0] S8192x256.size inb_S8192x256_S8192x256_0_0).toLoadRect (View.loadsAt_vmem h_S8192x256))
  Prog.lift (.store arg7 (Rect.unit (s := S8192x256) ![0, 0] S8192x256.size inb_S8192x256_S8192x256_0_0) (broadcast S8192x256 z) Finset.univ (View.stores_vmem_bits_univ h_S8192x256 rfl) (.inl rfl))
  let _b : Vec F S8192x256 .f32 ← Prog.lift (.load arg8 (Rect.unit (s := S8192x256) ![0, 0] S8192x256.size inb_S8192x256_S8192x256_0_0).toLoadRect (View.loadsAt_vmem h_S8192x256))
  Prog.lift (.store arg8 (Rect.unit (s := S8192x256) ![0, 0] S8192x256.size inb_S8192x256_S8192x256_0_0) (broadcast S8192x256 z) Finset.univ (View.stores_vmem_bits_univ h_S8192x256 rfl) (.inl rfl))
  let _b : Vec F S2x1x512 .f32 ← Prog.lift (.load arg9 (Rect.unit (s := S2x1x512) ![0, 0, 0] S2x1x512.size inb_S2x1x512_S2x1x512_0_0_0).toLoadRect (View.loadsAt_vmem h_S2x1x512))
  Prog.lift (.store arg9 (Rect.unit (s := S2x1x512) ![0, 0, 0] S2x1x512.size inb_S2x1x512_S2x1x512_0_0_0) (broadcast S2x1x512 z) Finset.univ (View.stores_vmem_bits_univ h_S2x1x512 rfl) (.inl rfl))
  pure ⟨⟩

end Attn

end
-- ==== Proof.AtPay.lean ====
/-
The values of one block of the attention's backward pass, over the reals: the block's rows of queries and of the cotangent, its
band of keys and of values and its sinks given, what it adds to each gradient.
-/
module

public import proofs.«01_k».proof.Proof.AtBlock
public import proofs.«01_k».proof.Proof.AtSpec
public import Idealize.ShloMosaic.Lib.Tactic

@[expose] public section

set_option maxRecDepth 16384

noncomputable section

namespace Attn

open Idealize.ShloMosaic Idealize.SL.Sem Finset
open Cert.Kernel2Ideal Cert.Kernel2Ideal.Gen Cert.Proof

theorem bits_bot : Ideal.ofBits .f32 4286578688#32 = (⊥ : EReal) := by simp [Ideal.ofBits, Ideal.ieee]

theorem bits_eighth : Ideal.ofBits .f32 1040187392#32 = ((1 / 8 : ℝ) : EReal) := by
  simp [Ideal.ofBits, Ideal.ieee, -EReal.coe_mul]; norm_num

/-! ## The row's arithmetic -/

section
variable {st : FVec Ideal S256x512 .f32} {sk : FVec Ideal S1x512 .f32} {dp : FVec Ideal S256x512 .f32}
  {see : ℕ → ℕ → Bool} {sc DP : ℕ → ℕ → ℝ} {SK : ℕ → ℝ}
  (hst : ∀ (b : Fin 256) (c : Fin 512), st (ix2 b c) = score (see c.val) (sc c.val) b.val)
  (hsk : ∀ c : Fin 512, sk (ix2 0 c) = ((SK c.val : ℝ) : EReal))
  (hdp : ∀ (b : Fin 256) (c : Fin 512), dp (ix2 b c) = ((DP c.val b.val : ℝ) : EReal))

include hst hsk

theorem top_at (c : Fin 512) : ∃ M : ℝ, top st sk (ix2 0 c) = (M : EReal) := by
  obtain ⟨M, hM⟩ := top_real univ (fun b : Fin 256 => st (ix2 b c)) (fun b => by rw [hst]; exact score_ne_top _ _ _) (SK c.val)
  refine ⟨M, ?_⟩
  rw [← hM, ← hsk, ← bits_bot]
  pointwise [top]

/-- The exponentials, the sink's and one over their sum, up to a common factor. -/
theorem parts_at (c : Fin 512) : ∃ E : ℝ, 0 < E
    ∧ (∀ b : Fin 256, ex st sk (ix2 b c) = ((wt (see c.val) (sc c.val) b.val * E : ℝ) : EReal))
    ∧ exSink st sk (ix2 0 c) = ((Real.exp (SK c.val) * E : ℝ) : EReal)
    ∧ inv st sk (ix2 0 c) = ((1 / (total (see c.val) (sc c.val) (SK c.val) * E) : ℝ) : EReal) := by
  obtain ⟨M, hM⟩ := top_at hst hsk c
  have he (b : Fin 256) : ex st sk (ix2 b c) = ((wt (see c.val) (sc c.val) b.val * Real.exp (-M) : ℝ) : EReal) := by
    rw [← exp_score, ← hst, ← hM]
    pointwise [ex, down]
  have hs : exSink st sk (ix2 0 c) = ((Real.exp (SK c.val) * Real.exp (-M) : ℝ) : EReal) := by
    rw [← exp_sink, ← hsk, ← hM]
    pointwise [exSink]
  refine ⟨Real.exp (-M), Real.exp_pos _, he, hs, ?_⟩
  have h : inv st sk (ix2 0 c) = Ideal.div 1 (∑ x, ex st sk (ix2 x c) + exSink st sk (ix2 0 c)) := by pointwise [inv, keySum]
  rw [h, hs, sum_congr rfl fun b _ => he b, Reals.sum_coe, ← EReal.coe_add, total_scaled, ← EReal.coe_one,
    Reals.div_coe_coe _ _ (mul_pos (total_pos _ _ _) (Real.exp_pos _)).ne']

theorem prob_at (b : Fin 256) (c : Fin 512) :
    prob st sk (ix2 b c) = ((prb (see c.val) (sc c.val) (SK c.val) b.val : ℝ) : EReal) := by
  obtain ⟨E, hE, he, -, hi⟩ := parts_at hst hsk c
  have h : prob st sk (ix2 b c) = ex st sk (ix2 b c) * inv st sk (ix2 0 c) := by pointwise [prob, down]
  rw [h, he, hi, ← EReal.coe_mul, prb_scaled _ _ _ _ hE]

include hdp

theorem delta_at (c : Fin 512) :
    delta (prob st sk) dp (ix2 0 c) = ((mean (see c.val) (sc c.val) (DP c.val) (SK c.val) : ℝ) : EReal) := by
  have h : delta (prob st sk) dp (ix2 0 c) = ∑ b : Fin 256, prob st sk (ix2 b c) * dp (ix2 b c) := by pointwise [delta, keySum]
  rw [h, mean, ← Reals.sum_coe]
  refine sum_congr rfl fun b _ => ?_
  rw [prob_at hst hsk, hdp, EReal.coe_mul]

theorem dscore_at (b : Fin 256) (c : Fin 512) :
    dscore (prob st sk) dp (ix2 b c) = ((dsc (see c.val) (sc c.val) (DP c.val) (SK c.val) b.val : ℝ) : EReal) := by
  have h : dscore (prob st sk) dp (ix2 b c) = prob st sk (ix2 b c) * (dp (ix2 b c) - delta (prob st sk) dp (ix2 0 c)) := by
    pointwise [dscore, down]
  rw [h, prob_at hst hsk, hdp, delta_at hst hsk hdp, ← EReal.coe_sub, ← EReal.coe_mul, dsc]

theorem dsink_at (c : Fin 512) :
    dsinkOf st sk dp (ix2 0 c) = ((dsk (see c.val) (sc c.val) (DP c.val) (SK c.val) : ℝ) : EReal) := by
  obtain ⟨E, hE, -, hs, hi⟩ := parts_at hst hsk c
  have h : dsinkOf st sk dp (ix2 0 c) = (0 - exSink st sk (ix2 0 c) * inv st sk (ix2 0 c)) * delta (prob st sk) dp (ix2 0 c) := by
    pointwise [dsinkOf]
  rw [h, hs, hi, delta_at hst hsk hdp, ← EReal.coe_mul, prbSink_scaled _ _ _ _ hE, ← EReal.coe_zero, ← EReal.coe_sub, ← EReal.coe_mul, dsk]
  congr 1
  ring

end

/-! ## The block's products -/

section
variable {mk : IVec S256x512 1} {k : FVec Ideal S256x128 .bf16} {q : FVec Ideal S512x128 .bf16} {d : FVec Ideal S256x512 .bf16}
  {p : FVec Ideal S256x512 .f32} {see : ℕ → ℕ → Bool} {K Q D : ℕ → ℕ → ℝ}

theorem product_at (hk : ∀ (b : Fin 256) (e : Fin 128), k (ix2 b e) = ((K b.val e.val : ℝ) : EReal))
    (hq : ∀ (c : Fin 512) (e : Fin 128), q (ix2 c e) = ((Q c.val e.val : ℝ) : EReal)) (b : Fin 256) (c : Fin 512) :
    dprob k q (ix2 b c) = ((∑ e : Fin 128, K b.val e.val * Q c.val e.val : ℝ) : EReal) := by
  have h : dprob k q (ix2 b c) = ∑ e : Fin 128, k (ix2 b e) * q (ix2 c e) := by pointwise [dprob]
  rw [h, ← Reals.sum_coe]
  exact sum_congr rfl fun e _ => by rw [hk, hq, EReal.coe_mul]

theorem scores_at (hm : ∀ (b : Fin 256) (c : Fin 512), mk (ix2 b c) = if see c.val b.val then 1#1 else 0#1)
    (hk : ∀ (b : Fin 256) (e : Fin 128), k (ix2 b e) = ((K b.val e.val : ℝ) : EReal))
    (hq : ∀ (c : Fin 512) (e : Fin 128), q (ix2 c e) = ((Q c.val e.val : ℝ) : EReal)) (b : Fin 256) (c : Fin 512) :
    scores mk k q (ix2 b c) = score (see c.val) (fun b => ∑ e : Fin 128, K b e.val * Q c.val e.val) b.val := by
  have h : scores mk k q (ix2 b c) = Scalar.select (mk (ix2 b c)) (dprob k q (ix2 b c)) (Ideal.ofBits .f32 4286578688#32) := by
    pointwise [scores, dprob]
  rw [h, hm, product_at hk hq, bits_bot, score]
  split <;> rfl

theorem dk_at (hd : ∀ (b : Fin 256) (c : Fin 512), d (ix2 b c) = ((D c.val b.val : ℝ) : EReal))
    (hq : ∀ (c : Fin 512) (e : Fin 128), q (ix2 c e) = ((Q c.val e.val : ℝ) : EReal)) (b : Fin 256) (e : Fin 128) :
    dkOf d q (ix2 b e) = ((∑ c : Fin 512, D c.val b.val * Q c.val e.val : ℝ) : EReal) := by
  have h : dkOf d q (ix2 b e) = ∑ c : Fin 512, d (ix2 b c) * q (ix2 c e) := by pointwise [dkOf]
  rw [h, ← Reals.sum_coe]
  exact sum_congr rfl fun c _ => by rw [hd, hq, EReal.coe_mul]

theorem dv_at (hp : ∀ (b : Fin 256) (c : Fin 512), p (ix2 b c) = ((D c.val b.val : ℝ) : EReal))
    (hq : ∀ (c : Fin 512) (e : Fin 128), q (ix2 c e) = ((Q c.val e.val : ℝ) : EReal)) (b : Fin 256) (e : Fin 128) :
    dvOf p q (ix2 b e) = ((∑ c : Fin 512, D c.val b.val * Q c.val e.val : ℝ) : EReal) := by
  have h : dvOf p q (ix2 b e) = ∑ c : Fin 512, p (ix2 b c) * q (ix2 c e) := by pointwise [dvOf]
  rw [h, ← Reals.sum_coe]
  exact sum_congr rfl fun c _ => by rw [hp, hq, EReal.coe_mul]

theorem dq_at (hd : ∀ (b : Fin 256) (c : Fin 512), d (ix2 b c) = ((D c.val b.val : ℝ) : EReal))
    (hk : ∀ (b : Fin 256) (e : Fin 128), k (ix2 b e) = ((K b.val e.val : ℝ) : EReal)) (c : Fin 512) (e : Fin 128) :
    dqOf d k (ix2 c e) = (((∑ b : Fin 256, D c.val b.val * K b.val e.val) * (1 / 8) : ℝ) : EReal) := by
  have h : dqOf d k (ix2 c e) = (∑ b : Fin 256, d (ix2 b c) * k (ix2 b e)) * Ideal.ofBits .f32 1040187392#32 := by pointwise [dqOf]
  rw [h, bits_eighth, sum_congr rfl fun b _ => show d (ix2 b c) * k (ix2 b e) = ((D c.val b.val * K b.val e.val : ℝ) : EReal) by
    rw [hd, hk, EReal.coe_mul], Reals.sum_coe, ← EReal.coe_mul]

end

/-! ## Which keys a query sees -/

theorem row_at : ∀ (b : Fin 256) (c : Fin 512), queryRow (ix2 b c) = BitVec.ofNat 32 (c.val % 128) := by
  intro b c
  have h : ∀ c : Fin 512, Scalar.select (IntOp.andi (IntOp.xori (IntOp.cmpi CmpIPredicate.slt (IntOp.remsi ArithUnit.vector (BitVec.ofNat 32 c.val) wordOf128) 0#32)
      (Scalar.cmpi CmpIPredicate.slt wordOf128 0#32)) (IntOp.cmpi CmpIPredicate.ne (IntOp.remsi ArithUnit.vector (BitVec.ofNat 32 c.val) wordOf128) 0#32))
      (IntOp.addi (IntOp.remsi ArithUnit.vector (BitVec.ofNat 32 c.val) wordOf128) wordOf128)
      (IntOp.remsi ArithUnit.vector (BitVec.ofNat 32 c.val) wordOf128) = BitVec.ofNat 32 (c.val % 128) := by decide +kernel
  rw [← h c]
  pointwise [queryRow, rawRow]

theorem in_window : ∀ (a : Fin 128) (b : Fin 256),
    IntOp.andi (IntOp.cmpi .sgt (BitVec.ofNat 32 b.val) (BitVec.ofNat 32 a.val))
      (IntOp.cmpi .sle (BitVec.ofNat 32 b.val) (IntOp.addi (BitVec.ofNat 32 a.val) 128#32))
      = if a.val < b.val ∧ b.val ≤ a.val + 128 then 1#1 else 0#1 := by decide +kernel

theorem in_band : ∀ (i : Fin 16) (r : Fin 4) (b : Fin 256),
    IntOp.ori (Scalar.cmpi .sgt (Scalar.addi (Scalar.muli (BitVec.ofNat 32 i.val) 4#32) (BitVec.ofNat 32 r.val)) 0#32)
      (IntOp.cmpi .sge (BitVec.ofNat 32 b.val) 128#32) = if 0 < 4 * i.val + r.val ∨ 128 ≤ b.val then 1#1 else 0#1 := by decide +kernel

theorem mask_at (i : grid0.Coords) (r : Fin 4) (b : Fin 256) (c : Fin 512) :
    mask (blockNo i (BitVec.ofNat 32 r.val)) (ix2 b c) = if seen (4 * (i 0).val + r.val) (c.val % 128) b.val then 1#1 else 0#1 := by
  have h : mask (blockNo i (BitVec.ofNat 32 r.val)) (ix2 b c) = IntOp.andi
      (IntOp.andi (IntOp.cmpi .sgt (BitVec.ofNat 32 b.val) (queryRow (ix2 b c)))
        (IntOp.cmpi .sle (BitVec.ofNat 32 b.val) (IntOp.addi (queryRow (ix2 b c)) 128#32)))
      (IntOp.ori (Scalar.cmpi .sgt (blockNo i (BitVec.ofNat 32 r.val)) 0#32) (IntOp.cmpi .sge (BitVec.ofNat 32 b.val) 128#32)) := by
    pointwise [mask, keyAt]
  rw [h, row_at, blockNo, in_window ⟨c.val % 128, Nat.mod_lt _ (by norm_num)⟩ b, in_band ⟨(i 0).val, (i 0).isLt⟩ r b, seen]
  by_cases h1 : c.val % 128 < b.val ∧ b.val ≤ c.val % 128 + 128 <;> by_cases h2 : 0 < 4 * (i 0).val + r.val ∨ 128 ≤ b.val <;>
    simp only [h1, h2, if_true, if_false, decide_true, decide_false, and_self, and_true, true_and, and_false, false_and, ← and_assoc] <;> first | rfl | simp [IntOp.andi]

end Attn

end
-- ==== Proof.AtReduce.lean ====
/-
The reference's sums and maxima over some axes of an array of rank six, at an index of the result.
-/
module

public import Idealize.ShloMosaic.Lib.Pointwise
public import Idealize.ShloMosaic.Lib.ValueIdxRank6
public import Idealize.ShloMosaic.Lib.IdealHost

@[expose] public section

noncomputable section

namespace Attn.Ref

open Idealize.ShloMosaic

section
variable {m0 m1 m2 m3 m4 m5 : ℕ}

/-! ## Which indices go to one index of the result -/

theorem fiber_last (h : (⟨6, ![m0, m1, m2, m3, m4, m5]⟩ : Shape).ReducesTo [5] ⟨5, ![m0, m1, m2, m3, m4]⟩)
    (a : Fin m0) (b : Fin m1) (c : Fin m2) (d : Fin m3) (e : Fin m4) (i : (⟨6, ![m0, m1, m2, m3, m4, m5]⟩ : Shape).Idx) :
    h.drop i = ix5 a b c d e ↔ ∃ f : Fin m5, ix6 a b c d e f = i := by
  constructor
  · intro k
    refine ⟨i 5, funext fun x => Fin.ext ?_⟩
    match x with
    | ⟨0, _⟩ => exact (congrArg Fin.val (congrFun k 0)).symm
    | ⟨1, _⟩ => exact (congrArg Fin.val (congrFun k 1)).symm
    | ⟨2, _⟩ => exact (congrArg Fin.val (congrFun k 2)).symm
    | ⟨3, _⟩ => exact (congrArg Fin.val (congrFun k 3)).symm
    | ⟨4, _⟩ => exact (congrArg Fin.val (congrFun k 4)).symm
    | ⟨5, _⟩ => rfl
  · rintro ⟨f, rfl⟩
    funext x
    fin_cases x <;> rfl

theorem fiber_rows (h : (⟨6, ![1, m1, m2, m3, m4, 1]⟩ : Shape).ReducesTo [1, 4] ⟨4, ![1, m2, m3, 1]⟩)
    (c : Fin m2) (d : Fin m3) (i : (⟨6, ![1, m1, m2, m3, m4, 1]⟩ : Shape).Idx) :
    h.drop i = ix4 0 c d 0 ↔ ∃ p : Fin m1 × Fin m4, ix6 0 p.1 c d p.2 0 = i := by
  constructor
  · intro k
    refine ⟨(i 1, i 4), funext fun x => Fin.ext ?_⟩
    match x with
    | ⟨0, _⟩ => exact (congrArg Fin.val (congrFun k 0)).symm
    | ⟨1, _⟩ => rfl
    | ⟨2, _⟩ => exact (congrArg Fin.val (congrFun k 1)).symm
    | ⟨3, _⟩ => exact (congrArg Fin.val (congrFun k 2)).symm
    | ⟨4, _⟩ => rfl
    | ⟨5, _⟩ => exact (congrArg Fin.val (congrFun k 3)).symm
  · rintro ⟨p, rfl⟩
    funext x
    fin_cases x <;> rfl

theorem fiber_ends (h : (⟨6, ![1, m1, m2, m3, m4, 1]⟩ : Shape).ReducesTo [0, 5] ⟨4, ![m1, m2, m3, m4]⟩)
    (b : Fin m1) (c : Fin m2) (d : Fin m3) (e : Fin m4) (i : (⟨6, ![1, m1, m2, m3, m4, 1]⟩ : Shape).Idx) :
    h.drop i = ix4 b c d e ↔ ∃ p : Fin 1 × Fin 1, ix6 p.1 b c d e p.2 = i := by
  constructor
  · intro k
    refine ⟨(i 0, i 5), funext fun x => Fin.ext ?_⟩
    match x with
    | ⟨0, _⟩ => rfl
    | ⟨1, _⟩ => exact (congrArg Fin.val (congrFun k 0)).symm
    | ⟨2, _⟩ => exact (congrArg Fin.val (congrFun k 1)).symm
    | ⟨3, _⟩ => exact (congrArg Fin.val (congrFun k 2)).symm
    | ⟨4, _⟩ => exact (congrArg Fin.val (congrFun k 3)).symm
    | ⟨5, _⟩ => rfl
  · rintro ⟨p, rfl⟩
    funext x
    fin_cases x <;> rfl

theorem fiber_units (h : (⟨6, ![1, 1, m2, m3, 1, 1]⟩ : Shape).ReducesTo [0, 1, 4, 5] ⟨2, ![m2, m3]⟩)
    (c : Fin m2) (d : Fin m3) (i : (⟨6, ![1, 1, m2, m3, 1, 1]⟩ : Shape).Idx) :
    h.drop i = ix2 c d ↔ ∃ _p : Unit, ix6 0 0 c d 0 0 = i := by
  constructor
  · intro k
    refine ⟨(), funext fun x => ?_⟩
    match x with
    | ⟨0, _⟩ => exact (Fin.eq_zero (i 0 : Fin 1)).symm
    | ⟨1, _⟩ => exact (Fin.eq_zero (i 1 : Fin 1)).symm
    | ⟨2, _⟩ => exact Fin.ext (congrArg Fin.val (congrFun k 0)).symm
    | ⟨3, _⟩ => exact Fin.ext (congrArg Fin.val (congrFun k 1)).symm
    | ⟨4, _⟩ => exact (Fin.eq_zero (i 4 : Fin 1)).symm
    | ⟨5, _⟩ => exact (Fin.eq_zero (i 5 : Fin 1)).symm
  · rintro ⟨p, rfl⟩
    funext x
    fin_cases x <;> rfl

/-! ## The sums and the maximum -/

section
variable {φ : FTy} {u : Shape} (z : FVec Ideal u φ) (hu : 0 < u.numel) (hz : ∀ i, z i = (0 : EReal))
include hz

theorem sum_filtered {s t : Shape} {dims : List (Fin s.rank)} (v : FVec Ideal s φ) (h : s.ReducesTo dims t) (j : t.Idx) :
    Host.reduceAdd v z h hu j = ∑ i ∈ Finset.univ.filter (fun i => h.drop i = j), (v i : EReal) := by
  have e : Host.reduceAdd v z h hu j = Ideal.hostReduceAdd h v (z (Shape.Idx.first hu)) j := rfl
  rw [e, hz]
  unfold Ideal.hostReduceAdd
  exact zero_add _

theorem sum_last (v : FVec Ideal ⟨6, ![m0, m1, m2, m3, m4, m5]⟩ φ) (h : (⟨6, ![m0, m1, m2, m3, m4, m5]⟩ : Shape).ReducesTo [5] ⟨5, ![m0, m1, m2, m3, m4]⟩)
    (a : Fin m0) (b : Fin m1) (c : Fin m2) (d : Fin m3) (e : Fin m4) :
    Host.reduceAdd v z h hu (ix5 a b c d e) = ∑ f : Fin m5, (v (ix6 a b c d e f) : EReal) := by
  rw [sum_filtered z hu hz]
  exact Finset.sum_filter_eq_sum_of_fiber _ (fun f : Fin m5 => ix6 a b c d e f) (fun _ _ k => congrFun k 5) (fiber_last h a b c d e) v

theorem sum_rows (v : FVec Ideal ⟨6, ![1, m1, m2, m3, m4, 1]⟩ φ) (h : (⟨6, ![1, m1, m2, m3, m4, 1]⟩ : Shape).ReducesTo [1, 4] ⟨4, ![1, m2, m3, 1]⟩)
    (c : Fin m2) (d : Fin m3) : Host.reduceAdd v z h hu (ix4 0 c d 0) = ∑ p : Fin m1 × Fin m4, (v (ix6 0 p.1 c d p.2 0) : EReal) := by
  rw [sum_filtered z hu hz]
  refine Finset.sum_filter_eq_sum_of_fiber _ (fun p : Fin m1 × Fin m4 => ix6 0 p.1 c d p.2 0) (fun p q k => ?_) (fiber_rows h c d) v
  exact Prod.ext (show p.1 = q.1 from congrFun k 1) (show p.2 = q.2 from congrFun k 4)

theorem sum_ends (v : FVec Ideal ⟨6, ![1, m1, m2, m3, m4, 1]⟩ φ) (h : (⟨6, ![1, m1, m2, m3, m4, 1]⟩ : Shape).ReducesTo [0, 5] ⟨4, ![m1, m2, m3, m4]⟩)
    (b : Fin m1) (c : Fin m2) (d : Fin m3) (e : Fin m4) : Host.reduceAdd v z h hu (ix4 b c d e) = (v (ix6 0 b c d e 0) : EReal) := by
  rw [sum_filtered z hu hz]
  refine (Finset.sum_filter_eq_sum_of_fiber _ (fun p : Fin 1 × Fin 1 => ix6 p.1 b c d e p.2)
    (fun _ _ _ => Subsingleton.elim _ _) (fiber_ends h b c d e) v).trans ?_
  exact Fintype.sum_subsingleton _ (0, 0)

theorem sum_units (v : FVec Ideal ⟨6, ![1, 1, m2, m3, 1, 1]⟩ φ) (h : (⟨6, ![1, 1, m2, m3, 1, 1]⟩ : Shape).ReducesTo [0, 1, 4, 5] ⟨2, ![m2, m3]⟩)
    (c : Fin m2) (d : Fin m3) : Host.reduceAdd v z h hu (ix2 c d) = (v (ix6 0 0 c d 0 0) : EReal) := by
  rw [sum_filtered z hu hz]
  refine (Finset.sum_filter_eq_sum_of_fiber _ (fun _ : Unit => ix6 0 0 c d 0 0) (fun _ _ _ => rfl) (fiber_units h c d) v).trans ?_
  exact Fintype.sum_subsingleton _ ()

end

theorem greatest_last {φ : FTy} {u : Shape} (z : FVec Ideal u φ) (hu : 0 < u.numel) (hz : ∀ i, z i = (⊥ : EReal))
    (v : FVec Ideal ⟨6, ![m0, m1, m2, m3, m4, m5]⟩ φ) (h : (⟨6, ![m0, m1, m2, m3, m4, m5]⟩ : Shape).ReducesTo [5] ⟨5, ![m0, m1, m2, m3, m4]⟩)
    (a : Fin m0) (b : Fin m1) (c : Fin m2) (d : Fin m3) (e : Fin m4) :
    Host.reduce FloatOps.maximumf v z h hu (ix5 a b c d e) = Finset.univ.fold max ⊥ (fun f : Fin m5 => (v (ix6 a b c d e f) : EReal)) := by
  refine (Host.reduce_eq_fold _ v z h hu _).trans ?_
  rw [hz]
  exact Finset.fold_filter_eq_fold_of_fiber max _ (fun f : Fin m5 => ix6 a b c d e f) (fun _ _ k => congrFun k 5) (fiber_last h a b c d e) _ v

end

end Attn.Ref

end
-- ==== Proof.AtRef.lean ====
/-
The reference's attention, read row by row: the band of keys and values, the scores, the weights and the gradients of the scores.
-/
module

public import proofs.«01_k».proof.Proof.AtSpec
public import proofs.«01_k».proof.Proof.AtPay
public import proofs.«01_k».proof.Proof.AtReduce
public import proofs.«01_k».proof.Proof.Gen.Reference2Ideal.Read
public import Idealize.ShloMosaic.Lib.Pointwise
public import Idealize.ShloMosaic.Lib.ValueIdxRank6

@[expose] public section

set_option maxRecDepth 16384

noncomputable section

namespace Attn.Ref

open Idealize.ShloMosaic Idealize.SL.Sem Finset Cert.Proof
open Cert.Reference2Ideal Cert.Reference2Ideal.Read

/-- A query's entry: block, group, head of the group, row, lane. -/
def qry (Q : ℕ → ℕ → ℝ) (n g h a d : ℕ) : ℝ := Q (128 * n + a) (256 * g + 64 * h + d)

/-- A key's: the block before, nothing before the first, then the block. -/
def bd (K : ℕ → ℕ → ℝ) (n b g d : ℕ) : ℝ := if 128 * n + b < 128 then 0 else K (128 * n + b - 128) (64 * g + d)

/-- A score. -/
def scR (Q K : ℕ → ℕ → ℝ) (n g h a b : ℕ) : ℝ := (∑ d : Fin 64, bd K n b g d.val * qry Q n g h a d.val) * (1 / 8)

/-- The gradient of a weight. -/
def dpR (D V : ℕ → ℕ → ℝ) (n g h a b : ℕ) : ℝ := ∑ d : Fin 64, qry D n g h a d.val * bd V n b g d.val

/-- The five arguments, as real arrays. -/
structure Args (x0 : FVec Ideal S8192x512 .f32) (x1 x2 : FVec Ideal S8192x128 .f32) (x3 : FVec Ideal S8 .f32) (x4 : FVec Ideal S8192x512 .f32)
    (Q K V : ℕ → ℕ → ℝ) (T : ℕ → ℝ) (D : ℕ → ℕ → ℝ) : Prop where
  q : ∀ (t : Fin 8192) (j : Fin 512), x0 (ix2 t j) = ((Q t.val j.val : ℝ) : EReal)
  k : ∀ (t : Fin 8192) (j : Fin 128), x1 (ix2 t j) = ((K t.val j.val : ℝ) : EReal)
  v : ∀ (t : Fin 8192) (j : Fin 128), x2 (ix2 t j) = ((V t.val j.val : ℝ) : EReal)
  s : ∀ i : Fin 8, x3 (ix1 i) = ((T i.val : ℝ) : EReal)
  d : ∀ (t : Fin 8192) (j : Fin 512), x4 (ix2 t j) = ((D t.val j.val : ℝ) : EReal)

section
variable (x0 x4 : FVec Ideal S8192x512 .f32) (x1 x2 : FVec Ideal S8192x128 .f32) (x3 : FVec Ideal S8 .f32)
  (Q K V D : ℕ → ℕ → ℝ) (T : ℕ → ℝ)

/-! ## Queries, keys, values and cotangents -/

theorem q_at (hq : ∀ (t : Fin 8192) (j : Fin 512), x0 (ix2 t j) = ((Q t.val j.val : ℝ) : EReal))
    (n : Fin 64) (a : Fin 128) (g : Fin 2) (h : Fin 4) (d : Fin 64) :
    val_main_v3 (F := Ideal) x0 (ix6 0 n a g h d) = ((qry Q n.val g.val h.val a.val d.val : ℝ) : EReal) := by
  have e : val_main_v3 (F := Ideal) x0 (ix6 0 n a g h d) = x0 (ix2 ⟨128 * n.val + a.val, by omega⟩ ⟨256 * g.val + 64 * h.val + d.val, by omega⟩) := by
    pointwise [val_main_v3, val_main_v0]
    congr 2 <;> exact Fin.ext (by simp only; omega)
  rw [e, hq]
  rfl

theorem da_at (hd : ∀ (t : Fin 8192) (j : Fin 512), x4 (ix2 t j) = ((D t.val j.val : ℝ) : EReal))
    (n : Fin 64) (a : Fin 128) (g : Fin 2) (h : Fin 4) (d : Fin 64) :
    val_main_v100 (F := Ideal) x4 (ix6 0 n g d h a) = ((qry D n.val g.val h.val a.val d.val : ℝ) : EReal) := by
  have e : val_main_v100 (F := Ideal) x4 (ix6 0 n g d h a) = x4 (ix2 ⟨128 * n.val + a.val, by omega⟩ ⟨256 * g.val + 64 * h.val + d.val, by omega⟩) := by
    pointwise [val_main_v100, val_main_v99, val_main_v98]
    congr 2 <;> exact Fin.ext (by simp only; omega)
  rw [e, hd]
  rfl

/-- A band's entry, from the block before where there is one. -/
theorem band_entry (x : FVec Ideal S8192x128 .f32) (Y : ℕ → ℕ → ℝ) (hy : ∀ (t : Fin 8192) (j : Fin 128), x (ix2 t j) = ((Y t.val j.val : ℝ) : EReal))
    (n : Fin 64) (b : Fin 256) (g : Fin 2) (d : Fin 64) {v : EReal} (h0 : n.val = 0 → b.val < 128 → v = 0)
    (h1 : ∀ t : Fin 8192, t.val + 128 = 128 * n.val + b.val → v = x (ix2 t ⟨64 * g.val + d.val, by omega⟩)) :
    v = ((bd Y n.val b.val g.val d.val : ℝ) : EReal) := by
  unfold bd
  split
  · next h => rw [h0 (by omega) (by omega), EReal.coe_zero]
  · next h => rw [h1 ⟨128 * n.val + b.val - 128, by omega⟩ (by simp only; omega), hy]

theorem k_at (hk : ∀ (t : Fin 8192) (j : Fin 128), x1 (ix2 t j) = ((K t.val j.val : ℝ) : EReal))
    (n : Fin 64) (b : Fin 256) (g : Fin 2) (d : Fin 64) :
    val_main_v10 (F := Ideal) x1 (ix5 0 n b g d) = ((bd K n.val b.val g.val d.val : ℝ) : EReal) := by
  pointwise [val_main_v10, val_main_v8, val_main_v7, val_main_v6, val_main_v4, val_main_v1, val_main_cst]
  refine band_entry x1 K hk n b g d (fun hn hb => ?_) fun t ht => ?_
  · rw [dif_pos hb, dif_pos (by omega)]
  · split
    · rw [dif_neg (by omega)]
      congr 2 <;> exact Fin.ext (by simp only; omega)
    · congr 2 <;> exact Fin.ext (by simp only; omega)

theorem v_at (hv : ∀ (t : Fin 8192) (j : Fin 128), x2 (ix2 t j) = ((V t.val j.val : ℝ) : EReal))
    (n : Fin 64) (b : Fin 256) (g : Fin 2) (d : Fin 64) :
    val_main_v17 (F := Ideal) x2 (ix5 0 n b g d) = ((bd V n.val b.val g.val d.val : ℝ) : EReal) := by
  pointwise [val_main_v17, val_main_v15, val_main_v14, val_main_v13, val_main_v11, val_main_v2, val_main_cst_1]
  refine band_entry x2 V hv n b g d (fun hn hb => ?_) fun t ht => ?_
  · rw [dif_pos hb, dif_pos (by omega)]
  · split
    · rw [dif_neg (by omega)]
      congr 2 <;> exact Fin.ext (by simp only; omega)
    · congr 2 <;> exact Fin.ext (by simp only; omega)

/-! ## The scores and the gradients of the weights -/

theorem score_at (hq : ∀ (t : Fin 8192) (j : Fin 512), x0 (ix2 t j) = ((Q t.val j.val : ℝ) : EReal))
    (hk : ∀ (t : Fin 8192) (j : Fin 128), x1 (ix2 t j) = ((K t.val j.val : ℝ) : EReal))
    (n : Fin 64) (g : Fin 2) (h : Fin 4) (a : Fin 128) (b : Fin 256) :
    val_main_v21 (F := Ideal) x0 x1 (ix6 0 n g h a b) = ((scR Q K n.val g.val h.val a.val b.val : ℝ) : EReal) := by
  have e : val_main_v21 (F := Ideal) x0 x1 (ix6 0 n g h a b) = (∑ d : Fin 64, val_main_v10 (F := Ideal) x1 (ix5 0 n b g d) * val_main_v3 (F := Ideal) x0 (ix6 0 n a g h d)) * Ideal.ofBits .f32 1040187392#32 := by
    pointwise [val_main_v21, val_main_v20, val_main_v19, val_main_v18, val_main_cst_3]
  rw [e]
  simp only [q_at x0 Q hq, k_at x1 K hk]
  rw [scR, EReal.coe_mul, bits_eighth, ← Reals.sum_coe]
  simp only [EReal.coe_mul]

theorem dprob_at (hv : ∀ (t : Fin 8192) (j : Fin 128), x2 (ix2 t j) = ((V t.val j.val : ℝ) : EReal))
    (hd : ∀ (t : Fin 8192) (j : Fin 512), x4 (ix2 t j) = ((D t.val j.val : ℝ) : EReal))
    (n : Fin 64) (g : Fin 2) (h : Fin 4) (a : Fin 128) (b : Fin 256) :
    val_main_v101 (F := Ideal) x2 x4 (ix6 0 n g h a b) = ((dpR D V n.val g.val h.val a.val b.val : ℝ) : EReal) := by
  have e : val_main_v101 (F := Ideal) x2 x4 (ix6 0 n g h a b)
      = ∑ d : Fin 64, val_main_v100 (F := Ideal) x4 (ix6 0 n g d h a) * val_main_v17 (F := Ideal) x2 (ix5 0 n b g d) := by
    pointwise [val_main_v101]
  rw [e]
  simp only [da_at x4 D hd, v_at x2 V hv]
  rw [dpR, ← Reals.sum_coe]
  simp only [EReal.coe_mul]

theorem in_window : ∀ (a : Fin 128) (b : Fin 256),
    IntOp.andi (IntOp.cmpi .sge (IntOp.subi (IntOp.addi (BitVec.ofNat 32 a.val) 128#32) (BitVec.ofNat 32 b.val)) 0#32)
      (IntOp.cmpi .slt (IntOp.subi (IntOp.addi (BitVec.ofNat 32 a.val) 128#32) (BitVec.ofNat 32 b.val)) 128#32)
      = if a.val < b.val ∧ b.val ≤ a.val + 128 then 1#1 else 0#1 := by decide +kernel

theorem in_band : ∀ (n : Fin 64) (b : Fin 256),
    IntOp.ori (IntOp.cmpi .sgt (BitVec.ofNat 32 n.val) 0#32) (IntOp.cmpi .sge (BitVec.ofNat 32 b.val) 128#32)
      = if 0 < n.val ∨ 128 ≤ b.val then 1#1 else 0#1 := by decide +kernel

theorem mask_at (n : Fin 64) (g : Fin 2) (h : Fin 4) (a : Fin 128) (b : Fin 256) :
    val_main_v51_1 (F := Ideal) (ix6 0 n g h a b) = if seen n.val a.val b.val then 1#1 else 0#1 := by
  have e : val_main_v51_1 (F := Ideal) (ix6 0 n g h a b) = IntOp.andi
      (IntOp.andi (IntOp.cmpi .sge (IntOp.subi (IntOp.addi (BitVec.ofNat 32 a.val) 128#32) (BitVec.ofNat 32 b.val)) 0#32)
        (IntOp.cmpi .slt (IntOp.subi (IntOp.addi (BitVec.ofNat 32 a.val) 128#32) (BitVec.ofNat 32 b.val)) 128#32))
      (IntOp.ori (IntOp.cmpi .sgt (BitVec.ofNat 32 n.val) 0#32) (IntOp.cmpi .sge (BitVec.ofNat 32 b.val) 128#32)) := by
    pointwise [val_main_v51_1, val_main_v50, val_main_v49, val_main_v48, val_main_v47, val_main_v46, val_main_v45, val_main_v44, val_main_v43, val_main_v42, val_main_v41,
      val_main_v40, val_main_v39, val_main_v38, val_main_v37, val_main_v36, val_main_v35, val_main_v34, val_main_v33, val_main_v32, val_main_v31, val_main_v30, val_main_v29,
      val_main_v28, val_main_v27, val_main_v26, val_main_v25, val_main_v24, val_main_v23, val_main_v22, val_main_c, val_main_c_4, val_main_c_5, val_main_c_6, val_main_c_7]
  rw [e, in_window, in_band, seen]
  by_cases h1 : a.val < b.val ∧ b.val ≤ a.val + 128 <;> by_cases h2 : 0 < n.val ∨ 128 ≤ b.val <;>
    simp only [h1, h2, if_true, if_false, decide_true, decide_false, and_self, and_true, true_and, and_false, false_and, ← and_assoc] <;> first | rfl | simp [IntOp.andi]

theorem choose_true (x y : EReal) : Scalar.select (1#1) x y = x := rfl

theorem choose_false (x y : EReal) : Scalar.select (0#1) x y = y := rfl

theorem masked_at (n : Fin 64) (g : Fin 2) (h : Fin 4) (a : Fin 128) (b : Fin 256)
    (hs : val_main_v21 (F := Ideal) x0 x1 (ix6 0 n g h a b) = ((scR Q K n.val g.val h.val a.val b.val : ℝ) : EReal)) :
    val_main_v51_0 (F := Ideal) x0 x1 (ix6 0 n g h a b) = score (seen n.val a.val) (scR Q K n.val g.val h.val a.val) b.val := by
  have e : val_main_v51_0 (F := Ideal) x0 x1 (ix6 0 n g h a b)
      = Scalar.select (val_main_v51_1 (F := Ideal) (ix6 0 n g h a b)) (val_main_v21 (F := Ideal) x0 x1 (ix6 0 n g h a b)) (Ideal.ofBits .f32 4286578688#32) := by
    pointwise [val_main_v51_0, val_main_call0_v2, val_main_call0_v0, val_main_cst_8]
    rfl
  rw [e, mask_at, hs, bits_bot, score]
  split
  · rw [choose_true]
  · rw [choose_false]

theorem zeros (i : S_.Idx) : (constant S_ .f32 0x00000000#32 : FVec Ideal S_ .f32) i = (0 : EReal) := Ideal.ofBits_zero .f32

theorem sink_at (hs : ∀ i : Fin 8, x3 (ix1 i) = ((T i.val : ℝ) : EReal)) (n : Fin 64) (g : Fin 2) (h : Fin 4) (a : Fin 128) :
    val_main_v61 (F := Ideal) x3 (ix6 0 n g h a 0) = ((T (4 * g.val + h.val) : ℝ) : EReal) := by
  have e : val_main_v61 (F := Ideal) x3 (ix6 0 n g h a 0) = x3 (ix1 ⟨4 * g.val + h.val, by omega⟩) := by
    pointwise [val_main_v61, val_main_v53, val_main_v52]
    congr 2 <;> exact Fin.ext (by simp only; omega)
  rw [e, hs]

end

end Attn.Ref

end
-- ==== Proof.AtRow.lean ====
/-
The reference's weights and the gradients of its scores and of its sinks, row by row.
-/
module

public import proofs.«01_k».proof.Proof.AtRef

@[expose] public section

set_option maxRecDepth 16384

noncomputable section

namespace Attn.Ref

open Idealize.ShloMosaic Idealize.SL.Sem Finset Cert.Proof
open Cert.Reference2Ideal Cert.Reference2Ideal.Read

section
variable (x0 x4 : FVec Ideal S8192x512 .f32) (x1 x2 : FVec Ideal S8192x128 .f32) (x3 : FVec Ideal S8 .f32)
  (Q K V D : ℕ → ℕ → ℝ) (T : ℕ → ℝ)

theorem bits_one : Ideal.ofBits .f32 0x3F800000#32 = ((1 : ℝ) : EReal) := by
  simp [Ideal.ofBits, Ideal.ieee, -EReal.coe_mul]; norm_num

theorem found (x : Ideal .f32) : (FloatOps.uitofp (F := Ideal) .f32 (FloatOps.cmpf (F := Ideal) (φ := .f32) .oeq x x) : EReal) = 1 := by
  show (((Ideal.cmp .oeq x x).toNat : ℝ) : EReal) = 1
  simp [Ideal.cmp]

theorem max_at (n : Fin 64) (g : Fin 2) (h : Fin 4) (a : Fin 128) :
    val_main_v62 (F := Ideal) x0 x1 x3 (ix6 0 n g h a 0)
      = max (val_main_v54 (F := Ideal) x0 x1 (ix5 0 n g h a) : EReal) (val_main_v61 (F := Ideal) x3 (ix6 0 n g h a 0)) := by
  have hi : idx_main_v60 (ix6 0 n g h a 0) = ix5 0 n g h a := by
    funext d
    fin_cases d <;> rfl
  rw [val_main_v62_apply, val_main_v60_apply, hi]
  rfl

theorem row_max (n : Fin 64) (g : Fin 2) (h : Fin 4) (a : Fin 128) :
    (val_main_v54 (F := Ideal) x0 x1 (ix5 0 n g h a) : EReal)
      = Finset.univ.fold max ⊥ fun b : Fin 256 => (val_main_v51_0 (F := Ideal) x0 x1 (ix6 0 n g h a b) : EReal) := by
  unfold val_main_v54
  generalize val_main_v51_0 (F := Ideal) x0 x1 = y
  exact greatest_last _ _ (fun _ => bits_bot) y _ 0 n g h a

theorem row_sum {y : FVec Ideal S1x64x2x4x128x256 .f32} {z : FVec Ideal S_ .f32} (hz : ∀ i, z i = (0 : EReal)) (hr : S1x64x2x4x128x256.ReducesTo [5] S1x64x2x4x128) (hu : 0 < S_.numel)
    (n : Fin 64) (g : Fin 2) (h : Fin 4) (a : Fin 128) {f : ℕ → ℝ} (hy : ∀ b : Fin 256, y (ix6 0 n g h a b) = ((f b.val : ℝ) : EReal)) :
    Host.reduceAdd y z hr hu (ix5 0 n g h a) = ((∑ b : Fin 256, f b.val : ℝ) : EReal) := by
  refine (sum_last z hu hz y hr 0 n g h a).trans ?_
  rw [← Reals.sum_coe]
  exact Finset.sum_congr rfl fun b _ => hy b

variable (A : Args x0 x1 x2 x3 x4 Q K V T D)
include A

section
variable (n : Fin 64) (g : Fin 2) (h : Fin 4) (a : Fin 128)

/-- The exponentials, all scaled by one positive number. -/
theorem exps_at : ∃ E : ℝ, 0 < E
    ∧ (∀ b : Fin 256, val_main_v83 (F := Ideal) x0 x1 x3 (ix6 0 n g h a b) = ((wt (seen n.val a.val) (scR Q K n.val g.val h.val a.val) b.val * E : ℝ) : EReal))
    ∧ val_main_v88 (F := Ideal) x0 x1 x3 (ix6 0 n g h a 0) = ((Real.exp (T (4 * g.val + h.val)) * E : ℝ) : EReal) := by
  have hs : ∀ b : Fin 256, val_main_v51_0 (F := Ideal) x0 x1 (ix6 0 n g h a b) = score (seen n.val a.val) (scR Q K n.val g.val h.val a.val) b.val :=
    fun b => masked_at x0 x1 Q K n g h a b (score_at x0 x1 Q K A.q A.k n g h a b)
  have hk := sink_at x3 T A.s n g h a
  obtain ⟨M, hM⟩ := top_real Finset.univ (fun b : Fin 256 => score (seen n.val a.val) (scR Q K n.val g.val h.val a.val) b.val) (fun b => score_ne_top _ _ _) (T (4 * g.val + h.val))
  have h62 : val_main_v62 (F := Ideal) x0 x1 x3 (ix6 0 n g h a 0) = (M : EReal) := by
    rw [max_at, row_max, hk, ← hM]
    simp only [hs]
  refine ⟨Real.exp (-M), Real.exp_pos _, fun b => ?_, ?_⟩
  · have e : val_main_v83 (F := Ideal) x0 x1 x3 (ix6 0 n g h a b)
        = Ideal.exp (val_main_v51_0 (F := Ideal) x0 x1 (ix6 0 n g h a b) - val_main_v62 (F := Ideal) x0 x1 x3 (ix6 0 n g h a 0)) := by
      pointwise [val_main_v83, val_main_v82, val_main_v81]
    rw [e, hs, h62, exp_score]
  · have e : val_main_v88 (F := Ideal) x0 x1 x3 (ix6 0 n g h a 0)
        = Ideal.exp (val_main_v61 (F := Ideal) x3 (ix6 0 n g h a 0) - val_main_v62 (F := Ideal) x0 x1 x3 (ix6 0 n g h a 0)) := by
      pointwise [val_main_v88, val_main_v87, val_main_v86, val_main_v61]
    rw [e, hk, h62, exp_sink]

section
variable {E : ℝ} (hE : 0 < E)
  (h83 : ∀ b : Fin 256, val_main_v83 (F := Ideal) x0 x1 x3 (ix6 0 n g h a b) = ((wt (seen n.val a.val) (scR Q K n.val g.val h.val a.val) b.val * E : ℝ) : EReal))
  (h88 : val_main_v88 (F := Ideal) x0 x1 x3 (ix6 0 n g h a 0) = ((Real.exp (T (4 * g.val + h.val)) * E : ℝ) : EReal))
include hE h83 h88

theorem sum_at : val_main_v89 (F := Ideal) x0 x1 x3 (ix6 0 n g h a 0) = ((total (seen n.val a.val) (scR Q K n.val g.val h.val a.val) (T (4 * g.val + h.val)) * E : ℝ) : EReal) := by
  have e : val_main_v89 (F := Ideal) x0 x1 x3 (ix6 0 n g h a 0)
      = val_main_v84 (F := Ideal) x0 x1 x3 (ix5 0 n g h a) + val_main_v88 (F := Ideal) x0 x1 x3 (ix6 0 n g h a 0) := by
    pointwise [val_main_v89, val_main_v85]
  have e2 : val_main_v84 (F := Ideal) x0 x1 x3 (ix5 0 n g h a) = ((∑ b : Fin 256, wt (seen n.val a.val) (scR Q K n.val g.val h.val a.val) b.val * E : ℝ) : EReal) :=
    row_sum zeros _ _ n g h a (f := fun b => wt (seen n.val a.val) (scR Q K n.val g.val h.val a.val) b * E) h83
  rw [e, e2, h88, ← EReal.coe_add, total_scaled]

theorem prob_of : ∀ b : Fin 256, val_main_v91 (F := Ideal) x0 x1 x3 (ix6 0 n g h a b) = ((prb (seen n.val a.val) (scR Q K n.val g.val h.val a.val) (T (4 * g.val + h.val)) b.val : ℝ) : EReal) := by
  intro b
  have e : val_main_v91 (F := Ideal) x0 x1 x3 (ix6 0 n g h a b)
      = Ideal.div (val_main_v83 (F := Ideal) x0 x1 x3 (ix6 0 n g h a b)) (val_main_v89 (F := Ideal) x0 x1 x3 (ix6 0 n g h a 0)) := by
    pointwise [val_main_v91, val_main_v90]
  have := total_pos (seen n.val a.val) (scR Q K n.val g.val h.val a.val) (T (4 * g.val + h.val))
  rw [e, sum_at x0 x4 x1 x2 x3 Q K V D T A n g h a hE h83 h88, h83, Reals.div_coe_coe _ _ (by positivity)]
  congr 1
  unfold prb
  field_simp

theorem mean_of : val_main_v109 (F := Ideal) x0 x1 x2 x3 x4 (ix6 0 n g h a 0) = ((-(mean (seen n.val a.val) (scR Q K n.val g.val h.val a.val) (dpR D V n.val g.val h.val a.val) (T (4 * g.val + h.val)) / (total (seen n.val a.val) (scR Q K n.val g.val h.val a.val) (T (4 * g.val + h.val)) * E)) : ℝ) : EReal) := by
  have e : val_main_v109 (F := Ideal) x0 x1 x2 x3 x4 (ix6 0 n g h a 0) = -val_main_v107 (F := Ideal) x0 x1 x2 x3 x4 (ix5 0 n g h a) := by
    pointwise [val_main_v109, val_main_v108]
  have ht := total_pos (seen n.val a.val) (scR Q K n.val g.val h.val a.val) (T (4 * g.val + h.val))
  have h106 : ∀ b : Fin 256, val_main_v106 (F := Ideal) x0 x1 x2 x3 x4 (ix6 0 n g h a b)
      = ((prb (seen n.val a.val) (scR Q K n.val g.val h.val a.val) (T (4 * g.val + h.val)) b.val * (dpR D V n.val g.val h.val a.val) b.val / (total (seen n.val a.val) (scR Q K n.val g.val h.val a.val) (T (4 * g.val + h.val)) * E) : ℝ) : EReal) := by
    intro b
    have e : val_main_v106 (F := Ideal) x0 x1 x2 x3 x4 (ix6 0 n g h a b)
        = val_main_v101 (F := Ideal) x2 x4 (ix6 0 n g h a b)
            * Ideal.div (Ideal.ofBits .f32 0x3F800000#32) (val_main_v89 (F := Ideal) x0 x1 x3 (ix6 0 n g h a 0) * val_main_v89 (F := Ideal) x0 x1 x3 (ix6 0 n g h a 0))
            * val_main_v83 (F := Ideal) x0 x1 x3 (ix6 0 n g h a b) := by
      pointwise [val_main_v106, val_main_v105, val_main_v104, val_main_v94, val_main_v93, val_main_v92, val_main_cst_18]
    rw [e, sum_at x0 x4 x1 x2 x3 Q K V D T A n g h a hE h83 h88, h83, dprob_at x4 x2 V D A.v A.d, bits_one, ← EReal.coe_mul,
      Reals.div_coe_coe _ _ (by positivity), ← EReal.coe_mul, ← EReal.coe_mul]
    congr 1
    unfold prb
    field_simp
  have e2 : val_main_v107 (F := Ideal) x0 x1 x2 x3 x4 (ix5 0 n g h a) = ((∑ b : Fin 256, prb (seen n.val a.val) (scR Q K n.val g.val h.val a.val) (T (4 * g.val + h.val)) b.val * (dpR D V n.val g.val h.val a.val) b.val / (total (seen n.val a.val) (scR Q K n.val g.val h.val a.val) (T (4 * g.val + h.val)) * E) : ℝ) : EReal) :=
    row_sum zeros _ _ n g h a (f := fun b => prb (seen n.val a.val) (scR Q K n.val g.val h.val a.val) (T (4 * g.val + h.val)) b * (dpR D V n.val g.val h.val a.val) b / (total (seen n.val a.val) (scR Q K n.val g.val h.val a.val) (T (4 * g.val + h.val)) * E)) h106
  rw [e, e2, ← EReal.coe_neg, mean, sum_div]

theorem dsink_of : val_main_v112 (F := Ideal) x0 x1 x2 x3 x4 (ix6 0 n g h a 0) = ((dsk (seen n.val a.val) (scR Q K n.val g.val h.val a.val) (dpR D V n.val g.val h.val a.val) (T (4 * g.val + h.val)) : ℝ) : EReal) := by
  have ht := total_pos (seen n.val a.val) (scR Q K n.val g.val h.val a.val) (T (4 * g.val + h.val))
  rw [val_main_v112_apply, mean_of x0 x4 x1 x2 x3 Q K V D T A n g h a hE h83 h88, h88]
  refine (EReal.coe_mul _ _).symm.trans (congrArg _ ?_)
  unfold dsk prbSink
  field_simp

theorem dscore_of : ∀ b : Fin 256, val_main_v120 (F := Ideal) x0 x1 x2 x3 x4 (ix6 0 n g h a b) = ((dsc (seen n.val a.val) (scR Q K n.val g.val h.val a.val) (dpR D V n.val g.val h.val a.val) (T (4 * g.val + h.val)) b.val : ℝ) : EReal) := by
  intro b
  have ht := total_pos (seen n.val a.val) (scR Q K n.val g.val h.val a.val) (T (4 * g.val + h.val))
  have e : val_main_v118 (F := Ideal) x0 x1 x2 x3 x4 (ix6 0 n g h a b) = val_main_v116 (F := Ideal) x0 x1 x2 x3 x4 (ix4 n g h a) := by
    pointwise [val_main_v118, val_main_v117]
  have e2 : val_main_v116 (F := Ideal) x0 x1 x2 x3 x4 (ix4 n g h a) = val_main_v109 (F := Ideal) x0 x1 x2 x3 x4 (ix6 0 n g h a 0) :=
    sum_ends _ _ zeros _ _ n g h a
  have e3 : val_main_v120 (F := Ideal) x0 x1 x2 x3 x4 (ix6 0 n g h a b)
      = (Ideal.div (val_main_v101 (F := Ideal) x2 x4 (ix6 0 n g h a b)) (val_main_v89 (F := Ideal) x0 x1 x3 (ix6 0 n g h a 0))
          + val_main_v118 (F := Ideal) x0 x1 x2 x3 x4 (ix6 0 n g h a b)) * val_main_v83 (F := Ideal) x0 x1 x3 (ix6 0 n g h a b) := by
    pointwise [val_main_v120, val_main_v119, val_main_v111, val_main_v110]
  rw [e3, e, e2, mean_of x0 x4 x1 x2 x3 Q K V D T A n g h a hE h83 h88, h83, sum_at x0 x4 x1 x2 x3 Q K V D T A n g h a hE h83 h88, dprob_at x4 x2 V D A.v A.d,
    Reals.div_coe_coe _ _ (by positivity), ← EReal.coe_add, ← EReal.coe_mul]
  congr 1
  unfold dsc prb
  field_simp
  ring

/-- What would come through the greatest score: nothing. -/
theorem through_max : val_main_v124 (F := Ideal) x0 x1 x2 x3 x4 (ix6 0 n g h a 0) = 0 := by
  have ht := total_pos (seen n.val a.val) (scR Q K n.val g.val h.val a.val) (T (4 * g.val + h.val))
  have e : val_main_v124 (F := Ideal) x0 x1 x2 x3 x4 (ix6 0 n g h a 0)
      = -val_main_v112 (F := Ideal) x0 x1 x2 x3 x4 (ix6 0 n g h a 0) + val_main_v122 (F := Ideal) x0 x1 x2 x3 x4 (ix5 0 n g h a) := by
    pointwise [val_main_v124, val_main_v115, val_main_v123]
  have h121 : ∀ b : Fin 256, val_main_v121 (F := Ideal) x0 x1 x2 x3 x4 (ix6 0 n g h a b) = ((-dsc (seen n.val a.val) (scR Q K n.val g.val h.val a.val) (dpR D V n.val g.val h.val a.val) (T (4 * g.val + h.val)) b.val : ℝ) : EReal) := by
    intro b
    rw [val_main_v121_apply, dscore_of x0 x4 x1 x2 x3 Q K V D T A n g h a hE h83 h88]
    exact (EReal.coe_neg _).symm
  have e2 : val_main_v122 (F := Ideal) x0 x1 x2 x3 x4 (ix5 0 n g h a) = ((∑ b : Fin 256, -dsc (seen n.val a.val) (scR Q K n.val g.val h.val a.val) (dpR D V n.val g.val h.val a.val) (T (4 * g.val + h.val)) b.val : ℝ) : EReal) :=
    row_sum zeros _ _ n g h a (f := fun b => -dsc (seen n.val a.val) (scR Q K n.val g.val h.val a.val) (dpR D V n.val g.val h.val a.val) (T (4 * g.val + h.val)) b) h121
  rw [e, e2, dsink_of x0 x4 x1 x2 x3 Q K V D T A n g h a hE h83 h88, ← EReal.coe_neg, ← EReal.coe_add, sum_dsc, EReal.coe_zero]

end

theorem prob_at (b : Fin 256) : val_main_v91 (F := Ideal) x0 x1 x3 (ix6 0 n g h a b) = ((prb (seen n.val a.val) (scR Q K n.val g.val h.val a.val) (T (4 * g.val + h.val)) b.val : ℝ) : EReal) := by
  obtain ⟨E, hE, h83, h88⟩ := exps_at x0 x4 x1 x2 x3 Q K V D T A n g h a
  exact prob_of x0 x4 x1 x2 x3 Q K V D T A n g h a hE h83 h88 b

theorem dsink_at : val_main_v112 (F := Ideal) x0 x1 x2 x3 x4 (ix6 0 n g h a 0) = ((dsk (seen n.val a.val) (scR Q K n.val g.val h.val a.val) (dpR D V n.val g.val h.val a.val) (T (4 * g.val + h.val)) : ℝ) : EReal) := by
  obtain ⟨E, hE, h83, h88⟩ := exps_at x0 x4 x1 x2 x3 Q K V D T A n g h a
  exact dsink_of x0 x4 x1 x2 x3 Q K V D T A n g h a hE h83 h88

theorem max_none : val_main_v124 (F := Ideal) x0 x1 x2 x3 x4 (ix6 0 n g h a 0) = 0 := by
  obtain ⟨E, hE, h83, h88⟩ := exps_at x0 x4 x1 x2 x3 Q K V D T A n g h a
  exact through_max x0 x4 x1 x2 x3 Q K V D T A n g h a hE h83 h88

/-- Some key has the greatest score, so those that have it are counted by more than zero. -/
theorem count_at : val_main_v59 (F := Ideal) x0 x1 (ix5 0 n g h a) ≠ 0 := by
  have e : val_main_v59 (F := Ideal) x0 x1 (ix5 0 n g h a) = ∑ b : Fin 256, (val_main_v58 (F := Ideal) x0 x1 (ix6 0 n g h a b) : EReal) :=
    sum_last _ _ zeros _ _ 0 n g h a
  have e8 : ∀ b : Fin 256, (val_main_v58 (F := Ideal) x0 x1 (ix6 0 n g h a b) : EReal)
      = FloatOps.uitofp (F := Ideal) .f32 (FloatOps.cmpf (F := Ideal) (φ := .f32) .oeq (val_main_v51_0 (F := Ideal) x0 x1 (ix6 0 n g h a b)) (val_main_v54 (F := Ideal) x0 x1 (ix5 0 n g h a))) := by
    intro b
    pointwise [val_main_v58, val_main_v57, val_main_v56, val_main_v55]
  obtain ⟨b₀, -, hb⟩ := Finset.exists_mem_eq_sup Finset.univ Finset.univ_nonempty fun b : Fin 256 => (val_main_v51_0 (F := Ideal) x0 x1 (ix6 0 n g h a b) : EReal)
  have hm : (val_main_v54 (F := Ideal) x0 x1 (ix5 0 n g h a) : EReal) = val_main_v51_0 (F := Ideal) x0 x1 (ix6 0 n g h a b₀) :=
    (row_max x0 x1 n g h a).trans hb
  have h1 : (val_main_v58 (F := Ideal) x0 x1 (ix6 0 n g h a b₀) : EReal) = 1 := by
    rw [e8, hm, found]
  have h0 : ∀ b ∈ Finset.univ, 0 ≤ (val_main_v58 (F := Ideal) x0 x1 (ix6 0 n g h a b) : EReal) := fun b _ => by
    rw [e8]
    exact EReal.coe_nonneg.mpr (Nat.cast_nonneg _)
  rw [e]
  exact (lt_of_lt_of_le (by rw [h1]; exact zero_lt_one) (Finset.single_le_sum h0 (Finset.mem_univ b₀))).ne'

theorem dscore_at (b : Fin 256) : val_main_v138 (F := Ideal) x0 x1 x2 x3 x4 (ix6 0 n g h a b) = ((dsc (seen n.val a.val) (scR Q K n.val g.val h.val a.val) (dpR D V n.val g.val h.val a.val) (T (4 * g.val + h.val)) b.val : ℝ) : EReal) := by
  obtain ⟨E, hE, h83, h88⟩ := exps_at x0 x4 x1 x2 x3 Q K V D T A n g h a
  have e : val_main_v133 (F := Ideal) x0 x1 x2 x3 x4 (ix6 0 n g h a b)
      = Ideal.div (val_main_v130 (F := Ideal) x0 x1 x2 x3 x4 (ix4 n g h a)) (val_main_v59 (F := Ideal) x0 x1 (ix5 0 n g h a)) := by
    pointwise [val_main_v133, val_main_v132, val_main_v131]
  have e2 : val_main_v130 (F := Ideal) x0 x1 x2 x3 x4 (ix4 n g h a) = val_main_v129 (F := Ideal) x0 x1 x2 x3 x4 (ix6 0 n g h a 0) :=
    sum_ends _ _ zeros _ _ n g h a
  have e3 : val_main_v129 (F := Ideal) x0 x1 x2 x3 x4 (ix6 0 n g h a 0) = 0 := by
    rw [val_main_v129_apply, max_none x0 x4 x1 x2 x3 Q K V D T A]
    exact zero_mul _
  have e4 : val_main_v138 (F := Ideal) x0 x1 x2 x3 x4 (ix6 0 n g h a b)
      = Scalar.select (val_main_v51_1 (F := Ideal) (ix6 0 n g h a b))
          (val_main_v120 (F := Ideal) x0 x1 x2 x3 x4 (ix6 0 n g h a b) + val_main_v133 (F := Ideal) x0 x1 x2 x3 x4 (ix6 0 n g h a b) * val_main_v58 (F := Ideal) x0 x1 (ix6 0 n g h a b))
          (Ideal.ofBits .f32 0x00000000#32) := by
    pointwise [val_main_v138, val_main_v135, val_main_v134, val_main_call1_v0, val_main_call1_cst]
  rw [e4, e, e2, e3, Ideal.zero_div (count_at x0 x4 x1 x2 x3 Q K V D T A n g h a), zero_mul, add_zero, dscore_of x0 x4 x1 x2 x3 Q K V D T A n g h a hE h83 h88,
    mask_at]
  split
  · rw [choose_true]
  · next hn => rw [choose_false, Ideal.ofBits_zero .f32, dsc_unseen _ _ _ _ (Bool.eq_false_iff.mpr hn), EReal.coe_zero]

end

end

end Attn.Ref

end
-- ==== Proof.AtRefOut.lean ====
/-
The reference's four results over the reals.
-/
module

public import proofs.«01_k».proof.Proof.AtRow

@[expose] public section

set_option maxRecDepth 16384

noncomputable section

namespace Attn.Ref

open Idealize.ShloMosaic Idealize.SL.Sem Finset Cert.Proof
open Cert.Reference2Ideal Cert.Reference2Ideal.Read

section
variable (Q K V D : ℕ → ℕ → ℝ) (T : ℕ → ℝ)

/-- A weight, -/
def pW (n g h a b : ℕ) : ℝ := prb (seen n a) (scR Q K n g h a) (T (4 * g + h)) b

/-- a score's gradient, -/
def dW (n g h a b : ℕ) : ℝ := dsc (seen n a) (scR Q K n g h a) (dpR D V n g h a) (T (4 * g + h)) b

/-- a sink's, -/
def sW (n g h a : ℕ) : ℝ := dsk (seen n a) (scR Q K n g h a) (dpR D V n g h a) (T (4 * g + h))

/-- a query's, -/
def dqF (s j : ℕ) : ℝ :=
  ∑ b : Fin 256, dW Q K V D T (s / 128) (j / 64 / 4) (j / 64 % 4) (s % 128) b.val * (1 / 8) * bd K (s / 128) b.val (j / 64 / 4) (j % 64)

/-- what a block adds to its band of keys, -/
def keyAdd (n b g d : ℕ) : ℝ := ∑ a : Fin 128, ∑ h : Fin 4, dW Q K V D T n g h.val a.val b * (1 / 8) * qry Q n g h.val a.val d

/-- to its band of values, -/
def valAdd (n b g d : ℕ) : ℝ := ∑ h : Fin 4, ∑ a : Fin 128, qry D n g h.val a.val d * pW Q K T n g h.val a.val b

/-- and a row's, from the block it is in and the one after. -/
def overlap (w : ℕ → ℕ → ℕ → ℕ → ℝ) (s c : ℕ) : ℝ :=
  w (s / 128) (128 + s % 128) (c / 64) (c % 64) + if s / 128 < 63 then w (1 + s / 128) (s % 128) (c / 64) (c % 64) else 0

end

section
variable (x0 x4 : FVec Ideal S8192x512 .f32) (x1 x2 : FVec Ideal S8192x128 .f32) (x3 : FVec Ideal S8 .f32)
  (Q K V D : ℕ → ℕ → ℝ) (T : ℕ → ℝ) (A : Args x0 x1 x2 x3 x4 Q K V T D)
include A

theorem dq_at (s : Fin 8192) (j : Fin 512) :
    val_main_v163 (F := Ideal) x0 x1 x2 x3 x4 (ix2 s j) = ((dqF Q K V D T s.val j.val : ℝ) : EReal) := by
  have e : val_main_v163 (F := Ideal) x0 x1 x2 x3 x4 (ix2 s j)
      = ∑ b : Fin 256, val_main_v138 (F := Ideal) x0 x1 x2 x3 x4 (ix6 0 ⟨s.val / 128, by omega⟩ ⟨j.val / 64 / 4, by omega⟩ ⟨j.val / 64 % 4, by omega⟩ ⟨s.val % 128, by omega⟩ b)
          * Ideal.ofBits .f32 1040187392#32 * val_main_v10 (F := Ideal) x1 (ix5 0 ⟨s.val / 128, by omega⟩ b ⟨j.val / 64 / 4, by omega⟩ ⟨j.val % 64, by omega⟩) := by
    pointwise [val_main_v163, val_main_v160, val_main_v143, val_main_v142, val_main_v141, val_main_v140, val_main_v139, val_main_cst_26]
  rw [e, dqF, ← Reals.sum_coe]
  refine sum_congr rfl fun b _ => ?_
  rw [dscore_at x0 x4 x1 x2 x3 Q K V D T A, k_at x1 K A.k, bits_eighth, ← EReal.coe_mul, ← EReal.coe_mul]
  rfl

theorem key_at (n : Fin 64) (b : Fin 256) (g : Fin 2) (d : Fin 64) :
    val_main_v145 (F := Ideal) x0 x1 x2 x3 x4 (ix5 0 n b g d) = ((keyAdd Q K V D T n.val b.val g.val d.val : ℝ) : EReal) := by
  have e : val_main_v145 (F := Ideal) x0 x1 x2 x3 x4 (ix5 0 n b g d)
      = ∑ a : Fin 128, ∑ h : Fin 4, val_main_v138 (F := Ideal) x0 x1 x2 x3 x4 (ix6 0 n g h a b) * Ideal.ofBits .f32 1040187392#32 * val_main_v3 (F := Ideal) x0 (ix6 0 n a g h d) := by
    pointwise [val_main_v145, val_main_v144, val_main_v141, val_main_v140, val_main_v139, val_main_cst_26]
  rw [e, keyAdd, ← Reals.sum_coe]
  refine sum_congr rfl fun a _ => ?_
  rw [← Reals.sum_coe]
  refine sum_congr rfl fun h _ => ?_
  rw [dscore_at x0 x4 x1 x2 x3 Q K V D T A, q_at x0 Q A.q, bits_eighth, ← EReal.coe_mul, ← EReal.coe_mul]
  rfl

theorem val_at (n : Fin 64) (b : Fin 256) (g : Fin 2) (d : Fin 64) :
    val_main_v103 (F := Ideal) x0 x1 x3 x4 (ix5 0 n b g d) = ((valAdd Q K D T n.val b.val g.val d.val : ℝ) : EReal) := by
  have e : val_main_v103 (F := Ideal) x0 x1 x3 x4 (ix5 0 n b g d)
      = ∑ h : Fin 4, ∑ a : Fin 128, val_main_v100 (F := Ideal) x4 (ix6 0 n g d h a) * val_main_v91 (F := Ideal) x0 x1 x3 (ix6 0 n g h a b) := by
    pointwise [val_main_v103, val_main_v102]
  rw [e, valAdd, ← Reals.sum_coe]
  refine sum_congr rfl fun h _ => ?_
  rw [← Reals.sum_coe]
  refine sum_congr rfl fun a _ => ?_
  rw [prob_at x0 x4 x1 x2 x3 Q K V D T A, da_at x4 D A.d, ← EReal.coe_mul]
  rfl

omit A in
/-- A row's two parts, where both are real. -/
theorem overlap_at (w : ℕ → ℕ → ℕ → ℕ → ℝ) (y : FVec Ideal S1x64x256x2x64 .f32) (hy : ∀ (n : Fin 64) (b : Fin 256) (g : Fin 2) (d : Fin 64), y (ix5 0 n b g d) = ((w n.val b.val g.val d.val : ℝ) : EReal))
    (s : Fin 8192) (c : Fin 128) {v : EReal} (h : v = y (ix5 0 ⟨s.val / 128, by omega⟩ ⟨128 + s.val % 128, by omega⟩ ⟨c.val / 64, by omega⟩ ⟨c.val % 64, by omega⟩)
        + if _ : s.val / 128 < 63 ∧ s.val % 128 < 128 ∧ c.val / 64 < 2 ∧ c.val % 64 < 64 then
            y (ix5 0 ⟨1 + s.val / 128, by omega⟩ ⟨s.val % 128, by omega⟩ ⟨c.val / 64, by omega⟩ ⟨c.val % 64, by omega⟩) else (0 : EReal)) :
    v = ((overlap w s.val c.val : ℝ) : EReal) := by
  rw [h, hy, overlap, EReal.coe_add]
  congr 1
  split
  · next k => rw [hy, if_pos k.1]
  · next k => rw [if_neg (by omega), EReal.coe_zero]

theorem dk_at (s : Fin 8192) (c : Fin 128) :
    val_main_v162 (F := Ideal) x0 x1 x2 x3 x4 (ix2 s c) = ((overlap (keyAdd Q K V D T) s.val c.val : ℝ) : EReal) := by
  refine overlap_at _ (val_main_v145 (F := Ideal) x0 x1 x2 x3 x4) (key_at x0 x4 x1 x2 x3 Q K V D T A) s c ?_
  pointwise [val_main_v162, val_main_v159, val_main_v158, val_main_v157, val_main_v156, val_main_v154, val_main_v153, val_main_cst_28]

theorem dv_at (s : Fin 8192) (c : Fin 128) :
    val_main_v161 (F := Ideal) x0 x1 x3 x4 (ix2 s c) = ((overlap (valAdd Q K D T) s.val c.val : ℝ) : EReal) := by
  refine overlap_at _ (val_main_v103 (F := Ideal) x0 x1 x3 x4) (val_at x0 x4 x1 x2 x3 Q K V D T A) s c ?_
  pointwise [val_main_v161, val_main_v152, val_main_v151, val_main_v150, val_main_v149, val_main_v147, val_main_v146, val_main_cst_27]

theorem dsinks_at (i : Fin 8) : val_main_v137 (F := Ideal) x0 x1 x2 x3 x4 (ix1 i)
    = ((∑ p : Fin 64 × Fin 128, sW Q K V D T p.1.val (i.val / 4) (i.val % 4) p.2.val : ℝ) : EReal) := by
  have e : val_main_v137 (F := Ideal) x0 x1 x2 x3 x4 (ix1 i) = val_main_v136 (F := Ideal) x0 x1 x2 x3 x4 (ix2 ⟨i.val / 4, by omega⟩ ⟨i.val % 4, by omega⟩) := by
    pointwise [val_main_v137]
  have e6 : ∀ (g : Fin 2) (h : Fin 4), val_main_v136 (F := Ideal) x0 x1 x2 x3 x4 (ix2 g h) = val_main_v128 (F := Ideal) x0 x1 x2 x3 x4 (ix6 0 0 g h 0 0) :=
    fun g h => sum_units _ _ zeros _ _ g h
  have e8 : ∀ (g : Fin 2) (h : Fin 4), val_main_v128 (F := Ideal) x0 x1 x2 x3 x4 (ix6 0 0 g h 0 0)
      = val_main_v113 (F := Ideal) x0 x1 x2 x3 x4 (ix4 0 g h 0) + val_main_v126 (F := Ideal) x0 x1 x2 x3 x4 (ix4 0 g h 0) := by
    intro g h
    pointwise [val_main_v128, val_main_v114, val_main_v127]
  have e3 : ∀ (g : Fin 2) (h : Fin 4), val_main_v113 (F := Ideal) x0 x1 x2 x3 x4 (ix4 0 g h 0)
      = ∑ p : Fin 64 × Fin 128, (val_main_v112 (F := Ideal) x0 x1 x2 x3 x4 (ix6 0 p.1 g h p.2 0) : EReal) :=
    fun g h => sum_rows _ _ zeros _ _ g h
  have e2 : ∀ (g : Fin 2) (h : Fin 4), val_main_v126 (F := Ideal) x0 x1 x2 x3 x4 (ix4 0 g h 0) = 0 := by
    intro g h
    refine (sum_rows _ _ zeros _ _ g h).trans (sum_eq_zero fun p _ => ?_)
    rw [val_main_v125_apply, max_none x0 x4 x1 x2 x3 Q K V D T A]
    exact zero_mul _
  rw [e, e6, e8, e3, e2, add_zero, ← Reals.sum_coe]
  exact sum_congr rfl fun p _ => dsink_at x0 x4 x1 x2 x3 Q K V D T A p.1 _ _ p.2

end

end Attn.Ref

end
-- ==== Proof.AtBody.lean ====
/-
The kernel's body is its first point's clearing and eight blocks.
-/
module

public import proofs.«01_k».proof.Proof.AtBlock
public import Idealize.ShloMosaic.Lib.Tactic

@[expose] public section

set_option maxRecDepth 65536

noncomputable section

namespace Attn

open Idealize.ShloMosaic Idealize.SL.Sem Idealize.ShloMosaic.Tactic
open Cert.Kernel2Ideal Cert.Kernel2Ideal.Gen

variable {F : FTy → Type} [FloatOps F]

/-- The body sees the first point. -/
abbrev atFirst (i : grid0.Coords) : Prop :=
  Scalar.cmpi .ne (Scalar.extui (Scalar.cmpi .eq (BitVec.ofNat 32 (i 0).val) 0#32) : BitVec 32) 0#32 = 1#1

/-- The two groups of heads of one quarter of the tile. -/
def quarter (i : grid0.Coords) (r : Fin 4) (lo0 hi0 lo1 hi1 : Fin 2 → ℕ)
    (h0 : ∀ a, lo0 a + S128x128.size a ≤ S512x512.size a) (h1 : ∀ a, hi0 a + S128x128.size a ≤ S512x512.size a)
    (h2 : ∀ a, lo1 a + S128x128.size a ≤ S512x512.size a) (h3 : ∀ a, hi1 a + S128x128.size a ≤ S512x512.size a)
    (arg1 : Memref sig .tc .vmem S512x512 .bf16) (arg2 arg3 : Memref sig .tc .vmem S8192x256 .bf16) (arg4 : Memref sig .tc .vmem S512x512 .bf16)
    (arg5 : Memref sig .tc .vmem S2x1x512 .f32) (arg6 : Memref sig .tc .vmem S512x512 .f32) (arg7 arg8 : Memref sig .tc .vmem S8192x256 .f32)
    (arg9 : Memref sig .tc .vmem S2x1x512 .f32) : Prog (TpuEff nD τ sig (Elt F) Λ₀ .tc) PUnit := do
  block (mask (blockNo i (BitVec.ofNat 32 r.val))) lo0 hi0 h0 h1 (k0_off1 i (BitVec.ofNat 32 r.val)) (k0_off2 i (BitVec.ofNat 32 r.val))
    (k0_off1_inb i r) (k0_off2_inb i r) ![0, 0, 0] inb_S2x1x512_S1x1x512_0_0_0 arg1 arg2 arg3 arg4 arg5 arg6 arg7 arg8 arg9
  block (mask (blockNo i (BitVec.ofNat 32 r.val))) lo1 hi1 h2 h3 (k0_off3 i (BitVec.ofNat 32 r.val)) (k0_off4 i (BitVec.ofNat 32 r.val))
    (k0_off3_inb i r) (k0_off4_inb i r) ![1, 0, 0] inb_S2x1x512_S1x1x512_1_0_0 arg1 arg2 arg3 arg4 arg5 arg6 arg7 arg8 arg9

/-- The eight blocks. -/
def blocks (i : grid0.Coords)
    (arg1 : Memref sig .tc .vmem S512x512 .bf16) (arg2 arg3 : Memref sig .tc .vmem S8192x256 .bf16) (arg4 : Memref sig .tc .vmem S512x512 .bf16)
    (arg5 : Memref sig .tc .vmem S2x1x512 .f32) (arg6 : Memref sig .tc .vmem S512x512 .f32) (arg7 arg8 : Memref sig .tc .vmem S8192x256 .f32)
    (arg9 : Memref sig .tc .vmem S2x1x512 .f32) : Prog (TpuEff nD τ sig (Elt F) Λ₀ .tc) PUnit := do
  quarter i 0 ![0, 0] ![0, 128] ![0, 256] ![0, 384] inb_S512x512_S128x128_0_0 inb_S512x512_S128x128_0_128
    inb_S512x512_S128x128_0_256 inb_S512x512_S128x128_0_384 arg1 arg2 arg3 arg4 arg5 arg6 arg7 arg8 arg9
  quarter i 1 ![128, 0] ![128, 128] ![128, 256] ![128, 384] inb_S512x512_S128x128_128_0 inb_S512x512_S128x128_128_128
    inb_S512x512_S128x128_128_256 inb_S512x512_S128x128_128_384 arg1 arg2 arg3 arg4 arg5 arg6 arg7 arg8 arg9
  quarter i 2 ![256, 0] ![256, 128] ![256, 256] ![256, 384] inb_S512x512_S128x128_256_0 inb_S512x512_S128x128_256_128
    inb_S512x512_S128x128_256_256 inb_S512x512_S128x128_256_384 arg1 arg2 arg3 arg4 arg5 arg6 arg7 arg8 arg9
  quarter i 3 ![384, 0] ![384, 128] ![384, 256] ![384, 384] inb_S512x512_S128x128_384_0 inb_S512x512_S128x128_384_128
    inb_S512x512_S128x128_384_256 inb_S512x512_S128x128_384_384 arg1 arg2 arg3 arg4 arg5 arg6 arg7 arg8 arg9

variable (i : grid0.Coords) (arg1 : Memref sig .tc .vmem S512x512 .bf16) (harg1 : arg1.IsWhole)
  (arg2 : Memref sig .tc .vmem S8192x256 .bf16) (harg2 : arg2.IsWhole) (arg3 : Memref sig .tc .vmem S8192x256 .bf16) (harg3 : arg3.IsWhole)
  (arg4 : Memref sig .tc .vmem S512x512 .bf16) (harg4 : arg4.IsWhole) (arg5 : Memref sig .tc .vmem S2x1x512 .f32) (harg5 : arg5.IsWhole)
  (arg6 : Memref sig .tc .vmem S512x512 .f32) (harg6 : arg6.IsWhole) (arg7 : Memref sig .tc .vmem S8192x256 .f32) (harg7 : arg7.IsWhole)
  (arg8 : Memref sig .tc .vmem S8192x256 .f32) (harg8 : arg8.IsWhole) (arg9 : Memref sig .tc .vmem S2x1x512 .f32) (harg9 : arg9.IsWhole)

/-- The start of the body: the clearing, then values it hands on. -/
theorem start_eq : k0_part1 (F := F) i arg1 harg1 arg2 harg2 arg3 harg3 arg4 harg4 arg5 harg5 arg6 harg6 arg7 harg7 arg8 harg8 arg9 harg9
    = (if atFirst i then clear arg7 arg8 arg9 else pure ⟨⟩) >>= fun _ =>
      pure ⟨BitVec.ofNat 32 (i 0).val, Scalar.muli (Scalar.maxsi (Scalar.subi (blockNo i 0#32) 1#32) 0#32) 128#32,
        Scalar.muli (blockNo i 0#32) 128#32, mask (blockNo i 0#32)⟩ := by
  unfold k0_part1
  by_cases h : atFirst i
  · rw [if_pos h]
    refine Eq.trans (dif_pos h) ?_
    sl_kernel_rfl
  · rw [if_neg h]
    refine Eq.trans (dif_neg h) ?_
    sl_kernel_rfl

/-- The body. -/
theorem body_eq : cc0_attn_bwd (F := F) i arg1 harg1 arg2 harg2 arg3 harg3 arg4 harg4 arg5 harg5 arg6 harg6 arg7 harg7 arg8 harg8 arg9 harg9
    = (if atFirst i then clear arg7 arg8 arg9 else pure ⟨⟩) >>= fun _ => blocks i arg1 arg2 arg3 arg4 arg5 arg6 arg7 arg8 arg9 := by
  by_cases h : atFirst i
  · rw [if_pos h]
    unfold cc0_attn_bwd k0_part28
    rw [start_eq, if_pos h]
    sl_kernel_rfl
  · rw [if_neg h]
    unfold cc0_attn_bwd k0_part28
    rw [start_eq, if_neg h]
    sl_kernel_rfl

end Attn

end
-- ==== Proof.AtRun.lean ====
/-
What one block leaves in the buffers, and what the whole body leaves: the reads are windows of the buffers' values, the stores put
values over such windows.
-/
module

public import proofs.«01_k».proof.Proof.AtBody
public import Idealize.ShloMosaic.Lib.VecWindow
public import Idealize.ShloMosaic.Lib.Tactic
public import Idealize.ShloMosaic.Lib.Pipeline.Frame

@[expose] public section

set_option maxRecDepth 16384

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open VecWindow

variable {F : FTy → Type} [FloatOps F]

local notation "𝕄" => MT nD τ sig Unit (Elt F) ℕ (UR sig nD τ) ℕ

/-! ## A block's values from the buffers' -/

section
variable (mk : IVec S256x512 1) (lo hi : Fin 2 → ℕ) (hlo : ∀ a, lo a + S128x128.size a ≤ S512x512.size a)
    (hhi : ∀ a, hi a + S128x128.size a ≤ S512x512.size a) (pv cu : Fin 2 → ℕ) (hpv : ∀ a, pv a + S128x128.size a ≤ S8192x256.size a)
    (hcu : ∀ a, cu a + S128x128.size a ≤ S8192x256.size a) (so : Fin 3 → ℕ) (hso : ∀ a, so a + S1x1x512.size a ≤ S2x1x512.size a)
    (x1 : Vec F S512x512 .bf16) (x2 x3 : Vec F S8192x256 .bf16) (x4 : Vec F S512x512 .bf16) (x5 : Vec F S2x1x512 .f32)

/-- The block's stacked queries (or cotangents). -/
abbrev stackAt (x : Vec F S512x512 .bf16) : FVec F S512x128 .bf16 :=
  stack (window x lo S128x128.size hlo) (window x hi S128x128.size hhi)

/-- The block's band of keys (or values). -/
abbrev bandAt (x : Vec F S8192x256 .bf16) : FVec F S256x128 .bf16 :=
  band (window x pv S128x128.size hpv) (window x cu S128x128.size hcu)

/-- The block's sinks. -/
abbrev sinkAt : FVec F S1x512 .f32 := sinkRow (window x5 so S1x1x512.size hso)

/-- The block's scores. -/
abbrev scoresAt : FVec F S256x512 .f32 := scores mk (bandAt pv cu hpv hcu x2) (stackAt lo hi hlo hhi x1)

/-- The block's weights. -/
abbrev probAt : FVec F S256x512 .f32 := prob (scoresAt mk lo hi hlo hhi pv cu hpv hcu x1 x2) (sinkAt so hso x5)

/-- The weights' gradient. -/
abbrev dprobAt : FVec F S256x512 .f32 := dprob (bandAt pv cu hpv hcu x3) (stackAt lo hi hlo hhi x4)

/-- The scores' gradient. -/
abbrev dscoreAt : FVec F S256x512 .bf16 :=
  dscore (probAt mk lo hi hlo hhi pv cu hpv hcu so hso x1 x2 x5) (dprobAt lo hi hlo hhi pv cu hpv hcu x3 x4)

/-- A sum over two tiles of rows, the first then the second. -/
def addBand (w : FVec F S256x128 .f32) (y : Vec F S8192x256 .f32) : Vec F S8192x256 .f32 :=
  put (put y pv S128x128.size (plus (window y pv S128x128.size hpv) (halfLo w))) cu S128x128.size
    (plus (window (put y pv S128x128.size (plus (window y pv S128x128.size hpv) (halfLo w))) cu S128x128.size hcu) (halfHi w))

/-- The queries' gradient after the block. -/
def dqStep (y : Vec F S512x512 .f32) : Vec F S512x512 .f32 :=
  put (put y lo S128x128.size (unstackLo (dqOf (dscoreAt mk lo hi hlo hhi pv cu hpv hcu so hso x1 x2 x3 x4 x5) (bandAt pv cu hpv hcu x2))))
    hi S128x128.size (unstackHi (dqOf (dscoreAt mk lo hi hlo hhi pv cu hpv hcu so hso x1 x2 x3 x4 x5) (bandAt pv cu hpv hcu x2)))

/-- The keys' gradient after the block. -/
def dkStep (y : Vec F S8192x256 .f32) : Vec F S8192x256 .f32 :=
  addBand pv cu hpv hcu (dkOf (dscoreAt mk lo hi hlo hhi pv cu hpv hcu so hso x1 x2 x3 x4 x5) (stackAt lo hi hlo hhi x1)) y

/-- The values' gradient after the block. -/
def dvStep (y : Vec F S8192x256 .f32) : Vec F S8192x256 .f32 :=
  addBand pv cu hpv hcu (dvOf (probAt mk lo hi hlo hhi pv cu hpv hcu so hso x1 x2 x5) (stackAt lo hi hlo hhi x4)) y

/-- The sinks' gradient after the block. -/
def dsStep (y : Vec F S2x1x512 .f32) : Vec F S2x1x512 .f32 :=
  put y so S1x1x512.size (plusRow (window y so S1x1x512.size hso)
    (dsinkOf (scoresAt mk lo hi hlo hhi pv cu hpv hcu x1 x2) (sinkAt so hso x5) (dprobAt lo hi hlo hhi pv cu hpv hcu x3 x4)))

variable (c : Dev nD) (arg1 : Memref sig .tc .vmem S512x512 .bf16) (harg1 : arg1.IsWhole)
  (arg2 : Memref sig .tc .vmem S8192x256 .bf16) (harg2 : arg2.IsWhole) (arg3 : Memref sig .tc .vmem S8192x256 .bf16) (harg3 : arg3.IsWhole)
  (arg4 : Memref sig .tc .vmem S512x512 .bf16) (harg4 : arg4.IsWhole) (arg5 : Memref sig .tc .vmem S2x1x512 .f32) (harg5 : arg5.IsWhole)
  (arg6 : Memref sig .tc .vmem S512x512 .f32) (harg6 : arg6.IsWhole) (arg7 : Memref sig .tc .vmem S8192x256 .f32) (harg7 : arg7.IsWhole)
  (arg8 : Memref sig .tc .vmem S8192x256 .f32) (harg8 : arg8.IsWhole) (arg9 : Memref sig .tc .vmem S2x1x512 .f32) (harg9 : arg9.IsWhole)

/-- The nine buffers at their values. -/
def held (y6 : Vec F S512x512 .f32) (y7 y8 : Vec F S8192x256 .f32) (y9 : Vec F S2x1x512 .f32) : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg6 fullShare y6
    ∗ owns (c : Thread nD τ) arg7 fullShare y7 ∗ owns (c : Thread nD τ) arg8 fullShare y8 ∗ owns (c : Thread nD τ) arg9 fullShare y9)

set_option maxHeartbeats 1000000 in
/-- One block. -/
theorem block_run (y6 : Vec F S512x512 .f32) (y7 y8 : Vec F S8192x256 .f32) (y9 : Vec F S2x1x512 .f32) (E : Set ℕ) (K : PUnit → sProp 𝕄) :
    iprop(held x1 x2 x3 x4 x5 c arg1 arg2 arg3 arg4 arg5 arg6 arg7 arg8 arg9 y6 y7 y8 y9
      ∗ (held x1 x2 x3 x4 x5 c arg1 arg2 arg3 arg4 arg5 arg6 arg7 arg8 arg9
          (dqStep mk lo hi hlo hhi pv cu hpv hcu so hso x1 x2 x3 x4 x5 y6) (dkStep mk lo hi hlo hhi pv cu hpv hcu so hso x1 x2 x3 x4 x5 y7)
          (dvStep mk lo hi hlo hhi pv cu hpv hcu so hso x1 x2 x4 x5 y8) (dsStep mk lo hi hlo hhi pv cu hpv hcu so hso x1 x2 x3 x4 x5 y9) -∗ K ⟨⟩))
      ⊢ wp frame (wpE (defs₀ (F := F)) Variants.none c none) E
        (block mk lo hi hlo hhi pv cu hpv hcu so hso arg1 arg2 arg3 arg4 arg5 arg6 arg7 arg8 arg9) K := by
  unfold block held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
  subst hf1 hf2 hf3 hf4 hf5 hf6 hf7 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro
    rw [View.read_writes_cons_put _ _ _ _ _ rfl, View.read_writes_cons_put _ _ _ _ _ rfl, View.writes_nil]
    rfl
  isplitl [H7]
  · iexists _; isplitr; swap; · iexact H7
    ipureintro
    refine (View.read_writes_cons_put _ _ _ _ _ rfl).trans ?_
    unfold block_run.sl.H7_1
    rw [View.readAt_unit arg7.view _ hcu rfl hcu, View.read_writes_cons_put _ _ _ _ _ rfl, View.writes_nil]
    rfl
  isplitl [H8]
  · iexists _; isplitr; swap; · iexact H8
    ipureintro
    refine (View.read_writes_cons_put _ _ _ _ _ rfl).trans ?_
    unfold block_run.sl.H8_1
    rw [View.readAt_unit arg8.view _ hcu rfl hcu, View.read_writes_cons_put _ _ _ _ _ rfl, View.writes_nil]
    rfl
  iexists _; isplitr; swap; · iexact H9
  ipureintro
  rw [View.read_writes_cons_put _ _ _ _ _ rfl, View.writes_nil]
  rfl
end

/-! ## The body's values -/

/-- What the four outputs hold: the gradients of the queries, the keys, the values and the sinks. -/
abbrev Outs (F : FTy → Type) : Type := Vec F S512x512 .f32 × Vec F S8192x256 .f32 × Vec F S8192x256 .f32 × Vec F S2x1x512 .f32

/-- What the five inputs hold: a tile of the queries, the keys, the values, a tile of the cotangent, the sinks. -/
abbrev Ins (F : FTy → Type) : Type :=
  Vec F S512x512 .bf16 × Vec F S8192x256 .bf16 × Vec F S8192x256 .bf16 × Vec F S512x512 .bf16 × Vec F S2x1x512 .f32

/-- The outputs after one block. -/
def blockStep (mk : IVec S256x512 1) (lo hi : Fin 2 → ℕ) (hlo : ∀ a, lo a + S128x128.size a ≤ S512x512.size a)
    (hhi : ∀ a, hi a + S128x128.size a ≤ S512x512.size a) (pv cu : Fin 2 → ℕ) (hpv : ∀ a, pv a + S128x128.size a ≤ S8192x256.size a)
    (hcu : ∀ a, cu a + S128x128.size a ≤ S8192x256.size a) (so : Fin 3 → ℕ) (hso : ∀ a, so a + S1x1x512.size a ≤ S2x1x512.size a)
    (x : Ins F) (o : Outs F) : Outs F :=
  (dqStep mk lo hi hlo hhi pv cu hpv hcu so hso x.1 x.2.1 x.2.2.1 x.2.2.2.1 x.2.2.2.2 o.1,
   dkStep mk lo hi hlo hhi pv cu hpv hcu so hso x.1 x.2.1 x.2.2.1 x.2.2.2.1 x.2.2.2.2 o.2.1,
   dvStep mk lo hi hlo hhi pv cu hpv hcu so hso x.1 x.2.1 x.2.2.2.1 x.2.2.2.2 o.2.2.1,
   dsStep mk lo hi hlo hhi pv cu hpv hcu so hso x.1 x.2.1 x.2.2.1 x.2.2.2.1 x.2.2.2.2 o.2.2.2)

/-- The outputs after one quarter. -/
def quarterStep (i : grid0.Coords) (r : Fin 4) (lo0 hi0 lo1 hi1 : Fin 2 → ℕ)
    (h0 : ∀ a, lo0 a + S128x128.size a ≤ S512x512.size a) (h1 : ∀ a, hi0 a + S128x128.size a ≤ S512x512.size a)
    (h2 : ∀ a, lo1 a + S128x128.size a ≤ S512x512.size a) (h3 : ∀ a, hi1 a + S128x128.size a ≤ S512x512.size a)
    (x : Ins F) (o : Outs F) : Outs F :=
  blockStep (mask (blockNo i (BitVec.ofNat 32 r.val))) lo1 hi1 h2 h3 (k0_off3 i (BitVec.ofNat 32 r.val)) (k0_off4 i (BitVec.ofNat 32 r.val))
    (k0_off3_inb i r) (k0_off4_inb i r) ![1, 0, 0] inb_S2x1x512_S1x1x512_1_0_0 x
    (blockStep (mask (blockNo i (BitVec.ofNat 32 r.val))) lo0 hi0 h0 h1 (k0_off1 i (BitVec.ofNat 32 r.val)) (k0_off2 i (BitVec.ofNat 32 r.val))
      (k0_off1_inb i r) (k0_off2_inb i r) ![0, 0, 0] inb_S2x1x512_S1x1x512_0_0_0 x o)

/-- The outputs after the eight blocks. -/
def blocksStep (i : grid0.Coords) (x : Ins F) (o : Outs F) : Outs F :=
  quarterStep i 3 ![384, 0] ![384, 128] ![384, 256] ![384, 384] inb_S512x512_S128x128_384_0 inb_S512x512_S128x128_384_128
    inb_S512x512_S128x128_384_256 inb_S512x512_S128x128_384_384 x
  (quarterStep i 2 ![256, 0] ![256, 128] ![256, 256] ![256, 384] inb_S512x512_S128x128_256_0 inb_S512x512_S128x128_256_128
    inb_S512x512_S128x128_256_256 inb_S512x512_S128x128_256_384 x
  (quarterStep i 1 ![128, 0] ![128, 128] ![128, 256] ![128, 384] inb_S512x512_S128x128_128_0 inb_S512x512_S128x128_128_128
    inb_S512x512_S128x128_128_256 inb_S512x512_S128x128_128_384 x
  (quarterStep i 0 ![0, 0] ![0, 128] ![0, 256] ![0, 384] inb_S512x512_S128x128_0_0 inb_S512x512_S128x128_0_128
    inb_S512x512_S128x128_0_256 inb_S512x512_S128x128_0_384 x o)))

/-- The three sums cleared. -/
def cleared (o : Outs F) : Outs F :=
  (o.1, broadcast S8192x256 (Scalar.ofBits .f32 0x00000000#32), broadcast S8192x256 (Scalar.ofBits .f32 0x00000000#32),
    broadcast S2x1x512 (Scalar.ofBits .f32 0x00000000#32))

/-- The outputs after the body. -/
def bodyStep (i : grid0.Coords) (x : Ins F) (o : Outs F) : Outs F := blocksStep i x (if atFirst i then cleared o else o)

section
variable (c : Dev nD) (arg1 : Memref sig .tc .vmem S512x512 .bf16) (harg1 : arg1.IsWhole)
  (arg2 : Memref sig .tc .vmem S8192x256 .bf16) (harg2 : arg2.IsWhole) (arg3 : Memref sig .tc .vmem S8192x256 .bf16) (harg3 : arg3.IsWhole)
  (arg4 : Memref sig .tc .vmem S512x512 .bf16) (harg4 : arg4.IsWhole) (arg5 : Memref sig .tc .vmem S2x1x512 .f32) (harg5 : arg5.IsWhole)
  (arg6 : Memref sig .tc .vmem S512x512 .f32) (harg6 : arg6.IsWhole) (arg7 : Memref sig .tc .vmem S8192x256 .f32) (harg7 : arg7.IsWhole)
  (arg8 : Memref sig .tc .vmem S8192x256 .f32) (harg8 : arg8.IsWhole) (arg9 : Memref sig .tc .vmem S2x1x512 .f32) (harg9 : arg9.IsWhole)

/-- The nine buffers at inputs `x` and outputs `o`. -/
abbrev heldAt (x : Ins F) (o : Outs F) : sProp 𝕄 :=
  held x.1 x.2.1 x.2.2.1 x.2.2.2.1 x.2.2.2.2 c arg1 arg2 arg3 arg4 arg5 arg6 arg7 arg8 arg9 o.1 o.2.1 o.2.2.1 o.2.2.2

/-- One quarter. -/
theorem quarter_run (i : grid0.Coords) (r : Fin 4) (lo0 hi0 lo1 hi1 : Fin 2 → ℕ)
    (h0 : ∀ a, lo0 a + S128x128.size a ≤ S512x512.size a) (h1 : ∀ a, hi0 a + S128x128.size a ≤ S512x512.size a)
    (h2 : ∀ a, lo1 a + S128x128.size a ≤ S512x512.size a) (h3 : ∀ a, hi1 a + S128x128.size a ≤ S512x512.size a)
    (x : Ins F) (o : Outs F) (E : Set ℕ) (K : PUnit → sProp 𝕄) :
    iprop(heldAt c arg1 arg2 arg3 arg4 arg5 arg6 arg7 arg8 arg9 x o
      ∗ (heldAt c arg1 arg2 arg3 arg4 arg5 arg6 arg7 arg8 arg9 x (quarterStep i r lo0 hi0 lo1 hi1 h0 h1 h2 h3 x o) -∗ K ⟨⟩))
      ⊢ wp frame (wpE (defs₀ (F := F)) Variants.none c none) E
        (quarter i r lo0 hi0 lo1 hi1 h0 h1 h2 h3 arg1 arg2 arg3 arg4 arg5 arg6 arg7 arg8 arg9) K := by
  unfold quarter
  rw [wp_bind]
  iintro ⟨H, Hk⟩
  iapply block_run
  isplitl [H]; · iexact H
  iintro H
  iapply block_run
  isplitl [H]; · iexact H
  iexact Hk

/-- The eight blocks. -/
theorem blocks_run (i : grid0.Coords) (x : Ins F) (o : Outs F) (E : Set ℕ) (K : PUnit → sProp 𝕄) :
    iprop(heldAt c arg1 arg2 arg3 arg4 arg5 arg6 arg7 arg8 arg9 x o
      ∗ (heldAt c arg1 arg2 arg3 arg4 arg5 arg6 arg7 arg8 arg9 x (blocksStep i x o) -∗ K ⟨⟩))
      ⊢ wp frame (wpE (defs₀ (F := F)) Variants.none c none) E
        (blocks i arg1 arg2 arg3 arg4 arg5 arg6 arg7 arg8 arg9) K := by
  unfold blocks
  rw [wp_bind, wp_bind, wp_bind]
  iintro ⟨H, Hk⟩
  iapply quarter_run
  isplitl [H]; · iexact H
  iintro H
  iapply quarter_run
  isplitl [H]; · iexact H
  iintro H
  iapply quarter_run
  isplitl [H]; · iexact H
  iintro H
  iapply quarter_run
  isplitl [H]; · iexact H
  iexact Hk

/-- The clearing. -/
theorem clear_run (x : Ins F) (o : Outs F) (E : Set ℕ) (K : PUnit → sProp 𝕄) :
    iprop(heldAt c arg1 arg2 arg3 arg4 arg5 arg6 arg7 arg8 arg9 x o
      ∗ (heldAt c arg1 arg2 arg3 arg4 arg5 arg6 arg7 arg8 arg9 x (cleared o) -∗ K ⟨⟩))
      ⊢ wp frame (wpE (defs₀ (F := F)) Variants.none c none) E (clear arg7 arg8 arg9) K := by
  unfold clear heldAt held owns
  iintro ⟨⟨H1, H2, H3, H4, H5, H6, ⟨%f7, %hf7, H7⟩, ⟨%f8, %hf8, H8⟩, ⟨%f9, %hf9, H9⟩⟩, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro
    exact View.read_writes_full _ _ _ _ _
  isplitl [H8]
  · iexists _; isplitr; swap; · iexact H8
    ipureintro
    exact View.read_writes_full _ _ _ _ _
  iexists _; isplitr; swap; · iexact H9
  ipureintro
  exact View.read_writes_full _ _ _ _ _

/-- The body. -/
theorem body_run (i : grid0.Coords) (x : Ins F) (o : Outs F) (E : Set ℕ) (K : PUnit → sProp 𝕄) :
    iprop(heldAt c arg1 arg2 arg3 arg4 arg5 arg6 arg7 arg8 arg9 x o
      ∗ (heldAt c arg1 arg2 arg3 arg4 arg5 arg6 arg7 arg8 arg9 x (bodyStep i x o) -∗ K ⟨⟩))
      ⊢ wp frame (wpE (defs₀ (F := F)) Variants.none c none) E
        (cc0_attn_bwd i arg1 harg1 arg2 harg2 arg3 harg3 arg4 harg4 arg5 harg5 arg6 harg6 arg7 harg7 arg8 harg8 arg9 harg9) K := by
  rw [body_eq, wp_bind]
  unfold bodyStep
  by_cases h : atFirst i
  · rw [if_pos h, if_pos h]
    iintro ⟨H, Hk⟩
    iapply clear_run c arg1 arg2 arg3 arg4 arg5 arg6 arg7 arg8 arg9 x o
    isplitl [H]; · iexact H
    iintro H
    iapply blocks_run
    isplitl [H]; · iexact H
    iexact Hk
  · rw [if_neg h, if_neg h]
    iintro ⟨H, Hk⟩
    sl_step
    iapply blocks_run
    isplitl [H]; · iexact H
    iexact Hk

end

end Attn

end
-- ==== Proof.AtWindow.lean ====
/-
Tiles of the attention's buffers, read and written: the stacked heads, the band, and a tile added to a sum.
-/
module

public import proofs.«01_k».proof.Proof.AtRun
public import proofs.«01_k».proof.Proof.AtPay

@[expose] public section

set_option maxRecDepth 16384

noncomputable section

namespace Attn

open Idealize.ShloMosaic Idealize.SL.Sem Finset
open Cert.Kernel2Ideal Cert.Kernel2Ideal.Gen Cert.Proof VecWindow

/-- A tile read at an index. -/
theorem window_at {n k n' k' : ℕ} {α : Type} (x : (⟨2, ![n, k]⟩ : Shape).Idx → α) (a b : ℕ)
    (inb : ∀ d, (![a, b] : Fin 2 → ℕ) d + (![n', k'] : Fin 2 → ℕ) d ≤ (![n, k] : Fin 2 → ℕ) d) (i : Fin n') (j : Fin k') (hi : a + i.val < n) (hj : b + j.val < k) :
    window x ![a, b] ![n', k'] inb (ix2 i j) = x (ix2 ⟨a + i.val, hi⟩ ⟨b + j.val, hj⟩) := by
  refine congrArg x (funext fun d => ?_)
  fin_cases d
  · exact Fin.ext (show a + 1 * i.val = a + i.val by omega)
  · exact Fin.ext (show b + 1 * j.val = b + j.val by omega)

/-- What a tile put leaves at an index: its own value inside, what was there outside. -/
theorem put_is {n k n' k' : ℕ} {α : Type} (x : (⟨2, ![n, k]⟩ : Shape).Idx → α) (a b : ℕ) (w : (⟨2, ![n', k']⟩ : Shape).Idx → α) (i : Fin n) (j : Fin k) (v : α)
    (hin : ∀ (p : Fin n') (q : Fin k'), i.val = a + p.val → j.val = b + q.val → w (ix2 p q) = v)
    (hout : ¬ (a ≤ i.val ∧ i.val < a + n' ∧ b ≤ j.val ∧ j.val < b + k') → x (ix2 i j) = v) :
    put x ![a, b] ![n', k'] w (ix2 i j) = v := by
  unfold put
  split
  · next h =>
    have h0 : a ≤ i.val ∧ i.val < a + n' := h 0
    have h1 : b ≤ j.val ∧ j.val < b + k' := h 1
    refine Eq.trans (congrArg w (funext fun d => ?_)) (hin ⟨i.val - a, by omega⟩ ⟨j.val - b, by omega⟩ (by simp only; omega) (by simp only; omega))
    fin_cases d <;> rfl
  · next h =>
    refine hout fun l => h fun d => ?_
    fin_cases d
    · exact ⟨l.1, l.2.1⟩
    · exact ⟨l.2.2.1, l.2.2.2⟩

/-! ## The stacked heads and the band -/

section
variable (n g r : ℕ)

theorem stack_at {x y : Vec Ideal S128x128 .bf16} {T : ℕ → ℕ → ℝ} (hx : ∀ i e : Fin 128, x (ix2 i e) = ((T i.val e.val : ℝ) : EReal))
    (hy : ∀ i e : Fin 128, y (ix2 i e) = ((T i.val (128 + e.val) : ℝ) : EReal)) (c : Fin 512) (e : Fin 128) :
    stack x y (ix2 c e) = ((if e.val / 64 = c.val / 128 % 2 then T (c.val % 128) (64 * (c.val / 128) + e.val % 64) else 0 : ℝ) : EReal) := by
  have hl : ∀ e : Fin 128, IntOp.cmpi CmpIPredicate.slt (BitVec.ofNat 32 e.val) 64#32 = if e.val < 64 then 1#1 else 0#1 := by decide +kernel
  have h : stack x y (ix2 c e) = (let l := IntOp.cmpi CmpIPredicate.slt (BitVec.ofNat 32 e.val) 64#32
      if h : c.val < 128 then Scalar.select l (x (ix2 ⟨c.val, h⟩ e)) 0
      else if h : c.val - 128 < 128 then Scalar.select l 0 (x (ix2 ⟨c.val - 128, h⟩ e))
      else if h : c.val - 128 - 128 < 128 then Scalar.select l (y (ix2 ⟨c.val - 128 - 128, h⟩ e)) 0
      else Scalar.select l 0 (y (ix2 ⟨c.val - 128 - 128 - 128, by omega⟩ e))) := by pointwise [stack, tile, blank, lower]
  have := c.isLt
  have := e.isLt
  rw [h]
  simp only [hl, hx, hy]
  have one (a b : EReal) : Scalar.select (1#1) a b = a := rfl
  have zero (a b : EReal) : Scalar.select (0#1) a b = b := rfl
  by_cases he : e.val < 64
  · simp only [he, if_true, one, zero]
    split_ifs <;> first | rfl | (exfalso; omega) | (congr 2 <;> omega)
  · simp only [he, if_false, one, zero]
    split_ifs <;> first | rfl | (exfalso; omega) | (congr 2 <;> omega)

theorem band_at {x y : Vec Ideal S128x128 .bf16} {X Y : ℕ → ℕ → ℝ} (hx : ∀ i e : Fin 128, x (ix2 i e) = ((X i.val e.val : ℝ) : EReal))
    (hy : ∀ i e : Fin 128, y (ix2 i e) = ((Y i.val e.val : ℝ) : EReal)) (b : Fin 256) (e : Fin 128) :
    band x y (ix2 b e) = ((if b.val < 128 then X b.val e.val else Y (b.val - 128) e.val : ℝ) : EReal) := by
  have h : band x y (ix2 b e) = if h : b.val < 128 then x (ix2 ⟨b.val, h⟩ e) else y (ix2 ⟨b.val - 128, by omega⟩ e) := by pointwise [band, tile]
  rw [h]
  simp only [hx, hy]
  split <;> rfl

/-- A tile of a block of rows, its heads stacked. -/
theorem stackAt_at {x : Vec Ideal S512x512 .bf16} {X : ℕ → ℕ → ℝ} {t : ℕ} (hx : ∀ i j : Fin 512, x (ix2 i j) = ((X (512 * t + i.val) j.val : ℝ) : EReal))
    (hr : r < 4) (hg : g < 2) (h0 h1) (c : Fin 512) (e : Fin 128) :
    stackAt ![128 * r, 256 * g] ![128 * r, 256 * g + 128] h0 h1 x (ix2 c e) = ((stk X (4 * t + r) g c.val e.val : ℝ) : EReal) := by
  refine (stack_at (T := fun i e => X (128 * (4 * t + r) + i) (256 * g + e)) (fun i e => ?_) (fun i e => ?_) c e).trans rfl
  · refine (window_at x (128 * r) (256 * g) h0 i e (by omega) (by omega)).trans ((hx _ _).trans ?_)
    congr 2
    simp only
    omega
  · refine (window_at x (128 * r) (256 * g + 128) h1 i e (by omega) (by omega)).trans ((hx _ _).trans ?_)
    congr 2 <;> simp only <;> omega

/-- A band of the keys. -/
theorem bandAt_at {x : Vec Ideal S8192x256 .bf16} {X : ℕ → ℕ → ℝ} (hx : ∀ (i : Fin 8192) (j : Fin 256), x (ix2 i j) = ((X i.val j.val : ℝ) : EReal))
    (hn : n < 64) (hg : g < 2) (h0 h1) (b : Fin 256) (e : Fin 128) :
    bandAt ![128 * (n - 1), 128 * g] ![128 * n, 128 * g] h0 h1 x (ix2 b e) = ((bnd X n g b.val e.val : ℝ) : EReal) := by
  refine (band_at (X := fun i e => X (128 * (n - 1) + i) (128 * g + e)) (Y := fun i e => X (128 * n + i) (128 * g + e)) (fun i e => ?_) (fun i e => ?_) b e).trans ?_
  · exact (window_at x _ _ h0 i e (by omega) (by omega)).trans (hx _ _)
  · exact (window_at x _ _ h1 i e (by omega) (by omega)).trans (hx _ _)
  · unfold bnd keyRow
    split <;> rfl

end

/-! ## Sums -/

/-- A tile added to a sum. -/
theorem plus_at {y : Vec Ideal S8192x256 .f32} {Y W : ℕ → ℕ → ℝ} (hy : ∀ (s : Fin 8192) (c : Fin 256), y (ix2 s c) = ((Y s.val c.val : ℝ) : EReal))
    {w : FVec Ideal S128x128 .f32} (hw : ∀ b e : Fin 128, w (ix2 b e) = ((W b.val e.val : ℝ) : EReal)) (p g : ℕ) (hp : p < 64) (hg : g < 2) (h0)
    (s : Fin 8192) (c : Fin 256) :
    put y ![128 * p, 128 * g] S128x128.size (plus (window y ![128 * p, 128 * g] S128x128.size h0) w) (ix2 s c)
      = ((Y s.val c.val + (if c.val / 128 = g then if s.val / 128 = p then W (s.val % 128) (c.val % 128) else 0 else 0) : ℝ) : EReal) := by
  refine put_is y _ _ _ s c _ (fun b e hb he => ?_) (fun hout => ?_)
  · have h : plus (window y ![128 * p, 128 * g] S128x128.size h0) w (ix2 b e) = window y ![128 * p, 128 * g] S128x128.size h0 (ix2 b e) + w (ix2 b e) := by
      pointwise [plus]
    rw [h, hw, window_at y _ _ h0 b e (by omega) (by omega), hy, ← EReal.coe_add, if_pos (by simp only at *; omega), if_pos (by simp only at *; omega)]
    congr 2 <;> congr 1 <;> simp only at * <;> omega
  · rw [hy]
    congr 1
    have := s.isLt
    have := c.isLt
    split_ifs
    · exfalso; omega
    all_goals ring

/-- A band added to a sum. -/
theorem addBand_at {y : Vec Ideal S8192x256 .f32} {Y W : ℕ → ℕ → ℝ} (hy : ∀ (s : Fin 8192) (c : Fin 256), y (ix2 s c) = ((Y s.val c.val : ℝ) : EReal))
    {w : FVec Ideal S256x128 .f32} (hw : ∀ (b : Fin 256) (e : Fin 128), w (ix2 b e) = ((W b.val e.val : ℝ) : EReal)) (n g : ℕ) (hn : n < 64) (hg : g < 2) (h0 h1)
    (s : Fin 8192) (c : Fin 256) :
    addBand ![128 * (n - 1), 128 * g] ![128 * n, 128 * g] h0 h1 w y (ix2 s c)
      = ((Y s.val c.val + (if c.val / 128 = g then (if s.val / 128 = n - 1 then W (s.val % 128) (c.val % 128) else 0)
          + (if s.val / 128 = n then W (128 + s.val % 128) (c.val % 128) else 0) else 0) : ℝ) : EReal) := by
  refine (plus_at (W := fun b e => W (128 + b) e)
    (Y := fun s c => Y s c + if c / 128 = g then if s / 128 = n - 1 then W (s % 128) (c % 128) else 0 else 0) (plus_at (W := W) hy (w := halfLo w) (fun b e => ?_) (n - 1) g (by omega) hg h0) (w := halfHi w) (fun b e => ?_) n g hn hg h1 s c).trans ?_
  · have h : halfLo w (ix2 b e) = w (ix2 ⟨b.val, by omega⟩ e) := by pointwise [halfLo]
    rw [h, hw]
  · have h : halfHi w (ix2 b e) = w (ix2 ⟨128 + b.val, by omega⟩ e) := by pointwise [halfHi]
    rw [h, hw]
  · congr 1
    split_ifs <;> ring

end Attn

end
-- ==== Proof.AtFrame.lean ====
/-
What the outputs of the attention's backward pass hold, point by point.
-/
module

public import proofs.«01_k».proof.Proof.AtRun
public import proofs.«01_k».proof.Proof.Gen.Kernel2Ideal.Frame
public import proofs.«01_k».proof.Proof.Gen.Kernel2Ideal.Points
public import Idealize.ShloMosaic.Lib.Claim

@[expose] public section

set_option maxRecDepth 16384

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen
open VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What does not matter of the contents before -/

/-- Where a value is put, what was there before is gone. -/
theorem put_agree (x y : Vec F S512x512 .f32) (a b : ℕ) (w : ((d : Fin 2) → Fin (S128x128.size d)) → Elt F .f32) (z : S512x512.Idx)
    (h : ¬ (a ≤ (z 0).val ∧ (z 0).val < a + 128 ∧ b ≤ (z 1).val ∧ (z 1).val < b + 128) → x z = y z) :
    put x ![a, b] S128x128.size w z = put y ![a, b] S128x128.size w z := by
  unfold put
  split
  · rfl
  · rename_i k
    refine h fun l => k fun d => ?_
    fin_cases d
    · exact ⟨l.1, l.2.1⟩
    · exact ⟨l.2.2.1, l.2.2.2⟩

/-- A quarter's rows are covered by its four tiles. -/
theorem quarter_agree (i : grid0.Coords) (r : Fin 4) (a : ℕ) (h0 h1 h2 h3) (x : Ins F) (o o' : Outs F) (z : S512x512.Idx)
    (h : ¬ (a ≤ (z 0).val ∧ (z 0).val < a + 128) → o.1 z = o'.1 z) :
    (quarterStep i r ![a, 0] ![a, 128] ![a, 256] ![a, 384] h0 h1 h2 h3 x o).1 z
      = (quarterStep i r ![a, 0] ![a, 128] ![a, 256] ![a, 384] h0 h1 h2 h3 x o').1 z := by
  have b1 : (z 1).val < 512 := (z 1).isLt
  refine put_agree _ _ a 384 _ z fun k3 => put_agree _ _ a 256 _ z fun k2 => put_agree _ _ a 128 _ z fun k1 => put_agree _ _ a 0 _ z fun k0 => h fun l => ?_
  simp only [l.1, l.2, true_and] at k0 k1 k2 k3
  omega

/-- The body's outputs do not depend on what the queries' gradient held. -/
theorem bodyStep_congr (i : grid0.Coords) (x : Ins F) (o o' : Outs F) (h : o.2 = o'.2) : bodyStep i x o = bodyStep i x o' := by
  obtain ⟨o, p⟩ := o
  obtain ⟨o', p'⟩ := o'
  obtain rfl : p = p' := h
  refine Prod.ext (funext fun z => ?_) ?_
  · have b0 : (z 0).val < 512 := (z 0).isLt
    refine quarter_agree i 3 384 _ _ _ _ x _ _ z fun k3 => quarter_agree i 2 256 _ _ _ _ x _ _ z fun k2 =>
      quarter_agree i 1 128 _ _ _ _ x _ _ z fun k1 => quarter_agree i 0 0 _ _ _ _ x _ _ z fun k0 => ?_
    omega
  · unfold bodyStep
    by_cases h : atFirst i
    · rw [if_pos h, if_pos h]; rfl
    · rw [if_neg h, if_neg h]; rfl

/-- At the first point they depend on nothing the outputs held. -/
theorem bodyStep_first (i : grid0.Coords) (hi : atFirst i) (x : Ins F) (o o' : Outs F) : bodyStep i x o = bodyStep i x o' := by
  have e : ∀ o : Outs F, bodyStep i x o = bodyStep i x (cleared o) := fun o => by
    unfold bodyStep; rw [if_pos hi, if_pos hi]; rfl
  rw [e o, e o']
  exact bodyStep_congr i x _ _ rfl

/-- The body sees the first point at the first point alone. -/
theorem atFirst_iff : ∀ t : Fin cfg0.N, atFirst (grid0.coords t) ↔ t.val = 0 :=
  (by decide +kernel : ∀ t : Fin grid0.N, atFirst (grid0.coords t) ↔ t.val = 0)

/-! ## Point by point -/

/-- The inputs' blocks at a point. -/
def insAt (c : Dev nD) (t : Fin cfg0.N) : Ins F := (iblk m c 0 t, iblk m c 1 t, iblk m c 2 t, iblk m c 3 t, iblk m c 4 t)

/-- Outputs before anything is written. -/
def noOuts : Outs F :=
  (broadcast S512x512 (Scalar.ofBits .f32 0x00000000#32), broadcast S8192x256 (Scalar.ofBits .f32 0x00000000#32),
    broadcast S8192x256 (Scalar.ofBits .f32 0x00000000#32), broadcast S2x1x512 (Scalar.ofBits .f32 0x00000000#32))

/-- What the outputs hold after the body at point `n`. -/
def outsAt (c : Dev nD) : (n : ℕ) → n < cfg0.N → Outs F
  | 0, h => bodyStep (grid0.coords ⟨0, h⟩) (insAt m c ⟨0, h⟩) noOuts
  | n + 1, h => bodyStep (grid0.coords ⟨n + 1, h⟩) (insAt m c ⟨n + 1, h⟩) (outsAt c n (Nat.lt_of_succ_lt h))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
    | ⟨7, _⟩ => (outsAt m c t.val t.isLt).2.2.1
    | ⟨8, _⟩ => (outsAt m c t.val t.isLt).2.2.2
  Φ _ := Pipeline.ΦA spec0 c
  q _ := fullShare
  owed _ := 0

theorem arr_eq (c : Dev nD) (w : Fin cfg0.W) : (dats m 0 c).A w = V m c (Pipeline.arrRef spec0 w) := by dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = iblk m c 3 t := by dsimp only [dats]
theorem after_s (c : Dev nD) (t : Fin cfg0.N) : (dats m 0 c).after 4 t = iblk m c 4 t := by dsimp only [dats]
theorem after_dq (c : Dev nD) (t : Fin cfg0.N) : (dats m 0 c).after 5 t = (outsAt m c t.val t.isLt).1 := by dsimp only [dats]
theorem after_dk (c : Dev nD) (t : Fin cfg0.N) : (dats m 0 c).after 6 t = (outsAt m c t.val t.isLt).2.1 := by dsimp only [dats]
theorem after_dv (c : Dev nD) (t : Fin cfg0.N) : (dats m 0 c).after 7 t = (outsAt m c t.val t.isLt).2.2.1 := by dsimp only [dats]
theorem after_ds (c : Dev nD) (t : Fin cfg0.N) : (dats m 0 c).after 8 t = (outsAt m c t.val t.isLt).2.2.2 := by dsimp only [dats]

theorem before_q (c : Dev nD) (t : Fin cfg0.N) (d) : (dats m 0 c).before 0 t d = iblk m c 0 t :=
  before0_0_of m (dats m 0 c) (arr_eq m c 0) (after_q m c) t d
theorem before_k (c : Dev nD) (t : Fin cfg0.N) (d) : (dats m 0 c).before 1 t d = iblk m c 1 t :=
  before0_1_of m (dats m 0 c) (arr_eq m c 1) (after_k m c) t d
theorem before_v (c : Dev nD) (t : Fin cfg0.N) (d) : (dats m 0 c).before 2 t d = iblk m c 2 t :=
  before0_2_of m (dats m 0 c) (arr_eq m c 2) (after_v m c) t d
theorem before_o (c : Dev nD) (t : Fin cfg0.N) (d) : (dats m 0 c).before 3 t d = iblk m c 3 t :=
  before0_3_of m (dats m 0 c) (arr_eq m c 3) (after_o m c) t d
theorem before_s (c : Dev nD) (t : Fin cfg0.N) (d) : (dats m 0 c).before 4 t d = iblk m c 4 t :=
  before0_4_of m (dats m 0 c) (arr_eq m c 4) (after_s m c) t d

/-- The points number sixteen. -/
theorem point_lt (t : Fin cfg0.N) : t.val < 16 := lt_of_lt_of_eq t.isLt (show cfg0.N = 16 from N_0)

/-- Past the first point the three sums are what the point before left. -/
theorem before_dk (c : Dev nD) (t : Fin cfg0.N) (h0 : t.val ≠ 0) (d) :
    (dats m 0 c).before 6 t d = (outsAt m c (t.val - 1) (Nat.lt_of_le_of_lt (Nat.sub_le _ _) t.isLt)).2.1 := by
  have hN := point_lt t
  rw [Dat.before_out_kept _ 6 rfl t (by omega) (Bool.eq_false_iff.mpr fun h => by have := (flush0_6 _).mp h; dsimp only at this; omega)
    (fun _ => rfl) (fun _ _ => rfl)]
  dsimp only [dats]

theorem before_dv (c : Dev nD) (t : Fin cfg0.N) (h0 : t.val ≠ 0) (d) :
    (dats m 0 c).before 7 t d = (outsAt m c (t.val - 1) (Nat.lt_of_le_of_lt (Nat.sub_le _ _) t.isLt)).2.2.1 := by
  have hN := point_lt t
  rw [Dat.before_out_kept _ 7 rfl t (by omega) (Bool.eq_false_iff.mpr fun h => by have := (flush0_7 _).mp h; dsimp only at this; omega)
    (fun _ => rfl) (fun _ _ => rfl)]
  dsimp only [dats]

theorem before_ds (c : Dev nD) (t : Fin cfg0.N) (h0 : t.val ≠ 0) (d) :
    (dats m 0 c).before 8 t d = (outsAt m c (t.val - 1) (Nat.lt_of_le_of_lt (Nat.sub_le _ _) t.isLt)).2.2.2 := by
  have hN := point_lt t
  rw [Dat.before_out_kept _ 8 rfl t (by omega) (Bool.eq_false_iff.mpr fun h => by have := (flush0_8 _).mp h; dsimp only at this; omega)
    (fun _ => rfl) (fun _ _ => rfl)]
  dsimp only [dats]

/-- The first point, whatever the outputs held. -/
theorem outsAt_first (c : Dev nD) (t : Fin cfg0.N) (h : t.val = 0) (o : Outs F) :
    bodyStep (grid0.coords t) (insAt m c t) o = outsAt m c t.val t.isLt := by
  obtain ⟨n, hn⟩ := t
  obtain rfl : n = 0 := h
  exact bodyStep_first _ ((atFirst_iff ⟨0, hn⟩).mpr rfl) _ _ _

/-- A later point, over what the point before left in the sums. -/
theorem outsAt_later (c : Dev nD) (t : Fin cfg0.N) (h : t.val ≠ 0) (o : Outs F)
    (ho : o.2 = (outsAt m c (t.val - 1) (Nat.lt_of_le_of_lt (Nat.sub_le _ _) t.isLt)).2) :
    bodyStep (grid0.coords t) (insAt m c t) o = outsAt m c t.val t.isLt := by
  obtain ⟨n, hn⟩ := t
  cases n with
  | zero => exact absurd rfl h
  | succ n => exact bodyStep_congr _ _ _ _ ho

end Attn

end
-- ==== Proof.AtPoint.lean ====
/-
The outputs of the attention's backward pass, point by point over the reals: each tile of the queries' gradient, and the three sums
over the blocks so far.
-/
module

public import proofs.«01_k».proof.Proof.AtWindow
public import proofs.«01_k».proof.Proof.AtFrame

@[expose] public section

set_option maxRecDepth 16384

noncomputable section

namespace Attn

open Idealize.ShloMosaic Idealize.SL.Sem Finset
open Cert.Kernel2Ideal Cert.Kernel2Ideal.Gen Cert.Proof VecWindow

/-- The inputs at point `t`, as real arrays. -/
structure InsAre (Q K V D : ℕ → ℕ → ℝ) (T : ℕ → ℝ) (t : ℕ) (x : Ins Ideal) : Prop where
  q : ∀ i j : Fin 512, x.1 (ix2 i j) = ((Q (512 * t + i.val) j.val : ℝ) : EReal)
  k : ∀ (i : Fin 8192) (j : Fin 256), x.2.1 (ix2 i j) = ((K i.val j.val : ℝ) : EReal)
  v : ∀ (i : Fin 8192) (j : Fin 256), x.2.2.1 (ix2 i j) = ((V i.val j.val : ℝ) : EReal)
  o : ∀ i j : Fin 512, x.2.2.2.1 (ix2 i j) = ((D (512 * t + i.val) j.val : ℝ) : EReal)
  s : ∀ (g : Fin 2) (c : Fin 512), x.2.2.2.2 (ix3 g 0 c) = ((T (4 * g.val + c.val / 128) : ℝ) : EReal)

/-- The three sums over the blocks before `n`. -/
structure Sums (Q K V D : ℕ → ℕ → ℝ) (T : ℕ → ℝ) (n : ℕ) (o : Vec Ideal S8192x256 .f32 × Vec Ideal S8192x256 .f32 × Vec Ideal S2x1x512 .f32) : Prop where
  dk : ∀ (i : Fin 8192) (j : Fin 256), o.1 (ix2 i j) = ((∑ p ∈ range n, adds (wK Q K V D T) p i.val j.val : ℝ) : EReal)
  dv : ∀ (i : Fin 8192) (j : Fin 256), o.2.1 (ix2 i j) = ((∑ p ∈ range n, adds (wV Q K D T) p i.val j.val : ℝ) : EReal)
  ds : ∀ (g : Fin 2) (c : Fin 512), o.2.2 (ix3 g 0 c) = ((∑ p ∈ range n, dkB Q K V D T p g.val c.val : ℝ) : EReal)

/-! ## One block -/

section
variable {Q K V D : ℕ → ℕ → ℝ} {T : ℕ → ℝ} {t : ℕ} {x : Ins Ideal} (hx : InsAre Q K V D T t x) (i : grid0.Coords) (hi : (i 0).val = t)
  (r : Fin 4) (g : Fin 2) {lo hi' : Fin 2 → ℕ} {hlo : ∀ a, lo a + S128x128.size a ≤ S512x512.size a} {hhi : ∀ a, hi' a + S128x128.size a ≤ S512x512.size a}
  {pv cu : Fin 2 → ℕ} {hpv : ∀ a, pv a + S128x128.size a ≤ S8192x256.size a} {hcu : ∀ a, cu a + S128x128.size a ≤ S8192x256.size a}
  {so : Fin 3 → ℕ} {hso : ∀ a, so a + S1x1x512.size a ≤ S2x1x512.size a}
  (elo : lo = ![128 * r.val, 256 * g.val]) (ehi : hi' = ![128 * r.val, 256 * g.val + 128])
  (epv : pv = ![128 * (4 * t + r.val - 1), 128 * g.val]) (ecu : cu = ![128 * (4 * t + r.val), 128 * g.val]) (eso : so = ![g.val, 0, 0])

include hx

theorem stackQ (elo : lo = ![128 * r.val, 256 * g.val]) (ehi : hi' = ![128 * r.val, 256 * g.val + 128]) (c : Fin 512) (e : Fin 128) :
    stackAt lo hi' hlo hhi x.1 (ix2 c e) = ((stk Q (4 * t + r.val) g.val c.val e.val : ℝ) : EReal) := by
  subst elo ehi
  exact stackAt_at g.val r.val hx.q r.isLt g.isLt _ _ c e

theorem stackD (elo : lo = ![128 * r.val, 256 * g.val]) (ehi : hi' = ![128 * r.val, 256 * g.val + 128]) (c : Fin 512) (e : Fin 128) :
    stackAt lo hi' hlo hhi x.2.2.2.1 (ix2 c e) = ((stk D (4 * t + r.val) g.val c.val e.val : ℝ) : EReal) := by
  subst elo ehi
  exact stackAt_at g.val r.val hx.o r.isLt g.isLt _ _ c e

theorem bandK (ht : t < 16) (epv : pv = ![128 * (4 * t + r.val - 1), 128 * g.val]) (ecu : cu = ![128 * (4 * t + r.val), 128 * g.val]) (b : Fin 256) (e : Fin 128) :
    bandAt pv cu hpv hcu x.2.1 (ix2 b e) = ((bnd K (4 * t + r.val) g.val b.val e.val : ℝ) : EReal) := by
  subst epv ecu
  exact bandAt_at _ g.val hx.k (by omega) g.isLt _ _ b e

theorem bandV (ht : t < 16) (epv : pv = ![128 * (4 * t + r.val - 1), 128 * g.val]) (ecu : cu = ![128 * (4 * t + r.val), 128 * g.val]) (b : Fin 256) (e : Fin 128) :
    bandAt pv cu hpv hcu x.2.2.1 (ix2 b e) = ((bnd V (4 * t + r.val) g.val b.val e.val : ℝ) : EReal) := by
  subst epv ecu
  exact bandAt_at _ g.val hx.v (by omega) g.isLt _ _ b e

theorem sink_is (eso : so = ![g.val, 0, 0]) (c : Fin 512) : sinkAt so hso x.2.2.2.2 (ix2 0 c) = ((T (4 * g.val + c.val / 128) : ℝ) : EReal) := by
  subst eso
  rw [← hx.s g c]
  have h : sinkAt ![g.val, 0, 0] hso x.2.2.2.2 (ix2 0 c) = window x.2.2.2.2 ![g.val, 0, 0] S1x1x512.size hso (ix3 0 0 c) := by pointwise [sinkRow]
  rw [h]
  refine congrArg x.2.2.2.2 (funext fun d => ?_)
  fin_cases d
  · exact Fin.ext (show g.val + 1 * 0 = g.val by omega)
  · rfl
  · exact Fin.ext (show 0 + 1 * c.val = c.val by omega)

include hi

theorem scores_is (elo : lo = ![128 * r.val, 256 * g.val]) (ehi : hi' = ![128 * r.val, 256 * g.val + 128])
    (epv : pv = ![128 * (4 * t + r.val - 1), 128 * g.val]) (ecu : cu = ![128 * (4 * t + r.val), 128 * g.val]) (b : Fin 256) (c : Fin 512) :
    scoresAt (mask (blockNo i (BitVec.ofNat 32 r.val))) lo hi' hlo hhi pv cu hpv hcu x.1 x.2.1 (ix2 b c)
      = score (seen (4 * t + r.val) (c.val % 128)) (prd K Q (4 * t + r.val) g.val c.val) b.val :=
  scores_at (see := fun c b => seen (4 * t + r.val) (c % 128) b) (fun b c => by rw [mask_at, hi])
    (bandK hx r g (hi ▸ (i 0).isLt) epv ecu) (stackQ hx r g elo ehi) b c

theorem weights_is (elo : lo = ![128 * r.val, 256 * g.val]) (ehi : hi' = ![128 * r.val, 256 * g.val + 128])
    (epv : pv = ![128 * (4 * t + r.val - 1), 128 * g.val]) (ecu : cu = ![128 * (4 * t + r.val), 128 * g.val]) (eso : so = ![g.val, 0, 0]) (b : Fin 256) (c : Fin 512) :
    probAt (mask (blockNo i (BitVec.ofNat 32 r.val))) lo hi' hlo hhi pv cu hpv hcu so hso x.1 x.2.1 x.2.2.2.2 (ix2 b c)
      = ((prB Q K T (4 * t + r.val) g.val c.val b.val : ℝ) : EReal) :=
  prob_at (see := fun c b => seen (4 * t + r.val) (c % 128) b) (sc := fun c b => prd K Q (4 * t + r.val) g.val c b) (SK := fun c => T (4 * g.val + c / 128))
    (scores_is hx i hi r g elo ehi epv ecu) (sink_is hx g eso) b c

theorem dscores_is (elo : lo = ![128 * r.val, 256 * g.val]) (ehi : hi' = ![128 * r.val, 256 * g.val + 128])
    (epv : pv = ![128 * (4 * t + r.val - 1), 128 * g.val]) (ecu : cu = ![128 * (4 * t + r.val), 128 * g.val]) (eso : so = ![g.val, 0, 0]) (b : Fin 256) (c : Fin 512) :
    dscoreAt (mask (blockNo i (BitVec.ofNat 32 r.val))) lo hi' hlo hhi pv cu hpv hcu so hso x.1 x.2.1 x.2.2.1 x.2.2.2.1 x.2.2.2.2 (ix2 b c)
      = ((dsB Q K V D T (4 * t + r.val) g.val c.val b.val : ℝ) : EReal) :=
  dscore_at (see := fun c b => seen (4 * t + r.val) (c % 128) b) (sc := fun c b => prd K Q (4 * t + r.val) g.val c b)
    (DP := fun c b => prd V D (4 * t + r.val) g.val c b) (SK := fun c => T (4 * g.val + c / 128))
    (scores_is hx i hi r g elo ehi epv ecu) (sink_is hx g eso)
    (product_at (bandV hx r g (hi ▸ (i 0).isLt) epv ecu) (stackD hx r g elo ehi)) b c

theorem dsinks_is (elo : lo = ![128 * r.val, 256 * g.val]) (ehi : hi' = ![128 * r.val, 256 * g.val + 128])
    (epv : pv = ![128 * (4 * t + r.val - 1), 128 * g.val]) (ecu : cu = ![128 * (4 * t + r.val), 128 * g.val]) (eso : so = ![g.val, 0, 0]) (c : Fin 512) :
    dsinkOf (scoresAt (mask (blockNo i (BitVec.ofNat 32 r.val))) lo hi' hlo hhi pv cu hpv hcu x.1 x.2.1) (sinkAt so hso x.2.2.2.2)
        (dprobAt lo hi' hlo hhi pv cu hpv hcu x.2.2.1 x.2.2.2.1) (ix2 0 c)
      = ((dkB Q K V D T (4 * t + r.val) g.val c.val : ℝ) : EReal) :=
  dsink_at (see := fun c b => seen (4 * t + r.val) (c % 128) b) (sc := fun c b => prd K Q (4 * t + r.val) g.val c b)
    (DP := fun c b => prd V D (4 * t + r.val) g.val c b) (SK := fun c => T (4 * g.val + c / 128))
    (scores_is hx i hi r g elo ehi epv ecu) (sink_is hx g eso)
    (product_at (bandV hx r g (hi ▸ (i 0).isLt) epv ecu) (stackD hx r g elo ehi)) c

end

end Attn

end
-- ==== Proof.AtSums.lean ====
/-
The outputs of the attention's backward pass after each point: the rows of the queries' gradient, and the three sums over the blocks.
-/
module

public import proofs.«01_k».proof.Proof.AtPoint

@[expose] public section

set_option maxRecDepth 16384

noncomputable section

namespace Attn

open Idealize.ShloMosaic Idealize.SL.Sem Finset
open Cert.Kernel2Ideal Cert.Kernel2Ideal.Gen Cert.Proof VecWindow

theorem off1 : ∀ (i : grid0.Coords) (r : Fin 4), k0_off1 i (BitVec.ofNat 32 r.val) = ![128 * (4 * (i 0).val + r.val - 1), 128 * 0] := by decide +kernel
theorem off2 : ∀ (i : grid0.Coords) (r : Fin 4), k0_off2 i (BitVec.ofNat 32 r.val) = ![128 * (4 * (i 0).val + r.val), 128 * 0] := by decide +kernel
theorem off3 : ∀ (i : grid0.Coords) (r : Fin 4), k0_off3 i (BitVec.ofNat 32 r.val) = ![128 * (4 * (i 0).val + r.val - 1), 128 * 1] := by decide +kernel
theorem off4 : ∀ (i : grid0.Coords) (r : Fin 4), k0_off4 i (BitVec.ofNat 32 r.val) = ![128 * (4 * (i 0).val + r.val), 128 * 1] := by decide +kernel

section
variable {Q K V D : ℕ → ℕ → ℝ} {T : ℕ → ℝ} {t : ℕ} {x : Ins Ideal} (hx : InsAre Q K V D T t x) (i : grid0.Coords) (hi : (i 0).val = t)
  (r : Fin 4)

include hx hi

/-! ## One block's share of each sum -/

section
variable (g : Fin 2) {lo hi' : Fin 2 → ℕ} {hlo : ∀ a, lo a + S128x128.size a ≤ S512x512.size a} {hhi : ∀ a, hi' a + S128x128.size a ≤ S512x512.size a}
  {pv cu : Fin 2 → ℕ} {hpv : ∀ a, pv a + S128x128.size a ≤ S8192x256.size a} {hcu : ∀ a, cu a + S128x128.size a ≤ S8192x256.size a}
  {so : Fin 3 → ℕ} {hso : ∀ a, so a + S1x1x512.size a ≤ S2x1x512.size a}

theorem dk_block (elo : lo = ![128 * r.val, 256 * g.val]) (ehi : hi' = ![128 * r.val, 256 * g.val + 128])
    (epv : pv = ![128 * (4 * t + r.val - 1), 128 * g.val]) (ecu : cu = ![128 * (4 * t + r.val), 128 * g.val]) (eso : so = ![g.val, 0, 0])
    {y : Vec Ideal S8192x256 .f32} {Y : ℕ → ℕ → ℝ} (hy : ∀ (s : Fin 8192) (c : Fin 256), y (ix2 s c) = ((Y s.val c.val : ℝ) : EReal)) (s : Fin 8192) (c : Fin 256) :
    dkStep (mask (blockNo i (BitVec.ofNat 32 r.val))) lo hi' hlo hhi pv cu hpv hcu so hso x.1 x.2.1 x.2.2.1 x.2.2.2.1 x.2.2.2.2 y (ix2 s c)
      = ((Y s.val c.val + (if c.val / 128 = g.val then adds (wK Q K V D T) (4 * t + r.val) s.val c.val else 0) : ℝ) : EReal) := by
  have ht : t < 16 := hi ▸ (i 0).isLt
  have hw := dk_at (dscores_is hx i hi r g elo ehi (hlo := hlo) (hhi := hhi) epv ecu (hpv := hpv) (hcu := hcu) eso (hso := hso)) (stackQ hx r g elo ehi (hlo := hlo) (hhi := hhi))
  unfold dkStep
  revert hw
  subst epv ecu
  intro hw
  refine (addBand_at hy (W := wK Q K V D T (4 * t + r.val) g.val) hw (4 * t + r.val) g.val (by omega) g.isLt hpv hcu s c).trans ?_
  congr 2
  by_cases h : c.val / 128 = g.val
  · rw [if_pos h, if_pos h, adds, h]
  · rw [if_neg h, if_neg h]

theorem dv_block (elo : lo = ![128 * r.val, 256 * g.val]) (ehi : hi' = ![128 * r.val, 256 * g.val + 128])
    (epv : pv = ![128 * (4 * t + r.val - 1), 128 * g.val]) (ecu : cu = ![128 * (4 * t + r.val), 128 * g.val]) (eso : so = ![g.val, 0, 0])
    {y : Vec Ideal S8192x256 .f32} {Y : ℕ → ℕ → ℝ} (hy : ∀ (s : Fin 8192) (c : Fin 256), y (ix2 s c) = ((Y s.val c.val : ℝ) : EReal)) (s : Fin 8192) (c : Fin 256) :
    dvStep (mask (blockNo i (BitVec.ofNat 32 r.val))) lo hi' hlo hhi pv cu hpv hcu so hso x.1 x.2.1 x.2.2.2.1 x.2.2.2.2 y (ix2 s c)
      = ((Y s.val c.val + (if c.val / 128 = g.val then adds (wV Q K D T) (4 * t + r.val) s.val c.val else 0) : ℝ) : EReal) := by
  have ht : t < 16 := hi ▸ (i 0).isLt
  have hw := dv_at (weights_is hx i hi r g elo ehi (hlo := hlo) (hhi := hhi) epv ecu (hpv := hpv) (hcu := hcu) eso (hso := hso)) (stackD hx r g elo ehi (hlo := hlo) (hhi := hhi))
  unfold dvStep
  revert hw
  subst epv ecu
  intro hw
  refine (addBand_at hy (W := wV Q K D T (4 * t + r.val) g.val) hw (4 * t + r.val) g.val (by omega) g.isLt hpv hcu s c).trans ?_
  congr 2
  by_cases h : c.val / 128 = g.val
  · rw [if_pos h, if_pos h, adds, h]
  · rw [if_neg h, if_neg h]

theorem ds_block (elo : lo = ![128 * r.val, 256 * g.val]) (ehi : hi' = ![128 * r.val, 256 * g.val + 128])
    (epv : pv = ![128 * (4 * t + r.val - 1), 128 * g.val]) (ecu : cu = ![128 * (4 * t + r.val), 128 * g.val]) (eso : so = ![g.val, 0, 0])
    {y : Vec Ideal S2x1x512 .f32} {Y : ℕ → ℕ → ℝ} (hy : ∀ (s : Fin 2) (c : Fin 512), y (ix3 s 0 c) = ((Y s.val c.val : ℝ) : EReal)) (s : Fin 2) (c : Fin 512) :
    dsStep (mask (blockNo i (BitVec.ofNat 32 r.val))) lo hi' hlo hhi pv cu hpv hcu so hso x.1 x.2.1 x.2.2.1 x.2.2.2.1 x.2.2.2.2 y (ix3 s 0 c)
      = ((Y s.val c.val + (if s.val = g.val then dkB Q K V D T (4 * t + r.val) s.val c.val else 0) : ℝ) : EReal) := by
  have hw := dsinks_is hx i hi r g elo ehi (hlo := hlo) (hhi := hhi) epv ecu (hpv := hpv) (hcu := hcu) eso (hso := hso)
  unfold dsStep
  revert hw
  subst eso
  intro hw
  generalize hW : dsinkOf (F := Ideal) _ _ _ = w at hw ⊢
  have h (z : Vec Ideal S1x1x512 .f32) : plusRow z w (ix3 0 0 c) = z (ix3 0 0 c) + w (ix2 0 c) := by pointwise [plusRow]
  unfold put
  split
  · next k =>
    have k0 : g.val ≤ s.val ∧ s.val < g.val + 1 := k 0
    have hs : s.val = g.val := by omega
    have e : (fun d => (⟨((ix3 s 0 c : S2x1x512.Idx) d).val - (![g.val, 0, 0] : Fin 3 → ℕ) d, by have := k d; omega⟩ : Fin (S1x1x512.size d)) : S1x1x512.Idx) = ix3 0 0 c := by
      funext d
      fin_cases d
      · exact Fin.ext (show s.val - g.val = 0 by omega)
      · rfl
      · rfl
    refine (congrArg _ e).trans ((h _).trans ?_)
    rw [hw, if_pos hs, EReal.coe_add, ← hy, hs]
    congr 1
    refine congrArg y (funext fun d => ?_)
    fin_cases d
    · exact Fin.ext (show g.val + 1 * 0 = s.val by omega)
    · rfl
    · exact Fin.ext (show 0 + 1 * c.val = c.val by omega)
  · next k =>
    rw [hy, if_neg, add_zero]
    intro hs
    refine k fun d => ?_
    fin_cases d
    · exact ⟨hs.ge, hs.trans_lt (Nat.lt_succ_self _)⟩
    · exact ⟨le_rfl, Nat.lt_succ_self _⟩
    · exact ⟨Nat.zero_le _, c.isLt.trans_le (Nat.le_add_left _ _)⟩

/-- The tile of the queries' gradient the block leaves is the gradient's; elsewhere it is as it was. -/
theorem dq_block (elo : lo = ![128 * r.val, 256 * g.val]) (ehi : hi' = ![128 * r.val, 256 * g.val + 128])
    (epv : pv = ![128 * (4 * t + r.val - 1), 128 * g.val]) (ecu : cu = ![128 * (4 * t + r.val), 128 * g.val]) (eso : so = ![g.val, 0, 0])
    (y : Vec Ideal S512x512 .f32) (a j : Fin 512)
    (h : ¬ (a.val / 128 = r.val ∧ j.val / 256 = g.val) → y (ix2 a j) = ((dqR Q K V D T (512 * t + a.val) j.val : ℝ) : EReal)) :
    dqStep (mask (blockNo i (BitVec.ofNat 32 r.val))) lo hi' hlo hhi pv cu hpv hcu so hso x.1 x.2.1 x.2.2.1 x.2.2.2.1 x.2.2.2.2 y (ix2 a j)
      = ((dqR Q K V D T (512 * t + a.val) j.val : ℝ) : EReal) := by
  have ht : t < 16 := hi ▸ (i 0).isLt
  have hw := dq_at (dscores_is hx i hi r g elo ehi (hlo := hlo) (hhi := hhi) epv ecu (hpv := hpv) (hcu := hcu) eso (hso := hso)) (bandK hx r g ht epv ecu (hpv := hpv) (hcu := hcu))
  unfold dqStep
  generalize dqOf (F := Ideal) _ _ = w at hw ⊢
  subst elo ehi
  have hl : ∀ e : Fin 128, IntOp.cmpi CmpIPredicate.slt (BitVec.ofNat 32 e.val) 64#32 = if e.val < 64 then 1#1 else 0#1 := by decide +kernel
  have one (a b : EReal) : Scalar.select (1#1) a b = a := rfl
  have zero (a b : EReal) : Scalar.select (0#1) a b = b := rfl
  have hlow (p e : Fin 128) : unstackLo w (ix2 p e) = ((wQ Q K V D T (4 * t + r.val) g.val (128 * (e.val / 64) + p.val) e.val : ℝ) : EReal) := by
    have h : unstackLo w (ix2 p e) = Scalar.select (IntOp.cmpi CmpIPredicate.slt (BitVec.ofNat 32 e.val) 64#32) (w (ix2 ⟨p.val, by omega⟩ e)) (w (ix2 ⟨128 + p.val, by omega⟩ e)) := by
      pointwise [unstackLo, lower]
    rw [h, hl, hw, hw]
    split
    · rw [one]; unfold wQ; congr 2 <;> simp only <;> congr 2 <;> funext <;> congr 2 <;> omega
    · rw [zero]; unfold wQ; congr 2 <;> simp only <;> congr 2 <;> funext <;> congr 2 <;> omega
  have hhigh (p e : Fin 128) : unstackHi w (ix2 p e) = ((wQ Q K V D T (4 * t + r.val) g.val (128 * (2 + e.val / 64) + p.val) e.val : ℝ) : EReal) := by
    have h : unstackHi w (ix2 p e) = Scalar.select (IntOp.cmpi CmpIPredicate.slt (BitVec.ofNat 32 e.val) 64#32) (w (ix2 ⟨256 + p.val, by omega⟩ e)) (w (ix2 ⟨384 + p.val, by omega⟩ e)) := by
      pointwise [unstackHi, lower]
    rw [h, hl, hw, hw]
    split
    · rw [one]; unfold wQ; congr 2 <;> simp only <;> congr 2 <;> funext <;> congr 2 <;> omega
    · rw [zero]; unfold wQ; congr 2 <;> simp only <;> congr 2 <;> funext <;> congr 2 <;> omega
  refine put_is _ _ _ _ a j _ (fun p e hp he => ?_) fun k1 => put_is _ _ _ _ a j _ (fun p e hp he => ?_) fun k0 => h fun l => ?_
  · rw [hhigh]; unfold dqR; congr 2 <;> omega
  · rw [hlow]; unfold dqR; congr 2 <;> omega
  · have := a.isLt
    have := j.isLt
    have := l.1
    have := l.2
    omega

end

/-! ## One quarter of the tile, and the point -/

section
variable {lo0 hi0 lo1 hi1 : Fin 2 → ℕ} {h0 : ∀ a, lo0 a + S128x128.size a ≤ S512x512.size a} {h1 : ∀ a, hi0 a + S128x128.size a ≤ S512x512.size a}
  {h2 : ∀ a, lo1 a + S128x128.size a ≤ S512x512.size a} {h3 : ∀ a, hi1 a + S128x128.size a ≤ S512x512.size a}

theorem quarter_sums (e0 : lo0 = ![128 * r.val, 0]) (e1 : hi0 = ![128 * r.val, 128]) (e2 : lo1 = ![128 * r.val, 256]) (e3 : hi1 = ![128 * r.val, 384])
    {o : Outs Ideal} (ho : Sums Q K V D T (4 * t + r.val) o.2) :
    Sums Q K V D T (4 * t + r.val + 1) (quarterStep i r lo0 hi0 lo1 hi1 h0 h1 h2 h3 x o).2 := by
  have o1 := hi ▸ off1 i r
  have o2 := hi ▸ off2 i r
  have o3 := hi ▸ off3 i r
  have o4 := hi ▸ off4 i r
  refine ⟨fun s c => ?_, fun s c => ?_, fun g c => ?_⟩
  · refine (dk_block hx i hi r 1 e2 e3 o3 o4 rfl
      (Y := fun s c => (∑ p ∈ range (4 * t + r.val), adds (wK Q K V D T) p s c) + if c / 128 = (0 : Fin 2).val then adds (wK Q K V D T) (4 * t + r.val) s c else 0)
      (fun s c => dk_block hx i hi r 0 e0 e1 o1 o2 rfl (Y := fun s c => ∑ p ∈ range (4 * t + r.val), adds (wK Q K V D T) p s c) ho.dk s c) s c).trans ?_
    rw [sum_range_succ, add_assoc]
    congr 2
    have := c.isLt
    rcases (by omega : c.val / 128 = 0 ∨ c.val / 128 = 1) with h | h <;> simp [h]
  · refine (dv_block hx i hi r 1 e2 e3 o3 o4 rfl
      (Y := fun s c => (∑ p ∈ range (4 * t + r.val), adds (wV Q K D T) p s c) + if c / 128 = (0 : Fin 2).val then adds (wV Q K D T) (4 * t + r.val) s c else 0)
      (fun s c => dv_block hx i hi r 0 e0 e1 o1 o2 rfl (Y := fun s c => ∑ p ∈ range (4 * t + r.val), adds (wV Q K D T) p s c) ho.dv s c) s c).trans ?_
    rw [sum_range_succ, add_assoc]
    congr 2
    have := c.isLt
    rcases (by omega : c.val / 128 = 0 ∨ c.val / 128 = 1) with h | h <;> simp [h]
  · refine (ds_block hx i hi r 1 e2 e3 o3 o4 rfl
      (Y := fun g c => (∑ p ∈ range (4 * t + r.val), dkB Q K V D T p g c) + if g = (0 : Fin 2).val then dkB Q K V D T (4 * t + r.val) g c else 0)
      (fun g c => ds_block hx i hi r 0 e0 e1 o1 o2 rfl (Y := fun g c => ∑ p ∈ range (4 * t + r.val), dkB Q K V D T p g c) ho.ds g c) g c).trans ?_
    rw [sum_range_succ, add_assoc]
    congr 2
    have := g.isLt
    rcases (by omega : g.val = 0 ∨ g.val = 1) with h | h <;> simp [h]

theorem quarter_dq (e0 : lo0 = ![128 * r.val, 0]) (e1 : hi0 = ![128 * r.val, 128]) (e2 : lo1 = ![128 * r.val, 256]) (e3 : hi1 = ![128 * r.val, 384])
    (o : Outs Ideal) (a j : Fin 512) (h : ¬ a.val / 128 = r.val → o.1 (ix2 a j) = ((dqR Q K V D T (512 * t + a.val) j.val : ℝ) : EReal)) :
    (quarterStep i r lo0 hi0 lo1 hi1 h0 h1 h2 h3 x o).1 (ix2 a j) = ((dqR Q K V D T (512 * t + a.val) j.val : ℝ) : EReal) := by
  have o1 := hi ▸ off1 i r
  have o2 := hi ▸ off2 i r
  have o3 := hi ▸ off3 i r
  have o4 := hi ▸ off4 i r
  refine dq_block hx i hi r 1 e2 e3 o3 o4 rfl _ a j fun k1 => dq_block hx i hi r 0 e0 e1 o1 o2 rfl _ a j fun k0 => h fun l => ?_
  have := j.isLt
  simp only [l, true_and, Fin.val_zero, Fin.val_one] at k0 k1
  omega

end

theorem blocks_sums {o : Outs Ideal} (ho : Sums Q K V D T (4 * t) o.2) : Sums Q K V D T (4 * (t + 1)) (blocksStep i x o).2 :=
  quarter_sums hx i hi 3 rfl rfl rfl rfl (quarter_sums hx i hi 2 rfl rfl rfl rfl (quarter_sums hx i hi 1 rfl rfl rfl rfl (quarter_sums hx i hi 0 rfl rfl rfl rfl ho)))

theorem blocks_dq (o : Outs Ideal) (a j : Fin 512) : (blocksStep i x o).1 (ix2 a j) = ((dqR Q K V D T (512 * t + a.val) j.val : ℝ) : EReal) := by
  refine quarter_dq hx i hi 3 rfl rfl rfl rfl _ a j fun k3 => quarter_dq hx i hi 2 rfl rfl rfl rfl _ a j fun k2 =>
    quarter_dq hx i hi 1 rfl rfl rfl rfl _ a j fun k1 => quarter_dq hx i hi 0 rfl rfl rfl rfl _ a j fun k0 => ?_
  have := a.isLt
  have v3 : (3 : Fin 4).val = 3 := rfl
  have v2 : (2 : Fin 4).val = 2 := rfl
  simp only [v3, v2, Fin.val_zero, Fin.val_one] at k0 k1 k2 k3
  omega

end

/-! ## Point by point -/

theorem cleared_sums (Q K V D : ℕ → ℕ → ℝ) (T : ℕ → ℝ) (o : Outs Ideal) : Sums Q K V D T 0 (cleared o).2 := by
  refine ⟨fun s c => ?_, fun s c => ?_, fun g c => ?_⟩ <;> rw [sum_range_zero] <;> exact Ideal.ofBits_zero .f32

theorem coords_val (t : Fin cfg0.N) : ((grid0.coords t) 0).val = t.val := (by decide +kernel : ∀ t : Fin grid0.N, ((grid0.coords t) 0).val = t.val) t

section
variable (m : (ℓ : Loc nD τ sig) → Buf (Elt Ideal) ℓ) (c : Dev nD) {Q K V D : ℕ → ℕ → ℝ} {T : ℕ → ℝ}
  (hx : ∀ t : Fin cfg0.N, InsAre Q K V D T t.val (insAt m c t))

include hx

theorem outs_dq (n : ℕ) (hn : n < cfg0.N) (a j : Fin 512) : (outsAt m c n hn).1 (ix2 a j) = ((dqR Q K V D T (512 * n + a.val) j.val : ℝ) : EReal) := by
  cases n <;> exact blocks_dq (hx ⟨_, hn⟩) _ (coords_val ⟨_, hn⟩) _ a j

theorem outs_sums : ∀ (n : ℕ) (hn : n < cfg0.N), Sums Q K V D T (4 * (n + 1)) (outsAt m c n hn).2
  | 0, hn => blocks_sums (hx ⟨0, hn⟩) _ (coords_val ⟨0, hn⟩) (by rw [if_pos ((atFirst_iff ⟨0, hn⟩).mpr rfl)]; exact cleared_sums Q K V D T _)
  | n + 1, hn => blocks_sums (hx ⟨n + 1, hn⟩) _ (coords_val ⟨n + 1, hn⟩) (by
      rw [if_neg fun h => absurd ((atFirst_iff ⟨n + 1, hn⟩).mp h) (Nat.succ_ne_zero n)]
      exact outs_sums n (Nat.lt_of_succ_lt hn))

end

end Attn

end
-- ==== Proof.AtRead.lean ====
/-
What one point of the attention's backward pass reads: the tiles of the queries and of the cotangent, the keys and values each twice
over, and the sinks, as the host lines prepare them.
-/
module

public import proofs.«01_k».proof.Proof.AtSums
public import Idealize.ShloMosaic.Lib.Pipeline.ValueKit

@[expose] public section

set_option maxRecDepth 16384

noncomputable section

namespace Attn

open Cert.Kernel2Ideal Cert.Kernel2Ideal.Gen Idealize.ShloMosaic Idealize.ShloMosaic.TcCoe Idealize.SL.Sem Idealize.ShloMosaic.StableHlo

/-- The arguments as real functions of their coordinates. -/
structure Args (m : (ℓ : Loc nD τ sig) → Buf (Elt Ideal) ℓ) (c : Dev nD) (Q K V : ℕ → ℕ → ℝ) (T : ℕ → ℝ) (D : ℕ → ℕ → ℝ) : Prop where
  q : ∀ (t : Fin 8192) (j : Fin 512), (show FVec Ideal S8192x512 .f32 from m ((c : Thread nD τ).loc main_arg0)) (ix2 t j) = ((Q t.val j.val : ℝ) : EReal)
  k : ∀ (t : Fin 8192) (j : Fin 128), (show FVec Ideal S8192x128 .f32 from m ((c : Thread nD τ).loc main_arg1)) (ix2 t j) = ((K t.val j.val : ℝ) : EReal)
  v : ∀ (t : Fin 8192) (j : Fin 128), (show FVec Ideal S8192x128 .f32 from m ((c : Thread nD τ).loc main_arg2)) (ix2 t j) = ((V t.val j.val : ℝ) : EReal)
  s : ∀ j : Fin 8, (show FVec Ideal S8 .f32 from m ((c : Thread nD τ).loc main_arg3)) (ix1 j) = ((T j.val : ℝ) : EReal)
  d : ∀ (t : Fin 8192) (j : Fin 512), (show FVec Ideal S8192x512 .f32 from m ((c : Thread nD τ).loc main_arg4)) (ix2 t j) = ((D t.val j.val : ℝ) : EReal)

/-- The queries scaled. -/
def scaled (Q : ℕ → ℕ → ℝ) (s j : ℕ) : ℝ := Q s j * (1 / 8)

/-- Each head of 64 twice. -/
def twice (K : ℕ → ℕ → ℝ) (s e : ℕ) : ℝ := K s (64 * (e / 128) + e % 64)

theorem idx : ∀ t : Fin cfg0.N, win0_0.index t = ![t.val, 0] ∧ win0_1.index t = ![0, 0] ∧ win0_2.index t = ![0, 0]
    ∧ win0_3.index t = ![t.val, 0] ∧ win0_4.index t = ![0, 0, 0] ∧ win0_5.index t = ![t.val, 0] ∧ win0_6.index t = ![0, 0]
    ∧ win0_7.index t = ![0, 0] ∧ win0_8.index t = ![0, 0, 0] :=
  (by decide +kernel : ∀ t : Fin grid0.N, _)

theorem row_lt (t : Fin cfg0.N) (i : Fin 512) : 512 * t.val + i.val < 8192 := by
  have := point_lt t
  omega

section
variable {m : (ℓ : Loc nD τ sig) → Buf (Elt Ideal) ℓ} {c : Dev nD} {Q K V : ℕ → ℕ → ℝ} {T : ℕ → ℝ} {D : ℕ → ℕ → ℝ} (A : Args m c Q K V T D)
include A

theorem host_q (t : Fin 8192) (j : Fin 512) :
    (show FVec Ideal S8192x512 .bf16 from Cert.Kernel2Ideal.Gen.V m c main_v6) (ix2 t j) = ((scaled Q t.val j.val : ℝ) : EReal) := by
  rw [scaled, EReal.coe_mul, ← A.q, ← bits_eighth]
  show (StableHlo.after hostOps0 (fun b => m (c, b)) (Proc.devRef .tc main_v6) : FVec Ideal S8192x512 .bf16) (ix2 t j) = _
  after_results
  pointwise

theorem host_k (t : Fin 8192) (e : Fin 256) :
    (show FVec Ideal S8192x256 .bf16 from Cert.Kernel2Ideal.Gen.V m c main_v10) (ix2 t e) = ((twice K t.val e.val : ℝ) : EReal) := by
  rw [twice, ← A.k t ⟨64 * (e.val / 128) + e.val % 64, by omega⟩]
  show (StableHlo.after hostOps0 (fun b => m (c, b)) (Proc.devRef .tc main_v10) : FVec Ideal S8192x256 .bf16) (ix2 t e) = _
  after_results
  pointwise
  blk_ext

theorem host_v (t : Fin 8192) (e : Fin 256) :
    (show FVec Ideal S8192x256 .bf16 from Cert.Kernel2Ideal.Gen.V m c main_v14) (ix2 t e) = ((twice V t.val e.val : ℝ) : EReal) := by
  rw [twice, ← A.v t ⟨64 * (e.val / 128) + e.val % 64, by omega⟩]
  show (StableHlo.after hostOps0 (fun b => m (c, b)) (Proc.devRef .tc main_v14) : FVec Ideal S8192x256 .bf16) (ix2 t e) = _
  after_results
  pointwise
  blk_ext

theorem host_d (t : Fin 8192) (j : Fin 512) :
    (show FVec Ideal S8192x512 .bf16 from Cert.Kernel2Ideal.Gen.V m c main_v15) (ix2 t j) = ((D t.val j.val : ℝ) : EReal) := by
  rw [← A.d]
  show (StableHlo.after hostOps0 (fun b => m (c, b)) (Proc.devRef .tc main_v15) : FVec Ideal S8192x512 .bf16) (ix2 t j) = _
  after_results
  pointwise

theorem host_s (g : Fin 2) (l : Fin 512) :
    (show FVec Ideal S2x1x512 .f32 from Cert.Kernel2Ideal.Gen.V m c main_v3) (ix3 g 0 l) = ((T (4 * g.val + l.val / 128) : ℝ) : EReal) := by
  rw [← A.s ⟨4 * g.val + l.val / 128, by omega⟩]
  show (StableHlo.after hostOps0 (fun b => m (c, b)) (Proc.devRef .tc main_v3) : FVec Ideal S2x1x512 .f32) (ix3 g 0 l) = _
  after_results
  pointwise
  blk_ext

theorem ins_are (t : Fin cfg0.N) : InsAre (scaled Q) (twice K) (twice V) D T t.val (insAt m c t) where
  q i j := by
    refine Eq.trans ?_ (host_q A ⟨512 * t.val + i.val, row_lt t i⟩ j)
    show (show FVec Ideal S512x512 .bf16 from iblk m c 0 t) (ix2 i j) = _
    blk_point [iblk, idx t]
  k i j := by
    refine Eq.trans ?_ (host_k A i j)
    show (show FVec Ideal S8192x256 .bf16 from iblk m c 1 t) (ix2 i j) = _
    blk_point [iblk, idx t]
  v i j := by
    refine Eq.trans ?_ (host_v A i j)
    show (show FVec Ideal S8192x256 .bf16 from iblk m c 2 t) (ix2 i j) = _
    blk_point [iblk, idx t]
  o i j := by
    refine Eq.trans ?_ (host_d A ⟨512 * t.val + i.val, row_lt t i⟩ j)
    show (show FVec Ideal S512x512 .bf16 from iblk m c 3 t) (ix2 i j) = _
    blk_point [iblk, idx t]
  s g l := by
    refine Eq.trans ?_ (host_s A g l)
    show (show FVec Ideal S2x1x512 .f32 from iblk m c 4 t) (ix3 g 0 l) = _
    blk_point [iblk, idx t]

end

end Attn

end
-- ==== Proof.AtSame.lean ====
/-
Over the reals the gradients that the blocks add up, four heads stacked and the keys' and values' rows repeated in two halves,
are those of the attention written head by head.
-/
module

public import proofs.«01_k».proof.Proof.AtSpec
public import proofs.«01_k».proof.Proof.AtRefOut
public import proofs.«01_k».proof.Proof.AtRead

@[expose] public section

set_option maxRecDepth 16384

noncomputable section

namespace Attn

open Finset
open Ref (qry bd scR dpR pW dW sW dqF keyAdd valAdd overlap)

/-! ## One block -/

section
variable (X Y : ℕ → ℕ → ℝ) {n g h a b : ℕ} (ha : a < 128) (hb : b < 256)

theorem bnd_twice (e : ℕ) (he : e < 128) : bnd (twice Y) n g b e = Y (keyRow n b) (64 * g + e % 64) := by
  unfold bnd twice
  congr 1
  omega

include ha in
theorem stk_head (e : ℕ) : stk X n g (128 * h + a) e = if e / 64 = h % 2 then qry X n g h a (e % 64) else 0 := by
  unfold stk qry
  have h1 : (128 * h + a) / 128 = h := by omega
  have h2 : (128 * h + a) % 128 = a := by omega
  rw [h1, h2, ← add_assoc]

theorem sum_halves (f : ℕ → ℝ) : ∑ e : Fin 128, f e.val = ∑ d : Fin 64, (f d.val + f (64 + d.val)) := by
  rw [← Fin.sum_mul_add_fin 2 64 (fun l : Fin 128 => f l.val), Fin.sum_univ_two, ← sum_add_distrib]
  refine sum_congr rfl fun d _ => ?_
  simp

include ha in
/-- The two halves of a stacked row together are the row. -/
theorem stk_halves (d : ℕ) (hd : d < 64) : stk X n g (128 * h + a) d + stk X n g (128 * h + a) (64 + d) = qry X n g h a d := by
  rw [stk_head X ha, stk_head X ha]
  have h1 : d / 64 = 0 := by omega
  have h2 : (64 + d) / 64 = 1 := by omega
  have h3 : d % 64 = d := by omega
  have h4 : (64 + d) % 64 = d := by omega
  rw [h1, h2, h3, h4]
  rcases Nat.mod_two_eq_zero_or_one h with k | k <;> simp [k]

include ha hb in
theorem prd_head (hs : seen n a b = true) :
    prd (twice Y) X n g (128 * h + a) b = ∑ d : Fin 64, bd Y n b g d.val * qry X n g h a d.val := by
  unfold prd
  rw [sum_halves fun e => bnd (twice Y) n g b e * stk X n g (128 * h + a) e]
  refine sum_congr rfl fun d _ => ?_
  have hd := d.isLt
  rw [bnd_twice Y _ (by omega), bnd_twice Y _ (by omega), show d.val % 64 = d.val by omega, show (64 + d.val) % 64 = d.val by omega, ← mul_add, stk_halves X ha _ hd]
  congr 1
  simp only [seen, decide_eq_true_eq] at hs
  have hk : keyRow n b = 128 * n + b - 128 := by
    unfold keyRow
    split <;> omega
  unfold bd
  rw [hk, if_neg (by omega)]

end

section
variable (Q K V D : ℕ → ℕ → ℝ) (T : ℕ → ℝ) {n g h a b : ℕ} (ha : a < 128)

include ha

theorem scores_head (hs : seen n a b = true) : prd (twice K) (scaled Q) n g (128 * h + a) b = scR Q K n g h a b := by
  have hb : b < 256 := by
    simp only [seen, decide_eq_true_eq] at hs
    omega
  rw [prd_head (scaled Q) K ha hb hs, scR, sum_mul]
  refine sum_congr rfl fun d _ => ?_
  simp only [qry, scaled]
  ring

theorem dprobs_head (hs : seen n a b = true) : prd (twice V) D n g (128 * h + a) b = dpR D V n g h a b := by
  have hb : b < 256 := by
    simp only [seen, decide_eq_true_eq] at hs
    omega
  rw [prd_head D V ha hb hs, dpR]
  exact sum_congr rfl fun d _ => mul_comm _ _

theorem prB_head : prB (scaled Q) (twice K) T n g (128 * h + a) b = pW Q K T n g h a b := by
  unfold prB pW
  rw [show (128 * h + a) % 128 = a by omega, show (128 * h + a) / 128 = h by omega]
  exact prb_congr _ _ _ (fun b hs => scores_head Q K ha hs) b

theorem dsB_head : dsB (scaled Q) (twice K) (twice V) D T n g (128 * h + a) b = dW Q K V D T n g h a b := by
  unfold dsB dW
  rw [show (128 * h + a) % 128 = a by omega, show (128 * h + a) / 128 = h by omega]
  exact dsc_congr _ _ _ _ (fun b hs => scores_head Q K ha hs) (fun b hs => dprobs_head V D ha hs) b

theorem dkB_head : dkB (scaled Q) (twice K) (twice V) D T n g (128 * h + a) = sW Q K V D T n g h a := by
  unfold dkB sW
  rw [show (128 * h + a) % 128 = a by omega, show (128 * h + a) / 128 = h by omega]
  exact dsk_congr _ _ _ _ (fun b hs => scores_head Q K ha hs) (fun b hs => dprobs_head V D ha hs)

end

section
variable (Q K V D : ℕ → ℕ → ℝ) (T : ℕ → ℝ)

/-! ## The queries' gradient -/

theorem dq_same (s j : ℕ) : dqR (scaled Q) (twice K) (twice V) D T s j = dqF Q K V D T s j := by
  unfold dqR wQ dqF
  rw [sum_mul]
  refine sum_congr rfl fun b _ => ?_
  rw [dsB_head Q K V D T (Nat.mod_lt _ (by norm_num)), bnd_twice K _ (Nat.mod_lt _ (by norm_num)), show j % 128 % 64 = j % 64 by omega,
    show j / 64 / 4 = j / 256 by omega, show j / 64 % 4 = j % 256 / 64 by omega]
  by_cases hs : seen (s / 128) (s % 128) b.val = true
  · have : bd K (s / 128) b.val (j / 256) (j % 64) = K (keyRow (s / 128) b.val) (64 * (j / 256) + j % 64) := by
      simp only [seen, decide_eq_true_eq] at hs
      unfold bd keyRow
      rw [if_neg (by omega)]
      split <;> congr 2 <;> omega
    rw [this]
    ring
  · rw [dW, dsc_unseen _ _ _ _ (Bool.eq_false_iff.mpr hs)]
    ring

/-! ## The keys' and the values' -/

/-- The four heads' 128 rows. -/
theorem sum_heads (f : ℕ → ℝ) : ∑ c : Fin 512, f c.val = ∑ h : Fin 4, ∑ a : Fin 128, f (128 * h.val + a.val) := by
  rw [← Fin.sum_mul_add_fin 4 128 (fun l : Fin 512 => f l.val)]
  refine sum_congr rfl fun h _ => sum_congr rfl fun a _ => ?_
  show f (h.val * 128 + a.val) = _
  rw [Nat.mul_comm]

theorem key_block (n g b d : ℕ) (hd : d < 64) :
    wK (scaled Q) (twice K) (twice V) D T n g b d + wK (scaled Q) (twice K) (twice V) D T n g b (64 + d) = keyAdd Q K V D T n b g d := by
  unfold wK keyAdd
  rw [← sum_add_distrib, sum_comm (s := univ (α := Fin 128))]
  rw [sum_heads fun c => dsB (scaled Q) (twice K) (twice V) D T n g c b * stk (scaled Q) n g c d + dsB (scaled Q) (twice K) (twice V) D T n g c b * stk (scaled Q) n g c (64 + d)]
  refine sum_congr rfl fun h _ => sum_congr rfl fun a _ => ?_
  rw [← mul_add, stk_halves (scaled Q) a.isLt d hd, dsB_head Q K V D T a.isLt]
  simp only [qry, scaled]
  ring

theorem val_block (n g b d : ℕ) (hd : d < 64) :
    wV (scaled Q) (twice K) D T n g b d + wV (scaled Q) (twice K) D T n g b (64 + d) = valAdd Q K D T n b g d := by
  unfold wV valAdd
  rw [← sum_add_distrib]
  rw [sum_heads fun c => prB (scaled Q) (twice K) T n g c b * stk D n g c d + prB (scaled Q) (twice K) T n g c b * stk D n g c (64 + d)]
  refine sum_congr rfl fun h _ => sum_congr rfl fun a _ => ?_
  rw [← mul_add, stk_halves D a.isLt d hd, prB_head Q K T a.isLt, mul_comm]

/-- The block before the first adds nothing. -/
theorem key_none (b g d : ℕ) (hb : b < 128) : keyAdd Q K V D T 0 b g d = 0 := by
  unfold keyAdd dW
  refine sum_eq_zero fun a _ => sum_eq_zero fun h _ => ?_
  rw [dsc_unseen _ _ _ _ (by simp [seen]; omega), zero_mul, zero_mul]

theorem val_none (b g d : ℕ) (hb : b < 128) : valAdd Q K D T 0 b g d = 0 := by
  unfold valAdd pW
  refine sum_eq_zero fun h _ => sum_eq_zero fun a _ => ?_
  rw [prb_unseen _ _ _ (by simp [seen]; omega), mul_zero]

/-- What the blocks add to one row, both halves: its own block's part and the next one's. -/
theorem adds_overlap (w W : ℕ → ℕ → ℕ → ℕ → ℝ) (h : ∀ n g b d, d < 64 → w n g b d + w n g b (64 + d) = W n b g d)
    (h0 : ∀ b g d, b < 128 → W 0 b g d = 0) (s c : ℕ) (hs : s < 8192) :
    (∑ p ∈ range 64, adds w p s (128 * (c / 64) + c % 64)) + ∑ p ∈ range 64, adds w p s (128 * (c / 64) + (64 + c % 64)) = overlap W s c := by
  have hc : c % 64 < 64 := Nat.mod_lt _ (by norm_num)
  have e : ∀ p, adds w p s (128 * (c / 64) + c % 64) + adds w p s (128 * (c / 64) + (64 + c % 64))
      = (if s / 128 = p - 1 then W p (s % 128) (c / 64) (c % 64) else 0) + if s / 128 = p then W p (128 + s % 128) (c / 64) (c % 64) else 0 := by
    intro p
    unfold adds
    rw [show (128 * (c / 64) + c % 64) / 128 = c / 64 by omega, show (128 * (c / 64) + (64 + c % 64)) / 128 = c / 64 by omega,
      show (128 * (c / 64) + c % 64) % 128 = c % 64 by omega, show (128 * (c / 64) + (64 + c % 64)) % 128 = 64 + c % 64 by omega,
      ← h p _ _ _ hc, ← h p _ _ _ hc]
    split_ifs <;> ring
  rw [← sum_add_distrib, sum_congr rfl fun p _ => e p, sum_add_distrib, sum_ite_eq, if_pos (mem_range.mpr (by omega)), overlap, add_comm]
  congr 1
  rw [sum_range_succ', h0 _ _ _ (Nat.mod_lt _ (by norm_num))]
  simp only [Nat.add_sub_cancel, ite_self, add_zero, sum_ite_eq, mem_range, Nat.add_comm 1]

theorem dk_same (s c : ℕ) (hs : s < 8192) :
    (∑ p ∈ range 64, adds (wK (scaled Q) (twice K) (twice V) D T) p s (128 * (c / 64) + c % 64))
      + ∑ p ∈ range 64, adds (wK (scaled Q) (twice K) (twice V) D T) p s (128 * (c / 64) + (64 + c % 64)) = overlap (keyAdd Q K V D T) s c :=
  adds_overlap _ _ (key_block Q K V D T) (key_none Q K V D T) s c hs

theorem dv_same (s c : ℕ) (hs : s < 8192) :
    (∑ p ∈ range 64, adds (wV (scaled Q) (twice K) D T) p s (128 * (c / 64) + c % 64))
      + ∑ p ∈ range 64, adds (wV (scaled Q) (twice K) D T) p s (128 * (c / 64) + (64 + c % 64)) = overlap (valAdd Q K D T) s c :=
  adds_overlap _ _ (val_block Q K D T) (val_none Q K D T) s c hs

/-! ## The sinks' -/

theorem dsinks_same (i : ℕ) : ∑ a : Fin 128, ∑ p ∈ range 64, dkB (scaled Q) (twice K) (twice V) D T p (i / 4) (128 * (i % 4) + a.val)
    = ∑ p : Fin 64 × Fin 128, sW Q K V D T p.1.val (i / 4) (i % 4) p.2.val := by
  rw [Fintype.sum_prod_type, sum_comm, sum_range]
  exact sum_congr rfl fun p _ => sum_congr rfl fun a _ => dkB_head Q K V D T a.isLt

end

end Attn

end
-- ==== Proof.AtLaunch.lean ====
/-
The launch of the attention's backward pass: the body at each point, and the run of the whole program.
-/
module

public import proofs.«01_k».proof.Proof.AtFrame
public import Idealize.ShloMosaic.Lib.Claim

@[expose] public section

set_option maxRecDepth 16384

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen
open VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the body at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- After it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_q, before_k, before_v, before_o, before_s]
  rw [show (dats m 0 c).Φ t.succ = (dats m 0 c).Φ t.castSucc from rfl, show (dats m 0 c).owesAt () t.succ = (dats m 0 c).owesAt () t.castSucc from rfl,
    after_q, after_k, after_v, after_o, after_s, after_dq, after_dk, after_dv, after_ds]
  by_cases h0 : t.val = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [← outsAt_first m c t h0 ((dats m 0 c).before 5 t d5, (dats m 0 c).before 6 t d6, (dats m 0 c).before 7 t d7, (dats m 0 c).before 8 t d8)]
    unfold bodyAt0
    iapply (body_run c (st0_0 t) _ (st0_1 t) _ (st0_2 t) _ (st0_3 t) _ (st0_4 t) _ (st0_5 t) _ (st0_6 t) _ (st0_7 t) _ (st0_8 t) _ (grid0.coords t) (insAt m c t) ((dats m 0 c).before 5 t d5, (dats m 0 c).before 6 t d6, (dats m 0 c).before 7 t d7, (dats m 0 c).before 8 t d8) _ _)
    isplitl [H0 H1 H2 H3 H4 H5 H6 H7 H8]
    · unfold heldAt held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    unfold heldAt held
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before_dk m c t h0, before_dv m c t h0, before_ds m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [← outsAt_later m c t h0 ((dats m 0 c).before 5 t d5, (outsAt m c (t.val - 1) (Nat.lt_of_le_of_lt (Nat.sub_le _ _) t.isLt)).2) rfl]
    unfold bodyAt0
    iapply (body_run c (st0_0 t) _ (st0_1 t) _ (st0_2 t) _ (st0_3 t) _ (st0_4 t) _ (st0_5 t) _ (st0_6 t) _ (st0_7 t) _ (st0_8 t) _ (grid0.coords t) (insAt m c t) ((dats m 0 c).before 5 t d5, (outsAt m c (t.val - 1) (Nat.lt_of_le_of_lt (Nat.sub_le _ _) t.isLt)).2) _ _)
    isplitl [H0 H1 H2 H3 H4 H5 H6 H7 H8]
    · unfold heldAt held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    unfold heldAt held
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run of the program: its pipeline's arrays as the proof data give them, the other buffers as the host left them, no semaphore count left. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arr_eq m) (hΦ := fun _ _ => rfl)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- Every run ends with the arguments as they were and no semaphore count left. -/
theorem frame_any : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
      ∧ r.2.sem = fun _ => 0) :=
  θ_run_and (frame_of m ρ (dats m) (arr_eq m) (run m ρ)) ((θ_run defs _ _).mono (fun _ h => h.2) (run_quiescent m ρ))

end Attn

end
-- ==== Proof.AtKernel.lean ====
/-
The frames of the attention's backward pass: the printed kernel's and its ideal reading's, both from the one run.
-/
module

public import proofs.«01_k».proof.Proof.AtLaunch
public import proofs.«01_k».proof.Proof.Gen.Kernel2
public import proofs.«01_k».proof.Defs
public import Idealize.ShloMosaic.Lib.Tactic

@[expose] public section

set_option maxRecDepth 16384

noncomputable section

namespace Attn

open Idealize.ShloMosaic Idealize.ShloMosaic.TcCoe Idealize.ShloMosaic.Tactic
open Idealize.SL Idealize.SL.Sem

theorem frame_ideal : Cert.quiescent_Kernel2Ideal := fun m ρ _ => frame_any (F := Ideal) m ρ

theorem frame_kernel : Cert.quiescent_Kernel2 := fun m ρ _ => Eq.mp (by sl_kernel_rfl) (frame_any (F := Bits) m ρ)

end Attn

end
-- ==== Proof.AtTail.lean ====
/-
The arrays the attention's backward pass leaves, and the host's lines after it.
-/
module

public import proofs.«01_k».proof.Proof.AtRead
public import proofs.«01_k».proof.Proof.AtKernel

@[expose] public section

set_option maxRecDepth 16384

noncomputable section

namespace Attn

open Cert.Kernel2Ideal Cert.Kernel2Ideal.Gen Idealize.ShloMosaic Idealize.ShloMosaic.TcCoe Idealize.SL.Sem Idealize.ShloMosaic.StableHlo

/-! ## The four arrays -/

section
variable {m : (ℓ : Loc nD τ sig) → Buf (Elt Ideal) ℓ} {c : Dev nD} {Q K V : ℕ → ℕ → ℝ} {T : ℕ → ℝ} {D : ℕ → ℕ → ℝ} (A : Args m c Q K V T D)
include A

theorem arr_dq : (dats m 0 c).arrAt 5 cfg0.N = (show FVec Ideal S8192x512 .f32 from fun i =>
    ((dqR (scaled Q) (twice K) (twice V) D T (i 0).val (i 1).val : ℝ) : EReal)) := by
  refine (dats m 0 c).arrAt_eq_of_covers 5 _ (by decide +kernel) fun t _ y => ?_
  blk_simp
  rw [after_dq]
  refine (congrArg (outsAt m c t.val t.isLt).1 (ValueIdx.eq_ix2 y)).trans ((outs_dq m c (ins_are A) t.val t.isLt (y 0) (y 1)).trans ?_)
  have h0 : win0_5.index t 0 * 512 + (y 0).val = 512 * t.val + (y 0).val := by simp [idx t, Nat.mul_comm]
  have h1 : win0_5.index t 1 * 512 + (y 1).val = (y 1).val := by simp [idx t]
  rw [h0, h1]

omit A in
theorem last_point (t : Fin cfg0.N) (h : t.val % 16 = 15) : 4 * (t.val + 1) = 64 := by
  have := point_lt t
  omega

theorem arr_dk : (dats m 0 c).arrAt 6 cfg0.N = (show FVec Ideal S8192x256 .f32 from fun i =>
    ((∑ p ∈ Finset.range 64, adds (wK (scaled Q) (twice K) (twice V) D T) p (i 0).val (i 1).val : ℝ) : EReal)) := by
  refine (dats m 0 c).arrAt_eq_of_covers 6 _ (by decide +kernel) fun t hf y => ?_
  blk_simp
  rw [after_dk]
  refine (congrArg (outsAt m c t.val t.isLt).2.1 (ValueIdx.eq_ix2 y)).trans (((outs_sums m c (ins_are A) t.val t.isLt).dk (y 0) (y 1)).trans ?_)
  have h0 : win0_6.index t 0 * 8192 + (y 0).val = (y 0).val := by simp [idx t]
  have h1 : win0_6.index t 1 * 256 + (y 1).val = (y 1).val := by simp [idx t]
  rw [h0, h1, last_point t ((flush0_6 t).mp hf)]

theorem arr_dv : (dats m 0 c).arrAt 7 cfg0.N = (show FVec Ideal S8192x256 .f32 from fun i =>
    ((∑ p ∈ Finset.range 64, adds (wV (scaled Q) (twice K) D T) p (i 0).val (i 1).val : ℝ) : EReal)) := by
  refine (dats m 0 c).arrAt_eq_of_covers 7 _ (by decide +kernel) fun t hf y => ?_
  blk_simp
  rw [after_dv]
  refine (congrArg (outsAt m c t.val t.isLt).2.2.1 (ValueIdx.eq_ix2 y)).trans (((outs_sums m c (ins_are A) t.val t.isLt).dv (y 0) (y 1)).trans ?_)
  have h0 : win0_7.index t 0 * 8192 + (y 0).val = (y 0).val := by simp [idx t]
  have h1 : win0_7.index t 1 * 256 + (y 1).val = (y 1).val := by simp [idx t]
  rw [h0, h1, last_point t ((flush0_7 t).mp hf)]

theorem arr_ds : (dats m 0 c).arrAt 8 cfg0.N = (show FVec Ideal S2x1x512 .f32 from fun i =>
    ((∑ p ∈ Finset.range 64, dkB (scaled Q) (twice K) (twice V) D T p (i 0).val (i 2).val : ℝ) : EReal)) := by
  refine (dats m 0 c).arrAt_eq_of_covers 8 _ (by decide +kernel) fun t hf y => ?_
  blk_simp
  rw [after_ds]
  have hz : (show Fin 1 from y 1) = 0 := Subsingleton.elim _ _
  have hy : y = ix3 (y 0) (0 : Fin 1) (y 2) := (ValueIdx.eq_ix3 y).trans (congrArg (fun z : Fin 1 => ix3 (y 0) z (y 2)) hz)
  refine (congrArg (outsAt m c t.val t.isLt).2.2.2 hy).trans (((outs_sums m c (ins_are A) t.val t.isLt).ds (y 0) (y 2)).trans ?_)
  have h0 : win0_8.index t 0 * 2 + (y 0).val = (y 0).val := by simp [idx t]
  have h2 : win0_8.index t 2 * 512 + (y 2).val = (y 2).val := by simp [idx t]
  rw [h0, h2, last_point t ((flush0_8 t).mp hf)]

end

/-! ## The host's lines -/

/-- The two halves of each key head added. -/
def halves (w : FVec Ideal S8192x256 .f32) : FVec Ideal S8192x128 .f32 :=
  shapeCast S8192x128 (Host.reduceAdd (shapeCast S8192x2x2x64 w shapeCasts_S8192x256_S8192x2x2x64) (constant S_ .f32 0x00000000#32) reducesTo_S8192x2x2x64_S8192x2x64_d2 h_S_)
    shapeCasts_S8192x2x64_S8192x128

/-- The rows of each head's sink added. -/
def rowsSum (w : FVec Ideal S2x1x512 .f32) : FVec Ideal S8 .f32 :=
  shapeCast S8 (Host.reduceAdd (shapeCast S2x4x128 w shapeCasts_S2x1x512_S2x4x128) (constant S_ .f32 0x00000000#32) reducesTo_S2x4x128_S2x4_d2 h_S_) shapeCasts_S2x4_S8

theorem halves_apply (w : FVec Ideal S8192x256 .f32) (s : Fin 8192) (e : Fin 128) : halves w (ix2 s e)
    = w (ix2 s ⟨128 * (e.val / 64) + e.val % 64, by omega⟩) + w (ix2 s ⟨128 * (e.val / 64) + (64 + e.val % 64), by omega⟩) := by
  pointwise [halves]
  rw [Fin.sum_univ_two]
  congr 2 <;> exact congrArg (fun z => ix2 s z) (Fin.ext (by simp only [Fin.val_zero, Fin.val_one]; omega))

theorem rowsSum_apply (w : FVec Ideal S2x1x512 .f32) (i : Fin 8) : rowsSum w (ix1 i)
    = ∑ a : Fin 128, w (ix3 ⟨i.val / 4, by omega⟩ 0 ⟨128 * (i.val % 4) + a.val, by omega⟩) := by
  pointwise [rowsSum]
  simp only [Nat.mul_comm]

theorem after_dsinks (V : Valuation τ sig (Elt Ideal)) :
    (StableHlo.after hostOps1 V (Proc.devRef .tc main_v19) : FVec Ideal S8 .f32) = rowsSum (V (Proc.devRef .tc main_v16_3) : FVec Ideal S2x1x512 .f32) := by
  after_results
  rfl

theorem after_keys (V : Valuation τ sig (Elt Ideal)) :
    (StableHlo.after hostOps1 V (Proc.devRef .tc main_v22) : FVec Ideal S8192x128 .f32) = halves (V (Proc.devRef .tc main_v16_1) : FVec Ideal S8192x256 .f32) := by
  after_results
  rfl

theorem after_vals (V : Valuation τ sig (Elt Ideal)) :
    (StableHlo.after hostOps1 V (Proc.devRef .tc main_v25) : FVec Ideal S8192x128 .f32) = halves (V (Proc.devRef .tc main_v16_2) : FVec Ideal S8192x256 .f32) := by
  after_results
  rfl

section
variable (m : (ℓ : Loc nD τ sig) → Buf (Elt Ideal) ℓ) (c : Dev nD)

theorem tail_dsinks : (show FVec Ideal S8 .f32 from Pipeline.afterTail₀ cfgs (dats m) 0 (V0 m) [hostOps1] c main_v19)
    = rowsSum (show FVec Ideal S2x1x512 .f32 from (dats m 0 c).arrAt 8 cfg0.N) :=
  (after_dsinks (Pipeline.withArrays spec0 c (V0 m c) fun w => (dats m 0 c).arrAt w cfg0.N)).trans
    (congrArg rowsSum (Pipeline.withArrays_arr spec0 launch0.win.arr_inj c (V0 m c) (fun w => (dats m 0 c).arrAt w cfg0.N) 8))

theorem tail_keys : (show FVec Ideal S8192x128 .f32 from Pipeline.afterTail₀ cfgs (dats m) 0 (V0 m) [hostOps1] c main_v22)
    = halves (show FVec Ideal S8192x256 .f32 from (dats m 0 c).arrAt 6 cfg0.N) :=
  (after_keys (Pipeline.withArrays spec0 c (V0 m c) fun w => (dats m 0 c).arrAt w cfg0.N)).trans
    (congrArg halves (Pipeline.withArrays_arr spec0 launch0.win.arr_inj c (V0 m c) (fun w => (dats m 0 c).arrAt w cfg0.N) 6))

theorem tail_vals : (show FVec Ideal S8192x128 .f32 from Pipeline.afterTail₀ cfgs (dats m) 0 (V0 m) [hostOps1] c main_v25)
    = halves (show FVec Ideal S8192x256 .f32 from (dats m 0 c).arrAt 7 cfg0.N) :=
  (after_vals (Pipeline.withArrays spec0 c (V0 m c) fun w => (dats m 0 c).arrAt w cfg0.N)).trans
    (congrArg halves (Pipeline.withArrays_arr spec0 launch0.win.arr_inj c (V0 m c) (fun w => (dats m 0 c).arrAt w cfg0.N) 7))

end

end Attn

end
-- ==== Proof.AtClaim.lean ====
/- The attention's backward pass: both programs end with the same four arrays. -/
module

public import proofs.«01_k».proof.Defs
public import Idealize.ShloMosaic.Lib.Quiescent
public import proofs.«01_k».proof.Proof.Gen.Reference2Ideal
public import proofs.«01_k».proof.Proof.Gen.Reference2Ideal.Run
public import proofs.«01_k».proof.Proof.Gen.Pre_finite2
public import proofs.«01_k».proof.Proof.Finite
public import proofs.«01_k».proof.Proof.AtSame
public import proofs.«01_k».proof.Proof.AtTail

@[expose] public section

set_option maxRecDepth 16384

noncomputable section

namespace Attn

open Idealize.ShloMosaic Idealize.ShloMosaic.TcCoe Idealize.SL.Sem Cert.Kernel2Ideal Cert.Proof

variable (m : (ℓ : Loc nD τ sig) → Buf (Elt Ideal) ℓ)

/-- Finite arguments are real. -/
theorem args (h : Cert.Pre_Kernel2Ideal_finite2 (hPre_finite2 := Cert.Pre_finite2.Gen.facts) m) (c : Dev nD) :
    ∃ (Q K V : ℕ → ℕ → ℝ) (T : ℕ → ℝ) (D : ℕ → ℕ → ℝ), Args m c Q K V T D := by
  obtain ⟨h0, h1, h2, h3, h4⟩ := h c
  obtain ⟨Q, hQ⟩ := Reals.choose2 (fun i j => _) fun i j => Reals.real_of_finite _ _ h0 (ix2 i j)
  obtain ⟨K, hK⟩ := Reals.choose2 (fun i j => _) fun i j => Reals.real_of_finite _ _ h1 (ix2 i j)
  obtain ⟨V, hV⟩ := Reals.choose2 (fun i j => _) fun i j => Reals.real_of_finite _ _ h2 (ix2 i j)
  obtain ⟨T, hT⟩ := Reals.choose1 (fun i => _) fun i => Reals.real_of_finite _ _ h3 (ix1 i)
  obtain ⟨D, hD⟩ := Reals.choose2 (fun i j => _) fun i j => Reals.real_of_finite _ _ h4 (ix2 i j)
  exact ⟨Q, K, V, T, D, hQ, hK, hV, hT, hD⟩

variable {m} {c : Dev nD} {Q K V : ℕ → ℕ → ℝ} {T : ℕ → ℝ} {D : ℕ → ℕ → ℝ} (A : Args m c Q K V T D)
include A

theorem ref_args : Ref.Args (m (c.tc.loc main_arg0)) (m (c.tc.loc main_arg1)) (m (c.tc.loc main_arg2)) (m (c.tc.loc main_arg3)) (m (c.tc.loc main_arg4))
    Q K V T D := ⟨A.q, A.k, A.v, A.s, A.d⟩

/-- The reference's four results of the kernel's arguments are the kernel's. -/
theorem equal_dq : (show FVec Ideal S8192x512 .f32 from Cert.Reference2Ideal.Read.val_main_v163 (F := Ideal) (m (c.tc.loc main_arg0)) (m (c.tc.loc main_arg1)) (m (c.tc.loc main_arg2))
    (m (c.tc.loc main_arg3)) (m (c.tc.loc main_arg4))) = (dats m 0 c).arrAt 5 cfg0.N := by
  rw [arr_dq A]
  funext i
  rw [ValueIdx.eq_ix2 i]
  exact (Ref.dq_at _ _ _ _ _ Q K V D T (ref_args A) (i 0) (i 1)).trans (congrArg Real.toEReal (dq_same Q K V D T (i 0) (i 1)).symm)

theorem equal_dk : (show FVec Ideal S8192x128 .f32 from Cert.Reference2Ideal.Read.val_main_v162 (F := Ideal) (m (c.tc.loc main_arg0)) (m (c.tc.loc main_arg1)) (m (c.tc.loc main_arg2))
    (m (c.tc.loc main_arg3)) (m (c.tc.loc main_arg4))) = Pipeline.afterTail₀ cfgs (dats m) 0 (Gen.V0 m) [Gen.hostOps1] c main_v22 := by
  refine Eq.trans ?_ (tail_keys m c).symm
  rw [arr_dk A]
  funext i
  rw [ValueIdx.eq_ix2 i]
  refine (Ref.dk_at _ _ _ _ _ Q K V D T (ref_args A) (i 0) (i 1)).trans ?_
  refine Eq.trans ?_ (halves_apply _ (i 0) (i 1)).symm
  exact (congrArg Real.toEReal (dk_same Q K V D T (i 0) (i 1) (i 0).isLt).symm).trans (EReal.coe_add _ _)

theorem equal_dv : (show FVec Ideal S8192x128 .f32 from Cert.Reference2Ideal.Read.val_main_v161 (F := Ideal) (m (c.tc.loc main_arg0)) (m (c.tc.loc main_arg1))
    (m (c.tc.loc main_arg3)) (m (c.tc.loc main_arg4))) = Pipeline.afterTail₀ cfgs (dats m) 0 (Gen.V0 m) [Gen.hostOps1] c main_v25 := by
  refine Eq.trans ?_ (tail_vals m c).symm
  rw [arr_dv A]
  funext i
  rw [ValueIdx.eq_ix2 i]
  refine (Ref.dv_at _ _ _ (m (c.tc.loc main_arg2)) _ Q K V D T (ref_args A) (i 0) (i 1)).trans ?_
  refine Eq.trans ?_ (halves_apply _ (i 0) (i 1)).symm
  exact (congrArg Real.toEReal (dv_same Q K D T (i 0) (i 1) (i 0).isLt).symm).trans (EReal.coe_add _ _)

theorem equal_dsinks : (show FVec Ideal S8 .f32 from Cert.Reference2Ideal.Read.val_main_v137 (F := Ideal) (m (c.tc.loc main_arg0)) (m (c.tc.loc main_arg1)) (m (c.tc.loc main_arg2))
    (m (c.tc.loc main_arg3)) (m (c.tc.loc main_arg4))) = Pipeline.afterTail₀ cfgs (dats m) 0 (Gen.V0 m) [Gen.hostOps1] c main_v19 := by
  refine Eq.trans ?_ (tail_dsinks m c).symm
  rw [arr_ds A]
  funext i
  rw [ValueIdx.eq_ix1 i]
  refine (Ref.dsinks_at _ _ _ _ _ Q K V D T (ref_args A) (i 0)).trans ?_
  refine Eq.trans ?_ (rowsSum_apply _ (i 0)).symm
  exact (congrArg Real.toEReal (dsinks_same Q K V D T (i 0)).symm).trans (Reals.sum_coe _ _).symm

omit A

/-- The attention's gradients are the reference's. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hag
  refine ⟨fun c => (dats m 0 c).arrAt 5 cfg0.N, fun c => Pipeline.afterTail₀ cfgs (dats m) 0 (Gen.V0 m) [Gen.hostOps1] c main_v22,
    fun c => Pipeline.afterTail₀ cfgs (dats m) 0 (Gen.V0 m) [Gen.hostOps1] c main_v25,
    fun c => Pipeline.afterTail₀ cfgs (dats m) 0 (Gen.V0 m) [Gen.hostOps1] c main_v19, ?_, ?_⟩
  · exact (θ_run defs _ _).mono (fun r h c => ⟨(h.2 c).1 5, (h.2 c).2 main_v22 (Pipeline.mem_restRefs_of main_v22 (by decide) (by decide)),
      (h.2 c).2 main_v25 (Pipeline.mem_restRefs_of main_v25 (by decide) (by decide)), (h.2 c).2 main_v19 (Pipeline.mem_restRefs_of main_v19 (by decide) (by decide)), h.1.1 c⟩)
      (θ_run_and (frame_any m g) (run m g))
  · refine (θ_run Cert.Reference2Ideal.defs _ _).mono (fun r h c => ?_) (Cert.Reference2Ideal.Value.run m' g')
    obtain ⟨Q, K, V, T, D, A⟩ := args m hpre c
    obtain ⟨a0, a1, a2, a3, a4⟩ := hag c
    obtain ⟨r0, r1, r2, r3, rest⟩ := h c
    replace a0 : StableHlo.launchContents m' c (Proc.tc.devRef Cert.Reference2Ideal.main_arg0) = m (c.tc.loc main_arg0) := a0
    replace a1 : StableHlo.launchContents m' c (Proc.tc.devRef Cert.Reference2Ideal.main_arg1) = m (c.tc.loc main_arg1) := a1
    replace a2 : StableHlo.launchContents m' c (Proc.tc.devRef Cert.Reference2Ideal.main_arg2) = m (c.tc.loc main_arg2) := a2
    replace a3 : StableHlo.launchContents m' c (Proc.tc.devRef Cert.Reference2Ideal.main_arg3) = m (c.tc.loc main_arg3) := a3
    replace a4 : StableHlo.launchContents m' c (Proc.tc.devRef Cert.Reference2Ideal.main_arg4) = m (c.tc.loc main_arg4) := a4
    refine ⟨r0.trans ?_, r1.trans ?_, r2.trans ?_, r3.trans ?_, rest⟩
    · rw [Cert.Reference2Ideal.Read.val_main_v163_eq, a0, a1, a2, a3, a4]
      exact equal_dq A
    · rw [Cert.Reference2Ideal.Read.val_main_v162_eq, a0, a1, a2, a3, a4]
      exact equal_dk A
    · rw [Cert.Reference2Ideal.Read.val_main_v161_eq, a0, a1, a3, a4]
      exact equal_dv A
    · rw [Cert.Reference2Ideal.Read.val_main_v137_eq, a0, a1, a2, a3, a4]
      exact equal_dsinks A

/-- The reference's frame: it has no semaphores. -/
theorem frame_reference : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems rfl r.2⟩)
    (Cert.Reference2Ideal.Value.run m ρ)

end Attn

end
-- ==== Proof.FfMath.lean ====
/- The real arithmetic of the feed-forward block's backward pass: one row's gradients with respect to the gate and the
   linear branch, and what they give the norm. -/
module

public import proofs.«01_k».proof.Proof.InMath

@[expose] public section

set_option maxRecDepth 16384

noncomputable section

namespace Cert.Proof.Ffn

open Finset Idealize.ShloMosaic Cert.Proof.InProj

/-- The logistic function. -/
def sg (x : ℝ) : ℝ := 1 / (1 + Real.exp (-x))

theorem sg_coe (x : ℝ) : Ideal.div 1 (1 + Ideal.exp (-(x : EReal))) = ((sg x : ℝ) : EReal) := by
  rw [← EReal.coe_neg, Ideal.exp_coe, ← EReal.coe_one, ← EReal.coe_add, Reals.div_coe_coe _ _ (by positivity)]
  rfl

/-- A row normalised. -/
def hat (x : ℕ → ℝ) (j : ℕ) : ℝ := x j * inv x

/-- A row of the norm's result times a matrix's column. -/
def lin (x G : ℕ → ℝ) (W : ℕ → ℕ → ℝ) (k : ℕ) : ℝ := ∑ j : Fin 1024, hat x j * G j * W j k

/-- The gradient of the gated row. -/
def dA (Wd : ℕ → ℕ → ℝ) (y : ℕ → ℝ) (k : ℕ) : ℝ := ∑ j : Fin 1024, 1 / 2 * y j * Wd k j

/-- The gradient of the linear branch, of the gate, and what the gated row was. -/
def dUp (d gt : ℝ) : ℝ := d * (gt * sg gt)
def dGate (d gt ut : ℝ) : ℝ := d * ut * (sg gt * (1 + gt * (1 - sg gt)))
def gated (gt ut : ℝ) : ℝ := gt * sg gt * ut

/-- The gradient of the normalised row from both branches. -/
def dh (Wg Wu : ℕ → ℕ → ℝ) (p q : ℕ → ℝ) (j : ℕ) : ℝ := ∑ k : Fin 2816, p k * Wg j k + ∑ k : Fin 2816, q k * Wu j k

/-- What a row adds to the input's gradient. -/
def dxRow (G x d : ℕ → ℝ) (j : ℕ) : ℝ :=
  inv x * (d j * G j - hat x j * ((∑ k : Fin 1024, d k * G k * hat x k) / 1024))

theorem ms_coe (x : ℕ → ℝ) : Ideal.div (∑ k : Fin 1024, ((x k.val : ℝ) : EReal) * ((x k.val : ℝ) : EReal)) (Ideal.ofBits .f32 1149239296#32)
    + Ideal.ofBits .f32 925353388#32 = ((meanSq x : ℝ) : EReal) := by
  rw [Reals.bits_1024, Reals.bits_eps]
  simp only [← EReal.coe_mul, Reals.sum_coe]
  rw [Reals.div_coe_coe _ _ (by norm_num), ← EReal.coe_add]
  rfl

theorem rs_coe (x : ℕ → ℝ) : Ideal.rsqrt ((meanSq x : ℝ) : EReal) = ((inv x : ℝ) : EReal) :=
  Reals.rsqrt_coe_pos _ (meanSq_pos x)

/-- The chain rule's form of the norm's gradient is the row's. -/
theorem dx_chain (G x d : ℕ → ℝ) (j : ℕ) :
    d j * G j * inv x + (x j * ((∑ k : Fin 1024, x k * (d k * G k)) * (-(1 / 2) * (inv x / meanSq x)) / 1024)
        + (∑ k : Fin 1024, x k * (d k * G k)) * (-(1 / 2) * (inv x / meanSq x)) / 1024 * x j) = dxRow G x d j :=
  norm_grad x (fun j => d j * G j) j

end Cert.Proof.Ffn
-- ==== Proof.FfRef.lean ====
/- The feed-forward block's reference at an index, as real numbers, for real arguments. -/
module

public import proofs.«01_k».proof.Proof.Gen.Reference3Ideal.Read
public import proofs.«01_k».proof.Proof.FfMath
public import Idealize.ShloMosaic.Lib.Pointwise

@[expose] public section

set_option maxRecDepth 16384
set_option maxHeartbeats 1000000

noncomputable section

namespace Cert.Proof.Ffn

open Cert.Reference3Ideal Cert.Reference3Ideal.Gen Cert.Reference3Ideal.Read Idealize.ShloMosaic Idealize.ShloMosaic.TcCoe Idealize.SL.Sem Idealize.ShloMosaic.StableHlo
open Cert.Proof.InProj (meanSq inv meanSq_pos)

variable {x0 : FVec Ideal S8192x1024 .f32} {x1 : FVec Ideal S1024 .f32} {x2 x3 : FVec Ideal S1024x2816 .f32}
  {x4 : FVec Ideal S2816x1024 .f32} {x5 : FVec Ideal S8192x1024 .f32}
  {X : ℕ → ℕ → ℝ} {G : ℕ → ℝ} {Wg Wu Wd Y T U P Q D : ℕ → ℕ → ℝ}

theorem ref_hat (h0 : ∀ t j, x0 (ix2 t j) = ((X t.val j.val : ℝ) : EReal)) (t : Fin 8192) (j : Fin 1024) :
    val_main_v13 (F := Ideal) x0 (ix2 t j) = ((hat (X t.val) j.val : ℝ) : EReal) := by
  pointwise [val_main_cst, val_main_cst_0, val_main_cst_1, val_main_cst_2, val_main_cst_3, val_main_v0, val_main_v1, val_main_v2, val_main_v3, val_main_v4, val_main_v5, val_main_v6, val_main_v7, val_main_v8, val_main_v9, val_main_v10, val_main_v11, val_main_v12, val_main_v13, val_main_v14, val_main_v15, val_main_v16]
  simp only [h0]
  simp only [ms_coe, rs_coe]
  rw [← EReal.coe_mul]
  rfl

theorem ref_h (h0 : ∀ t j, x0 (ix2 t j) = ((X t.val j.val : ℝ) : EReal)) (h1 : ∀ j, x1 (ix1 j) = ((G j.val : ℝ) : EReal)) (t : Fin 8192) (j : Fin 1024) :
    val_main_v16 (F := Ideal) x0 x1 (ix2 t j) = ((hat (X t.val) j.val * G j.val : ℝ) : EReal) := by
  have e := ref_hat h0
  pointwise [val_main_v14, val_main_v15, val_main_v16]
  simp only [e, h1]
  rw [← EReal.coe_mul]

/-- The gate and the linear branch. -/
theorem ref_gate (h0 : ∀ t j, x0 (ix2 t j) = ((X t.val j.val : ℝ) : EReal)) (h1 : ∀ j, x1 (ix1 j) = ((G j.val : ℝ) : EReal))
    (h2 : ∀ j k, x2 (ix2 j k) = ((Wg j.val k.val : ℝ) : EReal)) (t : Fin 8192) (k : Fin 2816) :
    val_main_v18 (F := Ideal) x0 x1 x2 (ix2 t k) = ((lin (X t.val) G Wg k.val : ℝ) : EReal) := by
  have e := ref_h h0 h1
  pointwise [val_main_cst, val_main_v0, val_main_v17, val_main_v18]
  simp only [e, h2, ← EReal.coe_mul, Reals.sum_coe]
  rfl

theorem ref_up (h0 : ∀ t j, x0 (ix2 t j) = ((X t.val j.val : ℝ) : EReal)) (h1 : ∀ j, x1 (ix1 j) = ((G j.val : ℝ) : EReal))
    (h3 : ∀ j k, x3 (ix2 j k) = ((Wu j.val k.val : ℝ) : EReal)) (t : Fin 8192) (k : Fin 2816) :
    val_main_v21 (F := Ideal) x0 x1 x3 (ix2 t k) = ((lin (X t.val) G Wu k.val : ℝ) : EReal) := by
  have e := ref_h h0 h1
  pointwise [val_main_cst, val_main_v0, val_main_v20, val_main_v21]
  simp only [e, h3, ← EReal.coe_mul, Reals.sum_coe]
  rfl

theorem ref_dA (h4 : ∀ k j, x4 (ix2 k j) = ((Wd k.val j.val : ℝ) : EReal)) (h5 : ∀ t j, x5 (ix2 t j) = ((Y t.val j.val : ℝ) : EReal))
    (t : Fin 8192) (k : Fin 2816) : val_main_v32 (F := Ideal) x4 x5 (ix2 t k) = ((dA Wd (Y t.val) k.val : ℝ) : EReal) := by
  pointwise [val_main_cst_5, val_main_v27, val_main_v28, val_main_v29, val_main_v32]
  simp only [h4, h5, Reals.bits_half, ← EReal.coe_mul, Reals.sum_coe]
  rfl

section Branches

variable (ht : ∀ t k, val_main_v18 (F := Ideal) x0 x1 x2 (ix2 t k) = ((T t.val k.val : ℝ) : EReal))
  (hu : ∀ t k, val_main_v21 (F := Ideal) x0 x1 x3 (ix2 t k) = ((U t.val k.val : ℝ) : EReal))
  (hd : ∀ t k, val_main_v32 (F := Ideal) x4 x5 (ix2 t k) = ((D t.val k.val : ℝ) : EReal))

include ht in
theorem ref_sg (t : Fin 8192) (k : Fin 2816) : val_main_v19_2 (F := Ideal) x0 x1 x2 (ix2 t k) = ((sg (T t.val k.val) : ℝ) : EReal) := by
  pointwise [val_main_call0_cst, val_main_call0_cst_0, val_main_call0_v0, val_main_call0_v1, val_main_call0_v2, val_main_call0_v3, val_main_call0_v4, val_main_v19_2]
  simp only [ht, sg_coe]

include ht hd in
theorem ref_dUp (t : Fin 8192) (k : Fin 2816) :
    val_main_v33 (F := Ideal) x0 x1 x2 x4 x5 (ix2 t k) = ((dUp (D t.val k.val) (T t.val k.val) : ℝ) : EReal) := by
  have s := ref_sg ht
  pointwise [val_main_v19_0, val_main_v33]
  simp only [ht, hd, s, ← EReal.coe_mul]
  exact congrArg (fun z : ℝ => (z : EReal)) (mul_comm _ _)

include ht hu hd in
theorem ref_dGate (t : Fin 8192) (k : Fin 2816) :
    val_main_v36 (F := Ideal) x0 x1 x2 x3 x4 x5 (ix2 t k) = ((dGate (D t.val k.val) (T t.val k.val) (U t.val k.val) : ℝ) : EReal) := by
  have s := ref_sg ht
  pointwise [val_main_call0_cst_1, val_main_call0_v6, val_main_call0_v7, val_main_v19_1, val_main_v34, val_main_call1_v0, val_main_call1_v1, val_main_call1_v2, val_main_v36]
  simp only [ht, hu, hd, s, ← EReal.coe_mul, ← EReal.coe_one, ← EReal.coe_sub, ← EReal.coe_add]
  refine congrArg (fun z : ℝ => (z : EReal)) ?_
  unfold dGate
  ring

include ht hu in
/-- The down projection's gradient. -/
theorem ref_dw (h5 : ∀ t j, x5 (ix2 t j) = ((Y t.val j.val : ℝ) : EReal)) (k : Fin 2816) (j : Fin 1024) :
    val_main_v31 (F := Ideal) x0 x1 x2 x3 x5 (ix2 k j)
      = ((∑ r : Fin 8192, gated (T r.val k.val) (U r.val k.val) * (1 / 2 * Y r.val j.val) : ℝ) : EReal) := by
  have s := ref_sg ht
  pointwise [val_main_v19_0, val_main_v22, val_main_cst_5, val_main_v27, val_main_v28, val_main_v29, val_main_v30, val_main_v31]
  simp only [ht, hu, s, h5, Reals.bits_half, ← EReal.coe_mul, Reals.sum_coe]
  exact congrArg (fun z : ℝ => (z : EReal)) (Finset.sum_congr rfl fun r _ => mul_comm _ _)

end Branches

theorem ref_dh (h2 : ∀ j k, x2 (ix2 j k) = ((Wg j.val k.val : ℝ) : EReal)) (h3 : ∀ j k, x3 (ix2 j k) = ((Wu j.val k.val : ℝ) : EReal))
    (hp : ∀ t k, val_main_v36 (F := Ideal) x0 x1 x2 x3 x4 x5 (ix2 t k) = ((P t.val k.val : ℝ) : EReal))
    (hq : ∀ t k, val_main_v33 (F := Ideal) x0 x1 x2 x4 x5 (ix2 t k) = ((Q t.val k.val : ℝ) : EReal)) (t : Fin 8192) (j : Fin 1024) :
    val_main_v38 (F := Ideal) x0 x1 x2 x3 x4 x5 (ix2 t j) = ((dh Wg Wu (P t.val) (Q t.val) j.val : ℝ) : EReal) := by
  pointwise [val_main_v35, val_main_v37, val_main_v38]
  simp only [hp, hq, h2, h3, ← EReal.coe_mul, Reals.sum_coe]
  rw [← EReal.coe_add, add_comm]
  rfl

/-- The input's gradient. -/
theorem ref_dx (h0 : ∀ t j, x0 (ix2 t j) = ((X t.val j.val : ℝ) : EReal)) (h1 : ∀ j, x1 (ix1 j) = ((G j.val : ℝ) : EReal))
    (h5 : ∀ t j, x5 (ix2 t j) = ((Y t.val j.val : ℝ) : EReal))
    (hd : ∀ t j, val_main_v38 (F := Ideal) x0 x1 x2 x3 x4 x5 (ix2 t j) = ((D t.val j.val : ℝ) : EReal)) (t : Fin 8192) (j : Fin 1024) :
    val_main_v59 (F := Ideal) x0 x1 x2 x3 x4 x5 (ix2 t j) = ((Y t.val j.val + dxRow G (X t.val) (D t.val) j.val : ℝ) : EReal) := by
  pointwise [val_main_cst, val_main_cst_0, val_main_cst_1, val_main_cst_2, val_main_cst_3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst_7, val_main_cst_8, val_main_cst_9, val_main_cst_10, val_main_v42, val_main_v43, val_main_v45, val_main_v46, val_main_v47, val_main_v48, val_main_v49, val_main_v50, val_main_v51, val_main_v52, val_main_v53, val_main_v54, val_main_v55, val_main_v56, val_main_v57, val_main_v58, val_main_v59]
  simp only [h0, h1, h5, hd]
  simp only [ms_coe]
  simp only [rs_coe, Reals.bits_neg_half, Reals.bits_1024, Reals.div_coe_coe _ _ (meanSq_pos _).ne', ← EReal.coe_mul, Reals.sum_coe]
  simp only [Reals.div_coe_coe _ _ (show (1024 : ℝ) ≠ 0 by norm_num), ← EReal.coe_mul, Reals.sum_coe, add_assoc, ← EReal.coe_add]
  refine congrArg (fun z : ℝ => (z : EReal)) ?_
  simp only [Fin.sum_univ_one]
  exact congrArg (fun z => Y t.val j.val + z) (dx_chain G (X t.val) (D t.val) j.val)

/-- The gain's gradient. -/
theorem ref_dg (h0 : ∀ t j, x0 (ix2 t j) = ((X t.val j.val : ℝ) : EReal))
    (hd : ∀ t j, val_main_v38 (F := Ideal) x0 x1 x2 x3 x4 x5 (ix2 t j) = ((D t.val j.val : ℝ) : EReal)) (u : Fin 1) (j : Fin 1024) :
    val_main_v63 (F := Ideal) x0 x1 x2 x3 x4 x5 (ix2 u j) = ((∑ r : Fin 8192, D r.val j.val * hat (X r.val) j.val : ℝ) : EReal) := by
  have e := ref_hat h0
  pointwise [val_main_cst_6, val_main_cst_7, val_main_v39, val_main_v40, val_main_v41, val_main_v44, val_main_v63]
  simp only [e, hd, ← EReal.coe_mul, Reals.sum_coe, Fin.sum_univ_one]
  exact congrArg (fun z : ℝ => (z : EReal)) (Finset.sum_congr rfl fun r _ => mul_comm _ _)

/-- The three results that are stored in sixteen bits. -/
theorem ref_narrow (t : Fin 8192) (k : Fin 2816) :
    (show EReal from val_main_v60 (F := Ideal) x0 x1 x2 x3 x4 x5 (ix2 t k)) = val_main_v36 (F := Ideal) x0 x1 x2 x3 x4 x5 (ix2 t k)
      ∧ (show EReal from val_main_v61 (F := Ideal) x0 x1 x2 x4 x5 (ix2 t k)) = val_main_v33 (F := Ideal) x0 x1 x2 x4 x5 (ix2 t k) := ⟨rfl, rfl⟩

end Cert.Proof.Ffn
-- ==== Proof.FfPieces.lean ====
/- The feed-forward backward pass works through its 2816 middle columns in eleven pieces of 256.  Here are the stores of one
   block of 256 rows, and what they say of the arrays they fill. -/
module

public import proofs.«01_k».proof.Proof.Gen.Kernel3Ideal.Frame
public import proofs.«01_k».proof.Proof.FfMath
public import Idealize.ShloMosaic.Lib.Pipeline.ValueKit
public import Idealize.ShloMosaic.Lib.Pipeline.ReadBack
public import Idealize.ShloMosaic.Lib.Pointwise
public import Idealize.ShloMosaic.Lib.ValueIdxCoords

@[expose] public section

set_option maxRecDepth 16384

noncomputable section

namespace Cert.Proof.Ffn

open Cert.Kernel3Ideal Cert.Kernel3Ideal.Gen Idealize.ShloMosaic Idealize.ShloMosaic.TcCoe Idealize.SL.Sem Idealize.ShloMosaic.StableHlo

section Lists

variable (y : FVec Ideal S256x1024 .f32) (gt ut : FVec Ideal S256x2816 .bf16) (wd : FVec Ideal S2816x1024 .bf16)
  (old : FVec Ideal S2816x1024 .f32)

/-- The stores of the gate's gradient, the last first. -/
abbrev dgList : List (View.Piece (Elt Ideal) S256x2816 .bf16) :=
  [(⟨Rect.unit (s := S256x2816) ![0, 2560] S256x256.size inb_S256x2816_S256x256_0_2560, k0_pay101 (F := Ideal) (k0_pay95 (k0_pay6 y) (View.ld wd (Rect.unit (s := S2816x1024) ![2560, 0] S256x1024.size inb_S2816x1024_S256x1024_2560_0))) (View.ld gt (Rect.unit (s := S256x2816) ![0, 2560] S256x256.size inb_S256x2816_S256x256_0_2560)) (View.ld ut (Rect.unit (s := S256x2816) ![0, 2560] S256x256.size inb_S256x2816_S256x256_0_2560))⟩ : View.Piece (Elt Ideal) S256x2816 .bf16),
    ⟨Rect.unit (s := S256x2816) ![0, 2304] S256x256.size inb_S256x2816_S256x256_0_2304, k0_pay93 (F := Ideal) (k0_pay86 (k0_pay6 y) (View.ld wd (Rect.unit (s := S2816x1024) ![2304, 0] S256x1024.size inb_S2816x1024_S256x1024_2304_0))) (k0_pay87 (View.ld gt (Rect.unit (s := S256x2816) ![0, 2304] S256x256.size inb_S256x2816_S256x256_0_2304))) (View.ld ut (Rect.unit (s := S256x2816) ![0, 2304] S256x256.size inb_S256x2816_S256x256_0_2304))⟩,
    ⟨Rect.unit (s := S256x2816) ![0, 2048] S256x256.size inb_S256x2816_S256x256_0_2048, k0_pay84 (F := Ideal) (k0_pay78 (k0_pay6 y) (View.ld wd (Rect.unit (s := S2816x1024) ![2048, 0] S256x1024.size inb_S2816x1024_S256x1024_2048_0))) (k0_pay79 (View.ld gt (Rect.unit (s := S256x2816) ![0, 2048] S256x256.size inb_S256x2816_S256x256_0_2048))) (View.ld ut (Rect.unit (s := S256x2816) ![0, 2048] S256x256.size inb_S256x2816_S256x256_0_2048))⟩,
    ⟨Rect.unit (s := S256x2816) ![0, 1792] S256x256.size inb_S256x2816_S256x256_0_1792, k0_pay76 (F := Ideal) (k0_pay70 (k0_pay6 y) (View.ld wd (Rect.unit (s := S2816x1024) ![1792, 0] S256x1024.size inb_S2816x1024_S256x1024_1792_0))) (k0_pay71 (View.ld gt (Rect.unit (s := S256x2816) ![0, 1792] S256x256.size inb_S256x2816_S256x256_0_1792))) (View.ld ut (Rect.unit (s := S256x2816) ![0, 1792] S256x256.size inb_S256x2816_S256x256_0_1792))⟩,
    ⟨Rect.unit (s := S256x2816) ![0, 1536] S256x256.size inb_S256x2816_S256x256_0_1536, k0_pay68 (F := Ideal) (k0_pay62 (k0_pay6 y) (View.ld wd (Rect.unit (s := S2816x1024) ![1536, 0] S256x1024.size inb_S2816x1024_S256x1024_1536_0))) (k0_pay63 (View.ld gt (Rect.unit (s := S256x2816) ![0, 1536] S256x256.size inb_S256x2816_S256x256_0_1536))) (View.ld ut (Rect.unit (s := S256x2816) ![0, 1536] S256x256.size inb_S256x2816_S256x256_0_1536))⟩,
    ⟨Rect.unit (s := S256x2816) ![0, 1280] S256x256.size inb_S256x2816_S256x256_0_1280, k0_pay60 (F := Ideal) (k0_pay54 (k0_pay6 y) (View.ld wd (Rect.unit (s := S2816x1024) ![1280, 0] S256x1024.size inb_S2816x1024_S256x1024_1280_0))) (k0_pay55 (View.ld gt (Rect.unit (s := S256x2816) ![0, 1280] S256x256.size inb_S256x2816_S256x256_0_1280))) (View.ld ut (Rect.unit (s := S256x2816) ![0, 1280] S256x256.size inb_S256x2816_S256x256_0_1280))⟩,
    ⟨Rect.unit (s := S256x2816) ![0, 1024] S256x256.size inb_S256x2816_S256x256_0_1024, k0_pay52 (F := Ideal) (k0_pay45 (k0_pay6 y) (View.ld wd (Rect.unit (s := S2816x1024) ![1024, 0] S256x1024.size inb_S2816x1024_S256x1024_1024_0))) (k0_pay46 (View.ld gt (Rect.unit (s := S256x2816) ![0, 1024] S256x256.size inb_S256x2816_S256x256_0_1024))) (k0_pay47 (View.ld ut (Rect.unit (s := S256x2816) ![0, 1024] S256x256.size inb_S256x2816_S256x256_0_1024)))⟩,
    ⟨Rect.unit (s := S256x2816) ![0, 768] S256x256.size inb_S256x2816_S256x256_0_768, k0_pay43 (F := Ideal) (k0_pay37 (k0_pay6 y) (View.ld wd (Rect.unit (s := S2816x1024) ![768, 0] S256x1024.size inb_S2816x1024_S256x1024_768_0))) (k0_pay38 (View.ld gt (Rect.unit (s := S256x2816) ![0, 768] S256x256.size inb_S256x2816_S256x256_0_768))) (k0_pay39 (View.ld ut (Rect.unit (s := S256x2816) ![0, 768] S256x256.size inb_S256x2816_S256x256_0_768)))⟩,
    ⟨Rect.unit (s := S256x2816) ![0, 512] S256x256.size inb_S256x2816_S256x256_0_512, k0_pay35 (F := Ideal) (k0_pay29 (k0_pay6 y) (View.ld wd (Rect.unit (s := S2816x1024) ![512, 0] S256x1024.size inb_S2816x1024_S256x1024_512_0))) (k0_pay30 (View.ld gt (Rect.unit (s := S256x2816) ![0, 512] S256x256.size inb_S256x2816_S256x256_0_512))) (k0_pay31 (View.ld ut (Rect.unit (s := S256x2816) ![0, 512] S256x256.size inb_S256x2816_S256x256_0_512))) (FloatOps.ofBits FTy.f32 0#32)⟩,
    ⟨Rect.unit (s := S256x2816) ![0, 256] S256x256.size inb_S256x2816_S256x256_0_256, k0_pay27 (F := Ideal) (k0_pay20 (k0_pay6 y) (View.ld wd (Rect.unit (s := S2816x1024) ![256, 0] S256x1024.size inb_S2816x1024_S256x1024_256_0))) (k0_pay21 (View.ld gt (Rect.unit (s := S256x2816) ![0, 256] S256x256.size inb_S256x2816_S256x256_0_256))) (k0_pay22 (View.ld ut (Rect.unit (s := S256x2816) ![0, 256] S256x256.size inb_S256x2816_S256x256_0_256))) k0_pay23⟩,
    ⟨Rect.unit (s := S256x2816) ![0, 0] S256x256.size inb_S256x2816_S256x256_0_0, k0_pay18 (F := Ideal) (k0_pay11 y (View.ld wd (Rect.unit (s := S2816x1024) ![0, 0] S256x1024.size inb_S2816x1024_S256x1024_0_0))) (k0_pay12 (View.ld gt (Rect.unit (s := S256x2816) ![0, 0] S256x256.size inb_S256x2816_S256x256_0_0))) (k0_pay13 (View.ld ut (Rect.unit (s := S256x2816) ![0, 0] S256x256.size inb_S256x2816_S256x256_0_0))) (k0_pay14 (View.ld gt (Rect.unit (s := S256x2816) ![0, 0] S256x256.size inb_S256x2816_S256x256_0_0)))⟩]

/-- The stores of the linear branch's gradient, the last first. -/
abbrev duList : List (View.Piece (Elt Ideal) S256x2816 .bf16) :=
  [(⟨Rect.unit (s := S256x2816) ![0, 2560] S256x256.size inb_S256x2816_S256x256_0_2560, k0_pay100 (F := Ideal) (k0_pay95 (k0_pay6 y) (View.ld wd (Rect.unit (s := S2816x1024) ![2560, 0] S256x1024.size inb_S2816x1024_S256x1024_2560_0))) (View.ld gt (Rect.unit (s := S256x2816) ![0, 2560] S256x256.size inb_S256x2816_S256x256_0_2560))⟩ : View.Piece (Elt Ideal) S256x2816 .bf16),
    ⟨Rect.unit (s := S256x2816) ![0, 2304] S256x256.size inb_S256x2816_S256x256_0_2304, k0_pay92 (F := Ideal) (k0_pay86 (k0_pay6 y) (View.ld wd (Rect.unit (s := S2816x1024) ![2304, 0] S256x1024.size inb_S2816x1024_S256x1024_2304_0))) (k0_pay87 (View.ld gt (Rect.unit (s := S256x2816) ![0, 2304] S256x256.size inb_S256x2816_S256x256_0_2304)))⟩,
    ⟨Rect.unit (s := S256x2816) ![0, 2048] S256x256.size inb_S256x2816_S256x256_0_2048, k0_pay83 (F := Ideal) (k0_pay78 (k0_pay6 y) (View.ld wd (Rect.unit (s := S2816x1024) ![2048, 0] S256x1024.size inb_S2816x1024_S256x1024_2048_0))) (k0_pay79 (View.ld gt (Rect.unit (s := S256x2816) ![0, 2048] S256x256.size inb_S256x2816_S256x256_0_2048)))⟩,
    ⟨Rect.unit (s := S256x2816) ![0, 1792] S256x256.size inb_S256x2816_S256x256_0_1792, k0_pay75 (F := Ideal) (k0_pay70 (k0_pay6 y) (View.ld wd (Rect.unit (s := S2816x1024) ![1792, 0] S256x1024.size inb_S2816x1024_S256x1024_1792_0))) (k0_pay71 (View.ld gt (Rect.unit (s := S256x2816) ![0, 1792] S256x256.size inb_S256x2816_S256x256_0_1792)))⟩,
    ⟨Rect.unit (s := S256x2816) ![0, 1536] S256x256.size inb_S256x2816_S256x256_0_1536, k0_pay67 (F := Ideal) (k0_pay62 (k0_pay6 y) (View.ld wd (Rect.unit (s := S2816x1024) ![1536, 0] S256x1024.size inb_S2816x1024_S256x1024_1536_0))) (k0_pay63 (View.ld gt (Rect.unit (s := S256x2816) ![0, 1536] S256x256.size inb_S256x2816_S256x256_0_1536)))⟩,
    ⟨Rect.unit (s := S256x2816) ![0, 1280] S256x256.size inb_S256x2816_S256x256_0_1280, k0_pay59 (F := Ideal) (k0_pay54 (k0_pay6 y) (View.ld wd (Rect.unit (s := S2816x1024) ![1280, 0] S256x1024.size inb_S2816x1024_S256x1024_1280_0))) (k0_pay55 (View.ld gt (Rect.unit (s := S256x2816) ![0, 1280] S256x256.size inb_S256x2816_S256x256_0_1280)))⟩,
    ⟨Rect.unit (s := S256x2816) ![0, 1024] S256x256.size inb_S256x2816_S256x256_0_1024, k0_pay51 (F := Ideal) (k0_pay45 (k0_pay6 y) (View.ld wd (Rect.unit (s := S2816x1024) ![1024, 0] S256x1024.size inb_S2816x1024_S256x1024_1024_0))) (k0_pay46 (View.ld gt (Rect.unit (s := S256x2816) ![0, 1024] S256x256.size inb_S256x2816_S256x256_0_1024)))⟩,
    ⟨Rect.unit (s := S256x2816) ![0, 768] S256x256.size inb_S256x2816_S256x256_0_768, k0_pay42 (F := Ideal) (k0_pay37 (k0_pay6 y) (View.ld wd (Rect.unit (s := S2816x1024) ![768, 0] S256x1024.size inb_S2816x1024_S256x1024_768_0))) (k0_pay38 (View.ld gt (Rect.unit (s := S256x2816) ![0, 768] S256x256.size inb_S256x2816_S256x256_0_768)))⟩,
    ⟨Rect.unit (s := S256x2816) ![0, 512] S256x256.size inb_S256x2816_S256x256_0_512, k0_pay34 (F := Ideal) (k0_pay29 (k0_pay6 y) (View.ld wd (Rect.unit (s := S2816x1024) ![512, 0] S256x1024.size inb_S2816x1024_S256x1024_512_0))) (k0_pay30 (View.ld gt (Rect.unit (s := S256x2816) ![0, 512] S256x256.size inb_S256x2816_S256x256_0_512))) (FloatOps.ofBits FTy.f32 0#32)⟩,
    ⟨Rect.unit (s := S256x2816) ![0, 256] S256x256.size inb_S256x2816_S256x256_0_256, k0_pay26 (F := Ideal) (k0_pay20 (k0_pay6 y) (View.ld wd (Rect.unit (s := S2816x1024) ![256, 0] S256x1024.size inb_S2816x1024_S256x1024_256_0))) (k0_pay21 (View.ld gt (Rect.unit (s := S256x2816) ![0, 256] S256x256.size inb_S256x2816_S256x256_0_256))) k0_pay23⟩,
    ⟨Rect.unit (s := S256x2816) ![0, 0] S256x256.size inb_S256x2816_S256x256_0_0, k0_pay17 (F := Ideal) (k0_pay11 y (View.ld wd (Rect.unit (s := S2816x1024) ![0, 0] S256x1024.size inb_S2816x1024_S256x1024_0_0))) (k0_pay12 (View.ld gt (Rect.unit (s := S256x2816) ![0, 0] S256x256.size inb_S256x2816_S256x256_0_0))) (k0_pay14 (View.ld gt (Rect.unit (s := S256x2816) ![0, 0] S256x256.size inb_S256x2816_S256x256_0_0)))⟩]

/-- The stores of the down projection's gradient, the last first. -/
abbrev dwList : List (View.Piece (Elt Ideal) S2816x1024 .f32) :=
  [(⟨Rect.unit (s := S2816x1024) ![2560, 0] S256x1024.size inb_S2816x1024_S256x1024_2560_0, k0_pay102 (F := Ideal) (k0_pay6 y) (View.ld gt (Rect.unit (s := S256x2816) ![0, 2560] S256x256.size inb_S256x2816_S256x256_0_2560)) (View.ld ut (Rect.unit (s := S256x2816) ![0, 2560] S256x256.size inb_S256x2816_S256x256_0_2560)) (View.ld old (Rect.unit (s := S2816x1024) ![2560, 0] S256x1024.size inb_S2816x1024_S256x1024_2560_0))⟩ : View.Piece (Elt Ideal) S2816x1024 .f32),
    ⟨Rect.unit (s := S2816x1024) ![2304, 0] S256x1024.size inb_S2816x1024_S256x1024_2304_0, k0_pay94 (F := Ideal) (k0_pay6 y) (k0_pay87 (View.ld gt (Rect.unit (s := S256x2816) ![0, 2304] S256x256.size inb_S256x2816_S256x256_0_2304))) (View.ld ut (Rect.unit (s := S256x2816) ![0, 2304] S256x256.size inb_S256x2816_S256x256_0_2304)) (View.ld old (Rect.unit (s := S2816x1024) ![2304, 0] S256x1024.size inb_S2816x1024_S256x1024_2304_0))⟩,
    ⟨Rect.unit (s := S2816x1024) ![2048, 0] S256x1024.size inb_S2816x1024_S256x1024_2048_0, k0_pay85 (F := Ideal) (k0_pay6 y) (k0_pay79 (View.ld gt (Rect.unit (s := S256x2816) ![0, 2048] S256x256.size inb_S256x2816_S256x256_0_2048))) (View.ld ut (Rect.unit (s := S256x2816) ![0, 2048] S256x256.size inb_S256x2816_S256x256_0_2048)) (View.ld old (Rect.unit (s := S2816x1024) ![2048, 0] S256x1024.size inb_S2816x1024_S256x1024_2048_0))⟩,
    ⟨Rect.unit (s := S2816x1024) ![1792, 0] S256x1024.size inb_S2816x1024_S256x1024_1792_0, k0_pay77 (F := Ideal) (k0_pay6 y) (k0_pay71 (View.ld gt (Rect.unit (s := S256x2816) ![0, 1792] S256x256.size inb_S256x2816_S256x256_0_1792))) (View.ld ut (Rect.unit (s := S256x2816) ![0, 1792] S256x256.size inb_S256x2816_S256x256_0_1792)) (View.ld old (Rect.unit (s := S2816x1024) ![1792, 0] S256x1024.size inb_S2816x1024_S256x1024_1792_0))⟩,
    ⟨Rect.unit (s := S2816x1024) ![1536, 0] S256x1024.size inb_S2816x1024_S256x1024_1536_0, k0_pay69 (F := Ideal) (k0_pay6 y) (k0_pay63 (View.ld gt (Rect.unit (s := S256x2816) ![0, 1536] S256x256.size inb_S256x2816_S256x256_0_1536))) (View.ld ut (Rect.unit (s := S256x2816) ![0, 1536] S256x256.size inb_S256x2816_S256x256_0_1536)) (View.ld old (Rect.unit (s := S2816x1024) ![1536, 0] S256x1024.size inb_S2816x1024_S256x1024_1536_0))⟩,
    ⟨Rect.unit (s := S2816x1024) ![1280, 0] S256x1024.size inb_S2816x1024_S256x1024_1280_0, k0_pay61 (F := Ideal) (k0_pay6 y) (k0_pay55 (View.ld gt (Rect.unit (s := S256x2816) ![0, 1280] S256x256.size inb_S256x2816_S256x256_0_1280))) (View.ld ut (Rect.unit (s := S256x2816) ![0, 1280] S256x256.size inb_S256x2816_S256x256_0_1280)) (View.ld old (Rect.unit (s := S2816x1024) ![1280, 0] S256x1024.size inb_S2816x1024_S256x1024_1280_0))⟩,
    ⟨Rect.unit (s := S2816x1024) ![1024, 0] S256x1024.size inb_S2816x1024_S256x1024_1024_0, k0_pay53 (F := Ideal) (k0_pay6 y) (k0_pay46 (View.ld gt (Rect.unit (s := S256x2816) ![0, 1024] S256x256.size inb_S256x2816_S256x256_0_1024))) (k0_pay47 (View.ld ut (Rect.unit (s := S256x2816) ![0, 1024] S256x256.size inb_S256x2816_S256x256_0_1024))) (View.ld old (Rect.unit (s := S2816x1024) ![1024, 0] S256x1024.size inb_S2816x1024_S256x1024_1024_0))⟩,
    ⟨Rect.unit (s := S2816x1024) ![768, 0] S256x1024.size inb_S2816x1024_S256x1024_768_0, k0_pay44 (F := Ideal) (k0_pay6 y) (k0_pay38 (View.ld gt (Rect.unit (s := S256x2816) ![0, 768] S256x256.size inb_S256x2816_S256x256_0_768))) (k0_pay39 (View.ld ut (Rect.unit (s := S256x2816) ![0, 768] S256x256.size inb_S256x2816_S256x256_0_768))) (View.ld old (Rect.unit (s := S2816x1024) ![768, 0] S256x1024.size inb_S2816x1024_S256x1024_768_0))⟩,
    ⟨Rect.unit (s := S2816x1024) ![512, 0] S256x1024.size inb_S2816x1024_S256x1024_512_0, k0_pay36 (F := Ideal) (k0_pay6 y) (k0_pay30 (View.ld gt (Rect.unit (s := S256x2816) ![0, 512] S256x256.size inb_S256x2816_S256x256_0_512))) (k0_pay31 (View.ld ut (Rect.unit (s := S256x2816) ![0, 512] S256x256.size inb_S256x2816_S256x256_0_512))) (FloatOps.ofBits FTy.f32 0#32) (View.ld old (Rect.unit (s := S2816x1024) ![512, 0] S256x1024.size inb_S2816x1024_S256x1024_512_0))⟩,
    ⟨Rect.unit (s := S2816x1024) ![256, 0] S256x1024.size inb_S2816x1024_S256x1024_256_0, k0_pay28 (F := Ideal) (k0_pay6 y) (k0_pay21 (View.ld gt (Rect.unit (s := S256x2816) ![0, 256] S256x256.size inb_S256x2816_S256x256_0_256))) (k0_pay22 (View.ld ut (Rect.unit (s := S256x2816) ![0, 256] S256x256.size inb_S256x2816_S256x256_0_256))) k0_pay23 (View.ld old (Rect.unit (s := S2816x1024) ![256, 0] S256x1024.size inb_S2816x1024_S256x1024_256_0))⟩,
    ⟨Rect.unit (s := S2816x1024) ![0, 0] S256x1024.size inb_S2816x1024_S256x1024_0_0, k0_pay19 (F := Ideal) (k0_pay6 y) (k0_pay12 (View.ld gt (Rect.unit (s := S256x2816) ![0, 0] S256x256.size inb_S256x2816_S256x256_0_0))) (k0_pay13 (View.ld ut (Rect.unit (s := S256x2816) ![0, 0] S256x256.size inb_S256x2816_S256x256_0_0))) (k0_pay14 (View.ld gt (Rect.unit (s := S256x2816) ![0, 0] S256x256.size inb_S256x2816_S256x256_0_0))) (View.ld old (Rect.unit (s := S2816x1024) ![0, 0] S256x1024.size inb_S2816x1024_S256x1024_0_0))⟩]

end Lists

variable {Y T U Wd : ℕ → ℕ → ℝ} {y : FVec Ideal S256x1024 .f32} {gt ut : FVec Ideal S256x2816 .bf16} {wd : FVec Ideal S2816x1024 .bf16}
  (hy : ∀ i j, y (ix2 i j) = ((Y i.val j.val : ℝ) : EReal)) (ht : ∀ i j, gt (ix2 i j) = ((T i.val j.val : ℝ) : EReal))
  (hu : ∀ i j, ut (ix2 i j) = ((U i.val j.val : ℝ) : EReal)) (hw : ∀ i j, wd (ix2 i j) = ((Wd i.val j.val : ℝ) : EReal))

/-- One stored element of the gate's gradient, of the linear branch's and of the gated row, over the extended reals. -/
theorem dGate_coe (d g u : ℝ) : (d : EReal) * (u : EReal) * (((sg g : ℝ) : EReal) * (1 + (g : EReal) * (1 - ((sg g : ℝ) : EReal))))
    = ((dGate d g u : ℝ) : EReal) := by
  unfold dGate
  simp only [← EReal.coe_one, ← EReal.coe_sub, ← EReal.coe_mul, ← EReal.coe_add]

theorem dUp_coe (d g : ℝ) : (d : EReal) * ((g : EReal) * ((sg g : ℝ) : EReal)) = ((dUp d g : ℝ) : EReal) := by
  unfold dUp
  simp only [← EReal.coe_mul]

theorem gated_coe (g u : ℝ) : (g : EReal) * ((sg g : ℝ) : EReal) * (u : EReal) = ((gated g u : ℝ) : EReal) := by
  unfold gated
  simp only [← EReal.coe_mul]

theorem dA_coe (Wd : ℕ → ℕ → ℝ) (y : ℕ → ℝ) (k : ℕ) : ((∑ j : Fin 1024, 1 / 2 * y j * Wd k j : ℝ) : EReal) = ((dA Wd y k : ℝ) : EReal) := rfl

/-- What one block of rows adds to the down projection's gradient. -/
def dwPart (Y T U : ℕ → ℕ → ℝ) (k j : ℕ) : ℝ := ∑ i : Fin 256, gated (T i k) (U i k) * (1 / 2 * Y i j)

set_option maxHeartbeats 4000000

include hy ht hu hw in
theorem dg_pieces : View.PiecesOf (Val := Elt Ideal) (show FVec Ideal S256x2816 .bf16 from fun i =>
    ((dGate (dA Wd (Y (i 0).val) (i 1).val) (T (i 0).val (i 1).val) (U (i 0).val (i 1).val) : ℝ) : EReal)) (dgList y gt ut wd) := by
  refine ⟨?_, ?_, ?_, ?_, ?_, ?_, ?_, ?_, ?_, ?_, ?_, trivial⟩
  all_goals
    intro x
    obtain ⟨a, b, rfl⟩ : ∃ (a : Fin 256) (b : Fin 256), x = ValueIdx.ix2 a b := ⟨x 0, x 1, ValueIdx.eq_ix2 x⟩
    pointwise [k0_pay6, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102]
    blk_simp
    simp only [ValueIdx.ix2_0, ValueIdx.ix2_1]
    simp only [hy, ht, hu, hw, zero_sub, sg_coe, Reals.bits_half, ← EReal.coe_mul, Reals.sum_coe, dA_coe]
    simp only [EReal.coe_mul, dGate_coe]
  trace_state

include hy ht hw in
theorem du_pieces : View.PiecesOf (Val := Elt Ideal) (show FVec Ideal S256x2816 .bf16 from fun i =>
    ((dUp (dA Wd (Y (i 0).val) (i 1).val) (T (i 0).val (i 1).val) : ℝ) : EReal)) (duList y gt wd) := by
  refine ⟨?_, ?_, ?_, ?_, ?_, ?_, ?_, ?_, ?_, ?_, ?_, trivial⟩
  all_goals
    intro x
    obtain ⟨a, b, rfl⟩ : ∃ (a : Fin 256) (b : Fin 256), x = ValueIdx.ix2 a b := ⟨x 0, x 1, ValueIdx.eq_ix2 x⟩
    pointwise [k0_pay6, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102]
    blk_simp
    simp only [ValueIdx.ix2_0, ValueIdx.ix2_1]
    simp only [hy, ht, hw, zero_sub, sg_coe, Reals.bits_half, ← EReal.coe_mul, Reals.sum_coe, dA_coe]
    simp only [EReal.coe_mul, dUp_coe]
  trace_state

include hy ht hu in
theorem dw_pieces (old : FVec Ideal S2816x1024 .f32) : View.PiecesOf (Val := Elt Ideal) (show FVec Ideal S2816x1024 .f32 from fun i =>
    (show EReal from old i) + ((dwPart Y T U (i 0).val (i 1).val : ℝ) : EReal)) (dwList y gt ut old) := by
  refine ⟨?_, ?_, ?_, ?_, ?_, ?_, ?_, ?_, ?_, ?_, ?_, trivial⟩
  all_goals
    intro x
    obtain ⟨a, b, rfl⟩ : ∃ (a : Fin 256) (b : Fin 1024), x = ValueIdx.ix2 a b := ⟨x 0, x 1, ValueIdx.eq_ix2 x⟩
    pointwise [k0_pay6, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102]
    blk_simp
    simp only [ValueIdx.ix2_0, ValueIdx.ix2_1]
    simp only [hy, ht, hu, zero_sub, sg_coe, Reals.bits_half, gated_coe]
    simp only [← EReal.coe_mul, Reals.sum_coe]
    refine congrArg₂ (fun u v : EReal => u + v) (congrArg old ?_) rfl
    blk_ext
  trace_state

end Cert.Proof.Ffn
-- ==== Proof.FfRead.lean ====
/- What one point of the feed-forward backward kernel's grid reads: the arguments' rows, the gate and linear rows of the forward
   pass, and the three matrices, two of them transposed. -/
module

public import proofs.«01_k».proof.Proof.FfPieces

@[expose] public section

set_option maxRecDepth 16384

noncomputable section

namespace Cert.Proof.Ffn

open Cert.Kernel3Ideal Cert.Kernel3Ideal.Gen Idealize.ShloMosaic Idealize.ShloMosaic.TcCoe Idealize.SL.Sem Idealize.ShloMosaic.StableHlo
open Cert.Proof.InProj (meanSq inv)

/-- Where each window of a point lies. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)

theorem row_lt (t : Fin cfg0.N) (i : Fin 256) : 256 * t.val + i.val < 8192 := by
  have : cfg0.N = 32 := N_0
  omega

variable (m : (ℓ : Loc nD τ sig) → Buf (Elt Ideal) ℓ) (c : Dev nD)

/-- The arguments, as real functions of their coordinates. -/
structure Args (X : ℕ → ℕ → ℝ) (G : ℕ → ℝ) (Wg Wu Wd Y : ℕ → ℕ → ℝ) : Prop where
  x : ∀ (t : Fin 8192) (j : Fin 1024), (show FVec Ideal S8192x1024 .f32 from m ((c : Thread nD τ).loc main_arg0)) (ix2 t j) = ((X t.val j.val : ℝ) : EReal)
  g : ∀ j : Fin 1024, (show FVec Ideal S1024 .f32 from m ((c : Thread nD τ).loc main_arg1)) (ix1 j) = ((G j.val : ℝ) : EReal)
  wg : ∀ (j : Fin 1024) (k : Fin 2816), (show FVec Ideal S1024x2816 .f32 from m ((c : Thread nD τ).loc main_arg2)) (ix2 j k) = ((Wg j.val k.val : ℝ) : EReal)
  wu : ∀ (j : Fin 1024) (k : Fin 2816), (show FVec Ideal S1024x2816 .f32 from m ((c : Thread nD τ).loc main_arg3)) (ix2 j k) = ((Wu j.val k.val : ℝ) : EReal)
  wd : ∀ (k : Fin 2816) (j : Fin 1024), (show FVec Ideal S2816x1024 .f32 from m ((c : Thread nD τ).loc main_arg4)) (ix2 k j) = ((Wd k.val j.val : ℝ) : EReal)
  y : ∀ (t : Fin 8192) (j : Fin 1024), (show FVec Ideal S8192x1024 .f32 from m ((c : Thread nD τ).loc main_arg5)) (ix2 t j) = ((Y t.val j.val : ℝ) : EReal)

variable {m c} {X : ℕ → ℕ → ℝ} {G : ℕ → ℝ} {Wg Wu Wd Y : ℕ → ℕ → ℝ} (A : Args m c X G Wg Wu Wd Y) (t : Fin cfg0.N)

include A

theorem gain_lane (u : Fin 1) (j : Fin 1024) : (show FVec Ideal S1x1024 .f32 from V m c main_v21) (ix2 u j) = ((G j.val : ℝ) : EReal) := by
  show (StableHlo.after hostOps0 (fun b => m (c, b)) (Proc.devRef .tc main_v21) : FVec Ideal S1x1024 .f32) (ix2 u j) = _
  after_results
  pointwise
  exact A.g j

theorem gate_lane (r : Fin 8192) (k : Fin 2816) : (show FVec Ideal S8192x2816 .bf16 from V m c main_v18) (ix2 r k)
    = ((lin (X r.val) G Wg k.val : ℝ) : EReal) := by
  show (StableHlo.after hostOps0 (fun b => m (c, b)) (Proc.devRef .tc main_v18) : FVec Ideal S8192x2816 .bf16) (ix2 r k) = _
  after_results
  pointwise
  simp only [A.x, A.g, A.wg]
  simp only [ms_coe, rs_coe]
  simp only [← EReal.coe_mul, Reals.sum_coe]
  rfl

theorem up_lane (r : Fin 8192) (k : Fin 2816) : (show FVec Ideal S8192x2816 .bf16 from V m c main_v20) (ix2 r k)
    = ((lin (X r.val) G Wu k.val : ℝ) : EReal) := by
  show (StableHlo.after hostOps0 (fun b => m (c, b)) (Proc.devRef .tc main_v20) : FVec Ideal S8192x2816 .bf16) (ix2 r k) = _
  after_results
  pointwise
  simp only [A.x, A.g, A.wu]
  simp only [ms_coe, rs_coe]
  simp only [← EReal.coe_mul, Reals.sum_coe]
  rfl

theorem wg_lane (k : Fin 2816) (j : Fin 1024) : (show FVec Ideal S2816x1024 .bf16 from V m c main_v1) (ix2 k j) = ((Wg j.val k.val : ℝ) : EReal) := by
  show (StableHlo.after hostOps0 (fun b => m (c, b)) (Proc.devRef .tc main_v1) : FVec Ideal S2816x1024 .bf16) (ix2 k j) = _
  after_results
  pointwise
  exact A.wg j k

theorem wu_lane (k : Fin 2816) (j : Fin 1024) : (show FVec Ideal S2816x1024 .bf16 from V m c main_v3) (ix2 k j) = ((Wu j.val k.val : ℝ) : EReal) := by
  show (StableHlo.after hostOps0 (fun b => m (c, b)) (Proc.devRef .tc main_v3) : FVec Ideal S2816x1024 .bf16) (ix2 k j) = _
  after_results
  pointwise
  exact A.wu j k

theorem wd_lane (k : Fin 2816) (j : Fin 1024) : (show FVec Ideal S2816x1024 .bf16 from V m c main_v22) (ix2 k j) = ((Wd k.val j.val : ℝ) : EReal) := by
  show (StableHlo.after hostOps0 (fun b => m (c, b)) (Proc.devRef .tc main_v22) : FVec Ideal S2816x1024 .bf16) (ix2 k j) = _
  after_results
  pointwise
  exact A.wd k j

theorem read_x (i : Fin 256) (j : Fin 1024) :
    (show FVec Ideal S256x1024 .f32 from iblk m c 0 t) (ix2 i j) = ((X (256 * t.val + i.val) j.val : ℝ) : EReal) := by
  rw [← A.x ⟨256 * t.val + i.val, row_lt t i⟩ j]
  blk_point [iblk, V, idx t]

theorem read_g (i : Fin 1) (j : Fin 1024) :
    (show FVec Ideal S1x1024 .f32 from iblk m c 1 t) (ix2 i j) = ((G j.val : ℝ) : EReal) := by
  rw [← gain_lane A i j]
  blk_point [iblk, idx t]

theorem read_y (i : Fin 256) (j : Fin 1024) :
    (show FVec Ideal S256x1024 .f32 from iblk m c 2 t) (ix2 i j) = ((Y (256 * t.val + i.val) j.val : ℝ) : EReal) := by
  rw [← A.y ⟨256 * t.val + i.val, row_lt t i⟩ j]
  blk_point [iblk, V, idx t]

theorem read_gate (i : Fin 256) (k : Fin 2816) :
    (show FVec Ideal S256x2816 .bf16 from iblk m c 3 t) (ix2 i k) = ((lin (X (256 * t.val + i.val)) G Wg k.val : ℝ) : EReal) := by
  refine Eq.trans ?_ (gate_lane A ⟨256 * t.val + i.val, row_lt t i⟩ k)
  blk_point [iblk, idx t]

theorem read_up (i : Fin 256) (k : Fin 2816) :
    (show FVec Ideal S256x2816 .bf16 from iblk m c 4 t) (ix2 i k) = ((lin (X (256 * t.val + i.val)) G Wu k.val : ℝ) : EReal) := by
  refine Eq.trans ?_ (up_lane A ⟨256 * t.val + i.val, row_lt t i⟩ k)
  blk_point [iblk, idx t]

theorem read_wg (k : Fin 2816) (j : Fin 1024) :
    (show FVec Ideal S2816x1024 .bf16 from iblk m c 5 t) (ix2 k j) = ((Wg j.val k.val : ℝ) : EReal) := by
  rw [← wg_lane A k j]
  blk_point [iblk, idx t]

theorem read_wu (k : Fin 2816) (j : Fin 1024) :
    (show FVec Ideal S2816x1024 .bf16 from iblk m c 6 t) (ix2 k j) = ((Wu j.val k.val : ℝ) : EReal) := by
  rw [← wu_lane A k j]
  blk_point [iblk, idx t]

theorem read_wd (k : Fin 2816) (j : Fin 1024) :
    (show FVec Ideal S2816x1024 .bf16 from iblk m c 7 t) (ix2 k j) = ((Wd k.val j.val : ℝ) : EReal) := by
  rw [← wd_lane A k j]
  blk_point [iblk, idx t]

end Cert.Proof.Ffn
-- ==== Proof.FfBlock.lean ====
/- One block of 256 rows of the feed-forward backward pass after its middle columns: the normalised rows, the input's gradient
   and the gain's, for given gradients of the two branches. -/
module

public import proofs.«01_k».proof.Proof.FfPieces

@[expose] public section

set_option maxRecDepth 16384

noncomputable section

namespace Cert.Proof.Ffn

open Cert.Kernel3Ideal Cert.Kernel3Ideal.Gen Idealize.ShloMosaic Idealize.ShloMosaic.TcCoe Idealize.SL.Sem Idealize.ShloMosaic.StableHlo
open Cert.Proof.InProj (meanSq inv)

variable {X P Q Wg Wu : ℕ → ℕ → ℝ} {G : ℕ → ℝ} {x : FVec Ideal S256x1024 .f32} {g : FVec Ideal S1x1024 .f32}
  {p q : FVec Ideal S256x2816 .bf16} {wg wu : FVec Ideal S2816x1024 .bf16}
  (hx : ∀ i j, x (ix2 i j) = ((X i.val j.val : ℝ) : EReal)) (hg : ∀ i j, g (ix2 i j) = ((G j.val : ℝ) : EReal))
  (hp : ∀ i k, p (ix2 i k) = ((P i.val k.val : ℝ) : EReal)) (hq : ∀ i k, q (ix2 i k) = ((Q i.val k.val : ℝ) : EReal))
  (hwg : ∀ k j, wg (ix2 k j) = ((Wg j.val k.val : ℝ) : EReal)) (hwu : ∀ k j, wu (ix2 k j) = ((Wu j.val k.val : ℝ) : EReal))

include hx in
theorem root_block (i : Fin 256) (u : Fin 1) : k0_pay8 (F := Ideal) x (ix2 i u) = ((inv (X i.val) : ℝ) : EReal) := by
  pointwise [k0_pay8]
  simp only [hx]
  simp only [ms_coe, rs_coe]

include hx in
theorem hat_block (i : Fin 256) (j : Fin 1024) : k0_pay9 (F := Ideal) x (ix2 i j) = ((hat (X i.val) j.val : ℝ) : EReal) := by
  pointwise [k0_pay8, k0_pay9]
  simp only [hx]
  simp only [ms_coe, rs_coe]
  rw [← EReal.coe_mul]
  rfl

include hx hg in
theorem h_block (i : Fin 256) (j : Fin 1024) : k0_pay10 (F := Ideal) g x (ix2 i j) = ((hat (X i.val) j.val * G j.val : ℝ) : EReal) := by
  pointwise [k0_pay7, k0_pay8, k0_pay9, k0_pay10]
  simp only [hx, hg]
  simp only [ms_coe, rs_coe]
  rw [← EReal.coe_mul, ← EReal.coe_mul]
  rfl

include hp hq hwg hwu in
theorem dh_block (i : Fin 256) (j : Fin 1024) : k0_pay1 (F := Ideal) p wg q wu (ix2 i j) = ((dh Wg Wu (P i.val) (Q i.val) j.val : ℝ) : EReal) := by
  pointwise [k0_pay1]
  simp only [hp, hq, hwg, hwu]
  simp only [← EReal.coe_mul, Reals.sum_coe]
  rw [← EReal.coe_add]
  rfl

include hx hg hp hq hwg hwu in
theorem dx_block (y : FVec Ideal S256x1024 .f32) (i : Fin 256) (j : Fin 1024) :
    k0_pay2 (F := Ideal) y (k0_pay7 g) (k0_pay8 x) (k0_pay9 x) (k0_pay103 p) (k0_pay104 wg) q wu (ix2 i j)
      = y (ix2 i j) + ((dxRow G (X i.val) (dh Wg Wu (P i.val) (Q i.val)) j.val : ℝ) : EReal) := by
  have hp' : ∀ i k, k0_pay103 (F := Ideal) p (ix2 i k) = ((P i.val k.val : ℝ) : EReal) := fun i k => by
    pointwise [k0_pay103]; exact hp i k
  have hw' : ∀ k j, k0_pay104 (F := Ideal) wg (ix2 k j) = ((Wg j.val k.val : ℝ) : EReal) := fun k j => by
    pointwise [k0_pay104]; exact hwg k j
  have e := dh_block hp' hq hw' hwu
  generalize k0_pay103 (F := Ideal) p = p' at e ⊢
  generalize k0_pay104 (F := Ideal) wg = w' at e ⊢
  have r := root_block hx
  have n := hat_block hx
  pointwise [k0_pay2, k0_pay7]
  simp only [e, r, n, hg]
  simp only [← EReal.coe_mul, Reals.sum_coe, Reals.bits_1024]
  rw [Reals.div_coe_coe _ _ (by norm_num), ← EReal.coe_mul, ← EReal.coe_sub, ← EReal.coe_mul]
  rfl

include hx hp hq hwg hwu in
theorem dg_block (y : FVec Ideal S1x1024 .f32) (u : Fin 1) (j : Fin 1024) :
    k0_pay3 (F := Ideal) (k0_pay9 x) (k0_pay103 p) (k0_pay104 wg) q wu y (ix2 u j)
      = y (ix2 u j) + ((∑ i : Fin 256, dh Wg Wu (P i.val) (Q i.val) j.val * hat (X i.val) j.val : ℝ) : EReal) := by
  have hp' : ∀ i k, k0_pay103 (F := Ideal) p (ix2 i k) = ((P i.val k.val : ℝ) : EReal) := fun i k => by
    pointwise [k0_pay103]; exact hp i k
  have hw' : ∀ k j, k0_pay104 (F := Ideal) wg (ix2 k j) = ((Wg j.val k.val : ℝ) : EReal) := fun k j => by
    pointwise [k0_pay104]; exact hwg k j
  have e := dh_block hp' hq hw' hwu
  generalize k0_pay103 (F := Ideal) p = p' at e ⊢
  generalize k0_pay104 (F := Ideal) wg = w' at e ⊢
  have n := hat_block hx
  pointwise [k0_pay3]
  simp only [e, n]
  simp only [← EReal.coe_mul, Reals.sum_coe]

end Cert.Proof.Ffn
-- ==== Proof.FfPoint.lean ====
/- The arrays the feed-forward backward kernel leaves: the rows of the input's gradient, of the two branches' gradients and of the
   normalised input, and the gradients of the gain and of the down projection summed over the blocks of rows. -/
module

public import proofs.«01_k».proof.Proof.FfRead
public import proofs.«01_k».proof.Proof.FfBlock

@[expose] public section

set_option maxRecDepth 16384

noncomputable section

namespace Cert.Proof.Ffn

open Cert.Kernel3Ideal Cert.Kernel3Ideal.Gen Idealize.ShloMosaic Idealize.ShloMosaic.TcCoe Idealize.SL.Sem Idealize.ShloMosaic.StableHlo
open Cert.Proof.InProj (meanSq inv)

/-- The gradients of row `r`'s two branches, for the arguments as functions of the row. -/
def gateAt (X : ℕ → ℕ → ℝ) (G : ℕ → ℝ) (Wg Wu Wd Y : ℕ → ℕ → ℝ) (r k : ℕ) : ℝ :=
  dGate (dA Wd (Y r) k) (lin (X r) G Wg k) (lin (X r) G Wu k)
def upAt (X : ℕ → ℕ → ℝ) (G : ℕ → ℝ) (Wg Wd Y : ℕ → ℕ → ℝ) (r k : ℕ) : ℝ := dUp (dA Wd (Y r) k) (lin (X r) G Wg k)

/-- The gradient of the normalised row. -/
def dhAt (X : ℕ → ℕ → ℝ) (G : ℕ → ℝ) (Wg Wu Wd Y : ℕ → ℕ → ℝ) (r : ℕ) : ℕ → ℝ :=
  dh Wg Wu (gateAt X G Wg Wu Wd Y r) (upAt X G Wg Wd Y r)

/-- A row's part of the down projection's gradient. -/
def downAt (X : ℕ → ℕ → ℝ) (G : ℕ → ℝ) (Wg Wu Y : ℕ → ℕ → ℝ) (k j r : ℕ) : ℝ :=
  gated (lin (X r) G Wg k) (lin (X r) G Wu k) * (1 / 2 * Y r j)

/-- The thirty-two blocks of 256 rows are the rows. -/
theorem sum_rows (f : ℕ → ℝ) : ∑ s : Fin 32, ∑ i : Fin 256, f (256 * s.val + i.val) = ∑ t : Fin 8192, f t.val := by
  rw [← Fin.sum_mul_add_fin 32 256 (fun l : Fin 8192 => f l.val)]
  refine Fin.sum_fin_congr fun s => Fin.sum_fin_congr fun i => ?_
  rw [Nat.mul_comm]

variable {m : (ℓ : Loc nD τ sig) → Buf (Elt Ideal) ℓ} {c : Dev nD}
  {X : ℕ → ℕ → ℝ} {G : ℕ → ℝ} {Wg Wu Wd Y : ℕ → ℕ → ℝ} (A : Args m c X G Wg Wu Wd Y) (t : Fin cfg0.N)

include A

/-- The eleven stores of the gate's gradient fill the block. -/
theorem gate_block (i : S256x2816.Idx) :
    (show FVec Ideal S256x2816 .bf16 from View.canon (dgList (iblk m c 2 t) (iblk m c 3 t) (iblk m c 4 t) (iblk m c 7 t))) i
      = ((gateAt X G Wg Wu Wd Y (256 * t.val + (i 0).val) (i 1).val : ℝ) : EReal) :=
  View.canon_append_of_piecesOf _ [] _ (dg_pieces (Y := fun i => Y (256 * t.val + i)) (T := fun i => lin (X (256 * t.val + i)) G Wg)
    (U := fun i => lin (X (256 * t.val + i)) G Wu) (read_y A t) (read_gate A t) (read_up A t) (read_wd A t)) i
    (View.cover_of_tiledBy _ ![256, 256] (by sl_kernel_rfl) _)

theorem up_block (i : S256x2816.Idx) :
    (show FVec Ideal S256x2816 .bf16 from View.canon (duList (iblk m c 2 t) (iblk m c 3 t) (iblk m c 7 t))) i
      = ((upAt X G Wg Wd Y (256 * t.val + (i 0).val) (i 1).val : ℝ) : EReal) :=
  View.canon_append_of_piecesOf _ [] _ (du_pieces (Y := fun i => Y (256 * t.val + i)) (T := fun i => lin (X (256 * t.val + i)) G Wg)
    (read_y A t) (read_gate A t) (read_wd A t)) i
    (View.cover_of_tiledBy _ ![256, 256] (by sl_kernel_rfl) _)

/-- The eleven stores of the down projection's gradient add the block's part to what was there, whatever was stored before. -/
theorem down_block (old : FVec Ideal S2816x1024 .f32) (L : List (View.Piece (Elt Ideal) S2816x1024 .f32)) (i : S2816x1024.Idx) :
    (show FVec Ideal S2816x1024 .f32 from View.canon (dwList (iblk m c 2 t) (iblk m c 3 t) (iblk m c 4 t) old ++ L)) i
      = (show EReal from old i) + ((∑ s : Fin 256, downAt X G Wg Wu Y (i 0).val (i 1).val (256 * t.val + s.val) : ℝ) : EReal) :=
  View.canon_append_of_piecesOf _ L _ (dw_pieces (Y := fun i => Y (256 * t.val + i)) (T := fun i => lin (X (256 * t.val + i)) G Wg)
    (U := fun i => lin (X (256 * t.val + i)) G Wu) (read_y A t) (read_gate A t) (read_up A t) old) i
    (View.cover_of_tiledBy _ ![256, 1024] (by sl_kernel_rfl) _)

/-- The stored gradients as the block's last products read them back. -/
theorem gate_back (v : View sig .tc .vmem S256x2816 .bf16) (i : Fin 256) (k : Fin 2816) :
    (show FVec Ideal S256x2816 .bf16 from v.readCov (dgList (iblk m c 2 t) (iblk m c 3 t) (iblk m c 4 t) (iblk m c 7 t))
      (Rect.unit (s := S256x2816) ![0, 0] S256x2816.size inb_S256x2816_S256x2816_0_0).toLoadRect) (ix2 i k)
      = ((gateAt X G Wg Wu Wd Y (256 * t.val + i.val) k.val : ℝ) : EReal) := by
  rw [View.readCov_eq_canon']
  refine (gate_block A t _).trans ?_
  simp

theorem up_back (v : View sig .tc .vmem S256x2816 .bf16) (i : Fin 256) (k : Fin 2816) :
    (show FVec Ideal S256x2816 .bf16 from v.readCov (duList (iblk m c 2 t) (iblk m c 3 t) (iblk m c 7 t))
      (Rect.unit (s := S256x2816) ![0, 0] S256x2816.size inb_S256x2816_S256x2816_0_0).toLoadRect) (ix2 i k)
      = ((upAt X G Wg Wd Y (256 * t.val + i.val) k.val : ℝ) : EReal) := by
  rw [View.readCov_eq_canon']
  refine (up_block A t _).trans ?_
  simp

theorem out_dx (i : Fin 256) (j : Fin 1024) : (show FVec Ideal S256x1024 .f32 from (outsAt0 m c t.val t.isLt).1) (ix2 i j)
      = ((Y (256 * t.val + i.val) j.val + dxRow G (X (256 * t.val + i.val)) (dhAt X G Wg Wu Wd Y (256 * t.val + i.val)) j.val : ℝ) : EReal) := by
  rw [EReal.coe_add, ← read_y A t i j]
  by_cases h0 : t.val % 32 = 0
  · rw [outsAt0_A m c t h0]
    frame_out
    exact dx_block (X := fun i => X (256 * t.val + i)) (P := fun i => gateAt X G Wg Wu Wd Y (256 * t.val + i))
      (Q := fun i => upAt X G Wg Wd Y (256 * t.val + i)) (read_x A t) (read_g A t) (gate_back A t _) (up_back A t _) (read_wg A t) (read_wu A t) _ i j
  · rw [outsAt0_B m c t h0]
    frame_out
    exact dx_block (X := fun i => X (256 * t.val + i)) (P := fun i => gateAt X G Wg Wu Wd Y (256 * t.val + i))
      (Q := fun i => upAt X G Wg Wd Y (256 * t.val + i)) (read_x A t) (read_g A t) (gate_back A t _) (up_back A t _) (read_wg A t) (read_wu A t) _ i j

theorem out_gate (i : Fin 256) (k : Fin 2816) : (show FVec Ideal S256x2816 .bf16 from (outsAt0 m c t.val t.isLt).2.1) (ix2 i k)
      = ((gateAt X G Wg Wu Wd Y (256 * t.val + i.val) k.val : ℝ) : EReal) := by
  by_cases h0 : t.val % 32 = 0
  · rw [outsAt0_A m c t h0]
    frame_out
    exact gate_block A t (ix2 i k)
  · rw [outsAt0_B m c t h0]
    frame_out
    exact gate_block A t (ix2 i k)

theorem out_up (i : Fin 256) (k : Fin 2816) : (show FVec Ideal S256x2816 .bf16 from (outsAt0 m c t.val t.isLt).2.2.1) (ix2 i k)
      = ((upAt X G Wg Wd Y (256 * t.val + i.val) k.val : ℝ) : EReal) := by
  by_cases h0 : t.val % 32 = 0
  · rw [outsAt0_A m c t h0]
    frame_out
    exact up_block A t (ix2 i k)
  · rw [outsAt0_B m c t h0]
    frame_out
    exact up_block A t (ix2 i k)

theorem out_h (i : Fin 256) (j : Fin 1024) : (show FVec Ideal S256x1024 .bf16 from (outsAt0 m c t.val t.isLt).2.2.2.1) (ix2 i j)
      = ((hat (X (256 * t.val + i.val)) j.val * G j.val : ℝ) : EReal) := by
  by_cases h0 : t.val % 32 = 0
  · rw [outsAt0_A m c t h0]
    frame_out
    exact h_block (X := fun i => X (256 * t.val + i)) (read_x A t) (read_g A t) i j
  · rw [outsAt0_B m c t h0]
    frame_out
    exact h_block (X := fun i => X (256 * t.val + i)) (read_x A t) (read_g A t) i j

theorem part_dg (v w : View sig .tc .vmem S256x2816 .bf16) (y : FVec Ideal S1x1024 .f32) (u : Fin 1) (j : Fin 1024) :
    k0_pay3 (F := Ideal) (k0_pay9 (iblk m c 0 t))
        (k0_pay103 (v.readCov (dgList (iblk m c 2 t) (iblk m c 3 t) (iblk m c 4 t) (iblk m c 7 t))
          (Rect.unit (s := S256x2816) ![0, 0] S256x2816.size inb_S256x2816_S256x2816_0_0).toLoadRect)) (k0_pay104 (iblk m c 5 t))
        (w.readCov (duList (iblk m c 2 t) (iblk m c 3 t) (iblk m c 7 t))
          (Rect.unit (s := S256x2816) ![0, 0] S256x2816.size inb_S256x2816_S256x2816_0_0).toLoadRect) (iblk m c 6 t) y (ix2 u j)
      = y (ix2 u j) + ((∑ s : Fin 256, dhAt X G Wg Wu Wd Y (256 * t.val + s.val) j.val * hat (X (256 * t.val + s.val)) j.val : ℝ) : EReal) :=
  dg_block (X := fun i => X (256 * t.val + i)) (P := fun i => gateAt X G Wg Wu Wd Y (256 * t.val + i))
    (Q := fun i => upAt X G Wg Wd Y (256 * t.val + i)) (read_x A t) (gate_back A t _) (up_back A t _) (read_wg A t) (read_wu A t) y u j

omit A in
theorem zero_dg (k : Fin 1) (j : Fin 1024) : k0_pay4 (F := Ideal) (ix2 k j) = 0 := by pointwise [k0_pay4]

omit A in
theorem zero_dw (i : S2816x1024.Idx) : k0_pay5 (F := Ideal) i = 0 := by rw [ValueIdx.eq_ix2 i]; pointwise [k0_pay5]

theorem acc_dg (hf : t.val % 32 = 32 - 1) (i : S1x1024.Idx) :
    (show FVec Ideal S1x1024 .f32 from (outsAt0 m c t.val t.isLt).2.2.2.2.1) i
      = ((∑ r : Fin 8192, dhAt X G Wg Wu Wd Y r.val (i 1).val * hat (X r.val) (i 1).val : ℝ) : EReal) := by
  have hN : cfg0.N = 32 := N_0
  refine (Pipeline.eq_sum_fin_of_reset_step_apply_of_flush
    (fun n h => (show FVec Ideal S1x1024 .f32 from (outsAt0 m c n h).2.2.2.2.1)) 32 (fun _ => (0 : EReal))
    (fun p i => ((∑ s : Fin 256, dhAt X G Wg Wu Wd Y (256 * p.val + s.val) (i 1).val * hat (X (256 * p.val + s.val)) (i 1).val : ℝ) : EReal))
    (fun t h i => ?_) (fun t h i => ?_) t hf i).trans ?_
  · rw [ValueIdx.eq_ix2 i, outsAt0_A m c t h]
    frame_out
    exact (part_dg A t _ _ _ (i 0) (i 1)).trans (congrArg (fun z : EReal => z + _) (zero_dg (i 0) (i 1)))
  · rw [ValueIdx.eq_ix2 i, outsAt0_B m c t h]
    frame_out
    exact part_dg A t _ _ _ (i 0) (i 1)
  · rw [zero_add, Reals.sum_coe, ← sum_rows fun r => dhAt X G Wg Wu Wd Y r (i 1).val * hat (X r) (i 1).val]
    refine congrArg (fun z : ℝ => (z : EReal)) (Fin.sum_fin_congr fun s => ?_)
    simp only [show 32 * (t.val / 32) + s.val = s.val by omega]

theorem acc_dw (hf : t.val % 32 = 32 - 1) (i : S2816x1024.Idx) :
    (show FVec Ideal S2816x1024 .f32 from (outsAt0 m c t.val t.isLt).2.2.2.2.2) i
      = ((∑ r : Fin 8192, downAt X G Wg Wu Y (i 0).val (i 1).val r.val : ℝ) : EReal) := by
  have hN : cfg0.N = 32 := N_0
  refine (Pipeline.eq_sum_fin_of_reset_step_apply_of_flush
    (fun n h => (show FVec Ideal S2816x1024 .f32 from (outsAt0 m c n h).2.2.2.2.2)) 32 (fun _ => (0 : EReal))
    (fun p i => ((∑ s : Fin 256, downAt X G Wg Wu Y (i 0).val (i 1).val (256 * p.val + s.val) : ℝ) : EReal))
    (fun t h i => ?_) (fun t h i => ?_) t hf i).trans ?_
  · rw [outsAt0_A m c t h]
    frame_open
    simp (disch := decide) only [↓ View.readCov_skip, ↓ View.readCov_cons_toLoadRect, ↓ View.readCov_fill]
    frame_out
    exact (down_block A t k0_pay5 [_] i).trans (congrArg (fun z : EReal => z + _) (zero_dw i))
  · rw [outsAt0_B m c t h]
    frame_out
    exact down_block A t _ [] i
  · rw [zero_add, Reals.sum_coe, ← sum_rows fun r => downAt X G Wg Wu Y (i 0).val (i 1).val r]
    refine congrArg (fun z : ℝ => (z : EReal)) (Fin.sum_fin_congr fun s => ?_)
    simp only [show 32 * (t.val / 32) + s.val = s.val by omega]

/-- The kernel's results: the input's gradient, -/
theorem arr_dx : (dats m 0 c).arrAt 8 cfg0.N = (show FVec Ideal S8192x1024 .f32 from fun q =>
    ((Y (q 0).val (q 1).val + dxRow G (X (q 0).val) (dhAt X G Wg Wu Wd Y (q 0).val) (q 1).val : ℝ) : EReal)) := by
  refine (dats m 0 c).arrAt_eq_of_covers 8 _ (by decide +kernel) fun t _ y => ?_
  blk_simp
  rw [after0_8]
  refine (congrArg (show FVec Ideal S256x1024 .f32 from (outsAt0 m c t.val t.isLt).1) (ValueIdx.eq_ix2 y)).trans ((out_dx A t (y 0) (y 1)).trans ?_)
  have h0 : win0_8.index t 0 * 256 + (y 0).val = 256 * t.val + (y 0).val := by simp [idx t, Nat.mul_comm]
  have h1 : win0_8.index t 1 * 1024 + (y 1).val = (y 1).val := by simp [idx t]
  rw [h0, h1]

/-- the two branches' gradients, -/
theorem arr_gate : (dats m 0 c).arrAt 9 cfg0.N = (show FVec Ideal S8192x2816 .bf16 from fun q =>
    ((gateAt X G Wg Wu Wd Y (q 0).val (q 1).val : ℝ) : EReal)) := by
  refine (dats m 0 c).arrAt_eq_of_covers 9 _ (by decide +kernel) fun t _ y => ?_
  blk_simp
  rw [after0_9]
  refine (congrArg (show FVec Ideal S256x2816 .bf16 from (outsAt0 m c t.val t.isLt).2.1) (ValueIdx.eq_ix2 y)).trans ((out_gate A t (y 0) (y 1)).trans ?_)
  have h0 : win0_9.index t 0 * 256 + (y 0).val = 256 * t.val + (y 0).val := by simp [idx t, Nat.mul_comm]
  have h1 : win0_9.index t 1 * 2816 + (y 1).val = (y 1).val := by simp [idx t]
  rw [h0, h1]

theorem arr_up : (dats m 0 c).arrAt 10 cfg0.N = (show FVec Ideal S8192x2816 .bf16 from fun q =>
    ((upAt X G Wg Wd Y (q 0).val (q 1).val : ℝ) : EReal)) := by
  refine (dats m 0 c).arrAt_eq_of_covers 10 _ (by decide +kernel) fun t _ y => ?_
  blk_simp
  rw [after0_10]
  refine (congrArg (show FVec Ideal S256x2816 .bf16 from (outsAt0 m c t.val t.isLt).2.2.1) (ValueIdx.eq_ix2 y)).trans ((out_up A t (y 0) (y 1)).trans ?_)
  have h0 : win0_10.index t 0 * 256 + (y 0).val = 256 * t.val + (y 0).val := by simp [idx t, Nat.mul_comm]
  have h1 : win0_10.index t 1 * 2816 + (y 1).val = (y 1).val := by simp [idx t]
  rw [h0, h1]

/-- the normalised input, -/
theorem arr_h : (dats m 0 c).arrAt 11 cfg0.N = (show FVec Ideal S8192x1024 .bf16 from fun q =>
    ((hat (X (q 0).val) (q 1).val * G (q 1).val : ℝ) : EReal)) := by
  refine (dats m 0 c).arrAt_eq_of_covers 11 _ (by decide +kernel) fun t _ y => ?_
  blk_simp
  rw [after0_11]
  refine (congrArg (show FVec Ideal S256x1024 .bf16 from (outsAt0 m c t.val t.isLt).2.2.2.1) (ValueIdx.eq_ix2 y)).trans ((out_h A t (y 0) (y 1)).trans ?_)
  have h0 : win0_11.index t 0 * 256 + (y 0).val = 256 * t.val + (y 0).val := by simp [idx t, Nat.mul_comm]
  have h1 : win0_11.index t 1 * 1024 + (y 1).val = (y 1).val := by simp [idx t]
  rw [h0, h1]

/-- the gain's gradient -/
theorem arr_dg : (dats m 0 c).arrAt 12 cfg0.N = (show FVec Ideal S1x1024 .f32 from fun i =>
    ((∑ r : Fin 8192, dhAt X G Wg Wu Wd Y r.val (i 1).val * hat (X r.val) (i 1).val : ℝ) : EReal)) := by
  refine (dats m 0 c).arrAt_eq_of_covers 12 _ (by decide +kernel) fun t hf y => ?_
  blk_simp
  rw [after0_12]
  refine (acc_dg A t ((flush0_12 t).mp hf) y).trans ?_
  have h1 : win0_12.index t 1 * 1024 + (y 1).val = (y 1).val := by simp [idx t]
  rw [h1]

/-- and the down projection's. -/
theorem arr_dw : (dats m 0 c).arrAt 13 cfg0.N = (show FVec Ideal S2816x1024 .f32 from fun i =>
    ((∑ r : Fin 8192, downAt X G Wg Wu Y (i 0).val (i 1).val r.val : ℝ) : EReal)) := by
  refine (dats m 0 c).arrAt_eq_of_covers 13 _ (by decide +kernel) fun t hf y => ?_
  blk_simp
  rw [after0_13]
  refine (acc_dw A t ((flush0_13 t).mp hf) y).trans ?_
  have h0 : win0_13.index t 0 * 2816 + (y 0).val = (y 0).val := by simp [idx t]
  have h1 : win0_13.index t 1 * 1024 + (y 1).val = (y 1).val := by simp [idx t]
  rw [h0, h1]

end Cert.Proof.Ffn
-- ==== Proof.FfClaim.lean ====
/- The feed-forward block's backward pass: both programs end with the same six arrays. -/
module

public import proofs.«01_k».proof.Defs
public import Idealize.ShloMosaic.Lib.Quiescent
public import proofs.«01_k».proof.Proof.Gen.Reference3Ideal
public import proofs.«01_k».proof.Proof.Gen.Reference3Ideal.Run
public import proofs.«01_k».proof.Proof.Gen.Kernel3Ideal.Value
public import proofs.«01_k».proof.Proof.Finite
public import proofs.«01_k».proof.Proof.FfRef
public import proofs.«01_k».proof.Proof.FfPoint

@[expose] public section

set_option maxRecDepth 16384
set_option maxHeartbeats 1600000

noncomputable section

namespace Cert.Proof.Ffn

open Idealize.ShloMosaic Idealize.ShloMosaic.TcCoe Idealize.SL.Sem Cert.Kernel3Ideal

theorem pre_facts : Cert.Pre_finite3.Facts := ⟨by decide, by decide, by decide, by decide⟩

variable (m : (ℓ : Loc nD τ sig) → Buf (Elt Ideal) ℓ)

/-- Finite arguments are real. -/
theorem args (h : Cert.Pre_Kernel3Ideal_finite3 (hPre_finite3 := pre_facts) m) (c : Dev nD) :
    ∃ (X : ℕ → ℕ → ℝ) (G : ℕ → ℝ) (Wg Wu Wd Y : ℕ → ℕ → ℝ), Args m c X G Wg Wu Wd Y := by
  obtain ⟨h0, h1, h2, h3, h4, h5⟩ := h c
  obtain ⟨X, hX⟩ := Reals.choose2 (fun i j => _) fun i j => Reals.real_of_finite _ _ h0 (ix2 i j)
  obtain ⟨G, hG⟩ := Reals.choose1 (fun i => _) fun i => Reals.real_of_finite _ _ h1 (ix1 i)
  obtain ⟨Wg, hg⟩ := Reals.choose2 (fun i j => _) fun i j => Reals.real_of_finite _ _ h2 (ix2 i j)
  obtain ⟨Wu, hu⟩ := Reals.choose2 (fun i j => _) fun i j => Reals.real_of_finite _ _ h3 (ix2 i j)
  obtain ⟨Wd, hd⟩ := Reals.choose2 (fun i j => _) fun i j => Reals.real_of_finite _ _ h4 (ix2 i j)
  obtain ⟨Y, hY⟩ := Reals.choose2 (fun i j => _) fun i j => Reals.real_of_finite _ _ h5 (ix2 i j)
  exact ⟨X, G, Wg, Wu, Wd, Y, hX, hG, hg, hu, hd, hY⟩

variable {m} {c : Dev nD} {X : ℕ → ℕ → ℝ} {G : ℕ → ℝ} {Wg Wu Wd Y : ℕ → ℕ → ℝ} (A : Args m c X G Wg Wu Wd Y)

include A

/-- The reference's gradients of the gate, of the linear branch and of the normalised rows. -/
theorem back_gate (t : Fin 8192) (k : Fin 2816) : Cert.Reference3Ideal.Read.val_main_v36 (F := Ideal) (m (c.tc.loc main_arg0)) (m (c.tc.loc main_arg1)) (m (c.tc.loc main_arg2)) (m (c.tc.loc main_arg3)) (m (c.tc.loc main_arg4)) (m (c.tc.loc main_arg5)) (ix2 t k)
    = ((gateAt X G Wg Wu Wd Y t.val k.val : ℝ) : EReal) :=
  ref_dGate (T := fun t k => lin (X t) G Wg k) (ref_gate A.x A.g A.wg) (U := fun t k => lin (X t) G Wu k) (ref_up A.x A.g A.wu) (D := fun t k => dA Wd (Y t) k) (ref_dA A.wd A.y) t k

theorem back_up (t : Fin 8192) (k : Fin 2816) : Cert.Reference3Ideal.Read.val_main_v33 (F := Ideal) (m (c.tc.loc main_arg0)) (m (c.tc.loc main_arg1)) (m (c.tc.loc main_arg2)) (m (c.tc.loc main_arg4)) (m (c.tc.loc main_arg5)) (ix2 t k)
    = ((upAt X G Wg Wd Y t.val k.val : ℝ) : EReal) :=
  ref_dUp (T := fun t k => lin (X t) G Wg k) (ref_gate A.x A.g A.wg) (D := fun t k => dA Wd (Y t) k) (ref_dA A.wd A.y) t k

theorem back (t : Fin 8192) (j : Fin 1024) : Cert.Reference3Ideal.Read.val_main_v38 (F := Ideal) (m (c.tc.loc main_arg0)) (m (c.tc.loc main_arg1)) (m (c.tc.loc main_arg2)) (m (c.tc.loc main_arg3)) (m (c.tc.loc main_arg4)) (m (c.tc.loc main_arg5)) (ix2 t j)
    = ((dhAt X G Wg Wu Wd Y t.val j.val : ℝ) : EReal) :=
  ref_dh A.wg A.wu (back_gate A) (back_up A) t j

/-! The reference's six results of the kernel's arguments are the kernel's. -/

theorem same_dx : (show FVec Ideal S8192x1024 .f32 from Cert.Reference3Ideal.Read.val_main_v59 (F := Ideal) (m (c.tc.loc main_arg0)) (m (c.tc.loc main_arg1)) (m (c.tc.loc main_arg2)) (m (c.tc.loc main_arg3)) (m (c.tc.loc main_arg4)) (m (c.tc.loc main_arg5)))
      = (Gen.dats m 0 c).arrAt 8 cfg0.N := by
  rw [arr_dx A]
  funext i
  rw [ValueIdx.eq_ix2 i]
  exact ref_dx A.x A.g A.y (back A) (i 0) (i 1)

theorem same_gate : (show FVec Ideal S8192x2816 .bf16 from Cert.Reference3Ideal.Read.val_main_v60 (F := Ideal) (m (c.tc.loc main_arg0)) (m (c.tc.loc main_arg1)) (m (c.tc.loc main_arg2)) (m (c.tc.loc main_arg3)) (m (c.tc.loc main_arg4)) (m (c.tc.loc main_arg5)))
      = (Gen.dats m 0 c).arrAt 9 cfg0.N := by
  rw [arr_gate A]
  funext i
  rw [ValueIdx.eq_ix2 i]
  exact ((ref_narrow (i 0) (i 1)).1).trans (back_gate A (i 0) (i 1))

theorem same_up : (show FVec Ideal S8192x2816 .bf16 from Cert.Reference3Ideal.Read.val_main_v61 (F := Ideal) (m (c.tc.loc main_arg0)) (m (c.tc.loc main_arg1)) (m (c.tc.loc main_arg2)) (m (c.tc.loc main_arg4)) (m (c.tc.loc main_arg5)))
      = (Gen.dats m 0 c).arrAt 10 cfg0.N := by
  rw [arr_up A]
  funext i
  rw [ValueIdx.eq_ix2 i]
  exact ((ref_narrow (x3 := m (c.tc.loc main_arg3)) (i 0) (i 1)).2).trans (back_up A (i 0) (i 1))

theorem same_h : (show FVec Ideal S8192x1024 .bf16 from Cert.Reference3Ideal.Read.val_main_v62 (F := Ideal) (m (c.tc.loc main_arg0)) (m (c.tc.loc main_arg1)))
      = (Gen.dats m 0 c).arrAt 11 cfg0.N := by
  rw [arr_h A]
  funext i
  rw [ValueIdx.eq_ix2 i]
  exact ref_h A.x A.g (i 0) (i 1)

theorem same_dg : (show FVec Ideal S1x1024 .f32 from Cert.Reference3Ideal.Read.val_main_v63 (F := Ideal) (m (c.tc.loc main_arg0)) (m (c.tc.loc main_arg1)) (m (c.tc.loc main_arg2)) (m (c.tc.loc main_arg3)) (m (c.tc.loc main_arg4)) (m (c.tc.loc main_arg5)))
      = (Gen.dats m 0 c).arrAt 12 cfg0.N := by
  rw [arr_dg A]
  funext i
  rw [ValueIdx.eq_ix2 i]
  exact ref_dg A.x (back A) (i 0) (i 1)

theorem same_dw : (show FVec Ideal S2816x1024 .f32 from Cert.Reference3Ideal.Read.val_main_v31 (F := Ideal) (m (c.tc.loc main_arg0)) (m (c.tc.loc main_arg1)) (m (c.tc.loc main_arg2)) (m (c.tc.loc main_arg3)) (m (c.tc.loc main_arg5)))
      = (Gen.dats m 0 c).arrAt 13 cfg0.N := by
  rw [arr_dw A]
  funext i
  rw [ValueIdx.eq_ix2 i]
  exact ref_dw (T := fun t k => lin (X t) G Wg k) (ref_gate A.x A.g A.wg) (U := fun t k => lin (X t) G Wu k) (ref_up A.x A.g A.wu) A.y (i 0) (i 1)

omit A

/-- The feed-forward block's gradients are the reference's. -/
theorem algebraic : Cert.algebraic_Kernel3Ideal_Reference3Ideal_pre_finite3 (hKernel3Ideal := Cert.Kernel3Ideal.Gen.facts)
    (hReference3Ideal := Cert.Reference3Ideal.Gen.facts) (hPre_finite3 := pre_facts) := by
  intro m g m' g' hpre hag
  refine ⟨fun c => (Gen.dats m 0 c).arrAt 8 cfg0.N, fun c => (Gen.dats m 0 c).arrAt 9 cfg0.N, fun c => (Gen.dats m 0 c).arrAt 10 cfg0.N,
    fun c => (Gen.dats m 0 c).arrAt 11 cfg0.N, fun c => (Gen.dats m 0 c).arrAt 12 cfg0.N, fun c => (Gen.dats m 0 c).arrAt 13 cfg0.N, ?_, ?_⟩
  · exact Cert.Kernel3Ideal.Value.run_blocks m g
  · refine (θ_run Cert.Reference3Ideal.defs _ _).mono (fun r h c => ?_) (Cert.Reference3Ideal.Value.run m' g')
    obtain ⟨X, G, Wg, Wu, Wd, Y, A⟩ := args m hpre c
    obtain ⟨a0, a1, a2, a3, a4, a5⟩ := hag c
    obtain ⟨r0, r1, r2, r3, r4, r5, rest⟩ := h c
    refine ⟨r0.trans ?_, r1.trans ?_, r2.trans ((Cert.Reference3Ideal.Read.val_main_v61_eq _ _ _ _ _).trans ?_),
      r3.trans ((Cert.Reference3Ideal.Read.val_main_v62_eq _ _).trans ?_), r4.trans ?_,
      r5.trans ((Cert.Reference3Ideal.Read.val_main_v31_eq _ _ _ _ _).trans ?_), rest⟩
    · rw [Cert.Reference3Ideal.Read.val_main_v59_eq, a0, a1, a2, a3, a4, a5]
      exact same_dx A
    · rw [Cert.Reference3Ideal.Read.val_main_v60_eq, a0, a1, a2, a3, a4, a5]
      exact same_gate A
    · rw [a0, a1, a2, a4, a5]
      exact same_up A
    · rw [a0, a1]
      exact same_h A
    · rw [Cert.Reference3Ideal.Read.val_main_v63_eq, a0, a1, a2, a3, a4, a5]
      exact same_dg A
    · rw [a0, a1, a2, a3, a5]
      exact same_dw A

/-- The reference's frame: it has no semaphores. -/
theorem frame_reference : Cert.quiescent_Reference3Ideal (hReference3Ideal := Cert.Reference3Ideal.Gen.facts) := fun m ρ _ =>
  (θ_run Cert.Reference3Ideal.defs _ _).mono (fun r h => ⟨fun c => (h c).2.2.2.2.2.2, sem_eq_zero_of_no_sems rfl r.2⟩)
    (Cert.Reference3Ideal.Value.run m ρ)

end Cert.Proof.Ffn
-- ==== Proof.LsMath.lean ====
/- The real arithmetic of the last block with its loss: one row's input after the mixers, its output, the row's error against the
   target, and the gradient of the mean squared error. -/
module

public import proofs.«01_k».proof.Proof.FfMath
public import Idealize.ShloMosaic.Lib.Pipeline.ValueKit.Acc

@[expose] public section

set_option maxRecDepth 16384

noncomputable section

namespace Cert.Proof.Loss

open Finset Idealize.ShloMosaic Cert.Proof.InProj Cert.Proof.Ffn

/-- A row plus the two mixers' rows times their halves of the output projection. -/
def mixed (x p q : ℕ → ℝ) (W : ℕ → ℕ → ℝ) (j : ℕ) : ℝ := x j + (∑ k : Fin 512, p k * W k j + ∑ k : Fin 512, q k * W (512 + k) j)

/-- The row after the feed-forward block. -/
def after (x G : ℕ → ℝ) (Wg Wu Wd : ℕ → ℕ → ℝ) (j : ℕ) : ℝ :=
  x j + 1 / 2 * ∑ k : Fin 2816, gated (lin x G Wg k) (lin x G Wu k) * Wd k j

/-- A row's error and its part of the loss. -/
def err (G y t : ℕ → ℝ) (j : ℕ) : ℝ := hat y j * G j - t j
def part (G y t : ℕ → ℝ) : ℝ := (∑ j : Fin 1024, err G y t j * err G y t j) / 1024

/-- The gradient of the normalised, scaled row. -/
def dErr (G y t : ℕ → ℝ) (j : ℕ) : ℝ := err G y t j * (1 / 1024)

theorem bits_inv_1024 : Ideal.ofBits .f32 981467136#32 = ((1 / 1024 : ℝ) : EReal) := by
  simp [Ideal.ofBits, Ideal.ieee, -EReal.coe_mul]
  norm_num

theorem bits_two : Ideal.ofBits .f32 1073741824#32 = ((2 : ℝ) : EReal) := by
  simp [Ideal.ofBits, Ideal.ieee, -EReal.coe_mul]
  norm_num

/-- A sum over the 1024 rows of the output projection is the sum over its halves. -/
theorem sum_halves (f : ℕ → ℝ) : ∑ k : Fin 1024, f k = ∑ k : Fin 512, f k + ∑ k : Fin 512, f (512 + k) := by
  rw [Fin.sum_univ_eq_sum_range (fun k => f k) 1024, Fin.sum_univ_eq_sum_range (fun k => f k) 512,
    Fin.sum_univ_eq_sum_range (fun k => f (512 + k)) 512]
  exact sum_range_add f 512 512

/-- The sixteen blocks of 512 rows are the rows. -/
theorem sum_rows (f : ℕ → ℝ) : ∑ s : Fin 16, ∑ i : Fin 512, f (512 * s.val + i.val) = ∑ t : Fin 8192, f t.val := by
  rw [← Fin.sum_mul_add_fin 16 512 (fun l : Fin 8192 => f l.val)]
  refine Fin.sum_fin_congr fun s => Fin.sum_fin_congr fun i => ?_
  rw [Nat.mul_comm]

end Cert.Proof.Loss
-- ==== Proof.LsRef.lean ====
/- The last block's reference at an index, as real numbers, for real arguments. -/
module

public import proofs.«01_k».proof.Proof.Gen.Reference4Ideal.Read
public import proofs.«01_k».proof.Proof.LsMath
public import Idealize.ShloMosaic.Lib.Pointwise

@[expose] public section

set_option maxRecDepth 16384
set_option maxHeartbeats 1000000

noncomputable section

namespace Cert.Proof.Loss

open Cert.Reference4Ideal Cert.Reference4Ideal.Gen Cert.Reference4Ideal.Read Idealize.ShloMosaic Idealize.ShloMosaic.TcCoe Idealize.SL.Sem Idealize.ShloMosaic.StableHlo
open Cert.Proof.InProj (meanSq inv meanSq_pos)
open Cert.Proof.Ffn

variable {x0 : FVec Ideal S8192x1024 .f32} {x1 x2 : FVec Ideal S8192x512 .f32} {x3 : FVec Ideal S1024x1024 .f32} {x4 : FVec Ideal S1024 .f32}
  {x5 x6 : FVec Ideal S1024x2816 .f32} {x7 : FVec Ideal S2816x1024 .f32} {x8 : FVec Ideal S1024 .f32} {x9 : FVec Ideal S8192x1024 .f32}
  {X P Q W M : ℕ → ℕ → ℝ} {G : ℕ → ℝ} {Wg Wu Wd Y D : ℕ → ℕ → ℝ} {Gf : ℕ → ℝ} {T : ℕ → ℕ → ℝ}

/-- The two mixers' rows side by side. -/
def side (p q : ℕ → ℝ) (k : ℕ) : ℝ := if k < 512 then p k else q (k - 512)

theorem sum_side (p q : ℕ → ℝ) (W : ℕ → ℕ → ℝ) (j : ℕ) : ∑ k : Fin 1024, side p q k * W k j
    = ∑ k : Fin 512, p k * W k j + ∑ k : Fin 512, q k * W (512 + k) j := by
  rw [sum_halves fun k => side p q k * W k j]
  refine congrArg₂ (fun u v => u + v) (Finset.sum_congr rfl fun k _ => ?_) (Finset.sum_congr rfl fun k _ => ?_)
  · rw [side, if_pos k.isLt]
  · rw [side, if_neg (by omega), Nat.add_sub_cancel_left]

theorem ref_side (h1 : ∀ t k, x1 (ix2 t k) = ((P t.val k.val : ℝ) : EReal)) (h2 : ∀ t k, x2 (ix2 t k) = ((Q t.val k.val : ℝ) : EReal))
    (t : Fin 8192) (k : Fin 1024) : val_main_v0 (F := Ideal) x1 x2 (ix2 t k) = ((side (P t.val) (Q t.val) k.val : ℝ) : EReal) := by
  pointwise [val_main_v0]
  unfold side
  split_ifs <;> simp_all

theorem ref_mix (h0 : ∀ t j, x0 (ix2 t j) = ((X t.val j.val : ℝ) : EReal)) (h1 : ∀ t k, x1 (ix2 t k) = ((P t.val k.val : ℝ) : EReal))
    (h2 : ∀ t k, x2 (ix2 t k) = ((Q t.val k.val : ℝ) : EReal)) (h3 : ∀ k j, x3 (ix2 k j) = ((W k.val j.val : ℝ) : EReal))
    (t : Fin 8192) (j : Fin 1024) : val_main_v2 (F := Ideal) x0 x1 x2 x3 (ix2 t j) = ((mixed (X t.val) (P t.val) (Q t.val) W j.val : ℝ) : EReal) := by
  have e := ref_side h1 h2
  pointwise [val_main_v1, val_main_v2]
  simp only [e, h0, h3, ← EReal.coe_mul, Reals.sum_coe, ← EReal.coe_add, sum_side]
  rfl

section Block

variable (hm : ∀ t j, val_main_v2 (F := Ideal) x0 x1 x2 x3 (ix2 t j) = ((M t.val j.val : ℝ) : EReal))
  (h4 : ∀ j, x4 (ix1 j) = ((G j.val : ℝ) : EReal))

include hm h4

theorem ref_h (t : Fin 8192) (j : Fin 1024) :
    val_main_v15 (F := Ideal) x0 x1 x2 x3 x4 (ix2 t j) = ((hat (M t.val) j.val * G j.val : ℝ) : EReal) := by
  pointwise [val_main_cst, val_main_cst_0, val_main_cst_1, val_main_v3, val_main_v4, val_main_v5, val_main_v6, val_main_v7, val_main_v8, val_main_v9, val_main_v10, val_main_v11, val_main_v12, val_main_v13, val_main_v14, val_main_v15]
  simp only [hm, h4]
  simp only [ms_coe, rs_coe]
  rw [← EReal.coe_mul, ← EReal.coe_mul]
  rfl

theorem ref_gate (h5 : ∀ j k, x5 (ix2 j k) = ((Wg j.val k.val : ℝ) : EReal)) (t : Fin 8192) (k : Fin 2816) :
    val_main_v16 (F := Ideal) x0 x1 x2 x3 x4 x5 (ix2 t k) = ((lin (M t.val) G Wg k.val : ℝ) : EReal) := by
  have e := ref_h hm h4
  pointwise [val_main_v16]
  simp only [e, h5, ← EReal.coe_mul, Reals.sum_coe]
  rfl

theorem ref_up (h6 : ∀ j k, x6 (ix2 j k) = ((Wu j.val k.val : ℝ) : EReal)) (t : Fin 8192) (k : Fin 2816) :
    val_main_v17 (F := Ideal) x0 x1 x2 x3 x4 x6 (ix2 t k) = ((lin (M t.val) G Wu k.val : ℝ) : EReal) := by
  have e := ref_h hm h4
  pointwise [val_main_v17]
  simp only [e, h6, ← EReal.coe_mul, Reals.sum_coe]
  rfl

theorem ref_out (h5 : ∀ j k, x5 (ix2 j k) = ((Wg j.val k.val : ℝ) : EReal)) (h6 : ∀ j k, x6 (ix2 j k) = ((Wu j.val k.val : ℝ) : EReal))
    (h7 : ∀ k j, x7 (ix2 k j) = ((Wd k.val j.val : ℝ) : EReal)) (t : Fin 8192) (j : Fin 1024) :
    val_main_v23 (F := Ideal) x0 x1 x2 x3 x4 x5 x6 x7 (ix2 t j) = ((after (M t.val) G Wg Wu Wd j.val : ℝ) : EReal) := by
  have g := ref_gate hm h4 h5
  have u := ref_up hm h4 h6
  pointwise [val_main_call0_v0, val_main_call0_v1, val_main_call0_cst, val_main_call0_v2, val_main_call0_v3, val_main_call0_cst_0, val_main_call0_v4, val_main_call0_v5, val_main_v18, val_main_v19, val_main_v20, val_main_cst_2, val_main_v21, val_main_v22, val_main_v23]
  simp only [hm, g, u, h7, sg_coe, Reals.bits_half, ← EReal.coe_mul, Reals.sum_coe, ← EReal.coe_add]
  rfl

end Block

section Head

variable (hy : ∀ t j, val_main_v23 (F := Ideal) x0 x1 x2 x3 x4 x5 x6 x7 (ix2 t j) = ((Y t.val j.val : ℝ) : EReal))
  (h8 : ∀ j, x8 (ix1 j) = ((Gf j.val : ℝ) : EReal)) (h9 : ∀ t j, x9 (ix2 t j) = ((T t.val j.val : ℝ) : EReal))

include hy

theorem ref_hat (t : Fin 8192) (j : Fin 1024) :
    val_main_v36 (F := Ideal) x0 x1 x2 x3 x4 x5 x6 x7 (ix2 t j) = ((hat (Y t.val) j.val : ℝ) : EReal) := by
  pointwise [val_main_v24, val_main_cst_3, val_main_v25, val_main_v26, val_main_cst_4, val_main_v27, val_main_v28, val_main_cst_5, val_main_v29, val_main_v30, val_main_v31, val_main_v35, val_main_v36]
  simp only [hy]
  simp only [ms_coe, rs_coe]
  rw [← EReal.coe_mul]
  rfl

include h8 h9

theorem ref_err (t : Fin 8192) (j : Fin 1024) :
    val_main_v40 (F := Ideal) x0 x1 x2 x3 x4 x5 x6 x7 x8 x9 (ix2 t j) = ((err Gf (Y t.val) (T t.val) j.val : ℝ) : EReal) := by
  have n := ref_hat hy
  pointwise [val_main_v37, val_main_v38, val_main_v39, val_main_v40]
  simp only [n, h8, h9]
  rw [← EReal.coe_mul, ← EReal.coe_sub]
  rfl

/-- The loss. -/
theorem ref_loss (u v : Fin 1) :
    val_main_v77 (F := Ideal) x0 x1 x2 x3 x4 x5 x6 x7 x8 x9 (ix2 u v) = ((∑ r : Fin 8192, 1 / 2 * part Gf (Y r.val) (T r.val) : ℝ) : EReal) := by
  have e := ref_err hy h8 h9
  pointwise [val_main_v41, val_main_cst_8, val_main_v44, val_main_cst_9, val_main_v45, val_main_v46, val_main_cst_10, val_main_v47, val_main_cst_11, val_main_v48, val_main_v77]
  simp only [e]
  simp only [Reals.bits_half, Reals.bits_1024, ← EReal.coe_mul, Reals.sum_coe]
  simp only [Reals.div_coe_coe _ _ (show (1024 : ℝ) ≠ 0 by norm_num), ← EReal.coe_mul, Reals.sum_coe]
  rw [Finset.mul_sum]
  rfl

theorem ref_d (t : Fin 8192) (j : Fin 1024) :
    val_main_v54 (F := Ideal) x0 x1 x2 x3 x4 x5 x6 x7 x8 x9 (ix2 t j) = ((dErr Gf (Y t.val) (T t.val) j.val : ℝ) : EReal) := by
  have e := ref_err hy h8 h9
  pointwise [val_main_cst_7, val_main_v42, val_main_v43, val_main_cst_12, val_main_cst_13, val_main_v49, val_main_v50, val_main_cst_14, val_main_v51, val_main_v52, val_main_v53, val_main_v54]
  simp only [e, Reals.bits_half, Reals.bits_1024, bits_two, mul_one]
  rw [Reals.div_coe_coe _ _ (show (1024 : ℝ) ≠ 0 by norm_num), ← EReal.coe_mul, ← EReal.coe_mul]
  refine congrArg (fun z : ℝ => (z : EReal)) ?_
  unfold dErr
  ring

end Head

section Back

variable (hy : ∀ t j, val_main_v23 (F := Ideal) x0 x1 x2 x3 x4 x5 x6 x7 (ix2 t j) = ((Y t.val j.val : ℝ) : EReal))
  (hd : ∀ t j, val_main_v54 (F := Ideal) x0 x1 x2 x3 x4 x5 x6 x7 x8 x9 (ix2 t j) = ((D t.val j.val : ℝ) : EReal))

include hy hd

/-- The gradient of the block's output. -/
theorem ref_dy (h8 : ∀ j, x8 (ix1 j) = ((Gf j.val : ℝ) : EReal)) (t : Fin 8192) (j : Fin 1024) :
    val_main_v74 (F := Ideal) x0 x1 x2 x3 x4 x5 x6 x7 x8 x9 (ix2 t j) = ((dxRow Gf (Y t.val) (D t.val) j.val : ℝ) : EReal) := by
  pointwise [val_main_v24, val_main_cst_3, val_main_v25, val_main_v26, val_main_cst_4, val_main_v27, val_main_v28, val_main_cst_5, val_main_v29, val_main_v30, val_main_v31, val_main_v32, val_main_cst_6, val_main_v33, val_main_v34, val_main_v37, val_main_v58, val_main_v59, val_main_v61, val_main_cst_17, val_main_v62, val_main_v63, val_main_v64, val_main_v65, val_main_v66, val_main_cst_18, val_main_v67, val_main_v68, val_main_cst_19, val_main_v69, val_main_v70, val_main_v71, val_main_v72, val_main_v73, val_main_v74]
  simp only [hy, hd, h8]
  simp only [ms_coe]
  simp only [rs_coe, Reals.bits_neg_half, Reals.bits_1024, Reals.div_coe_coe _ _ (meanSq_pos _).ne', ← EReal.coe_mul, Reals.sum_coe]
  simp only [Reals.div_coe_coe _ _ (show (1024 : ℝ) ≠ 0 by norm_num), ← EReal.coe_mul, Reals.sum_coe, add_assoc, ← EReal.coe_add]
  refine congrArg (fun z : ℝ => (z : EReal)) ?_
  simp only [Fin.sum_univ_one]
  exact dx_chain Gf (Y t.val) (D t.val) j.val

/-- The gain's gradient. -/
theorem ref_gain (u : Fin 1) (j : Fin 1024) :
    val_main_v78 (F := Ideal) x0 x1 x2 x3 x4 x5 x6 x7 x8 x9 (ix2 u j) = ((∑ r : Fin 8192, D r.val j.val * hat (Y r.val) j.val : ℝ) : EReal) := by
  have e := ref_hat hy
  pointwise [val_main_v55, val_main_cst_15, val_main_v56, val_main_v57, val_main_cst_16, val_main_v60, val_main_v78]
  simp only [e, hd, ← EReal.coe_mul, Reals.sum_coe, Fin.sum_univ_one]
  exact congrArg (fun z : ℝ => (z : EReal)) (Finset.sum_congr rfl fun r _ => mul_comm _ _)

end Back

/-- The two results that are stored in sixteen bits. -/
theorem ref_narrow (t : Fin 8192) (k : Fin 2816) :
    (show EReal from val_main_v75 (F := Ideal) x0 x1 x2 x3 x4 x5 (ix2 t k)) = val_main_v16 (F := Ideal) x0 x1 x2 x3 x4 x5 (ix2 t k)
      ∧ (show EReal from val_main_v76 (F := Ideal) x0 x1 x2 x3 x4 x6 (ix2 t k)) = val_main_v17 (F := Ideal) x0 x1 x2 x3 x4 x6 (ix2 t k) := ⟨rfl, rfl⟩

end Cert.Proof.Loss
-- ==== Proof.LsBlock.lean ====
/- One block of 512 rows of the last block with its loss: the mixed rows and their norm, and, once the middle columns are
   known, the output's norm, the loss and the gradients. -/
module

public import proofs.«01_k».proof.Proof.Gen.Kernel4Ideal.Frame
public import proofs.«01_k».proof.Proof.LsMath
public import Idealize.ShloMosaic.Lib.Pipeline.ValueKit
public import Idealize.ShloMosaic.Lib.Pipeline.ReadBack
public import Idealize.ShloMosaic.Lib.Pointwise
public import Idealize.ShloMosaic.Lib.ValueIdxCoords

@[expose] public section

set_option maxRecDepth 16384

noncomputable section

namespace Cert.Proof.Loss

open Cert.Kernel4Ideal Cert.Kernel4Ideal.Gen Idealize.ShloMosaic Idealize.ShloMosaic.TcCoe Idealize.SL.Sem Idealize.ShloMosaic.StableHlo
open Cert.Proof.InProj (meanSq inv)
open Cert.Proof.Ffn

section Mix

variable {X P Q W : ℕ → ℕ → ℝ} {G : ℕ → ℝ} {x : FVec Ideal S512x1024 .f32} {p q : FVec Ideal S512x512 .bf16}
  {w w' : FVec Ideal S512x1024 .bf16} {g : FVec Ideal S1x1024 .f32}
  (hx : ∀ i j, x (ix2 i j) = ((X i.val j.val : ℝ) : EReal)) (hp : ∀ i k, p (ix2 i k) = ((P i.val k.val : ℝ) : EReal))
  (hq : ∀ i k, q (ix2 i k) = ((Q i.val k.val : ℝ) : EReal)) (hw : ∀ k j, w (ix2 k j) = ((W k.val j.val : ℝ) : EReal))
  (hw' : ∀ k j, w' (ix2 k j) = ((W (512 + k.val) j.val : ℝ) : EReal)) (hg : ∀ i j, g (ix2 i j) = ((G j.val : ℝ) : EReal))

include hx hp hq hw hw'

theorem mix_block (i : Fin 512) (j : Fin 1024) :
    k0_pay2 (F := Ideal) x p w q w' (ix2 i j) = ((mixed (X i.val) (P i.val) (Q i.val) W j.val : ℝ) : EReal) := by
  pointwise [k0_pay2]
  simp only [hx, hp, hq, hw, hw', ← EReal.coe_mul, Reals.sum_coe, ← EReal.coe_add, add_assoc]
  rfl

include hg in
theorem h_block (i : Fin 512) (j : Fin 1024) : k0_pay3 (F := Ideal) x p w q w' g (ix2 i j)
    = ((hat (mixed (X i.val) (P i.val) (Q i.val) W) j.val * G j.val : ℝ) : EReal) := by
  have e := mix_block hx hp hq hw hw'
  pointwise [k0_pay3]
  simp only [e, hg]
  simp only [ms_coe, rs_coe]
  rw [← EReal.coe_mul, ← EReal.coe_mul]
  rfl

end Mix

section Head

variable {M A Wd Y T : ℕ → ℕ → ℝ} {G : ℕ → ℝ} {x : FVec Ideal S512x1024 .f32} {a : FVec Ideal S512x2816 .bf16}
  {wd : FVec Ideal S2816x1024 .bf16} {g : FVec Ideal S1x1024 .f32} {tg : FVec Ideal S512x1024 .f32}

theorem y_block (hx : ∀ i j, x (ix2 i j) = ((M i.val j.val : ℝ) : EReal)) (ha : ∀ i k, a (ix2 i k) = ((A i.val k.val : ℝ) : EReal))
    (hw : ∀ k j, wd (ix2 k j) = ((Wd k.val j.val : ℝ) : EReal)) (i : Fin 512) (j : Fin 1024) :
    k0_pay63 (F := Ideal) x a wd (ix2 i j) = ((M i.val j.val + 1 / 2 * ∑ k : Fin 2816, A i.val k.val * Wd k.val j.val : ℝ) : EReal) := by
  pointwise [k0_pay63]
  simp only [hx, ha, hw, Reals.bits_half, ← EReal.coe_mul, Reals.sum_coe, ← EReal.coe_add]

variable (hy : ∀ i j, k0_pay63 (F := Ideal) x a wd (ix2 i j) = ((Y i.val j.val : ℝ) : EReal))
  (hg : ∀ i j, g (ix2 i j) = ((G j.val : ℝ) : EReal)) (ht : ∀ i j, tg (ix2 i j) = ((T i.val j.val : ℝ) : EReal))

include hy

theorem root_block (i : Fin 512) (u : Fin 1) : k0_pay66 (F := Ideal) x a wd (ix2 i u) = ((inv (Y i.val) : ℝ) : EReal) := by
  pointwise [k0_pay66]
  simp only [hy]
  simp only [ms_coe, rs_coe]

theorem hat_block (i : Fin 512) (j : Fin 1024) : k0_pay67 (F := Ideal) x a wd (ix2 i j) = ((hat (Y i.val) j.val : ℝ) : EReal) := by
  have r := root_block hy
  pointwise [k0_pay67]
  simp only [hy, r]
  rw [← EReal.coe_mul]
  rfl

include hg ht

theorem err_block (i : Fin 512) (j : Fin 1024) :
    k0_pay70 (F := Ideal) (k0_pay69 x a wd g) tg (ix2 i j) = ((err G (Y i.val) (T i.val) j.val : ℝ) : EReal) := by
  have n := hat_block hy
  pointwise [k0_pay68, k0_pay69, k0_pay70]
  simp only [n, hg, ht]
  rw [← EReal.coe_mul, ← EReal.coe_sub]
  rfl

theorem d_block (i : Fin 512) (j : Fin 1024) :
    k0_pay72 (F := Ideal) (k0_pay69 x a wd g) tg (ix2 i j) = ((dErr G (Y i.val) (T i.val) j.val : ℝ) : EReal) := by
  have e := err_block hy hg ht
  pointwise [k0_pay72]
  simp only [e, bits_inv_1024]
  rw [← EReal.coe_mul]
  rfl

/-- What the block adds to the loss, -/
theorem loss_block (old : FVec Ideal S1x1 .f32) (u v : Fin 1) :
    k0_pay71 (F := Ideal) (k0_pay69 x a wd g) tg old (ix2 u v)
      = old (ix2 u v) + ((∑ i : Fin 512, 1 / 2 * part G (Y i.val) (T i.val) : ℝ) : EReal) := by
  have e := err_block hy hg ht
  pointwise [k0_pay71]
  simp only [e]
  simp only [Reals.bits_half, Reals.bits_1024, ← EReal.coe_mul, Reals.sum_coe]
  simp only [Reals.div_coe_coe _ _ (show (1024 : ℝ) ≠ 0 by norm_num), ← EReal.coe_mul, Reals.sum_coe]
  rw [Finset.mul_sum]
  rfl

/-- to the gain's gradient, -/
theorem gain_block (old : FVec Ideal S1x1024 .f32) (u : Fin 1) (j : Fin 1024) :
    k0_pay1 (F := Ideal) (k0_pay73 (k0_pay67 x a wd) (k0_pay69 x a wd g) tg) old (ix2 u j)
      = old (ix2 u j) + ((∑ i : Fin 512, dErr G (Y i.val) (T i.val) j.val * hat (Y i.val) j.val : ℝ) : EReal) := by
  have e := d_block hy hg ht
  have n := hat_block hy
  pointwise [k0_pay1, k0_pay73]
  simp only [e, n, ← EReal.coe_mul, Reals.sum_coe]

/-- and the gradient of its rows. -/
theorem dy_block (i : Fin 512) (j : Fin 1024) :
    k0_pay74 (F := Ideal) (k0_pay66 x a wd) (k0_pay67 x a wd) (k0_pay68 g) (k0_pay69 x a wd g) tg (ix2 i j)
      = ((dxRow G (Y i.val) (dErr G (Y i.val) (T i.val)) j.val : ℝ) : EReal) := by
  have e := d_block hy hg ht
  have n := hat_block hy
  have r := root_block hy
  pointwise [k0_pay68, k0_pay74]
  simp only [e, n, r, hg, ← EReal.coe_mul, Reals.sum_coe, Reals.bits_1024]
  rw [Reals.div_coe_coe _ _ (by norm_num), ← EReal.coe_mul, ← EReal.coe_sub, ← EReal.coe_mul]
  rfl

end Head

end Cert.Proof.Loss
-- ==== Proof.LsPieces.lean ====
/- The last block works through its 2816 middle columns in eleven pieces of 256.  Here are the stores of one block of 512 rows,
   and what they say of the arrays they fill. -/
module

public import proofs.«01_k».proof.Proof.LsBlock

@[expose] public section

set_option maxRecDepth 16384

noncomputable section

namespace Cert.Proof.Loss

open Cert.Kernel4Ideal Cert.Kernel4Ideal.Gen Idealize.ShloMosaic Idealize.ShloMosaic.TcCoe Idealize.SL.Sem Idealize.ShloMosaic.StableHlo
open Cert.Proof.Ffn

section Lists

variable (x : FVec Ideal S512x1024 .f32) (p q : FVec Ideal S512x512 .bf16) (w w' : FVec Ideal S512x1024 .bf16) (g : FVec Ideal S1x1024 .f32)
  (wg wu : FVec Ideal S2816x1024 .bf16)

/-- The stores of the gate, the last first. -/
abbrev gateList : List (View.Piece (Elt Ideal) S512x2816 .bf16) :=
  [(⟨Rect.unit (s := S512x2816) ![0, 2560] S512x256.size inb_S512x2816_S512x256_0_2560, k0_pay60 (F := Ideal) (k0_pay3 x p w q w' g) (View.ld wg (Rect.unit (s := S2816x1024) ![2560, 0] S256x1024.size inb_S2816x1024_S256x1024_2560_0))⟩ : View.Piece (Elt Ideal) S512x2816 .bf16),
    ⟨Rect.unit (s := S512x2816) ![0, 2304] S512x256.size inb_S512x2816_S512x256_0_2304, k0_pay55 (F := Ideal) (k0_pay3 x p w q w' g) (View.ld wg (Rect.unit (s := S2816x1024) ![2304, 0] S256x1024.size inb_S2816x1024_S256x1024_2304_0))⟩,
    ⟨Rect.unit (s := S512x2816) ![0, 2048] S512x256.size inb_S512x2816_S512x256_0_2048, k0_pay50 (F := Ideal) (k0_pay3 x p w q w' g) (View.ld wg (Rect.unit (s := S2816x1024) ![2048, 0] S256x1024.size inb_S2816x1024_S256x1024_2048_0))⟩,
    ⟨Rect.unit (s := S512x2816) ![0, 1792] S512x256.size inb_S512x2816_S512x256_0_1792, k0_pay45 (F := Ideal) (k0_pay3 x p w q w' g) (View.ld wg (Rect.unit (s := S2816x1024) ![1792, 0] S256x1024.size inb_S2816x1024_S256x1024_1792_0))⟩,
    ⟨Rect.unit (s := S512x2816) ![0, 1536] S512x256.size inb_S512x2816_S512x256_0_1536, k0_pay40 (F := Ideal) (k0_pay3 x p w q w' g) (k0_pay37 (View.ld wg (Rect.unit (s := S2816x1024) ![1536, 0] S256x1024.size inb_S2816x1024_S256x1024_1536_0)))⟩,
    ⟨Rect.unit (s := S512x2816) ![0, 1280] S512x256.size inb_S512x2816_S512x256_0_1280, k0_pay34 (F := Ideal) (k0_pay3 x p w q w' g) (View.ld wg (Rect.unit (s := S2816x1024) ![1280, 0] S256x1024.size inb_S2816x1024_S256x1024_1280_0))⟩,
    ⟨Rect.unit (s := S512x2816) ![0, 1024] S512x256.size inb_S512x2816_S512x256_0_1024, k0_pay28 (F := Ideal) (k0_pay3 x p w q w' g) (View.ld wg (Rect.unit (s := S2816x1024) ![1024, 0] S256x1024.size inb_S2816x1024_S256x1024_1024_0))⟩,
    ⟨Rect.unit (s := S512x2816) ![0, 768] S512x256.size inb_S512x2816_S512x256_0_768, k0_pay23 (F := Ideal) (k0_pay21 (k0_pay3 x p w q w' g) (View.ld wg (Rect.unit (s := S2816x1024) ![768, 0] S256x1024.size inb_S2816x1024_S256x1024_768_0)))⟩,
    ⟨Rect.unit (s := S512x2816) ![0, 512] S512x256.size inb_S512x2816_S512x256_0_512, k0_pay18 (F := Ideal) (k0_pay3 x p w q w' g) (View.ld wg (Rect.unit (s := S2816x1024) ![512, 0] S256x1024.size inb_S2816x1024_S256x1024_512_0))⟩,
    ⟨Rect.unit (s := S512x2816) ![0, 256] S512x256.size inb_S512x2816_S512x256_0_256, k0_pay12 (F := Ideal) (k0_pay3 x p w q w' g) (View.ld wg (Rect.unit (s := S2816x1024) ![256, 0] S256x1024.size inb_S2816x1024_S256x1024_256_0))⟩,
    ⟨Rect.unit (s := S512x2816) ![0, 0] S512x256.size inb_S512x2816_S512x256_0_0, k0_pay7 (F := Ideal) (k0_pay4 x p w q w' g (View.ld wg (Rect.unit (s := S2816x1024) ![0, 0] S256x1024.size inb_S2816x1024_S256x1024_0_0)))⟩]

/-- The stores of the linear branch, the last first. -/
abbrev upList : List (View.Piece (Elt Ideal) S512x2816 .bf16) :=
  [(⟨Rect.unit (s := S512x2816) ![0, 2560] S512x256.size inb_S512x2816_S512x256_0_2560, k0_pay61 (F := Ideal) (k0_pay3 x p w q w' g) (View.ld wu (Rect.unit (s := S2816x1024) ![2560, 0] S256x1024.size inb_S2816x1024_S256x1024_2560_0))⟩ : View.Piece (Elt Ideal) S512x2816 .bf16),
    ⟨Rect.unit (s := S512x2816) ![0, 2304] S512x256.size inb_S512x2816_S512x256_0_2304, k0_pay56 (F := Ideal) (k0_pay3 x p w q w' g) (View.ld wu (Rect.unit (s := S2816x1024) ![2304, 0] S256x1024.size inb_S2816x1024_S256x1024_2304_0))⟩,
    ⟨Rect.unit (s := S512x2816) ![0, 2048] S512x256.size inb_S512x2816_S512x256_0_2048, k0_pay51 (F := Ideal) (k0_pay3 x p w q w' g) (View.ld wu (Rect.unit (s := S2816x1024) ![2048, 0] S256x1024.size inb_S2816x1024_S256x1024_2048_0))⟩,
    ⟨Rect.unit (s := S512x2816) ![0, 1792] S512x256.size inb_S512x2816_S512x256_0_1792, k0_pay46 (F := Ideal) (k0_pay3 x p w q w' g) (View.ld wu (Rect.unit (s := S2816x1024) ![1792, 0] S256x1024.size inb_S2816x1024_S256x1024_1792_0))⟩,
    ⟨Rect.unit (s := S512x2816) ![0, 1536] S512x256.size inb_S512x2816_S512x256_0_1536, k0_pay41 (F := Ideal) (k0_pay3 x p w q w' g) (View.ld wu (Rect.unit (s := S2816x1024) ![1536, 0] S256x1024.size inb_S2816x1024_S256x1024_1536_0))⟩,
    ⟨Rect.unit (s := S512x2816) ![0, 1280] S512x256.size inb_S512x2816_S512x256_0_1280, k0_pay35 (F := Ideal) (k0_pay3 x p w q w' g) (View.ld wu (Rect.unit (s := S2816x1024) ![1280, 0] S256x1024.size inb_S2816x1024_S256x1024_1280_0))⟩,
    ⟨Rect.unit (s := S512x2816) ![0, 1024] S512x256.size inb_S512x2816_S512x256_0_1024, k0_pay29 (F := Ideal) (k0_pay3 x p w q w' g) (View.ld wu (Rect.unit (s := S2816x1024) ![1024, 0] S256x1024.size inb_S2816x1024_S256x1024_1024_0))⟩,
    ⟨Rect.unit (s := S512x2816) ![0, 768] S512x256.size inb_S512x2816_S512x256_0_768, k0_pay24 (F := Ideal) (k0_pay3 x p w q w' g) (View.ld wu (Rect.unit (s := S2816x1024) ![768, 0] S256x1024.size inb_S2816x1024_S256x1024_768_0))⟩,
    ⟨Rect.unit (s := S512x2816) ![0, 512] S512x256.size inb_S512x2816_S512x256_0_512, k0_pay19 (F := Ideal) (k0_pay3 x p w q w' g) (View.ld wu (Rect.unit (s := S2816x1024) ![512, 0] S256x1024.size inb_S2816x1024_S256x1024_512_0))⟩,
    ⟨Rect.unit (s := S512x2816) ![0, 256] S512x256.size inb_S512x2816_S512x256_0_256, k0_pay13 (F := Ideal) (k0_pay3 x p w q w' g) (View.ld wu (Rect.unit (s := S2816x1024) ![256, 0] S256x1024.size inb_S2816x1024_S256x1024_256_0))⟩,
    ⟨Rect.unit (s := S512x2816) ![0, 0] S512x256.size inb_S512x2816_S512x256_0_0, k0_pay8 (F := Ideal) (k0_pay3 x p w q w' g) (k0_pay5 (View.ld wu (Rect.unit (s := S2816x1024) ![0, 0] S256x1024.size inb_S2816x1024_S256x1024_0_0)))⟩]

/-- The stores of the gated rows, the last first. -/
abbrev actList : List (View.Piece (Elt Ideal) S512x2816 .bf16) :=
  [(⟨Rect.unit (s := S512x2816) ![0, 2560] S512x256.size inb_S512x2816_S512x256_0_2560, k0_pay62 (F := Ideal) (k0_pay58 (k0_pay3 x p w q w' g) (View.ld wg (Rect.unit (s := S2816x1024) ![2560, 0] S256x1024.size inb_S2816x1024_S256x1024_2560_0))) (k0_pay59 (k0_pay3 x p w q w' g) (View.ld wu (Rect.unit (s := S2816x1024) ![2560, 0] S256x1024.size inb_S2816x1024_S256x1024_2560_0)))⟩ : View.Piece (Elt Ideal) S512x2816 .bf16),
    ⟨Rect.unit (s := S512x2816) ![0, 2304] S512x256.size inb_S512x2816_S512x256_0_2304, k0_pay57 (F := Ideal) (k0_pay3 x p w q w' g) (View.ld wg (Rect.unit (s := S2816x1024) ![2304, 0] S256x1024.size inb_S2816x1024_S256x1024_2304_0)) (View.ld wu (Rect.unit (s := S2816x1024) ![2304, 0] S256x1024.size inb_S2816x1024_S256x1024_2304_0))⟩,
    ⟨Rect.unit (s := S512x2816) ![0, 2048] S512x256.size inb_S512x2816_S512x256_0_2048, k0_pay52 (F := Ideal) (k0_pay3 x p w q w' g) (View.ld wg (Rect.unit (s := S2816x1024) ![2048, 0] S256x1024.size inb_S2816x1024_S256x1024_2048_0)) (View.ld wu (Rect.unit (s := S2816x1024) ![2048, 0] S256x1024.size inb_S2816x1024_S256x1024_2048_0))⟩,
    ⟨Rect.unit (s := S512x2816) ![0, 1792] S512x256.size inb_S512x2816_S512x256_0_1792, k0_pay47 (F := Ideal) (k0_pay43 (k0_pay3 x p w q w' g) (View.ld wg (Rect.unit (s := S2816x1024) ![1792, 0] S256x1024.size inb_S2816x1024_S256x1024_1792_0))) (k0_pay44 (k0_pay3 x p w q w' g) (View.ld wu (Rect.unit (s := S2816x1024) ![1792, 0] S256x1024.size inb_S2816x1024_S256x1024_1792_0))) (FloatOps.ofBits FTy.f32 0#32)⟩,
    ⟨Rect.unit (s := S512x2816) ![0, 1536] S512x256.size inb_S512x2816_S512x256_0_1536, k0_pay42 (F := Ideal) (k0_pay3 x p w q w' g) (k0_pay37 (View.ld wg (Rect.unit (s := S2816x1024) ![1536, 0] S256x1024.size inb_S2816x1024_S256x1024_1536_0))) (View.ld wu (Rect.unit (s := S2816x1024) ![1536, 0] S256x1024.size inb_S2816x1024_S256x1024_1536_0))⟩,
    ⟨Rect.unit (s := S512x2816) ![0, 1280] S512x256.size inb_S512x2816_S512x256_0_1280, k0_pay36 (F := Ideal) (k0_pay3 x p w q w' g) (View.ld wg (Rect.unit (s := S2816x1024) ![1280, 0] S256x1024.size inb_S2816x1024_S256x1024_1280_0)) (View.ld wu (Rect.unit (s := S2816x1024) ![1280, 0] S256x1024.size inb_S2816x1024_S256x1024_1280_0))⟩,
    ⟨Rect.unit (s := S512x2816) ![0, 1024] S512x256.size inb_S512x2816_S512x256_0_1024, k0_pay31 (F := Ideal) (k0_pay26 (k0_pay3 x p w q w' g) (View.ld wg (Rect.unit (s := S2816x1024) ![1024, 0] S256x1024.size inb_S2816x1024_S256x1024_1024_0))) (k0_pay27 (k0_pay3 x p w q w' g) (View.ld wu (Rect.unit (s := S2816x1024) ![1024, 0] S256x1024.size inb_S2816x1024_S256x1024_1024_0))) (k0_pay30 (k0_pay3 x p w q w' g) (View.ld wg (Rect.unit (s := S2816x1024) ![1024, 0] S256x1024.size inb_S2816x1024_S256x1024_1024_0)))⟩,
    ⟨Rect.unit (s := S512x2816) ![0, 768] S512x256.size inb_S512x2816_S512x256_0_768, k0_pay25 (F := Ideal) (k0_pay3 x p w q w' g) (k0_pay21 (k0_pay3 x p w q w' g) (View.ld wg (Rect.unit (s := S2816x1024) ![768, 0] S256x1024.size inb_S2816x1024_S256x1024_768_0))) (View.ld wu (Rect.unit (s := S2816x1024) ![768, 0] S256x1024.size inb_S2816x1024_S256x1024_768_0))⟩,
    ⟨Rect.unit (s := S512x2816) ![0, 512] S512x256.size inb_S512x2816_S512x256_0_512, k0_pay20 (F := Ideal) (k0_pay3 x p w q w' g) (View.ld wg (Rect.unit (s := S2816x1024) ![512, 0] S256x1024.size inb_S2816x1024_S256x1024_512_0)) (View.ld wu (Rect.unit (s := S2816x1024) ![512, 0] S256x1024.size inb_S2816x1024_S256x1024_512_0))⟩,
    ⟨Rect.unit (s := S512x2816) ![0, 256] S512x256.size inb_S512x2816_S512x256_0_256, k0_pay15 (F := Ideal) (k0_pay10 (k0_pay3 x p w q w' g) (View.ld wg (Rect.unit (s := S2816x1024) ![256, 0] S256x1024.size inb_S2816x1024_S256x1024_256_0))) (k0_pay11 (k0_pay3 x p w q w' g) (View.ld wu (Rect.unit (s := S2816x1024) ![256, 0] S256x1024.size inb_S2816x1024_S256x1024_256_0))) (k0_pay14 (k0_pay3 x p w q w' g) (View.ld wg (Rect.unit (s := S2816x1024) ![256, 0] S256x1024.size inb_S2816x1024_S256x1024_256_0)))⟩,
    ⟨Rect.unit (s := S512x2816) ![0, 0] S512x256.size inb_S512x2816_S512x256_0_0, k0_pay9 (F := Ideal) (k0_pay3 x p w q w' g) (k0_pay4 x p w q w' g (View.ld wg (Rect.unit (s := S2816x1024) ![0, 0] S256x1024.size inb_S2816x1024_S256x1024_0_0))) (k0_pay5 (View.ld wu (Rect.unit (s := S2816x1024) ![0, 0] S256x1024.size inb_S2816x1024_S256x1024_0_0)))⟩]

end Lists

variable {H Wg Wu : ℕ → ℕ → ℝ} {x : FVec Ideal S512x1024 .f32} {p q : FVec Ideal S512x512 .bf16} {w w' : FVec Ideal S512x1024 .bf16}
  {g : FVec Ideal S1x1024 .f32} {wg wu : FVec Ideal S2816x1024 .bf16}
  (hh : ∀ i j, k0_pay3 (F := Ideal) x p w q w' g (ix2 i j) = ((H i.val j.val : ℝ) : EReal))
  (hg : ∀ k j, wg (ix2 k j) = ((Wg j.val k.val : ℝ) : EReal)) (hu : ∀ k j, wu (ix2 k j) = ((Wu j.val k.val : ℝ) : EReal))

/-- A normalised row times a column. -/
def col (h : ℕ → ℝ) (W : ℕ → ℕ → ℝ) (k : ℕ) : ℝ := ∑ j : Fin 1024, h j * W j k

theorem col_coe (h : ℕ → ℝ) (W : ℕ → ℕ → ℝ) (k : ℕ) : ((∑ j : Fin 1024, h j * W j k : ℝ) : EReal) = ((col h W k : ℝ) : EReal) := rfl

theorem gated_coe (g u : ℝ) : (g : EReal) * ((sg g : ℝ) : EReal) * (u : EReal) = ((gated g u : ℝ) : EReal) := by
  unfold gated
  simp only [← EReal.coe_mul]

set_option maxHeartbeats 4000000

include hh hg in
theorem gate_pieces : View.PiecesOf (Val := Elt Ideal) (show FVec Ideal S512x2816 .bf16 from fun i =>
    ((col (H (i 0).val) Wg (i 1).val : ℝ) : EReal)) (gateList x p q w w' g wg) := by
  refine ⟨?_, ?_, ?_, ?_, ?_, ?_, ?_, ?_, ?_, ?_, ?_, trivial⟩
  all_goals
    intro s
    obtain ⟨a, b, rfl⟩ : ∃ (a : Fin 512) (b : Fin 256), s = ValueIdx.ix2 a b := ⟨s 0, s 1, ValueIdx.eq_ix2 s⟩
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    blk_simp
    simp only [ValueIdx.ix2_0, ValueIdx.ix2_1]
    simp only [hh, hg, ← EReal.coe_mul, Reals.sum_coe, col_coe]

include hh hu in
theorem up_pieces : View.PiecesOf (Val := Elt Ideal) (show FVec Ideal S512x2816 .bf16 from fun i =>
    ((col (H (i 0).val) Wu (i 1).val : ℝ) : EReal)) (upList x p q w w' g wu) := by
  refine ⟨?_, ?_, ?_, ?_, ?_, ?_, ?_, ?_, ?_, ?_, ?_, trivial⟩
  all_goals
    intro s
    obtain ⟨a, b, rfl⟩ : ∃ (a : Fin 512) (b : Fin 256), s = ValueIdx.ix2 a b := ⟨s 0, s 1, ValueIdx.eq_ix2 s⟩
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    blk_simp
    simp only [ValueIdx.ix2_0, ValueIdx.ix2_1]
    simp only [hh, hu, ← EReal.coe_mul, Reals.sum_coe, col_coe]

include hh hg hu in
theorem act_pieces : View.PiecesOf (Val := Elt Ideal) (show FVec Ideal S512x2816 .bf16 from fun i =>
    ((gated (col (H (i 0).val) Wg (i 1).val) (col (H (i 0).val) Wu (i 1).val) : ℝ) : EReal)) (actList x p q w w' g wg wu) := by
  refine ⟨?_, ?_, ?_, ?_, ?_, ?_, ?_, ?_, ?_, ?_, ?_, trivial⟩
  all_goals
    intro s
    obtain ⟨a, b, rfl⟩ : ∃ (a : Fin 512) (b : Fin 256), s = ValueIdx.ix2 a b := ⟨s 0, s 1, ValueIdx.eq_ix2 s⟩
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    blk_simp
    simp only [ValueIdx.ix2_0, ValueIdx.ix2_1]
    simp only [hh, hg, hu, zero_sub, ← EReal.coe_mul, Reals.sum_coe, col_coe, sg_coe]
    rfl

end Cert.Proof.Loss
-- ==== Proof.LsRead.lean ====
/- What one point of the last block's grid reads: the arguments' rows, the matrices, two of them transposed, and the gains. -/
module

public import proofs.«01_k».proof.Proof.LsPieces

@[expose] public section

set_option maxRecDepth 16384

noncomputable section

namespace Cert.Proof.Loss

open Cert.Kernel4Ideal Cert.Kernel4Ideal.Gen Idealize.ShloMosaic Idealize.ShloMosaic.TcCoe Idealize.SL.Sem Idealize.ShloMosaic.StableHlo

/-- Where each window of a point lies. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![0, 0]
    ∧ win0_15.index t = ![0, 0] :=
  (by decide +kernel : ∀ t : Fin grid0.N, _)

theorem row_lt (t : Fin cfg0.N) (i : Fin 512) : 512 * t.val + i.val < 8192 := by
  have : cfg0.N = 16 := N_0
  omega

variable (m : (ℓ : Loc nD τ sig) → Buf (Elt Ideal) ℓ) (c : Dev nD)

/-- The arguments, as real functions of their coordinates. -/
structure Args (X P Q W : ℕ → ℕ → ℝ) (G : ℕ → ℝ) (Wg Wu Wd : ℕ → ℕ → ℝ) (Gf : ℕ → ℝ) (T : ℕ → ℕ → ℝ) : Prop where
  x : ∀ (t : Fin 8192) (j : Fin 1024), (show FVec Ideal S8192x1024 .f32 from m ((c : Thread nD τ).loc main_arg0)) (ix2 t j) = ((X t.val j.val : ℝ) : EReal)
  p : ∀ (t : Fin 8192) (k : Fin 512), (show FVec Ideal S8192x512 .f32 from m ((c : Thread nD τ).loc main_arg1)) (ix2 t k) = ((P t.val k.val : ℝ) : EReal)
  q : ∀ (t : Fin 8192) (k : Fin 512), (show FVec Ideal S8192x512 .f32 from m ((c : Thread nD τ).loc main_arg2)) (ix2 t k) = ((Q t.val k.val : ℝ) : EReal)
  w : ∀ (k j : Fin 1024), (show FVec Ideal S1024x1024 .f32 from m ((c : Thread nD τ).loc main_arg3)) (ix2 k j) = ((W k.val j.val : ℝ) : EReal)
  g : ∀ j : Fin 1024, (show FVec Ideal S1024 .f32 from m ((c : Thread nD τ).loc main_arg4)) (ix1 j) = ((G j.val : ℝ) : EReal)
  wg : ∀ (j : Fin 1024) (k : Fin 2816), (show FVec Ideal S1024x2816 .f32 from m ((c : Thread nD τ).loc main_arg5)) (ix2 j k) = ((Wg j.val k.val : ℝ) : EReal)
  wu : ∀ (j : Fin 1024) (k : Fin 2816), (show FVec Ideal S1024x2816 .f32 from m ((c : Thread nD τ).loc main_arg6)) (ix2 j k) = ((Wu j.val k.val : ℝ) : EReal)
  wd : ∀ (k : Fin 2816) (j : Fin 1024), (show FVec Ideal S2816x1024 .f32 from m ((c : Thread nD τ).loc main_arg7)) (ix2 k j) = ((Wd k.val j.val : ℝ) : EReal)
  gf : ∀ j : Fin 1024, (show FVec Ideal S1024 .f32 from m ((c : Thread nD τ).loc main_arg8)) (ix1 j) = ((Gf j.val : ℝ) : EReal)
  t : ∀ (t : Fin 8192) (j : Fin 1024), (show FVec Ideal S8192x1024 .f32 from m ((c : Thread nD τ).loc main_arg9)) (ix2 t j) = ((T t.val j.val : ℝ) : EReal)

variable {m c} {X P Q W : ℕ → ℕ → ℝ} {G : ℕ → ℝ} {Wg Wu Wd : ℕ → ℕ → ℝ} {Gf : ℕ → ℝ} {T : ℕ → ℕ → ℝ}
  (A : Args m c X P Q W G Wg Wu Wd Gf T) (t : Fin cfg0.N)

include A

theorem read_x (i : Fin 512) (j : Fin 1024) :
    (show FVec Ideal S512x1024 .f32 from iblk m c 0 t) (ix2 i j) = ((X (512 * t.val + i.val) j.val : ℝ) : EReal) := by
  rw [← A.x ⟨512 * t.val + i.val, row_lt t i⟩ j]
  blk_point [iblk, V, idx t]

theorem read_t (i : Fin 512) (j : Fin 1024) :
    (show FVec Ideal S512x1024 .f32 from iblk m c 9 t) (ix2 i j) = ((T (512 * t.val + i.val) j.val : ℝ) : EReal) := by
  rw [← A.t ⟨512 * t.val + i.val, row_lt t i⟩ j]
  blk_point [iblk, V, idx t]

theorem lane_g (u : Fin 1) (j : Fin 1024) : (show FVec Ideal S1x1024 .f32 from V m c main_v7) (ix2 u j) = ((G j.val : ℝ) : EReal) := by
  show (StableHlo.after hostOps0 (fun b => m (c, b)) (Proc.devRef .tc main_v7) : FVec Ideal S1x1024 .f32) (ix2 u j) = _
  after_results
  pointwise
  exact A.g j

theorem lane_gf (u : Fin 1) (j : Fin 1024) : (show FVec Ideal S1x1024 .f32 from V m c main_v9) (ix2 u j) = ((Gf j.val : ℝ) : EReal) := by
  show (StableHlo.after hostOps0 (fun b => m (c, b)) (Proc.devRef .tc main_v9) : FVec Ideal S1x1024 .f32) (ix2 u j) = _
  after_results
  pointwise
  exact A.gf j

theorem lane_p (r : Fin 8192) (k : Fin 512) : (show FVec Ideal S8192x512 .bf16 from V m c main_v4) (ix2 r k) = ((P r.val k.val : ℝ) : EReal) := by
  show (StableHlo.after hostOps0 (fun b => m (c, b)) (Proc.devRef .tc main_v4) : FVec Ideal S8192x512 .bf16) (ix2 r k) = _
  after_results
  pointwise
  exact A.p r k

theorem lane_q (r : Fin 8192) (k : Fin 512) : (show FVec Ideal S8192x512 .bf16 from V m c main_v5) (ix2 r k) = ((Q r.val k.val : ℝ) : EReal) := by
  show (StableHlo.after hostOps0 (fun b => m (c, b)) (Proc.devRef .tc main_v5) : FVec Ideal S8192x512 .bf16) (ix2 r k) = _
  after_results
  pointwise
  exact A.q r k

theorem lane_w (k j : Fin 1024) : (show FVec Ideal S1024x1024 .bf16 from V m c main_v6) (ix2 k j) = ((W k.val j.val : ℝ) : EReal) := by
  show (StableHlo.after hostOps0 (fun b => m (c, b)) (Proc.devRef .tc main_v6) : FVec Ideal S1024x1024 .bf16) (ix2 k j) = _
  after_results
  pointwise
  exact A.w k j

theorem lane_wg (k : Fin 2816) (j : Fin 1024) : (show FVec Ideal S2816x1024 .bf16 from V m c main_v1) (ix2 k j) = ((Wg j.val k.val : ℝ) : EReal) := by
  show (StableHlo.after hostOps0 (fun b => m (c, b)) (Proc.devRef .tc main_v1) : FVec Ideal S2816x1024 .bf16) (ix2 k j) = _
  after_results
  pointwise
  exact A.wg j k

theorem lane_wu (k : Fin 2816) (j : Fin 1024) : (show FVec Ideal S2816x1024 .bf16 from V m c main_v3) (ix2 k j) = ((Wu j.val k.val : ℝ) : EReal) := by
  show (StableHlo.after hostOps0 (fun b => m (c, b)) (Proc.devRef .tc main_v3) : FVec Ideal S2816x1024 .bf16) (ix2 k j) = _
  after_results
  pointwise
  exact A.wu j k

theorem lane_wd (k : Fin 2816) (j : Fin 1024) : (show FVec Ideal S2816x1024 .bf16 from V m c main_v8) (ix2 k j) = ((Wd k.val j.val : ℝ) : EReal) := by
  show (StableHlo.after hostOps0 (fun b => m (c, b)) (Proc.devRef .tc main_v8) : FVec Ideal S2816x1024 .bf16) (ix2 k j) = _
  after_results
  pointwise
  exact A.wd k j

theorem read_g (i : Fin 1) (j : Fin 1024) : (show FVec Ideal S1x1024 .f32 from iblk m c 1 t) (ix2 i j) = ((G j.val : ℝ) : EReal) := by
  rw [← lane_g A i j]
  blk_point [iblk, idx t]

theorem read_gf (i : Fin 1) (j : Fin 1024) : (show FVec Ideal S1x1024 .f32 from iblk m c 8 t) (ix2 i j) = ((Gf j.val : ℝ) : EReal) := by
  rw [← lane_gf A i j]
  blk_point [iblk, idx t]

theorem read_p (i : Fin 512) (k : Fin 512) :
    (show FVec Ideal S512x512 .bf16 from iblk m c 5 t) (ix2 i k) = ((P (512 * t.val + i.val) k.val : ℝ) : EReal) := by
  refine Eq.trans ?_ (lane_p A ⟨512 * t.val + i.val, row_lt t i⟩ k)
  blk_point [iblk, idx t]

theorem read_q (i : Fin 512) (k : Fin 512) :
    (show FVec Ideal S512x512 .bf16 from iblk m c 6 t) (ix2 i k) = ((Q (512 * t.val + i.val) k.val : ℝ) : EReal) := by
  refine Eq.trans ?_ (lane_q A ⟨512 * t.val + i.val, row_lt t i⟩ k)
  blk_point [iblk, idx t]

theorem read_w (k j : Fin 1024) : (show FVec Ideal S1024x1024 .bf16 from iblk m c 7 t) (ix2 k j) = ((W k.val j.val : ℝ) : EReal) := by
  rw [← lane_w A k j]
  blk_point [iblk, idx t]

theorem read_wg (k : Fin 2816) (j : Fin 1024) :
    (show FVec Ideal S2816x1024 .bf16 from iblk m c 2 t) (ix2 k j) = ((Wg j.val k.val : ℝ) : EReal) := by
  rw [← lane_wg A k j]
  blk_point [iblk, idx t]

theorem read_wu (k : Fin 2816) (j : Fin 1024) :
    (show FVec Ideal S2816x1024 .bf16 from iblk m c 3 t) (ix2 k j) = ((Wu j.val k.val : ℝ) : EReal) := by
  rw [← lane_wu A k j]
  blk_point [iblk, idx t]

theorem read_wd (k : Fin 2816) (j : Fin 1024) :
    (show FVec Ideal S2816x1024 .bf16 from iblk m c 4 t) (ix2 k j) = ((Wd k.val j.val : ℝ) : EReal) := by
  rw [← lane_wd A k j]
  blk_point [iblk, idx t]

/-- The two halves of the output projection. -/
theorem read_top (k : Fin 512) (j : Fin 1024) : (show FVec Ideal S512x1024 .bf16 from View.ld (iblk m c 7 t)
      (Rect.unit (s := S1024x1024) ![0, 0] S512x1024.size inb_S1024x1024_S512x1024_0_0)) (ix2 k j) = ((W k.val j.val : ℝ) : EReal) := by
  rw [← read_w A t ⟨k.val, by omega⟩ j]
  generalize iblk m c 7 t = w
  pointwise

theorem read_bottom (k : Fin 512) (j : Fin 1024) : (show FVec Ideal S512x1024 .bf16 from View.ld (iblk m c 7 t)
      (Rect.unit (s := S1024x1024) ![512, 0] S512x1024.size inb_S1024x1024_S512x1024_512_0)) (ix2 k j) = ((W (512 + k.val) j.val : ℝ) : EReal) := by
  rw [← read_w A t ⟨512 + k.val, by omega⟩ j]
  generalize iblk m c 7 t = w
  pointwise

end Cert.Proof.Loss
-- ==== Proof.LsPoint.lean ====
/- The arrays the last block's kernel leaves: the rows of the gradient, of the gate, of the linear branch and of the mixed input,
   and the loss and the gain's gradient summed over the blocks of rows. -/
module

public import proofs.«01_k».proof.Proof.LsRead

@[expose] public section

set_option maxRecDepth 16384

noncomputable section

namespace Cert.Proof.Loss

open Cert.Kernel4Ideal Cert.Kernel4Ideal.Gen Idealize.ShloMosaic Idealize.ShloMosaic.TcCoe Idealize.SL.Sem Idealize.ShloMosaic.StableHlo
open Cert.Proof.InProj (meanSq inv)
open Cert.Proof.Ffn

/-- Row `r` after the mixers and after the feed-forward block, for the arguments as functions of the row. -/
def mixAt (X P Q W : ℕ → ℕ → ℝ) (r : ℕ) : ℕ → ℝ := mixed (X r) (P r) (Q r) W
def outAt (X P Q W : ℕ → ℕ → ℝ) (G : ℕ → ℝ) (Wg Wu Wd : ℕ → ℕ → ℝ) (r : ℕ) : ℕ → ℝ := after (mixAt X P Q W r) G Wg Wu Wd

variable {m : (ℓ : Loc nD τ sig) → Buf (Elt Ideal) ℓ} {c : Dev nD}
  {X P Q W : ℕ → ℕ → ℝ} {G : ℕ → ℝ} {Wg Wu Wd : ℕ → ℕ → ℝ} {Gf : ℕ → ℝ} {T : ℕ → ℕ → ℝ}
  (A : Args m c X P Q W G Wg Wu Wd Gf T) (t : Fin cfg0.N)

/-- The halves of the output projection as the body reads them. -/
abbrev top (m : (ℓ : Loc nD τ sig) → Buf (Elt Ideal) ℓ) (c : Dev nD) (t : Fin cfg0.N) : FVec Ideal S512x1024 .bf16 :=
  View.ld (iblk m c 7 t) (Rect.unit (s := S1024x1024) ![0, 0] S512x1024.size inb_S1024x1024_S512x1024_0_0)
abbrev bottom (m : (ℓ : Loc nD τ sig) → Buf (Elt Ideal) ℓ) (c : Dev nD) (t : Fin cfg0.N) : FVec Ideal S512x1024 .bf16 :=
  View.ld (iblk m c 7 t) (Rect.unit (s := S1024x1024) ![512, 0] S512x1024.size inb_S1024x1024_S512x1024_512_0)

/-- The mixed rows, and the gated rows as the down projection reads them back. -/
abbrev mixVec (m : (ℓ : Loc nD τ sig) → Buf (Elt Ideal) ℓ) (c : Dev nD) (t : Fin cfg0.N) : FVec Ideal S512x1024 .f32 :=
  k0_pay2 (F := Ideal) (iblk m c 0 t) (iblk m c 5 t) (top m c t) (iblk m c 6 t) (bottom m c t)
abbrev actVec (m : (ℓ : Loc nD τ sig) → Buf (Elt Ideal) ℓ) (c : Dev nD) (t : Fin cfg0.N) (v : View sig .tc .vmem S512x2816 .bf16) : FVec Ideal S512x2816 .bf16 :=
  v.readCov (actList (iblk m c 0 t) (iblk m c 5 t) (iblk m c 6 t) (top m c t) (bottom m c t) (iblk m c 1 t) (iblk m c 2 t) (iblk m c 3 t))
    (Rect.unit (s := S512x2816) ![0, 0] S512x2816.size inb_S512x2816_S512x2816_0_0).toLoadRect

include A

theorem mix_vec (i : Fin 512) (j : Fin 1024) : mixVec m c t (ix2 i j) = ((mixAt X P Q W (512 * t.val + i.val) j.val : ℝ) : EReal) :=
  mix_block (X := fun i => X (512 * t.val + i)) (P := fun i => P (512 * t.val + i)) (Q := fun i => Q (512 * t.val + i))
    (read_x A t) (read_p A t) (read_q A t) (read_top A t) (read_bottom A t) i j

theorem h_vec (i : Fin 512) (j : Fin 1024) :
    k0_pay3 (F := Ideal) (iblk m c 0 t) (iblk m c 5 t) (top m c t) (iblk m c 6 t) (bottom m c t) (iblk m c 1 t) (ix2 i j)
      = ((hat (mixAt X P Q W (512 * t.val + i.val)) j.val * G j.val : ℝ) : EReal) :=
  h_block (X := fun i => X (512 * t.val + i)) (P := fun i => P (512 * t.val + i)) (Q := fun i => Q (512 * t.val + i))
    (read_x A t) (read_p A t) (read_q A t) (read_top A t) (read_bottom A t) (read_g A t) i j

/-- The eleven stores of the gate, of the linear branch and of the gated rows fill their blocks. -/
theorem gate_block (i : S512x2816.Idx) : (show FVec Ideal S512x2816 .bf16 from View.canon (gateList (iblk m c 0 t) (iblk m c 5 t)
      (iblk m c 6 t) (top m c t) (bottom m c t) (iblk m c 1 t) (iblk m c 2 t))) i
    = ((lin (mixAt X P Q W (512 * t.val + (i 0).val)) G Wg (i 1).val : ℝ) : EReal) :=
  View.canon_append_of_piecesOf _ [] _ (gate_pieces (H := fun i j => hat (mixAt X P Q W (512 * t.val + i)) j * G j) (h_vec A t) (read_wg A t)) i
    (View.cover_of_tiledBy _ ![512, 256] (by sl_kernel_rfl) _)

theorem up_block (i : S512x2816.Idx) : (show FVec Ideal S512x2816 .bf16 from View.canon (upList (iblk m c 0 t) (iblk m c 5 t)
      (iblk m c 6 t) (top m c t) (bottom m c t) (iblk m c 1 t) (iblk m c 3 t))) i
    = ((lin (mixAt X P Q W (512 * t.val + (i 0).val)) G Wu (i 1).val : ℝ) : EReal) :=
  View.canon_append_of_piecesOf _ [] _ (up_pieces (H := fun i j => hat (mixAt X P Q W (512 * t.val + i)) j * G j) (h_vec A t) (read_wu A t)) i
    (View.cover_of_tiledBy _ ![512, 256] (by sl_kernel_rfl) _)

theorem act_block (i : S512x2816.Idx) : (show FVec Ideal S512x2816 .bf16 from View.canon (actList (iblk m c 0 t) (iblk m c 5 t)
      (iblk m c 6 t) (top m c t) (bottom m c t) (iblk m c 1 t) (iblk m c 2 t) (iblk m c 3 t))) i
    = ((gated (lin (mixAt X P Q W (512 * t.val + (i 0).val)) G Wg (i 1).val) (lin (mixAt X P Q W (512 * t.val + (i 0).val)) G Wu (i 1).val) : ℝ) : EReal) :=
  View.canon_append_of_piecesOf _ [] _ (act_pieces (H := fun i j => hat (mixAt X P Q W (512 * t.val + i)) j * G j) (h_vec A t) (read_wg A t) (read_wu A t)) i
    (View.cover_of_tiledBy _ ![512, 256] (by sl_kernel_rfl) _)

theorem act_back (v : View sig .tc .vmem S512x2816 .bf16) (i : Fin 512) (k : Fin 2816) : actVec m c t v (ix2 i k)
    = ((gated (lin (mixAt X P Q W (512 * t.val + i.val)) G Wg k.val) (lin (mixAt X P Q W (512 * t.val + i.val)) G Wu k.val) : ℝ) : EReal) := by
  unfold actVec
  rw [View.readCov_eq_canon']
  refine (act_block A t _).trans ?_
  simp

theorem y_vec (v : View sig .tc .vmem S512x2816 .bf16) (i : Fin 512) (j : Fin 1024) :
    k0_pay63 (F := Ideal) (mixVec m c t) (actVec m c t v) (iblk m c 4 t) (ix2 i j)
      = ((outAt X P Q W G Wg Wu Wd (512 * t.val + i.val) j.val : ℝ) : EReal) :=
  y_block (M := fun i => mixAt X P Q W (512 * t.val + i))
    (A := fun i k => gated (lin (mixAt X P Q W (512 * t.val + i)) G Wg k) (lin (mixAt X P Q W (512 * t.val + i)) G Wu k))
    (mix_vec A t) (act_back A t v) (read_wd A t) i j

/-- The row's gradient. -/
theorem out_dy (i : Fin 512) (j : Fin 1024) : (show FVec Ideal S512x1024 .f32 from (outsAt0 m c t.val t.isLt).1) (ix2 i j)
    = ((dxRow Gf (outAt X P Q W G Wg Wu Wd (512 * t.val + i.val)) (dErr Gf (outAt X P Q W G Wg Wu Wd (512 * t.val + i.val)) (T (512 * t.val + i.val))) j.val : ℝ) : EReal) := by
  by_cases h0 : t.val % 16 = 0
  · rw [outsAt0_A m c t h0]
    frame_out
    exact dy_block (Y := fun i => outAt X P Q W G Wg Wu Wd (512 * t.val + i)) (T := fun i => T (512 * t.val + i))
      (y_vec A t _) (read_gf A t) (read_t A t) i j
  · rw [outsAt0_B m c t h0]
    frame_out
    exact dy_block (Y := fun i => outAt X P Q W G Wg Wu Wd (512 * t.val + i)) (T := fun i => T (512 * t.val + i))
      (y_vec A t _) (read_gf A t) (read_t A t) i j

theorem out_gate (i : Fin 512) (k : Fin 2816) : (show FVec Ideal S512x2816 .bf16 from (outsAt0 m c t.val t.isLt).2.1) (ix2 i k)
    = ((lin (mixAt X P Q W (512 * t.val + i.val)) G Wg k.val : ℝ) : EReal) := by
  by_cases h0 : t.val % 16 = 0
  · rw [outsAt0_A m c t h0]
    frame_out
    exact gate_block A t (ix2 i k)
  · rw [outsAt0_B m c t h0]
    frame_out
    exact gate_block A t (ix2 i k)

theorem out_up (i : Fin 512) (k : Fin 2816) : (show FVec Ideal S512x2816 .bf16 from (outsAt0 m c t.val t.isLt).2.2.1) (ix2 i k)
    = ((lin (mixAt X P Q W (512 * t.val + i.val)) G Wu k.val : ℝ) : EReal) := by
  by_cases h0 : t.val % 16 = 0
  · rw [outsAt0_A m c t h0]
    frame_out
    exact up_block A t (ix2 i k)
  · rw [outsAt0_B m c t h0]
    frame_out
    exact up_block A t (ix2 i k)

theorem out_mix (i : Fin 512) (j : Fin 1024) : (show FVec Ideal S512x1024 .f32 from (outsAt0 m c t.val t.isLt).2.2.2.1) (ix2 i j)
    = ((mixAt X P Q W (512 * t.val + i.val) j.val : ℝ) : EReal) := by
  by_cases h0 : t.val % 16 = 0
  · rw [outsAt0_A m c t h0]
    frame_out
    exact mix_vec A t i j
  · rw [outsAt0_B m c t h0]
    frame_out
    exact mix_vec A t i j

theorem part_loss (v : View sig .tc .vmem S512x2816 .bf16) (old : FVec Ideal S1x1 .f32) (i j : Fin 1) :
    k0_pay71 (F := Ideal) (k0_pay69 (mixVec m c t) (actVec m c t v) (iblk m c 4 t) (iblk m c 8 t)) (iblk m c 9 t) old (ix2 i j)
      = old (ix2 i j) + ((∑ s : Fin 512, 1 / 2 * part Gf (outAt X P Q W G Wg Wu Wd (512 * t.val + s.val)) (T (512 * t.val + s.val)) : ℝ) : EReal) :=
  loss_block (Y := fun i => outAt X P Q W G Wg Wu Wd (512 * t.val + i)) (T := fun i => T (512 * t.val + i))
    (y_vec A t _) (read_gf A t) (read_t A t) old i j

theorem part_gain (v : View sig .tc .vmem S512x2816 .bf16) (old : FVec Ideal S1x1024 .f32) (i : Fin 1) (j : Fin 1024) :
    k0_pay1 (F := Ideal) (k0_pay73 (k0_pay67 (mixVec m c t) (actVec m c t v) (iblk m c 4 t))
        (k0_pay69 (mixVec m c t) (actVec m c t v) (iblk m c 4 t) (iblk m c 8 t)) (iblk m c 9 t)) old (ix2 i j)
      = old (ix2 i j) + ((∑ s : Fin 512, dErr Gf (outAt X P Q W G Wg Wu Wd (512 * t.val + s.val)) (T (512 * t.val + s.val)) j.val
          * hat (outAt X P Q W G Wg Wu Wd (512 * t.val + s.val)) j.val : ℝ) : EReal) :=
  gain_block (Y := fun i => outAt X P Q W G Wg Wu Wd (512 * t.val + i)) (T := fun i => T (512 * t.val + i))
    (y_vec A t _) (read_gf A t) (read_t A t) old i j

omit A in
theorem zero_loss (i j : Fin 1) : k0_pay64 (F := Ideal) (ix2 i j) = 0 := by pointwise [k0_pay64]

omit A in
theorem zero_gain (i : Fin 1) (j : Fin 1024) : k0_pay65 (F := Ideal) (ix2 i j) = 0 := by pointwise [k0_pay65]

theorem acc_loss (hf : t.val % 16 = 16 - 1) (i : S1x1.Idx) :
    (show FVec Ideal S1x1 .f32 from (outsAt0 m c t.val t.isLt).2.2.2.2.1) i
      = ((∑ r : Fin 8192, 1 / 2 * part Gf (outAt X P Q W G Wg Wu Wd r.val) (T r.val) : ℝ) : EReal) := by
  have hN : cfg0.N = 16 := N_0
  refine (Pipeline.eq_sum_fin_of_reset_step_apply_of_flush
    (fun n h => (show FVec Ideal S1x1 .f32 from (outsAt0 m c n h).2.2.2.2.1)) 16 (fun _ => (0 : EReal))
    (fun p _ => ((∑ s : Fin 512, 1 / 2 * part Gf (outAt X P Q W G Wg Wu Wd (512 * p.val + s.val)) (T (512 * p.val + s.val)) : ℝ) : EReal))
    (fun t h i => ?_) (fun t h i => ?_) t hf i).trans ?_
  · rw [ValueIdx.eq_ix2 i, outsAt0_A m c t h]
    frame_out
    exact (part_loss A t _ _ (i 0) (i 1)).trans (congrArg (fun z : EReal => z + _) (zero_loss (i 0) (i 1)))
  · rw [ValueIdx.eq_ix2 i, outsAt0_B m c t h]
    frame_out
    exact part_loss A t _ _ (i 0) (i 1)
  · rw [zero_add, Reals.sum_coe, ← sum_rows fun r => 1 / 2 * part Gf (outAt X P Q W G Wg Wu Wd r) (T r)]
    refine congrArg (fun z : ℝ => (z : EReal)) (Fin.sum_fin_congr fun s => ?_)
    simp only [show 16 * (t.val / 16) + s.val = s.val by omega]

theorem acc_gain (hf : t.val % 16 = 16 - 1) (i : S1x1024.Idx) :
    (show FVec Ideal S1x1024 .f32 from (outsAt0 m c t.val t.isLt).2.2.2.2.2) i
      = ((∑ r : Fin 8192, dErr Gf (outAt X P Q W G Wg Wu Wd r.val) (T r.val) (i 1).val * hat (outAt X P Q W G Wg Wu Wd r.val) (i 1).val : ℝ) : EReal) := by
  have hN : cfg0.N = 16 := N_0
  refine (Pipeline.eq_sum_fin_of_reset_step_apply_of_flush
    (fun n h => (show FVec Ideal S1x1024 .f32 from (outsAt0 m c n h).2.2.2.2.2)) 16 (fun _ => (0 : EReal))
    (fun p i => ((∑ s : Fin 512, dErr Gf (outAt X P Q W G Wg Wu Wd (512 * p.val + s.val)) (T (512 * p.val + s.val)) (i 1).val
      * hat (outAt X P Q W G Wg Wu Wd (512 * p.val + s.val)) (i 1).val : ℝ) : EReal))
    (fun t h i => ?_) (fun t h i => ?_) t hf i).trans ?_
  · rw [ValueIdx.eq_ix2 i, outsAt0_A m c t h]
    frame_out
    exact (part_gain A t _ _ (i 0) (i 1)).trans (congrArg (fun z : EReal => z + _) (zero_gain (i 0) (i 1)))
  · rw [ValueIdx.eq_ix2 i, outsAt0_B m c t h]
    frame_out
    exact part_gain A t _ _ (i 0) (i 1)
  · rw [zero_add, Reals.sum_coe, ← sum_rows fun r => dErr Gf (outAt X P Q W G Wg Wu Wd r) (T r) (i 1).val * hat (outAt X P Q W G Wg Wu Wd r) (i 1).val]
    refine congrArg (fun z : ℝ => (z : EReal)) (Fin.sum_fin_congr fun s => ?_)
    simp only [show 16 * (t.val / 16) + s.val = s.val by omega]

/-- The kernel's results: the gradient of the block's output, -/
theorem arr_dy : (dats m 0 c).arrAt 10 cfg0.N = (show FVec Ideal S8192x1024 .f32 from fun q =>
    ((dxRow Gf (outAt X P Q W G Wg Wu Wd (q 0).val) (dErr Gf (outAt X P Q W G Wg Wu Wd (q 0).val) (T (q 0).val)) (q 1).val : ℝ) : EReal)) := by
  refine (dats m 0 c).arrAt_eq_of_covers 10 _ (by decide +kernel) fun t _ y => ?_
  blk_simp
  rw [after0_10]
  refine (congrArg (show FVec Ideal S512x1024 .f32 from (outsAt0 m c t.val t.isLt).1) (ValueIdx.eq_ix2 y)).trans ((out_dy A t (y 0) (y 1)).trans ?_)
  have h0 : win0_10.index t 0 * 512 + (y 0).val = 512 * t.val + (y 0).val := by simp [idx t, Nat.mul_comm]
  have h1 : win0_10.index t 1 * 1024 + (y 1).val = (y 1).val := by simp [idx t]
  rw [h0, h1]

/-- the gate, -/
theorem arr_gate : (dats m 0 c).arrAt 11 cfg0.N = (show FVec Ideal S8192x2816 .bf16 from fun q =>
    ((lin (mixAt X P Q W (q 0).val) G Wg (q 1).val : ℝ) : EReal)) := by
  refine (dats m 0 c).arrAt_eq_of_covers 11 _ (by decide +kernel) fun t _ y => ?_
  blk_simp
  rw [after0_11]
  refine (congrArg (show FVec Ideal S512x2816 .bf16 from (outsAt0 m c t.val t.isLt).2.1) (ValueIdx.eq_ix2 y)).trans ((out_gate A t (y 0) (y 1)).trans ?_)
  have h0 : win0_11.index t 0 * 512 + (y 0).val = 512 * t.val + (y 0).val := by simp [idx t, Nat.mul_comm]
  have h1 : win0_11.index t 1 * 2816 + (y 1).val = (y 1).val := by simp [idx t]
  rw [h0, h1]

/-- the linear branch, -/
theorem arr_up : (dats m 0 c).arrAt 12 cfg0.N = (show FVec Ideal S8192x2816 .bf16 from fun q =>
    ((lin (mixAt X P Q W (q 0).val) G Wu (q 1).val : ℝ) : EReal)) := by
  refine (dats m 0 c).arrAt_eq_of_covers 12 _ (by decide +kernel) fun t _ y => ?_
  blk_simp
  rw [after0_12]
  refine (congrArg (show FVec Ideal S512x2816 .bf16 from (outsAt0 m c t.val t.isLt).2.2.1) (ValueIdx.eq_ix2 y)).trans ((out_up A t (y 0) (y 1)).trans ?_)
  have h0 : win0_12.index t 0 * 512 + (y 0).val = 512 * t.val + (y 0).val := by simp [idx t, Nat.mul_comm]
  have h1 : win0_12.index t 1 * 2816 + (y 1).val = (y 1).val := by simp [idx t]
  rw [h0, h1]

/-- the mixed input, -/
theorem arr_mix : (dats m 0 c).arrAt 13 cfg0.N = (show FVec Ideal S8192x1024 .f32 from fun q =>
    ((mixAt X P Q W (q 0).val (q 1).val : ℝ) : EReal)) := by
  refine (dats m 0 c).arrAt_eq_of_covers 13 _ (by decide +kernel) fun t _ y => ?_
  blk_simp
  rw [after0_13]
  refine (congrArg (show FVec Ideal S512x1024 .f32 from (outsAt0 m c t.val t.isLt).2.2.2.1) (ValueIdx.eq_ix2 y)).trans ((out_mix A t (y 0) (y 1)).trans ?_)
  have h0 : win0_13.index t 0 * 512 + (y 0).val = 512 * t.val + (y 0).val := by simp [idx t, Nat.mul_comm]
  have h1 : win0_13.index t 1 * 1024 + (y 1).val = (y 1).val := by simp [idx t]
  rw [h0, h1]

/-- the loss -/
theorem arr_loss : (dats m 0 c).arrAt 14 cfg0.N = (show FVec Ideal S1x1 .f32 from fun _ =>
    ((∑ r : Fin 8192, 1 / 2 * part Gf (outAt X P Q W G Wg Wu Wd r.val) (T r.val) : ℝ) : EReal)) := by
  refine (dats m 0 c).arrAt_eq_of_covers 14 _ (by decide +kernel) fun t hf y => ?_
  blk_simp
  rw [after0_14]
  exact acc_loss A t ((flush0_14 t).mp hf) y

/-- and the gain's gradient. -/
theorem arr_gain : (dats m 0 c).arrAt 15 cfg0.N = (show FVec Ideal S1x1024 .f32 from fun i =>
    ((∑ r : Fin 8192, dErr Gf (outAt X P Q W G Wg Wu Wd r.val) (T r.val) (i 1).val * hat (outAt X P Q W G Wg Wu Wd r.val) (i 1).val : ℝ) : EReal)) := by
  refine (dats m 0 c).arrAt_eq_of_covers 15 _ (by decide +kernel) fun t hf y => ?_
  blk_simp
  rw [after0_15]
  refine (acc_gain A t ((flush0_15 t).mp hf) y).trans ?_
  have h1 : win0_15.index t 1 * 1024 + (y 1).val = (y 1).val := by simp [idx t]
  rw [h1]

end Cert.Proof.Loss
-- ==== Proof.LsClaim.lean ====
/- The last block's forward and backward pass: both programs end with the same six arrays. -/
module

public import proofs.«01_k».proof.Defs
public import Idealize.ShloMosaic.Lib.Quiescent
public import proofs.«01_k».proof.Proof.Gen.Reference4Ideal
public import proofs.«01_k».proof.Proof.Gen.Reference4Ideal.Run
public import proofs.«01_k».proof.Proof.Gen.Kernel4Ideal.Value
public import proofs.«01_k».proof.Proof.Finite
public import proofs.«01_k».proof.Proof.LsRef
public import proofs.«01_k».proof.Proof.LsPoint

@[expose] public section

set_option maxRecDepth 16384
set_option maxHeartbeats 1600000

noncomputable section

namespace Cert.Proof.Loss

open Idealize.ShloMosaic Idealize.ShloMosaic.TcCoe Idealize.SL.Sem Idealize.ShloMosaic.StableHlo Cert.Kernel4Ideal
open Cert.Proof.Ffn

theorem pre_facts : Cert.Pre_finite4.Facts := ⟨by decide, by decide, by decide, by decide, by decide, by decide⟩

variable (m : (ℓ : Loc nD τ sig) → Buf (Elt Ideal) ℓ)

/-- Finite arguments are real. -/
theorem args (h : Cert.Pre_Kernel4Ideal_finite4 (hPre_finite4 := pre_facts) m) (c : Dev nD) :
    ∃ (X P Q W : ℕ → ℕ → ℝ) (G : ℕ → ℝ) (Wg Wu Wd : ℕ → ℕ → ℝ) (Gf : ℕ → ℝ) (T : ℕ → ℕ → ℝ), Args m c X P Q W G Wg Wu Wd Gf T := by
  obtain ⟨h0, h1, h2, h3, h4, h5, h6, h7, h8, h9⟩ := h c
  obtain ⟨X, e0⟩ := Reals.choose2 (fun i j => _) fun i j => Reals.real_of_finite _ _ h0 (ix2 i j)
  obtain ⟨P, e1⟩ := Reals.choose2 (fun i j => _) fun i j => Reals.real_of_finite _ _ h1 (ix2 i j)
  obtain ⟨Q, e2⟩ := Reals.choose2 (fun i j => _) fun i j => Reals.real_of_finite _ _ h2 (ix2 i j)
  obtain ⟨W, e3⟩ := Reals.choose2 (fun i j => _) fun i j => Reals.real_of_finite _ _ h3 (ix2 i j)
  obtain ⟨G, e4⟩ := Reals.choose1 (fun i => _) fun i => Reals.real_of_finite _ _ h4 (ix1 i)
  obtain ⟨Wg, e5⟩ := Reals.choose2 (fun i j => _) fun i j => Reals.real_of_finite _ _ h5 (ix2 i j)
  obtain ⟨Wu, e6⟩ := Reals.choose2 (fun i j => _) fun i j => Reals.real_of_finite _ _ h6 (ix2 i j)
  obtain ⟨Wd, e7⟩ := Reals.choose2 (fun i j => _) fun i j => Reals.real_of_finite _ _ h7 (ix2 i j)
  obtain ⟨Gf, e8⟩ := Reals.choose1 (fun i => _) fun i => Reals.real_of_finite _ _ h8 (ix1 i)
  obtain ⟨T, e9⟩ := Reals.choose2 (fun i j => _) fun i j => Reals.real_of_finite _ _ h9 (ix2 i j)
  exact ⟨X, P, Q, W, G, Wg, Wu, Wd, Gf, T, e0, e1, e2, e3, e4, e5, e6, e7, e8, e9⟩

variable {m} {c : Dev nD} {X P Q W : ℕ → ℕ → ℝ} {G : ℕ → ℝ} {Wg Wu Wd : ℕ → ℕ → ℝ} {Gf : ℕ → ℝ} {T : ℕ → ℕ → ℝ}
  (A : Args m c X P Q W G Wg Wu Wd Gf T)

include A

/-- The reference's mixed rows, the rows after the block, and the gradient at the last norm's output. -/
theorem mid (t : Fin 8192) (j : Fin 1024) : Cert.Reference4Ideal.Read.val_main_v2 (F := Ideal) (m (c.tc.loc main_arg0)) (m (c.tc.loc main_arg1)) (m (c.tc.loc main_arg2)) (m (c.tc.loc main_arg3)) (ix2 t j)
    = ((mixAt X P Q W t.val j.val : ℝ) : EReal) :=
  ref_mix A.x A.p A.q A.w t j

theorem out (t : Fin 8192) (j : Fin 1024) : Cert.Reference4Ideal.Read.val_main_v23 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix2 t j)
    = ((outAt X P Q W G Wg Wu Wd t.val j.val : ℝ) : EReal) :=
  ref_out (M := mixAt X P Q W) (mid A) A.g A.wg A.wu A.wd t j

theorem back (t : Fin 8192) (j : Fin 1024) : Cert.Reference4Ideal.Read.val_main_v54 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (ix2 t j)
    = ((dErr Gf (outAt X P Q W G Wg Wu Wd t.val) (T t.val) j.val : ℝ) : EReal) :=
  ref_d (Y := outAt X P Q W G Wg Wu Wd) (out A) A.gf A.t t j

/-! The reference's six results of the kernel's arguments are the kernel's. -/

theorem same_dy : (show FVec Ideal S8192x1024 .f32 from Cert.Reference4Ideal.Read.val_main_v74 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)))
      = (Gen.dats m 0 c).arrAt 10 cfg0.N := by
  rw [arr_dy A]
  funext i
  rw [ValueIdx.eq_ix2 i]
  exact ref_dy (Y := outAt X P Q W G Wg Wu Wd) (D := fun r => dErr Gf (outAt X P Q W G Wg Wu Wd r) (T r)) (out A) (back A) A.gf (i 0) (i 1)

theorem same_gate : (show FVec Ideal S8192x2816 .bf16 from Cert.Reference4Ideal.Read.val_main_v75 (F := Ideal) (m (c.tc.loc main_arg0)) (m (c.tc.loc main_arg1)) (m (c.tc.loc main_arg2)) (m (c.tc.loc main_arg3)) (m (c.tc.loc main_arg4)) (m (c.tc.loc main_arg5)))
      = (Gen.dats m 0 c).arrAt 11 cfg0.N := by
  rw [arr_gate A]
  funext i
  rw [ValueIdx.eq_ix2 i]
  exact ((ref_narrow (x6 := m (c.tc.loc main_arg6)) (i 0) (i 1)).1).trans (ref_gate (M := mixAt X P Q W) (mid A) A.g A.wg (i 0) (i 1))

theorem same_up : (show FVec Ideal S8192x2816 .bf16 from Cert.Reference4Ideal.Read.val_main_v76 (F := Ideal) (m (c.tc.loc main_arg0)) (m (c.tc.loc main_arg1)) (m (c.tc.loc main_arg2)) (m (c.tc.loc main_arg3)) (m (c.tc.loc main_arg4)) (m (c.tc.loc main_arg6)))
      = (Gen.dats m 0 c).arrAt 12 cfg0.N := by
  rw [arr_up A]
  funext i
  rw [ValueIdx.eq_ix2 i]
  exact ((ref_narrow (x5 := m (c.tc.loc main_arg5)) (i 0) (i 1)).2).trans (ref_up (M := mixAt X P Q W) (mid A) A.g A.wu (i 0) (i 1))

theorem same_mix : (show FVec Ideal S8192x1024 .f32 from Cert.Reference4Ideal.Read.val_main_v2 (F := Ideal) (m (c.tc.loc main_arg0)) (m (c.tc.loc main_arg1)) (m (c.tc.loc main_arg2)) (m (c.tc.loc main_arg3)))
      = (Gen.dats m 0 c).arrAt 13 cfg0.N := by
  rw [arr_mix A]
  funext i
  rw [ValueIdx.eq_ix2 i]
  exact mid A (i 0) (i 1)

theorem same_loss : (show FVec Ideal S1x1 .f32 from Cert.Reference4Ideal.Read.val_main_v77 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)))
      = (Gen.dats m 0 c).arrAt 14 cfg0.N := by
  rw [arr_loss A]
  funext i
  rw [ValueIdx.eq_ix2 i]
  exact ref_loss (Y := outAt X P Q W G Wg Wu Wd) (out A) A.gf A.t (i 0) (i 1)

theorem same_gain : (show FVec Ideal S1x1024 .f32 from Cert.Reference4Ideal.Read.val_main_v78 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)))
      = (Gen.dats m 0 c).arrAt 15 cfg0.N := by
  rw [arr_gain A]
  funext i
  rw [ValueIdx.eq_ix2 i]
  exact ref_gain (Y := outAt X P Q W G Wg Wu Wd) (D := fun r => dErr Gf (outAt X P Q W G Wg Wu Wd r) (T r)) (out A) (back A) (i 0) (i 1)

omit A

/-- The last block's results are the reference's. -/
theorem algebraic : Cert.algebraic_Kernel4Ideal_Reference4Ideal_pre_finite4 (hKernel4Ideal := Cert.Kernel4Ideal.Gen.facts)
    (hReference4Ideal := Cert.Reference4Ideal.Gen.facts) (hPre_finite4 := pre_facts) := by
  intro m g m' g' hpre hag
  refine ⟨fun c => (Gen.dats m 0 c).arrAt 10 cfg0.N, fun c => (Gen.dats m 0 c).arrAt 11 cfg0.N, fun c => (Gen.dats m 0 c).arrAt 12 cfg0.N,
    fun c => (Gen.dats m 0 c).arrAt 13 cfg0.N, fun c => (Gen.dats m 0 c).arrAt 14 cfg0.N, fun c => (Gen.dats m 0 c).arrAt 15 cfg0.N, ?_, ?_⟩
  · exact Cert.Kernel4Ideal.Value.run_blocks m g
  · refine (θ_run Cert.Reference4Ideal.defs _ _).mono (fun r h c => ?_) (Cert.Reference4Ideal.Value.run m' g')
    obtain ⟨X, P, Q, W, G, Wg, Wu, Wd, Gf, T, A⟩ := args m hpre c
    obtain ⟨a0, a1, a2, a3, a4, a5, a6, a7, a8, a9⟩ := hag c
    replace a0 : launchContents m' c (Proc.devRef .tc Cert.Reference4Ideal.main_arg0) = m (c.tc.loc main_arg0) := a0
    replace a1 : launchContents m' c (Proc.devRef .tc Cert.Reference4Ideal.main_arg1) = m (c.tc.loc main_arg1) := a1
    replace a2 : launchContents m' c (Proc.devRef .tc Cert.Reference4Ideal.main_arg2) = m (c.tc.loc main_arg2) := a2
    replace a3 : launchContents m' c (Proc.devRef .tc Cert.Reference4Ideal.main_arg3) = m (c.tc.loc main_arg3) := a3
    replace a4 : launchContents m' c (Proc.devRef .tc Cert.Reference4Ideal.main_arg4) = m (c.tc.loc main_arg4) := a4
    replace a5 : launchContents m' c (Proc.devRef .tc Cert.Reference4Ideal.main_arg5) = m (c.tc.loc main_arg5) := a5
    replace a6 : launchContents m' c (Proc.devRef .tc Cert.Reference4Ideal.main_arg6) = m (c.tc.loc main_arg6) := a6
    replace a7 : launchContents m' c (Proc.devRef .tc Cert.Reference4Ideal.main_arg7) = m (c.tc.loc main_arg7) := a7
    replace a8 : launchContents m' c (Proc.devRef .tc Cert.Reference4Ideal.main_arg8) = m (c.tc.loc main_arg8) := a8
    replace a9 : launchContents m' c (Proc.devRef .tc Cert.Reference4Ideal.main_arg9) = m (c.tc.loc main_arg9) := a9
    obtain ⟨r0, r1, r2, r3, r4, r5, rest⟩ := h c
    refine ⟨(r0.trans (Cert.Reference4Ideal.Read.val_main_v74_eq _)).trans ?_, (r1.trans (Cert.Reference4Ideal.Read.val_main_v75_eq _)).trans ?_, (r2.trans (Cert.Reference4Ideal.Read.val_main_v76_eq _)).trans ?_, (r3.trans (Cert.Reference4Ideal.Read.val_main_v2_eq _)).trans ?_, (r4.trans (Cert.Reference4Ideal.Read.val_main_v77_eq _)).trans ?_, (r5.trans (Cert.Reference4Ideal.Read.val_main_v78_eq _)).trans ?_, rest⟩
    · rw [a0, a1, a2, a3, a4, a5, a6, a7, a8, a9]
      exact same_dy A
    · rw [a0, a1, a2, a3, a4, a5]
      exact same_gate A
    · rw [a0, a1, a2, a3, a4, a6]
      exact same_up A
    · rw [a0, a1, a2, a3]
      exact same_mix A
    · rw [a0, a1, a2, a3, a4, a5, a6, a7, a8, a9]
      exact same_loss A
    · rw [a0, a1, a2, a3, a4, a5, a6, a7, a8, a9]
      exact same_gain A

/-- The reference's frame: it has no semaphores. -/
theorem frame_reference : Cert.quiescent_Reference4Ideal (hReference4Ideal := Cert.Reference4Ideal.Gen.facts) := fun m ρ _ =>
  (θ_run Cert.Reference4Ideal.defs _ _).mono (fun r h => ⟨fun c => (h c).2.2.2.2.2.2, sem_eq_zero_of_no_sems rfl r.2⟩)
    (Cert.Reference4Ideal.Value.run m ρ)

end Cert.Proof.Loss
-- ==== Proof.AxRef.lean ====
/-
The reference's attention row by row: its band of keys and of values, its scores, its weights and its result over the reals.
-/
module

public import proofs.«01_k».proof.Proof.AtRefOut
public import proofs.«01_k».proof.Proof.Gen.Reference5Ideal.Read

@[expose] public section

set_option maxRecDepth 16384

noncomputable section

namespace AttnFwd

open Attn Attn.Ref

/-- The attention's result, row by row. -/
def outF (Q K V : ℕ → ℕ → ℝ) (T : ℕ → ℝ) (s j : ℕ) : ℝ :=
  ∑ b : Fin 256, bd V (s / 128) b.val (j / 256) (j % 64) * pW Q K T (s / 128) (j / 256) (j / 64 % 4) (s % 128) b.val

end AttnFwd

namespace AttnFwd.Ref

open Idealize.ShloMosaic Idealize.SL.Sem Finset Cert.Proof
open Attn Attn.Ref
open Cert.Reference5Ideal Cert.Reference5Ideal.Read

section
variable (x0 : FVec Ideal S8192x512 .f32) (x1 x2 : FVec Ideal S8192x128 .f32) (x3 : FVec Ideal S8 .f32) {Q K V : ℕ → ℕ → ℝ} {T : ℕ → ℝ}
  (hq : ∀ (t : Fin 8192) (j : Fin 512), x0 (ix2 t j) = ((Q t.val j.val : ℝ) : EReal))
  (hk : ∀ (t : Fin 8192) (j : Fin 128), x1 (ix2 t j) = ((K t.val j.val : ℝ) : EReal))
  (hv : ∀ (t : Fin 8192) (j : Fin 128), x2 (ix2 t j) = ((V t.val j.val : ℝ) : EReal))
  (hs : ∀ i : Fin 8, x3 (ix1 i) = ((T i.val : ℝ) : EReal))

/-! ## Queries, keys, values and sinks -/

include hq in
theorem query (n : Fin 64) (a : Fin 128) (g : Fin 2) (h : Fin 4) (d : Fin 64) :
    val_main_v3 (F := Ideal) x0 (ix6 0 n a g h d) = ((qry Q n.val g.val h.val a.val d.val : ℝ) : EReal) := by
  have e : val_main_v3 (F := Ideal) x0 (ix6 0 n a g h d) = x0 (ix2 ⟨128 * n.val + a.val, by omega⟩ ⟨256 * g.val + 64 * h.val + d.val, by omega⟩) := by
    pointwise [val_main_v3, val_main_v0]
    congr 2 <;> exact Fin.ext (by simp only; omega)
  exact e.trans (hq _ _)

include hk in
theorem key (n : Fin 64) (b : Fin 256) (g : Fin 2) (d : Fin 64) :
    val_main_v9 (F := Ideal) x1 (ix5 0 n b g d) = ((bd K n.val b.val g.val d.val : ℝ) : EReal) := by
  pointwise [val_main_v9, val_main_v8, val_main_v7, val_main_v6, val_main_v4, val_main_v1, val_main_cst]
  refine band_entry x1 K hk n b g d (fun hn hb => ?_) fun t ht => ?_
  · rw [dif_pos hb, dif_pos (by omega)]
  · split
    · rw [dif_neg (by omega)]
      congr 2 <;> exact Fin.ext (by simp only; omega)
    · congr 2 <;> exact Fin.ext (by simp only; omega)

include hv in
theorem value (n : Fin 64) (b : Fin 256) (g : Fin 2) (d : Fin 64) :
    val_main_v15 (F := Ideal) x2 (ix5 0 n b g d) = ((bd V n.val b.val g.val d.val : ℝ) : EReal) := by
  pointwise [val_main_v15, val_main_v14, val_main_v13, val_main_v12, val_main_v10, val_main_v2, val_main_cst_0]
  refine band_entry x2 V hv n b g d (fun hn hb => ?_) fun t ht => ?_
  · rw [dif_pos hb, dif_pos (by omega)]
  · split
    · rw [dif_neg (by omega)]
      congr 2 <;> exact Fin.ext (by simp only; omega)
    · congr 2 <;> exact Fin.ext (by simp only; omega)

include hs in
theorem sink (n : Fin 64) (g : Fin 2) (h : Fin 4) (a : Fin 128) :
    val_main_v54 (F := Ideal) x3 (ix6 0 n g h a 0) = ((T (4 * g.val + h.val) : ℝ) : EReal) := by
  have e : val_main_v54 (F := Ideal) x3 (ix6 0 n g h a 0) = x3 (ix1 ⟨4 * g.val + h.val, by omega⟩) := by
    pointwise [val_main_v54, val_main_v51, val_main_v50]
    congr 2 <;> exact Fin.ext (by simp only; omega)
  exact e.trans (hs _)

/-! ## The scores -/

include hq hk in
theorem product (n : Fin 64) (g : Fin 2) (h : Fin 4) (a : Fin 128) (b : Fin 256) :
    val_main_v19 (F := Ideal) x0 x1 (ix6 0 n g h a b) = ((scR Q K n.val g.val h.val a.val b.val : ℝ) : EReal) := by
  have e : val_main_v19 (F := Ideal) x0 x1 (ix6 0 n g h a b) = (∑ d : Fin 64, val_main_v9 (F := Ideal) x1 (ix5 0 n b g d) * val_main_v3 (F := Ideal) x0 (ix6 0 n a g h d)) * Ideal.ofBits .f32 1040187392#32 := by
    pointwise [val_main_v19, val_main_v18, val_main_v17, val_main_v16, val_main_cst_1]
  rw [e]
  simp only [query x0 hq, key x1 hk]
  rw [scR, EReal.coe_mul, bits_eighth, ← Reals.sum_coe]
  simp only [EReal.coe_mul]

theorem sees (n : Fin 64) (g : Fin 2) (h : Fin 4) (a : Fin 128) (b : Fin 256) :
    val_main_call0_v1 (F := Ideal) (ix6 0 n g h a b) = if seen n.val a.val b.val then 1#1 else 0#1 := by
  have e : val_main_call0_v1 (F := Ideal) (ix6 0 n g h a b) = IntOp.andi
      (IntOp.andi (IntOp.cmpi .sge (IntOp.subi (IntOp.addi (BitVec.ofNat 32 a.val) 128#32) (BitVec.ofNat 32 b.val)) 0#32)
        (IntOp.cmpi .slt (IntOp.subi (IntOp.addi (BitVec.ofNat 32 a.val) 128#32) (BitVec.ofNat 32 b.val)) 128#32))
      (IntOp.ori (IntOp.cmpi .sgt (BitVec.ofNat 32 n.val) 0#32) (IntOp.cmpi .sge (BitVec.ofNat 32 b.val) 128#32)) := by
    pointwise [val_main_call0_v1, val_main_v48, val_main_v47, val_main_v46, val_main_v45, val_main_v44, val_main_v43, val_main_v42, val_main_v41,
      val_main_v40, val_main_v39, val_main_v38, val_main_v37, val_main_v36, val_main_v35, val_main_v34, val_main_v33, val_main_v32, val_main_v31, val_main_v30, val_main_v29,
      val_main_v28, val_main_v27, val_main_v26, val_main_v25, val_main_v24, val_main_v23, val_main_v22, val_main_v21, val_main_v20, val_main_c, val_main_c_2, val_main_c_3, val_main_c_4, val_main_c_5]
  rw [e, Attn.Ref.in_window, Attn.Ref.in_band, seen]
  by_cases h1 : a.val < b.val ∧ b.val ≤ a.val + 128 <;> by_cases h2 : 0 < n.val ∨ 128 ≤ b.val <;>
    simp only [h1, h2, if_true, if_false, decide_true, decide_false, and_self, and_true, true_and, and_false, false_and, ← and_assoc] <;> first | rfl | simp [IntOp.andi]

include hq hk in
theorem masked (n : Fin 64) (g : Fin 2) (h : Fin 4) (a : Fin 128) (b : Fin 256) :
    val_main_v49 (F := Ideal) x0 x1 (ix6 0 n g h a b) = score (seen n.val a.val) (scR Q K n.val g.val h.val a.val) b.val := by
  have e : val_main_v49 (F := Ideal) x0 x1 (ix6 0 n g h a b)
      = Scalar.select (val_main_call0_v1 (F := Ideal) (ix6 0 n g h a b)) (val_main_v19 (F := Ideal) x0 x1 (ix6 0 n g h a b)) (Ideal.ofBits .f32 4286578688#32) := by
    pointwise [val_main_v49, val_main_call0_v2, val_main_call0_v0, val_main_cst_6]
    rfl
  rw [e, sees, product x0 x1 hq hk, bits_bot, score]
  split
  · rw [choose_true]
  · rw [choose_false]

/-! ## The weights -/

theorem row_greatest (n : Fin 64) (g : Fin 2) (h : Fin 4) (a : Fin 128) :
    (val_main_v52 (F := Ideal) x0 x1 (ix5 0 n g h a) : EReal)
      = Finset.univ.fold max ⊥ fun b : Fin 256 => (val_main_v49 (F := Ideal) x0 x1 (ix6 0 n g h a b) : EReal) := by
  unfold val_main_v52
  generalize val_main_v49 (F := Ideal) x0 x1 = y
  exact greatest_last _ _ (fun _ => bits_bot) y _ 0 n g h a

theorem greatest (n : Fin 64) (g : Fin 2) (h : Fin 4) (a : Fin 128) :
    val_main_v55 (F := Ideal) x0 x1 x3 (ix6 0 n g h a 0)
      = max (val_main_v52 (F := Ideal) x0 x1 (ix5 0 n g h a) : EReal) (val_main_v54 (F := Ideal) x3 (ix6 0 n g h a 0)) := by
  have hi : idx_main_v53 (ix6 0 n g h a 0) = ix5 0 n g h a := by
    funext d
    fin_cases d <;> rfl
  rw [val_main_v55_apply, val_main_v53_apply, hi]
  rfl

include hq hk hs in
theorem weight (n : Fin 64) (g : Fin 2) (h : Fin 4) (a : Fin 128) (b : Fin 256) :
    val_main_v66 (F := Ideal) x0 x1 x3 (ix6 0 n g h a b) = ((pW Q K T n.val g.val h.val a.val b.val : ℝ) : EReal) := by
  have hm := fun b => masked x0 x1 hq hk n g h a b
  have ht := sink x3 hs n g h a
  obtain ⟨M, hM⟩ := top_real Finset.univ (fun b : Fin 256 => score (seen n.val a.val) (scR Q K n.val g.val h.val a.val) b.val) (fun b => score_ne_top _ _ _) (T (4 * g.val + h.val))
  have h55 : val_main_v55 (F := Ideal) x0 x1 x3 (ix6 0 n g h a 0) = (M : EReal) := by
    rw [greatest, row_greatest, ht, ← hM]
    simp only [hm]
  have h58 : ∀ b : Fin 256, val_main_v58 (F := Ideal) x0 x1 x3 (ix6 0 n g h a b) = ((wt (seen n.val a.val) (scR Q K n.val g.val h.val a.val) b.val * Real.exp (-M) : ℝ) : EReal) := by
    intro b
    have e : val_main_v58 (F := Ideal) x0 x1 x3 (ix6 0 n g h a b)
        = Ideal.exp (val_main_v49 (F := Ideal) x0 x1 (ix6 0 n g h a b) - val_main_v55 (F := Ideal) x0 x1 x3 (ix6 0 n g h a 0)) := by
      pointwise [val_main_v58, val_main_v57, val_main_v56]
    rw [e, hm, h55, exp_score]
  have h63 : val_main_v63 (F := Ideal) x0 x1 x3 (ix6 0 n g h a 0) = ((Real.exp (T (4 * g.val + h.val)) * Real.exp (-M) : ℝ) : EReal) := by
    have e : val_main_v63 (F := Ideal) x0 x1 x3 (ix6 0 n g h a 0)
        = Ideal.exp (val_main_v54 (F := Ideal) x3 (ix6 0 n g h a 0) - val_main_v55 (F := Ideal) x0 x1 x3 (ix6 0 n g h a 0)) := by
      pointwise [val_main_v63, val_main_v62, val_main_v61, val_main_v54]
    rw [e, ht, h55, exp_sink]
  have e64 : val_main_v64 (F := Ideal) x0 x1 x3 (ix6 0 n g h a 0)
      = val_main_v59 (F := Ideal) x0 x1 x3 (ix5 0 n g h a) + val_main_v63 (F := Ideal) x0 x1 x3 (ix6 0 n g h a 0) := by
    pointwise [val_main_v64, val_main_v60]
  have e59 : val_main_v59 (F := Ideal) x0 x1 x3 (ix5 0 n g h a) = ((∑ b : Fin 256, wt (seen n.val a.val) (scR Q K n.val g.val h.val a.val) b.val * Real.exp (-M) : ℝ) : EReal) :=
    Attn.Ref.row_sum Attn.Ref.zeros _ _ n g h a (f := fun b => wt (seen n.val a.val) (scR Q K n.val g.val h.val a.val) b * Real.exp (-M)) h58
  have e66 : val_main_v66 (F := Ideal) x0 x1 x3 (ix6 0 n g h a b)
      = Ideal.div (val_main_v58 (F := Ideal) x0 x1 x3 (ix6 0 n g h a b)) (val_main_v64 (F := Ideal) x0 x1 x3 (ix6 0 n g h a 0)) := by
    pointwise [val_main_v66, val_main_v65]
  have hp := total_pos (seen n.val a.val) (scR Q K n.val g.val h.val a.val) (T (4 * g.val + h.val))
  have he := Real.exp_pos (-M)
  rw [e66, e64, e59, h63, ← EReal.coe_add, total_scaled, h58, Reals.div_coe_coe _ _ (by positivity)]
  refine congrArg Real.toEReal ?_
  unfold pW prb
  field_simp

/-! ## The result -/

include hq hk hv hs in
theorem result (s : Fin 8192) (j : Fin 512) :
    (show FVec Ideal S8192x512 .bf16 from val_main_v71 (F := Ideal) x0 x1 x2 x3) (ix2 s j) = ((outF Q K V T s.val j.val : ℝ) : EReal) := by
  have e : (show FVec Ideal S8192x512 .bf16 from val_main_v71 (F := Ideal) x0 x1 x2 x3) (ix2 s j)
      = ∑ b : Fin 256, val_main_v15 (F := Ideal) x2 (ix5 0 ⟨s.val / 128, by omega⟩ b ⟨j.val / 256, by omega⟩ ⟨j.val % 64, by omega⟩)
          * val_main_v66 (F := Ideal) x0 x1 x3 (ix6 0 ⟨s.val / 128, by omega⟩ ⟨j.val / 256, by omega⟩ ⟨j.val / 64 % 4, by omega⟩ ⟨s.val % 128, by omega⟩ b) := by
    pointwise [val_main_v71, val_main_v70, val_main_v69, val_main_v68, val_main_v67]
  rw [e, outF, ← Reals.sum_coe]
  refine sum_congr rfl fun b _ => ?_
  rw [value x2 hv, weight x0 x1 x3 hq hk hs, ← EReal.coe_mul]

end

end AttnFwd.Ref

end
-- ==== Proof.AxTile.lean ====
/-
A tile of the attention's result: the sixteen stores of the kernel's body are all one function of the tiles it loads.
-/
module

public import proofs.«01_k».proof.Proof.AtPoint
public import proofs.«01_k».proof.Proof.AtRef
public import proofs.«01_k».proof.Proof.Gen.Kernel5Ideal.Frame
public import Idealize.ShloMosaic.Lib.Pipeline.ValueKit

@[expose] public section

set_option maxRecDepth 16384

noncomputable section

namespace AttnFwd

open Idealize.ShloMosaic Idealize.SL.Sem Finset
open Cert.Kernel5Ideal Cert.Kernel5Ideal.Gen VecWindow Cert.Proof
open Attn (stack band mask scores sinkRow prob unstackLo unstackHi blockNo)

/-- A block's result, four heads one under the other. -/
def mixed {F : FTy → Type} [FloatOps F] (mk : IVec S256x512 1) (q0 q1 k0 k1 v0 v1 : Vec F S128x128 .bf16) (s : Vec F S1x1x512 .f32) : FVec F S512x128 .f32 :=
  matmul dot_S256x512_S256x128_S512x128_0_0_1_1_n_n none
    (truncf .bf16 (prob (scores mk (band k0 k1) (stack q0 q1)) (sinkRow s)) bitsLt_bf16_f32) (band v0 v1) (constant S512x128 .f32 0x00000000#32)

/-- What the kernel stores of it: its first two heads side by side, -/
def tileLo {F : FTy → Type} [FloatOps F] (mk : IVec S256x512 1) (q0 q1 k0 k1 v0 v1 : Vec F S128x128 .bf16) (s : Vec F S1x1x512 .f32) : FVec F S128x128 .bf16 :=
  truncf .bf16 (unstackLo (mixed mk q0 q1 k0 k1 v0 v1 s)) bitsLt_bf16_f32

/-- and its last two. -/
def tileHi {F : FTy → Type} [FloatOps F] (mk : IVec S256x512 1) (q0 q1 k0 k1 v0 v1 : Vec F S128x128 .bf16) (s : Vec F S1x1x512 .f32) : FVec F S128x128 .bf16 :=
  truncf .bf16 (unstackHi (mixed mk q0 q1 k0 k1 v0 v1 s)) bitsLt_bf16_f32

/-! ## Over the reals -/

/-- A block's result from its weights and its band of values. -/
def wO (Q K V : ℕ → ℕ → ℝ) (T : ℕ → ℝ) (n g c e : ℕ) : ℝ := ∑ b : Fin 256, Attn.prB Q K T n g c b.val * Attn.bnd V n g b.val e

/-- The result, row by row. -/
def outR (Q K V : ℕ → ℕ → ℝ) (T : ℕ → ℝ) (s j : ℕ) : ℝ := wO Q K V T (s / 128) (j / 256) (128 * (j % 256 / 64) + s % 128) (j % 128)

/-- A grid point's tile of it. -/
def outTile (Q K V : ℕ → ℕ → ℝ) (T : ℕ → ℝ) (t : ℕ) : FVec Ideal S512x512 .bf16 := fun y => ((outR Q K V T (512 * t + (y 0).val) (y 1).val : ℝ) : EReal)

theorem pair_at {O : FVec Ideal S512x128 .f32} {W : ℕ → ℕ → ℝ} (hO : ∀ (c : Fin 512) (e : Fin 128), O (ix2 c e) = ((W c.val e.val : ℝ) : EReal)) (a e : Fin 128) :
    (truncf .bf16 (unstackLo O) bitsLt_bf16_f32 : FVec Ideal S128x128 .bf16) (ix2 a e) = ((W (128 * (e.val / 64) + a.val) e.val : ℝ) : EReal)
      ∧ (truncf .bf16 (unstackHi O) bitsLt_bf16_f32 : FVec Ideal S128x128 .bf16) (ix2 a e) = ((W (128 * (2 + e.val / 64) + a.val) e.val : ℝ) : EReal) := by
  have hl : ∀ e : Fin 128, IntOp.cmpi CmpIPredicate.slt (BitVec.ofNat 32 e.val) 64#32 = if e.val < 64 then 1#1 else 0#1 := by decide +kernel
  have lo : (truncf .bf16 (unstackLo O) bitsLt_bf16_f32 : FVec Ideal S128x128 .bf16) (ix2 a e)
      = Scalar.select (IntOp.cmpi CmpIPredicate.slt (BitVec.ofNat 32 e.val) 64#32) (O (ix2 ⟨a.val, by omega⟩ e)) (O (ix2 ⟨128 + a.val, by omega⟩ e)) := by
    pointwise [unstackLo, Attn.lower]
  have hi : (truncf .bf16 (unstackHi O) bitsLt_bf16_f32 : FVec Ideal S128x128 .bf16) (ix2 a e)
      = Scalar.select (IntOp.cmpi CmpIPredicate.slt (BitVec.ofNat 32 e.val) 64#32) (O (ix2 ⟨256 + a.val, by omega⟩ e)) (O (ix2 ⟨384 + a.val, by omega⟩ e)) := by
    pointwise [unstackHi, Attn.lower]
  have := e.isLt
  rw [lo, hi, hl, hO, hO, hO, hO]
  by_cases he : e.val < 64
  · rw [if_pos he, Attn.Ref.choose_true, Attn.Ref.choose_true]
    constructor <;> congr 2 <;> simp only <;> omega
  · rw [if_neg he, Attn.Ref.choose_false, Attn.Ref.choose_false]
    constructor <;> congr 2 <;> simp only <;> omega

section
variable {Q K V D : ℕ → ℕ → ℝ} {T : ℕ → ℝ} {t : ℕ} {x : Attn.Ins Ideal} (hx : Attn.InsAre Q K V D T t x) (i : Cert.Kernel2Ideal.grid0.Coords)
  (hi : (i 0).val = t) (r : Fin 4) (g : Fin 2) {lo up : Fin 2 → ℕ} {hlo : ∀ a, lo a + S128x128.size a ≤ S512x512.size a} {hup : ∀ a, up a + S128x128.size a ≤ S512x512.size a}
  {pv cu : Fin 2 → ℕ} {hpv : ∀ a, pv a + S128x128.size a ≤ S8192x256.size a} {hcu : ∀ a, cu a + S128x128.size a ≤ S8192x256.size a}
  {so : Fin 3 → ℕ} {hso : ∀ a, so a + S1x1x512.size a ≤ S2x1x512.size a}
  (elo : lo = ![128 * r.val, 256 * g.val]) (eup : up = ![128 * r.val, 256 * g.val + 128])
  (epv : pv = ![128 * (4 * t + r.val - 1), 128 * g.val]) (ecu : cu = ![128 * (4 * t + r.val), 128 * g.val]) (eso : so = ![g.val, 0, 0])
include hx hi elo eup epv ecu eso

theorem mixed_is (c : Fin 512) (e : Fin 128) :
    mixed (mask (blockNo i (BitVec.ofNat 32 r.val))) (window x.1 lo S128x128.size hlo) (window x.1 up S128x128.size hup)
        (window x.2.1 pv S128x128.size hpv) (window x.2.1 cu S128x128.size hcu) (window x.2.2.1 pv S128x128.size hpv) (window x.2.2.1 cu S128x128.size hcu)
        (window x.2.2.2.2 so S1x1x512.size hso) (ix2 c e)
      = ((wO Q K V T (4 * t + r.val) g.val c.val e.val : ℝ) : EReal) := by
  have hp := Attn.weights_is hx i hi r g elo eup (hlo := hlo) (hhi := hup) epv ecu (hpv := hpv) (hcu := hcu) eso (hso := hso)
  have hv := Attn.bandV hx r g (hi ▸ (i 0).isLt) epv ecu (hpv := hpv) (hcu := hcu)
  have h {p : FVec Ideal S256x512 .f32} {v : FVec Ideal S256x128 .bf16} :
      (matmul dot_S256x512_S256x128_S512x128_0_0_1_1_n_n none (truncf .bf16 p bitsLt_bf16_f32) v (constant S512x128 .f32 0x00000000#32) : FVec Ideal S512x128 .f32) (ix2 c e)
        = ∑ b : Fin 256, p (ix2 b c) * v (ix2 b e) := by pointwise
  refine h.trans ?_
  rw [wO, ← Reals.sum_coe]
  exact sum_congr rfl fun b _ => (congrArg₂ _ (hp b c) (hv b e)).trans (EReal.coe_mul _ _).symm

theorem lo_is (a e : Fin 128) :
    tileLo (mask (blockNo i (BitVec.ofNat 32 r.val))) (window x.1 lo S128x128.size hlo) (window x.1 up S128x128.size hup)
        (window x.2.1 pv S128x128.size hpv) (window x.2.1 cu S128x128.size hcu) (window x.2.2.1 pv S128x128.size hpv) (window x.2.2.1 cu S128x128.size hcu)
        (window x.2.2.2.2 so S1x1x512.size hso) (ix2 a e)
      = ((outR Q K V T (512 * t + (128 * r.val + a.val)) (256 * g.val + e.val) : ℝ) : EReal) := by
  refine (pair_at (mixed_is hx i hi r g elo eup epv ecu eso) a e).1.trans (congrArg _ ?_)
  unfold outR
  congr 1 <;> omega

theorem hi_is (a e : Fin 128) :
    tileHi (mask (blockNo i (BitVec.ofNat 32 r.val))) (window x.1 lo S128x128.size hlo) (window x.1 up S128x128.size hup)
        (window x.2.1 pv S128x128.size hpv) (window x.2.1 cu S128x128.size hcu) (window x.2.2.1 pv S128x128.size hpv) (window x.2.2.1 cu S128x128.size hcu)
        (window x.2.2.2.2 so S1x1x512.size hso) (ix2 a e)
      = ((outR Q K V T (512 * t + (128 * r.val + a.val)) (256 * g.val + 128 + e.val) : ℝ) : EReal) := by
  refine (pair_at (mixed_is hx i hi r g elo eup epv ecu eso) a e).2.trans (congrArg _ ?_)
  unfold outR
  congr 1 <;> omega

/-- The same of a tile stored where its queries stood. -/
theorem lo_piece (s : S128x128.Idx) :
    tileLo (mask (blockNo i (BitVec.ofNat 32 r.val))) (window x.1 lo S128x128.size hlo) (window x.1 up S128x128.size hup)
        (window x.2.1 pv S128x128.size hpv) (window x.2.1 cu S128x128.size hcu) (window x.2.2.1 pv S128x128.size hpv) (window x.2.2.1 cu S128x128.size hcu)
        (window x.2.2.2.2 so S1x1x512.size hso) s
      = outTile Q K V T t ((Rect.unit (s := S512x512) lo S128x128.size hlo).emb s) := by
  obtain ⟨a, b, rfl⟩ : ∃ (a b : Fin 128), s = ValueIdx.ix2 a b := ⟨s 0, s 1, ValueIdx.eq_ix2 s⟩
  refine (lo_is hx i hi r g elo eup epv ecu eso a b).trans ?_
  subst elo
  unfold outTile
  blk_simp

theorem hi_piece (s : S128x128.Idx) :
    tileHi (mask (blockNo i (BitVec.ofNat 32 r.val))) (window x.1 lo S128x128.size hlo) (window x.1 up S128x128.size hup)
        (window x.2.1 pv S128x128.size hpv) (window x.2.1 cu S128x128.size hcu) (window x.2.2.1 pv S128x128.size hpv) (window x.2.2.1 cu S128x128.size hcu)
        (window x.2.2.2.2 so S1x1x512.size hso) s
      = outTile Q K V T t ((Rect.unit (s := S512x512) up S128x128.size hup).emb s) := by
  obtain ⟨a, b, rfl⟩ : ∃ (a b : Fin 128), s = ValueIdx.ix2 a b := ⟨s 0, s 1, ValueIdx.eq_ix2 s⟩
  refine (hi_is hx i hi r g elo eup epv ecu eso a b).trans ?_
  subst eup
  unfold outTile
  blk_simp

end

end AttnFwd

end
-- ==== Proof.AxPoint.lean ====
/-
What one point of the attention's forward pass reads, and the tile it leaves.
-/
module

public import proofs.«01_k».proof.Proof.AxTile
public import proofs.«01_k».proof.Proof.AtRead
public import Idealize.ShloMosaic.Lib.Pipeline.ReadBack

@[expose] public section

set_option maxRecDepth 16384

noncomputable section

namespace AttnFwd

open Cert.Kernel5Ideal Cert.Kernel5Ideal.Gen Idealize.ShloMosaic Idealize.ShloMosaic.TcCoe Idealize.SL.Sem Idealize.ShloMosaic.StableHlo
open Attn (scaled twice InsAre)

/-- The arguments as real functions of their coordinates. -/
structure Args (m : (ℓ : Loc nD τ sig) → Buf (Elt Ideal) ℓ) (c : Dev nD) (Q K V : ℕ → ℕ → ℝ) (T : ℕ → ℝ) : Prop where
  q : ∀ (t : Fin 8192) (j : Fin 512), (show FVec Ideal S8192x512 .f32 from m ((c : Thread nD τ).loc main_arg0)) (ix2 t j) = ((Q t.val j.val : ℝ) : EReal)
  k : ∀ (t : Fin 8192) (j : Fin 128), (show FVec Ideal S8192x128 .f32 from m ((c : Thread nD τ).loc main_arg1)) (ix2 t j) = ((K t.val j.val : ℝ) : EReal)
  v : ∀ (t : Fin 8192) (j : Fin 128), (show FVec Ideal S8192x128 .f32 from m ((c : Thread nD τ).loc main_arg2)) (ix2 t j) = ((V t.val j.val : ℝ) : EReal)
  s : ∀ j : Fin 8, (show FVec Ideal S8 .f32 from m ((c : Thread nD τ).loc main_arg3)) (ix1 j) = ((T j.val : ℝ) : EReal)

theorem idx : ∀ t : Fin cfg0.N, win0_0.index t = ![t.val, 0] ∧ win0_1.index t = ![0, 0] ∧ win0_2.index t = ![0, 0]
    ∧ win0_3.index t = ![0, 0, 0] ∧ win0_4.index t = ![t.val, 0] :=
  (by decide +kernel : ∀ t : Fin grid0.N, _)

theorem coords_val : ∀ t : Fin cfg0.N, ((grid0.coords t) 0).val = t.val := (by decide +kernel : ∀ t : Fin grid0.N, _)

/-! The block before a block of the tile, and the block itself, in each group's lanes. -/

theorem before0 : ∀ (t : Fin cfg0.N) (r : Fin 4), k0_off1 (grid0.coords t) (BitVec.ofNat 32 r.val) = ![128 * (4 * t.val + r.val - 1), 128 * 0] :=
  (by decide +kernel : ∀ (t : Fin grid0.N) (r : Fin 4), _)
theorem here0 : ∀ (t : Fin cfg0.N) (r : Fin 4), k0_off2 (grid0.coords t) (BitVec.ofNat 32 r.val) = ![128 * (4 * t.val + r.val), 128 * 0] :=
  (by decide +kernel : ∀ (t : Fin grid0.N) (r : Fin 4), _)
theorem before1 : ∀ (t : Fin cfg0.N) (r : Fin 4), k0_off3 (grid0.coords t) (BitVec.ofNat 32 r.val) = ![128 * (4 * t.val + r.val - 1), 128 * 1] :=
  (by decide +kernel : ∀ (t : Fin grid0.N) (r : Fin 4), _)
theorem here1 : ∀ (t : Fin cfg0.N) (r : Fin 4), k0_off4 (grid0.coords t) (BitVec.ofNat 32 r.val) = ![128 * (4 * t.val + r.val), 128 * 1] :=
  (by decide +kernel : ∀ (t : Fin grid0.N) (r : Fin 4), _)

/-- A tile filled by blocks of one function is that function. -/
theorem canon_of_pieces {G : S512x512.Idx → Elt Ideal .bf16} {L : List (View.Piece (Elt Ideal) S512x512 .bf16)} (h : View.PiecesOf G L) (y : S512x512.Idx)
    (hc : ∃ p ∈ L, y ∈ p.1.set) : View.canon L y = G y :=
  (congrFun (congrArg View.canon (List.append_nil L)) y).symm.trans (View.canon_append_of_piecesOf G [] L h y hc)

theorem row_lt (t : Fin cfg0.N) (i : Fin 512) : 512 * t.val + i.val < 8192 := by
  have := (by decide +kernel : ∀ t : Fin grid0.N, t.val < 16) t
  omega

section
variable {m : (ℓ : Loc nD τ sig) → Buf (Elt Ideal) ℓ} {c : Dev nD} {Q K V : ℕ → ℕ → ℝ} {T : ℕ → ℝ} (A : Args m c Q K V T)
include A

set_option maxHeartbeats 1600000

theorem host_q (t : Fin 8192) (j : Fin 512) :
    (show FVec Ideal S8192x512 .bf16 from Cert.Kernel5Ideal.Gen.V m c main_v6) (ix2 t j) = ((scaled Q t.val j.val : ℝ) : EReal) := by
  rw [scaled, EReal.coe_mul, ← A.q, ← Attn.bits_eighth]
  show (StableHlo.after hostOps0 (fun b => m (c, b)) (Proc.devRef .tc main_v6) : FVec Ideal S8192x512 .bf16) (ix2 t j) = _
  after_results
  pointwise

/-- The keys and the values come twice over, a head's two copies side by side. -/
theorem host_kv (t : Fin 8192) (e : Fin 256) :
    (show FVec Ideal S8192x256 .bf16 from Cert.Kernel5Ideal.Gen.V m c main_v10) (ix2 t e) = ((twice K t.val e.val : ℝ) : EReal)
      ∧ (show FVec Ideal S8192x256 .bf16 from Cert.Kernel5Ideal.Gen.V m c main_v14) (ix2 t e) = ((twice V t.val e.val : ℝ) : EReal) := by
  have h : 64 * (e.val / 128) + e.val % 64 < 128 := by omega
  constructor
  · rw [twice, ← A.k t ⟨_, h⟩]
    show (StableHlo.after hostOps0 (fun b => m (c, b)) (Proc.devRef .tc main_v10) : FVec Ideal S8192x256 .bf16) (ix2 t e) = _
    after_results
    pointwise
    blk_ext
  · rw [twice, ← A.v t ⟨_, h⟩]
    show (StableHlo.after hostOps0 (fun b => m (c, b)) (Proc.devRef .tc main_v14) : FVec Ideal S8192x256 .bf16) (ix2 t e) = _
    after_results
    pointwise
    blk_ext

theorem host_s (g : Fin 2) (l : Fin 512) :
    (show FVec Ideal S2x1x512 .f32 from Cert.Kernel5Ideal.Gen.V m c main_v3) (ix3 g 0 l) = ((T (4 * g.val + l.val / 128) : ℝ) : EReal) := by
  rw [← A.s ⟨4 * g.val + l.val / 128, by omega⟩]
  show (StableHlo.after hostOps0 (fun b => m (c, b)) (Proc.devRef .tc main_v3) : FVec Ideal S2x1x512 .f32) (ix3 g 0 l) = _
  after_results
  pointwise
  blk_ext

/-- The backward pass reads the same tiles and a cotangent besides: for it the queries stand in here. -/
theorem ins_are (t : Fin cfg0.N) : InsAre (scaled Q) (twice K) (twice V) (scaled Q) T t.val
    (iblk m c 0 t, iblk m c 1 t, iblk m c 2 t, iblk m c 0 t, iblk m c 3 t) := by
  have hq (i j : Fin 512) : (show FVec Ideal S512x512 .bf16 from iblk m c 0 t) (ix2 i j) = ((scaled Q (512 * t.val + i.val) j.val : ℝ) : EReal) := by
    refine Eq.trans ?_ (host_q A ⟨512 * t.val + i.val, row_lt t i⟩ j)
    blk_point [iblk, idx t]
  refine ⟨hq, fun i j => ?_, fun i j => ?_, hq, fun g l => ?_⟩
  · refine Eq.trans ?_ (host_kv A i j).1
    show (show FVec Ideal S8192x256 .bf16 from iblk m c 1 t) (ix2 i j) = _
    blk_point [iblk, idx t]
  · refine Eq.trans ?_ (host_kv A i j).2
    show (show FVec Ideal S8192x256 .bf16 from iblk m c 2 t) (ix2 i j) = _
    blk_point [iblk, idx t]
  · refine Eq.trans ?_ (host_s A g l)
    show (show FVec Ideal S2x1x512 .f32 from iblk m c 3 t) (ix3 g 0 l) = _
    blk_point [iblk, idx t]

set_option maxHeartbeats 6400000 in
/-- The tile the point leaves: its sixteen stores fill it. -/
theorem out_is (t : Fin cfg0.N) (y : S512x512.Idx) :
    (show FVec Ideal S512x512 .bf16 from outsAt0 m c t) y = outTile (scaled Q) (twice K) (twice V) T t.val y := by
  unfold outsAt0
  frame_out
  refine canon_of_pieces ?_ y (View.cover_of_tiledBy _ ![128, 128] (by sl_kernel_rfl) _)
  exact ⟨hi_piece (ins_are A t) (grid0.coords t) (coords_val t) 3 1 rfl rfl (before1 t 3) (here1 t 3) rfl,
    lo_piece (ins_are A t) (grid0.coords t) (coords_val t) 3 1 rfl rfl (before1 t 3) (here1 t 3) rfl,
    hi_piece (ins_are A t) (grid0.coords t) (coords_val t) 3 0 rfl rfl (before0 t 3) (here0 t 3) rfl,
    lo_piece (ins_are A t) (grid0.coords t) (coords_val t) 3 0 rfl rfl (before0 t 3) (here0 t 3) rfl,
    hi_piece (ins_are A t) (grid0.coords t) (coords_val t) 2 1 rfl rfl (before1 t 2) (here1 t 2) rfl,
    lo_piece (ins_are A t) (grid0.coords t) (coords_val t) 2 1 rfl rfl (before1 t 2) (here1 t 2) rfl,
    hi_piece (ins_are A t) (grid0.coords t) (coords_val t) 2 0 rfl rfl (before0 t 2) (here0 t 2) rfl,
    lo_piece (ins_are A t) (grid0.coords t) (coords_val t) 2 0 rfl rfl (before0 t 2) (here0 t 2) rfl,
    hi_piece (ins_are A t) (grid0.coords t) (coords_val t) 1 1 rfl rfl (before1 t 1) (here1 t 1) rfl,
    lo_piece (ins_are A t) (grid0.coords t) (coords_val t) 1 1 rfl rfl (before1 t 1) (here1 t 1) rfl,
    hi_piece (ins_are A t) (grid0.coords t) (coords_val t) 1 0 rfl rfl (before0 t 1) (here0 t 1) rfl,
    lo_piece (ins_are A t) (grid0.coords t) (coords_val t) 1 0 rfl rfl (before0 t 1) (here0 t 1) rfl,
    hi_piece (ins_are A t) (grid0.coords t) (coords_val t) 0 1 rfl rfl (before1 t 0) (here1 t 0) rfl,
    lo_piece (ins_are A t) (grid0.coords t) (coords_val t) 0 1 rfl rfl (before1 t 0) (here1 t 0) rfl,
    hi_piece (ins_are A t) (grid0.coords t) (coords_val t) 0 0 rfl rfl (before0 t 0) (here0 t 0) rfl,
    lo_piece (ins_are A t) (grid0.coords t) (coords_val t) 0 0 rfl rfl (before0 t 0) (here0 t 0) rfl, trivial⟩

/-- The array the kernel leaves. -/
theorem arr_out : (dats m 0 c).arrAt 4 cfg0.N = (show FVec Ideal S8192x512 .bf16 from fun i =>
    ((outR (scaled Q) (twice K) (twice V) T (i 0).val (i 1).val : ℝ) : EReal)) := by
  refine (dats m 0 c).arrAt_eq_of_covers 4 _ (by decide +kernel) fun t _ y => ?_
  blk_simp
  rw [after0_4]
  refine (out_is A t y).trans ?_
  have h0 : win0_4.index t 0 * 512 + (y 0).val = 512 * t.val + (y 0).val := by simp [idx t, Nat.mul_comm]
  have h1 : win0_4.index t 1 * 512 + (y 1).val = (y 1).val := by simp [idx t]
  rw [outTile, h0, h1]

end

end AttnFwd

end
-- ==== Proof.AxClaim.lean ====
/-
The attention's forward pass: both programs end with the same array.
-/
module

public import proofs.«01_k».proof.Defs
public import Idealize.ShloMosaic.Lib.Quiescent
public import proofs.«01_k».proof.Proof.Gen.Reference5Ideal
public import proofs.«01_k».proof.Proof.Gen.Reference5Ideal.Run
public import proofs.«01_k».proof.Proof.Gen.Kernel5Ideal.Value
public import proofs.«01_k».proof.Proof.Gen.Pre_finite5
public import proofs.«01_k».proof.Proof.Finite
public import proofs.«01_k».proof.Proof.AtSame
public import proofs.«01_k».proof.Proof.AxRef
public import proofs.«01_k».proof.Proof.AxPoint

@[expose] public section

set_option maxRecDepth 16384
set_option maxHeartbeats 1600000

noncomputable section

namespace AttnFwd

open Idealize.ShloMosaic Idealize.ShloMosaic.TcCoe Idealize.SL.Sem Finset Cert.Kernel5Ideal Cert.Proof
open Attn (scaled twice prB_head bnd_twice seen keyRow prb_unseen)
open Attn.Ref (bd pW)

/-- The kernel's row and the reference's are the same real numbers. -/
theorem same (Q K V : ℕ → ℕ → ℝ) (T : ℕ → ℝ) (s j : ℕ) : outR (scaled Q) (twice K) (twice V) T s j = outF Q K V T s j := by
  unfold outR wO outF
  refine sum_congr rfl fun b _ => ?_
  rw [prB_head Q K T (Nat.mod_lt _ (by norm_num)), bnd_twice V _ (Nat.mod_lt _ (by norm_num)), show j % 128 % 64 = j % 64 by omega,
    show j / 64 % 4 = j % 256 / 64 by omega, mul_comm]
  by_cases hs : seen (s / 128) (s % 128) b.val = true
  · refine congrArg (· * _) (Eq.symm ?_)
    simp only [seen, decide_eq_true_eq] at hs
    unfold bd keyRow
    rw [if_neg (by omega)]
    split <;> congr 2 <;> omega
  · rw [pW, prb_unseen _ _ _ (Bool.eq_false_iff.mpr hs), mul_zero, mul_zero]

variable (m : (ℓ : Loc nD τ sig) → Buf (Elt Ideal) ℓ)

/-- Finite arguments are real. -/
theorem args (h : Cert.Pre_Kernel5Ideal_finite5 (hPre_finite5 := Cert.Pre_finite5.Gen.facts) m) (c : Dev nD) :
    ∃ (Q K V : ℕ → ℕ → ℝ) (T : ℕ → ℝ), Args m c Q K V T := by
  obtain ⟨h0, h1, h2, h3⟩ := h c
  obtain ⟨Q, hQ⟩ := Reals.choose2 (fun i j => _) fun i j => Reals.real_of_finite _ _ h0 (ix2 i j)
  obtain ⟨K, hK⟩ := Reals.choose2 (fun i j => _) fun i j => Reals.real_of_finite _ _ h1 (ix2 i j)
  obtain ⟨V, hV⟩ := Reals.choose2 (fun i j => _) fun i j => Reals.real_of_finite _ _ h2 (ix2 i j)
  obtain ⟨T, hT⟩ := Reals.choose1 (fun i => _) fun i => Reals.real_of_finite _ _ h3 (ix1 i)
  exact ⟨Q, K, V, T, hQ, hK, hV, hT⟩

variable {m} {c : Dev nD} {Q K V : ℕ → ℕ → ℝ} {T : ℕ → ℝ} (A : Args m c Q K V T)
include A

/-- The reference's result of the kernel's arguments is the kernel's. -/
theorem equal : (show FVec Ideal S8192x512 .bf16 from Cert.Reference5Ideal.Read.val_main_v71 (F := Ideal) (m (c.tc.loc main_arg0)) (m (c.tc.loc main_arg1))
    (m (c.tc.loc main_arg2)) (m (c.tc.loc main_arg3))) = (Gen.dats m 0 c).arrAt 4 cfg0.N := by
  rw [arr_out A]
  funext i
  rw [ValueIdx.eq_ix2 i]
  exact (Ref.result _ _ _ _ A.q A.k A.v A.s (i 0) (i 1)).trans (congrArg Real.toEReal (same Q K V T (i 0) (i 1)).symm)

omit A

/-- The attention's result is the reference's. -/
theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m g m' g' hpre hag
  refine ⟨fun c => (Gen.dats m 0 c).arrAt 4 cfg0.N, Cert.Kernel5Ideal.Value.run_blocks m g, ?_⟩
  refine (θ_run Cert.Reference5Ideal.defs _ _).mono (fun r h c => ?_) (Cert.Reference5Ideal.Value.run m' g')
  obtain ⟨Q, K, V, T, A⟩ := args m hpre c
  obtain ⟨a0, a1, a2, a3⟩ := hag c
  obtain ⟨r0, rest⟩ := h c
  refine ⟨r0.trans ?_, rest⟩
  rw [Cert.Reference5Ideal.Read.val_main_v71_eq, a0, a1, a2, a3]
  exact equal A

/-- The reference's frame: it has no semaphores. -/
theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems rfl r.2⟩)
    (Cert.Reference5Ideal.Value.run m ρ)

end AttnFwd

end
-- ==== Proof.FwMath.lean ====
/- The arithmetic of the forward calls over the extended reals, infinite values too: the norm, its product with a matrix, the
   gate, and the feed-forward block. -/
module

public import proofs.«01_k».proof.Proof.InMath

@[expose] public section

set_option maxRecDepth 16384

noncomputable section

namespace Cert.Proof.Fwd

open Finset Idealize.ShloMosaic

/-- A row normalised: over the root of its mean square, with the small number that keeps the root off zero. -/
def hat (x : ℕ → EReal) (j : ℕ) : EReal :=
  x j * Ideal.rsqrt (Ideal.div (∑ k : Fin 1024, x k * x k) (Ideal.ofBits .f32 1149239296#32) + Ideal.ofBits .f32 925353388#32)

/-- A row of the norm's result times a matrix's column. -/
def lin (x G : ℕ → EReal) (W : ℕ → ℕ → EReal) (k : ℕ) : EReal := ∑ j : Fin 1024, hat x j * G j * W j k

/-- The gated row: the gate times its logistic value, times the linear branch. -/
def gated (a b : EReal) : EReal := a * Ideal.div 1 (1 + Ideal.exp (-a)) * b

/-- The row after the feed-forward block. -/
def after (x G : ℕ → EReal) (Wg Wu Wd : ℕ → ℕ → EReal) (j : ℕ) : EReal :=
  x j + Ideal.ofBits .f32 1056964608#32 * ∑ k : Fin 2816, gated (lin x G Wg k) (lin x G Wu k) * Wd k j

/-- The row after the mixers: their products with the two halves of the matrix are added to it. -/
def mixed (x p q : ℕ → EReal) (W : ℕ → ℕ → EReal) (j : ℕ) : EReal :=
  x j + ∑ k : Fin 512, p k * W k j + ∑ k : Fin 512, q k * W (512 + k) j

/-- A row, or an array of rows, as a function of natural numbers. -/
theorem of_row {n : ℕ} (f : Fin n → EReal) : ∃ g : ℕ → EReal, ∀ i, f i = g i.val :=
  ⟨fun i => if h : i < n then f ⟨i, h⟩ else 0, fun i => by simp⟩

theorem of_rows {n k : ℕ} (f : Fin n → Fin k → EReal) : ∃ g : ℕ → ℕ → EReal, ∀ i j, f i j = g i.val j.val :=
  ⟨fun i j => if h : i < n ∧ j < k then f ⟨i, h.1⟩ ⟨j, h.2⟩ else 0, fun i j => by simp⟩

end Cert.Proof.Fwd

end
-- ==== Proof.IfBlock.lean ====
/- One block of 512 rows of the input projection's forward pass: what the kernel's stored values are, for any
   arguments, infinite ones too. -/
module

public import proofs.«01_k».proof.Proof.Gen.Kernel6Ideal.Frame
public import proofs.«01_k».proof.Proof.InBlock
public import proofs.«01_k».proof.Proof.FwMath
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.InFwd

open Cert.Kernel6Ideal Cert.Kernel6Ideal.Gen Idealize.ShloMosaic Idealize.ShloMosaic.TcCoe Idealize.SL.Sem Idealize.ShloMosaic.StableHlo
open Cert.Proof.InProj (src half half_eq)
open Cert.Proof.Fwd (hat lin)

/-- The rotary rotation of one row, in heads of 64 columns: the first half of a head takes its own cosine and minus the
    second half's sine, the second half its own cosine and the first half's sine. -/
def turn (C S p : ℕ → EReal) (c : ℕ) : EReal :=
  if c % 64 < 32 then p c * C (c % 32) + p (c + 32) * -S (c % 32) else p c * C (c % 32) + p (c - 32) * S (c % 32)

/-- A row of the projection as the kernel lays it out, keys and values repeated. -/
def wideRow (x G : ℕ → EReal) (W : ℕ → ℕ → EReal) (c : ℕ) : EReal := lin x G W (src c)

section Tile

variable {C S D : ℕ → ℕ → EReal} {o : ℕ} {a b d : Vec Ideal S512x128 .f32}

/-- A lane of the rotated tile. -/
theorem turn_lane (ho : o % 128 = 0) (ha : ∀ i c, a (ix2 i c) = (C i.val (c.val % 32) : EReal))
    (hb : ∀ i c, b (ix2 i c) = (if c.val % 64 < 32 then -S i.val (c.val % 32) else S i.val (c.val % 32) : EReal))
    (hd : ∀ i c, d (ix2 i c) = (D i.val (o + c.val) : EReal)) (i : Fin 512) (c : Fin 128) (h1 h2) :
    d (ix2 i c) * a (ix2 i c) + Scalar.select (half c.val) (d (ix2 i ⟨(c.val + 128 - 96) % 128, h1⟩))
        (d (ix2 i ⟨(c.val + 128 - 32) % 128, h2⟩)) * b (ix2 i c)
      = (turn (C i.val) (S i.val) (D i.val) (o + c.val) : EReal) := by
  have hc := c.isLt
  rw [half_eq c, ha, hb]
  unfold turn
  by_cases h : c.val % 64 < 32
  · rw [if_pos h, if_pos h, if_pos (by omega : (o + c.val) % 64 < 32)]
    show _ + d _ * _ = _
    rw [hd, hd]
    dsimp only
    rw [show o + (c.val + 128 - 96) % 128 = o + c.val + 32 by omega,
      show c.val % 32 = (o + c.val) % 32 by omega]
  · rw [if_neg h, if_neg h, if_neg (by omega : ¬ (o + c.val) % 64 < 32)]
    show _ + d _ * _ = _
    rw [hd, hd]
    dsimp only
    rw [show o + (c.val + 128 - 32) % 128 = o + c.val - 32 by omega,
      show c.val % 32 = (o + c.val) % 32 by omega]

variable (ho : o % 128 = 0) (ha : ∀ i c, a (ix2 i c) = (C i.val (c.val % 32) : EReal))
    (hb : ∀ i c, b (ix2 i c) = (if c.val % 64 < 32 then -S i.val (c.val % 32) else S i.val (c.val % 32) : EReal))
    (hd : ∀ i c, d (ix2 i c) = (D i.val (o + c.val) : EReal)) (i : Fin 512) (c : Fin 128)

include ho ha hb hd

/-- A tile of queries, rotated and scaled. -/
theorem tile_q : k0_pay8 (F := Ideal) a b d k0_pay5 k0_pay6 k0_pay7 (ix2 i c)
    = (turn (C i.val) (S i.val) (D i.val) (o + c.val) * Ideal.ofBits .f32 1040187392#32 : EReal) := by
  rw [← turn_lane ho ha hb hd i c (Nat.mod_lt _ (by decide)) (Nat.mod_lt _ (by decide))]
  pointwise [k0_pay8, k0_pay5, k0_pay6, k0_pay7]
  rfl

/-- A tile of keys, rotated. -/
theorem tile_k : k0_pay18 (F := Ideal) a b d k0_pay16 (dynamicRotate 1 96#32 none d rotates_S512x128_d1) 32#32 (ix2 i c)
    = (turn (C i.val) (S i.val) (D i.val) (o + c.val) : EReal) := by
  rw [← turn_lane ho ha hb hd i c (Nat.mod_lt _ (by decide)) (Nat.mod_lt _ (by decide))]
  pointwise [k0_pay18, k0_pay16]
  rfl

end Tile

/-- A tile filled by blocks of one function is that function. -/
theorem of_pieces {s : Shape} {G : s.Idx → Elt Ideal .bf16} {L : List (View.Piece (Elt Ideal) s .bf16)} (h : View.PiecesOf G L) (y : s.Idx)
    (hc : ∃ p ∈ L, y ∈ p.1.set) : View.canon L y = G y := by
  simpa only [List.append_nil] using View.canon_append_of_piecesOf G [] L h y hc

/-- The block's queries and keys: the rotated row's first four tiles, scaled, and the next two. -/
def queries (X C S : ℕ → ℕ → EReal) (G : ℕ → EReal) (W : ℕ → ℕ → EReal) (y : S512x512.Idx) : EReal :=
  (turn (C (y 0).val) (S (y 0).val) (wideRow (X (y 0).val) G W) (y 1).val * Ideal.ofBits .f32 1040187392#32 : EReal)

def keys (X C S : ℕ → ℕ → EReal) (G : ℕ → EReal) (W : ℕ → ℕ → EReal) (y : S512x256.Idx) : EReal :=
  (turn (C (y 0).val) (S (y 0).val) (wideRow (X (y 0).val) G W) (512 + (y 1).val) : EReal)

section Block

variable {X C S W : ℕ → ℕ → EReal} {G : ℕ → EReal} {x : Vec Ideal S512x1024 .f32} {g : Vec Ideal S1x1024 .f32} {w : Vec Ideal S2048x1024 .bf16}
  {a b : Vec Ideal S512x128 .f32}
  (hx : ∀ i j, x (ix2 i j) = (X i.val j.val : EReal)) (hg : ∀ i j, g (ix2 i j) = (G j.val : EReal))
  (hw : ∀ c j, w (ix2 c j) = (W j.val (src c.val) : EReal)) (ha : ∀ i c, a (ix2 i c) = (C i.val (c.val % 32) : EReal))
  (hb : ∀ i c, b (ix2 i c) = (if c.val % 64 < 32 then -S i.val (c.val % 32) else S i.val (c.val % 32) : EReal))

include hx hg hw in
/-- The block's rows times the widened matrix. -/
theorem proj (i : Fin 512) (c : Fin 2048) : k0_pay22 (F := Ideal) x g w a b (ix2 i c) = (wideRow (X i.val) G W c.val : EReal) := by
  unfold k0_pay22
  frame_out
  pointwise [k0_pay1]
  simp only [hx, hg, hw]
  rfl

include ha in
theorem cos_tile (i : Fin 512) (c : Fin 128) : k0_pay23 (F := Ideal) x g w a b (ix2 i c) = (C i.val (c.val % 32) : EReal) := by
  rw [← ha i c]
  unfold k0_pay23
  frame_out
  pointwise [k0_pay2]

include hb in
theorem sin_tile (i : Fin 512) (c : Fin 128) : k0_pay24 (F := Ideal) x g w a b (ix2 i c)
    = (if c.val % 64 < 32 then -S i.val (c.val % 32) else S i.val (c.val % 32) : EReal) := by
  rw [← hb i c]
  unfold k0_pay24
  frame_out
  pointwise [k0_pay3]

include hx hg hw

/-- The values' columns. -/
theorem out_v (y : S512x256.Idx) : out0_7 (F := Ideal) x g w a b y = (wideRow (X (y 0).val) G W (768 + (y 1).val) : EReal) := by
  obtain ⟨i, j, rfl⟩ : ∃ (i : Fin 512) (j : Fin 256), y = ValueIdx.ix2 i j := ⟨y 0, y 1, ValueIdx.eq_ix2 y⟩
  have e := proj (a := a) (b := b) hx hg hw
  unfold out0_7
  frame_out
  pointwise [k0_pay20]
  rw [e]

/-- The convolution's input. -/
theorem out_u (y : S512x1024.Idx) : out0_8 (F := Ideal) x g w a b y = (wideRow (X (y 0).val) G W (1024 + (y 1).val) : EReal) := by
  obtain ⟨i, j, rfl⟩ : ∃ (i : Fin 512) (j : Fin 1024), y = ValueIdx.ix2 i j := ⟨y 0, y 1, ValueIdx.eq_ix2 y⟩
  have e := proj (a := a) (b := b) hx hg hw
  unfold out0_8
  frame_out
  pointwise [k0_pay21]
  rw [e]

/-- A tile of the projection at an offset. -/
theorem cut (o : ℕ) (h : S512x2048.Slices ![0, o] S512x128) (i : Fin 512) (c : Fin 128) :
    extractStridedSlice S512x128 ![0, o] (k0_pay22 (F := Ideal) x g w a b) h (ix2 i c) = (wideRow (X i.val) G W (o + c.val) : EReal) := by
  have e := proj (a := a) (b := b) hx hg hw
  pointwise
  rw [e]

include ha hb

theorem piece_q (o : ℕ) (ho : o % 128 = 0) (h : S512x2048.Slices ![0, o] S512x128) (hr : ∀ a, ![0, o] a + S512x128.size a ≤ S512x512.size a)
    (s : S512x128.Idx) : k0_pay8 (F := Ideal) (k0_pay23 x g w a b) (k0_pay24 x g w a b)
        (extractStridedSlice S512x128 ![0, o] (k0_pay22 x g w a b) h) k0_pay5 k0_pay6 k0_pay7 s
      = queries X C S G W ((Rect.unit (s := S512x512) ![0, o] S512x128.size hr).emb s) := by
  obtain ⟨i, c, rfl⟩ : ∃ (i : Fin 512) (c : Fin 128), s = ValueIdx.ix2 i c := ⟨s 0, s 1, ValueIdx.eq_ix2 s⟩
  refine (tile_q (D := fun i => wideRow (X i) G W) ho (cos_tile ha) (sin_tile hb) (cut hx hg hw o h) i c).trans ?_
  unfold queries
  blk_simp

theorem piece_k (o e : ℕ) (ho : o % 128 = 0) (he : o = 512 + e) (h : S512x2048.Slices ![0, o] S512x128) (hr : ∀ a, ![0, e] a + S512x128.size a ≤ S512x256.size a)
    (s : S512x128.Idx) : k0_pay18 (F := Ideal) (k0_pay23 x g w a b) (k0_pay24 x g w a b)
        (extractStridedSlice S512x128 ![0, o] (k0_pay22 x g w a b) h) k0_pay16
        (dynamicRotate 1 96#32 none (extractStridedSlice S512x128 ![0, o] (k0_pay22 x g w a b) h) rotates_S512x128_d1) 32#32 s
      = keys X C S G W ((Rect.unit (s := S512x256) ![0, e] S512x128.size hr).emb s) := by
  obtain ⟨i, c, rfl⟩ : ∃ (i : Fin 512) (c : Fin 128), s = ValueIdx.ix2 i c := ⟨s 0, s 1, ValueIdx.eq_ix2 s⟩
  refine (tile_k (D := fun i => wideRow (X i) G W) ho (cos_tile ha) (sin_tile hb) (cut hx hg hw o h) i c).trans ?_
  subst he
  unfold keys
  blk_simp
  rw [Nat.add_assoc]

set_option maxHeartbeats 3200000 in
theorem out_q (y : S512x512.Idx) : out0_5 (F := Ideal) x g w a b y = queries X C S G W y := by
  unfold out0_5
  refine of_pieces ?_ y (cover0_5 _ _ _ _ y)
  exact ⟨piece_q hx hg hw ha hb 384 rfl slices_S512x2048_o0_384_S512x128 inb_S512x512_S512x128_0_384,
    piece_q hx hg hw ha hb 256 rfl slices_S512x2048_o0_256_S512x128 inb_S512x512_S512x128_0_256,
    piece_q hx hg hw ha hb 128 rfl slices_S512x2048_o0_128_S512x128 inb_S512x512_S512x128_0_128,
    piece_q hx hg hw ha hb 0 rfl slices_S512x2048_o0_0_S512x128 inb_S512x512_S512x128_0_0, trivial⟩

set_option maxHeartbeats 3200000 in
theorem out_k (y : S512x256.Idx) : out0_6 (F := Ideal) x g w a b y = keys X C S G W y := by
  unfold out0_6
  refine of_pieces ?_ y (cover0_6 _ _ y)
  exact ⟨piece_k hx hg hw ha hb 640 128 rfl rfl slices_S512x2048_o0_640_S512x128 inb_S512x256_S512x128_0_128,
    piece_k hx hg hw ha hb 512 0 rfl rfl slices_S512x2048_o0_512_S512x128 inb_S512x256_S512x128_0_0, trivial⟩

end Block

end Cert.Proof.InFwd

end
-- ==== Proof.IfRef.lean ====
/- The reference of the input projection's forward pass at an index. -/
module

public import proofs.«01_k».proof.Proof.Gen.Reference6Ideal.Read
public import proofs.«01_k».proof.Proof.IfBlock

@[expose] public section

set_option maxRecDepth 16384
set_option maxHeartbeats 1600000

noncomputable section

namespace Cert.Proof.InFwd

open Cert.Reference6Ideal Cert.Reference6Ideal.Gen Cert.Reference6Ideal.Read Idealize.ShloMosaic Idealize.ShloMosaic.TcCoe Idealize.SL.Sem Idealize.ShloMosaic.StableHlo
open Cert.Proof.InProj (src)
open Cert.Proof.Fwd (hat lin)

variable {x0 : FVec Ideal S8192x1024 .f32} {x1 x2 : FVec Ideal S8192x32 .f32} {x3 : FVec Ideal S1024 .f32} {x4 : FVec Ideal S1024x1792 .f32}
  {X C S W : ℕ → ℕ → EReal} {G : ℕ → EReal}

theorem ref_row (h0 : ∀ t j, x0 (ix2 t j) = (X t.val j.val : EReal)) (h3 : ∀ j, x3 (ix1 j) = (G j.val : EReal))
    (h4 : ∀ j k, x4 (ix2 j k) = (W j.val k.val : EReal)) (t : Fin 8192) (k : Fin 1792) :
    val_main_v13 (F := Ideal) x0 x3 x4 (ix2 t k) = (lin (X t.val) G W k.val : EReal) := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  simp only [h0, h3, h4]
  rfl

section Row

variable (hp : ∀ t k, val_main_v13 (F := Ideal) x0 x3 x4 (ix2 t k) = (lin (X t.val) G W k.val : EReal))
include hp

/-- The convolution's input. -/
theorem ref_u (t : Fin 8192) (j : Fin 1024) : val_main_v64 (F := Ideal) x0 x3 x4 (ix2 t j) = (wideRow (X t.val) G W (1024 + j.val) : EReal) := by
  pointwise [val_main_v64]
  rw [hp]
  unfold wideRow src
  rw [if_neg (by omega), if_neg (by omega)]
  refine congrArg (fun k => (lin (X t.val) G W k : EReal)) ?_
  show 768 + j.val = _
  omega

/-- The values, each head twice. -/
theorem ref_v (t : Fin 8192) (j : Fin 256) : val_main_v63 (F := Ideal) x0 x3 x4 (ix2 t j) = (wideRow (X t.val) G W (768 + j.val) : EReal) := by
  have hj := j.isLt
  pointwise [val_main_v50, val_main_v51, val_main_v59, val_main_v60, val_main_v61, val_main_v62, val_main_v63]
  simp only [hp]
  unfold wideRow src
  rw [if_neg (by omega), if_pos (by omega)]
  split_ifs <;> exact congrArg (fun k => (lin (X t.val) G W k : EReal)) (by omega)

variable (h1 : ∀ t j, x1 (ix2 t j) = (C t.val j.val : EReal)) (h2 : ∀ t j, x2 (ix2 t j) = (S t.val j.val : EReal))
include h1 h2

/-- The queries, rotated and scaled. -/
theorem ref_q (t : Fin 8192) (j : Fin 512) : val_main_v53 (F := Ideal) x0 x1 x2 x3 x4 (ix2 t j)
    = (turn (C t.val) (S t.val) (wideRow (X t.val) G W) j.val * Ideal.ofBits .f32 1040187392#32 : EReal) := by
  have hj := j.isLt
  pointwise [val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v52, val_main_v53, val_main_cst_2]
  simp only [hp, h1, h2]
  refine congrArg (fun z : EReal => z * _) ?_
  generalize j.val = j at hj ⊢
  unfold turn wideRow src
  by_cases b : j % 64 < 32
  · rw [dif_pos b, if_pos b, if_pos hj, if_pos (by omega),
      show j / 64 * 64 + (32 + j % 64) = j + 32 by omega, show j % 64 = j % 32 by omega, mul_neg, ← sub_eq_add_neg]
  · rw [dif_neg b, if_neg b, if_pos hj, if_pos (by omega), show j / 64 * 64 + (32 + (j % 64 - 32)) = j by omega,
      show j / 64 * 64 + (j % 64 - 32) = j - 32 by omega, show j % 64 - 32 = j % 32 by omega]

/-- The keys, rotated, each head twice. -/
theorem ref_k (t : Fin 8192) (j : Fin 256) : val_main_v58 (F := Ideal) x0 x1 x2 x3 x4 (ix2 t j)
    = (turn (C t.val) (S t.val) (wideRow (X t.val) G W) (512 + j.val) : EReal) := by
  have hj := j.isLt
  pointwise [val_main_v33, val_main_v34, val_main_v35, val_main_v36, val_main_v37, val_main_v38, val_main_v39, val_main_v40, val_main_v41, val_main_v42, val_main_v43, val_main_v44, val_main_v45, val_main_v46, val_main_v47, val_main_v48, val_main_v49, val_main_v54, val_main_v55, val_main_v56, val_main_v57, val_main_v58]
  simp only [hp, h1, h2]
  generalize j.val = j at hj ⊢
  have row (l k : ℕ) (hl : 512 ≤ l ∧ l < 768) (hk : k = 512 + (l - 512) / 128 * 64 + (l - 512) % 64) :
      lin (X t.val) G W k = wideRow (X t.val) G W l := by
    unfold wideRow src
    rw [if_neg (by omega), if_pos (by omega), hk]
  simp only [dite_eq_ite, ite_self]
  unfold turn
  by_cases b : j % 64 < 32
  · rw [if_pos b, if_pos (by omega), row (512 + j) _ (by omega) (by omega), row (512 + j + 32) _ (by omega) (by omega),
      show j % 64 = (512 + j) % 32 by omega, mul_neg, ← sub_eq_add_neg]
  · rw [if_neg b, if_neg (by omega), row (512 + j) _ (by omega) (by omega), row (512 + j - 32) _ (by omega) (by omega),
      show j % 64 - 32 = (512 + j) % 32 by omega]

end Row

end Cert.Proof.InFwd

end
-- ==== Proof.IfPoint.lean ====
/- What one point of the input projection's forward pass reads, and the four arrays the kernel leaves. -/
module

public import proofs.«01_k».proof.Proof.IfBlock
public import proofs.«01_k».proof.Proof.InRead

@[expose] public section

set_option maxRecDepth 16384

noncomputable section

namespace Cert.Proof.InFwd

open Cert.Kernel6Ideal Cert.Kernel6Ideal.Gen Idealize.ShloMosaic Idealize.ShloMosaic.TcCoe Idealize.SL.Sem Idealize.ShloMosaic.StableHlo
open Cert.Proof.InProj (src src_lt wExt wExt_apply)

variable (m : (ℓ : Loc nD τ sig) → Buf (Elt Ideal) ℓ) (c : Dev nD)

theorem host_w : (show FVec Ideal S2048x1024 .bf16 from V m c main_v21) = wExt (m ((c : Thread nD τ).loc main_arg4)) := by
  show (StableHlo.after hostOps0 (fun b => m (c, b)) (Proc.devRef .tc main_v21) : FVec Ideal S2048x1024 .bf16) = _
  after_results
  rfl

theorem host_cos (t : Fin 8192) (j : Fin 128) : (show FVec Ideal S8192x128 .f32 from V m c main_v3) (ix2 t j)
    = (show FVec Ideal S8192x32 .f32 from m ((c : Thread nD τ).loc main_arg1)) (ix2 t ⟨j.val % 32, Nat.mod_lt _ (by decide)⟩) := by
  show (StableHlo.after hostOps0 (fun b => m (c, b)) (Proc.devRef .tc main_v3) : FVec Ideal S8192x128 .f32) (ix2 t j) = _
  after_results
  pointwise
  split_ifs <;> blk_ext

theorem host_sin (t : Fin 8192) (j : Fin 128) : (show FVec Ideal S8192x128 .f32 from V m c main_v8) (ix2 t j)
    = if j.val % 64 < 32 then
        -(show EReal from (show FVec Ideal S8192x32 .f32 from m ((c : Thread nD τ).loc main_arg2)) (ix2 t ⟨j.val % 32, Nat.mod_lt _ (by decide)⟩))
      else (show FVec Ideal S8192x32 .f32 from m ((c : Thread nD τ).loc main_arg2)) (ix2 t ⟨j.val % 32, Nat.mod_lt _ (by decide)⟩) := by
  show (StableHlo.after hostOps0 (fun b => m (c, b)) (Proc.devRef .tc main_v8) : FVec Ideal S8192x128 .f32) (ix2 t j) = _
  after_results
  pointwise
  by_cases h : j.val % 64 < 32
  · rw [dif_pos h, if_pos h]
    refine congrArg (fun z : EReal => -z) ?_
    blk_ext
  · rw [dif_neg h, if_neg h]
    blk_ext

theorem host_g (u : Fin 1) (j : Fin 1024) : (show FVec Ideal S1x1024 .f32 from V m c main_v22) (ix2 u j)
    = (show FVec Ideal S1024 .f32 from m ((c : Thread nD τ).loc main_arg3)) (ix1 j) := by
  show (StableHlo.after hostOps0 (fun b => m (c, b)) (Proc.devRef .tc main_v22) : FVec Ideal S1x1024 .f32) (ix2 u j) = _
  after_results
  pointwise

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem row_lt (t : Fin cfg0.N) (i : Fin 512) : 512 * t.val + i.val < 8192 := by
  have := (by decide +kernel : ∀ t : Fin grid0.N, t.val < 16) t
  omega

/-- The arguments as functions of their coordinates. -/
structure Args (X C S : ℕ → ℕ → EReal) (G : ℕ → EReal) (W : ℕ → ℕ → EReal) : Prop where
  x : ∀ (t : Fin 8192) (j : Fin 1024), (show FVec Ideal S8192x1024 .f32 from m ((c : Thread nD τ).loc main_arg0)) (ix2 t j) = (X t.val j.val : EReal)
  cos : ∀ (t : Fin 8192) (j : Fin 32), (show FVec Ideal S8192x32 .f32 from m ((c : Thread nD τ).loc main_arg1)) (ix2 t j) = (C t.val j.val : EReal)
  sin : ∀ (t : Fin 8192) (j : Fin 32), (show FVec Ideal S8192x32 .f32 from m ((c : Thread nD τ).loc main_arg2)) (ix2 t j) = (S t.val j.val : EReal)
  g : ∀ j : Fin 1024, (show FVec Ideal S1024 .f32 from m ((c : Thread nD τ).loc main_arg3)) (ix1 j) = (G j.val : EReal)
  w : ∀ (j : Fin 1024) (k : Fin 1792), (show FVec Ideal S1024x1792 .f32 from m ((c : Thread nD τ).loc main_arg4)) (ix2 j k) = (W j.val k.val : EReal)

variable {m c} {X C S : ℕ → ℕ → EReal} {G : ℕ → EReal} {W : ℕ → ℕ → EReal} (A : Args m c X C S G W) (t : Fin cfg0.N)

include A

theorem in_x (i : Fin 512) (j : Fin 1024) :
    (show FVec Ideal S512x1024 .f32 from iblk m c 0 t) (ix2 i j) = (X (512 * t.val + i.val) j.val : EReal) := by
  rw [← A.x ⟨512 * t.val + i.val, row_lt t i⟩ j]
  blk_point [iblk, V, idx t]

theorem in_g (i : Fin 1) (j : Fin 1024) : (show FVec Ideal S1x1024 .f32 from iblk m c 1 t) (ix2 i j) = (G j.val : EReal) := by
  rw [← A.g j, ← host_g m c i j]
  blk_point [iblk, idx t]

theorem in_w (k : Fin 2048) (j : Fin 1024) :
    (show FVec Ideal S2048x1024 .bf16 from iblk m c 2 t) (ix2 k j) = (W j.val (src k.val) : EReal) := by
  rw [← A.w j ⟨src k.val, src_lt k⟩]
  refine Eq.trans ?_ (wExt_apply _ k j (src_lt k))
  rw [← host_w]
  blk_point [iblk, idx t]

theorem in_cos (i : Fin 512) (j : Fin 128) :
    (show FVec Ideal S512x128 .f32 from iblk m c 3 t) (ix2 i j) = (C (512 * t.val + i.val) (j.val % 32) : EReal) := by
  refine Eq.trans ?_ ((host_cos m c ⟨512 * t.val + i.val, row_lt t i⟩ j).trans (A.cos _ _))
  blk_point [iblk, idx t]

theorem in_sin (i : Fin 512) (j : Fin 128) : (show FVec Ideal S512x128 .f32 from iblk m c 4 t) (ix2 i j)
      = (if j.val % 64 < 32 then -S (512 * t.val + i.val) (j.val % 32) else S (512 * t.val + i.val) (j.val % 32) : EReal) := by
  refine Eq.trans ?_ ((host_sin m c ⟨512 * t.val + i.val, row_lt t i⟩ j).trans ?_)
  · blk_point [iblk, idx t]
  · rw [A.sin]

omit t

/-- The four arrays: the queries, the keys, the values and the convolution's input. -/
theorem arr_q : (dats m 0 c).arrAt 5 cfg0.N = (show FVec Ideal S8192x512 .bf16 from fun i =>
    (turn (C (i 0).val) (S (i 0).val) (wideRow (X (i 0).val) G W) (i 1).val * Ideal.ofBits .f32 1040187392#32 : EReal)) := by
  refine (dats m 0 c).arrAt_eq_of_covers 5 _ (by decide +kernel) fun t _ y => ?_
  blk_simp
  rw [after0_5]
  refine (out_q (X := fun i => X (512 * t.val + i)) (C := fun i => C (512 * t.val + i)) (S := fun i => S (512 * t.val + i))
    (in_x A t) (in_g A t) (in_w A t) (in_cos A t) (in_sin A t) y).trans ?_
  have h0 : win0_5.index t 0 * 512 + (y 0).val = 512 * t.val + (y 0).val := by simp [idx t, Nat.mul_comm]
  have h1 : win0_5.index t 1 * 512 + (y 1).val = (y 1).val := by simp [idx t]
  rw [queries, h0, h1]

theorem arr_k : (dats m 0 c).arrAt 6 cfg0.N = (show FVec Ideal S8192x256 .bf16 from fun i =>
    (turn (C (i 0).val) (S (i 0).val) (wideRow (X (i 0).val) G W) (512 + (i 1).val) : EReal)) := by
  refine (dats m 0 c).arrAt_eq_of_covers 6 _ (by decide +kernel) fun t _ y => ?_
  blk_simp
  rw [after0_6]
  refine (out_k (X := fun i => X (512 * t.val + i)) (C := fun i => C (512 * t.val + i)) (S := fun i => S (512 * t.val + i))
    (in_x A t) (in_g A t) (in_w A t) (in_cos A t) (in_sin A t) y).trans ?_
  have h0 : win0_6.index t 0 * 512 + (y 0).val = 512 * t.val + (y 0).val := by simp [idx t, Nat.mul_comm]
  have h1 : win0_6.index t 1 * 256 + (y 1).val = (y 1).val := by simp [idx t]
  rw [keys, h0, h1]

theorem arr_v : (dats m 0 c).arrAt 7 cfg0.N = (show FVec Ideal S8192x256 .bf16 from fun i =>
    (wideRow (X (i 0).val) G W (768 + (i 1).val) : EReal)) := by
  refine (dats m 0 c).arrAt_eq_of_covers 7 _ (by decide +kernel) fun t _ y => ?_
  blk_simp
  rw [after0_7]
  refine (out_v (X := fun i => X (512 * t.val + i)) (in_x A t) (in_g A t) (in_w A t) y).trans ?_
  have h0 : win0_7.index t 0 * 512 + (y 0).val = 512 * t.val + (y 0).val := by simp [idx t, Nat.mul_comm]
  have h1 : win0_7.index t 1 * 256 + (y 1).val = (y 1).val := by simp [idx t]
  rw [h0, h1]

theorem arr_u : (dats m 0 c).arrAt 8 cfg0.N = (show FVec Ideal S8192x1024 .f32 from fun i =>
    (wideRow (X (i 0).val) G W (1024 + (i 1).val) : EReal)) := by
  refine (dats m 0 c).arrAt_eq_of_covers 8 _ (by decide +kernel) fun t _ y => ?_
  blk_simp
  rw [after0_8]
  refine (out_u (X := fun i => X (512 * t.val + i)) (in_x A t) (in_g A t) (in_w A t) y).trans ?_
  have h0 : win0_8.index t 0 * 512 + (y 0).val = 512 * t.val + (y 0).val := by simp [idx t, Nat.mul_comm]
  have h1 : win0_8.index t 1 * 1024 + (y 1).val = (y 1).val := by simp [idx t]
  rw [h0, h1]

end Cert.Proof.InFwd

end
-- ==== Proof.IfClaim.lean ====
/- The input projection's forward pass: both programs end with the same four arrays. -/
module

public import proofs.«01_k».proof.Defs
public import Idealize.ShloMosaic.Lib.Quiescent
public import proofs.«01_k».proof.Proof.Gen.Reference6Ideal
public import proofs.«01_k».proof.Proof.Gen.Reference6Ideal.Run
public import proofs.«01_k».proof.Proof.Gen.Kernel6Ideal.Value
public import proofs.«01_k».proof.Proof.IfRef
public import proofs.«01_k».proof.Proof.IfPoint

@[expose] public section

set_option maxRecDepth 16384
set_option maxHeartbeats 1600000

noncomputable section

namespace Cert.Proof.InFwd

open Idealize.ShloMosaic Idealize.ShloMosaic.TcCoe Idealize.SL.Sem Cert.Kernel6Ideal
open Cert.Proof.Fwd (of_row of_rows)

variable (m : (ℓ : Loc nD τ sig) → Buf (Elt Ideal) ℓ)

/-- Every memory's arguments are such functions. -/
theorem args (c : Dev nD) : ∃ (X C S : ℕ → ℕ → EReal) (G : ℕ → EReal) (W : ℕ → ℕ → EReal), Args m c X C S G W := by
  obtain ⟨X, hX⟩ := of_rows fun i j => (show FVec Ideal S8192x1024 .f32 from m ((c : Thread nD τ).loc main_arg0)) (ix2 i j)
  obtain ⟨C, hC⟩ := of_rows fun i j => (show FVec Ideal S8192x32 .f32 from m ((c : Thread nD τ).loc main_arg1)) (ix2 i j)
  obtain ⟨S, hS⟩ := of_rows fun i j => (show FVec Ideal S8192x32 .f32 from m ((c : Thread nD τ).loc main_arg2)) (ix2 i j)
  obtain ⟨G, hG⟩ := of_row fun i => (show FVec Ideal S1024 .f32 from m ((c : Thread nD τ).loc main_arg3)) (ix1 i)
  obtain ⟨W, hW⟩ := of_rows fun i j => (show FVec Ideal S1024x1792 .f32 from m ((c : Thread nD τ).loc main_arg4)) (ix2 i j)
  exact ⟨X, C, S, G, W, hX, hC, hS, hG, hW⟩

variable {m} {c : Dev nD} {X C S : ℕ → ℕ → EReal} {G : ℕ → EReal} {W : ℕ → ℕ → EReal} (A : Args m c X C S G W)

include A

/-- The reference's results of the kernel's arguments are the kernel's. -/
theorem same_q : (show FVec Ideal S8192x512 .bf16 from Cert.Reference6Ideal.Read.val_main_v53 (F := Ideal) (m (c.tc.loc main_arg0))
    (m (c.tc.loc main_arg1)) (m (c.tc.loc main_arg2)) (m (c.tc.loc main_arg3)) (m (c.tc.loc main_arg4))) = (Gen.dats m 0 c).arrAt 5 cfg0.N := by
  rw [arr_q A]
  funext i
  rw [ValueIdx.eq_ix2 i]
  exact ref_q (ref_row A.x A.g A.w) A.cos A.sin (i 0) (i 1)

theorem same_k : (show FVec Ideal S8192x256 .bf16 from Cert.Reference6Ideal.Read.val_main_v58 (F := Ideal) (m (c.tc.loc main_arg0))
    (m (c.tc.loc main_arg1)) (m (c.tc.loc main_arg2)) (m (c.tc.loc main_arg3)) (m (c.tc.loc main_arg4))) = (Gen.dats m 0 c).arrAt 6 cfg0.N := by
  rw [arr_k A]
  funext i
  rw [ValueIdx.eq_ix2 i]
  exact ref_k (ref_row A.x A.g A.w) A.cos A.sin (i 0) (i 1)

theorem same_v : (show FVec Ideal S8192x256 .bf16 from Cert.Reference6Ideal.Read.val_main_v63 (F := Ideal) (m (c.tc.loc main_arg0))
    (m (c.tc.loc main_arg3)) (m (c.tc.loc main_arg4))) = (Gen.dats m 0 c).arrAt 7 cfg0.N := by
  rw [arr_v A]
  funext i
  rw [ValueIdx.eq_ix2 i]
  exact ref_v (ref_row A.x A.g A.w) (i 0) (i 1)

theorem same_u : (show FVec Ideal S8192x1024 .f32 from Cert.Reference6Ideal.Read.val_main_v64 (F := Ideal) (m (c.tc.loc main_arg0))
    (m (c.tc.loc main_arg3)) (m (c.tc.loc main_arg4))) = (Gen.dats m 0 c).arrAt 8 cfg0.N := by
  rw [arr_u A]
  funext i
  rw [ValueIdx.eq_ix2 i]
  exact ref_u (ref_row A.x A.g A.w) (i 0) (i 1)

omit A

/-- The projection's four results are the reference's. -/
theorem algebraic : Cert.algebraic_Kernel6Ideal_Reference6Ideal (hKernel6Ideal := Cert.Kernel6Ideal.Gen.facts)
    (hReference6Ideal := Cert.Reference6Ideal.Gen.facts) := by
  intro m g m' g' _ hag
  refine ⟨fun c => (Gen.dats m 0 c).arrAt 5 cfg0.N, fun c => (Gen.dats m 0 c).arrAt 6 cfg0.N, fun c => (Gen.dats m 0 c).arrAt 7 cfg0.N,
    fun c => (Gen.dats m 0 c).arrAt 8 cfg0.N, Cert.Kernel6Ideal.Value.run_blocks m g, ?_⟩
  refine (θ_run Cert.Reference6Ideal.defs _ _).mono (fun r h c => ?_) (Cert.Reference6Ideal.Value.run m' g')
  obtain ⟨X, C, S, G, W, A⟩ := args m c
  obtain ⟨a0, a1, a2, a3, a4⟩ := hag c
  obtain ⟨r0, r1, r2, r3, rest⟩ := h c
  refine ⟨r0.trans ?_, r1.trans ?_, r2.trans ?_, r3.trans ?_, rest⟩
  · rw [Cert.Reference6Ideal.Read.val_main_v53_eq, a0, a1, a2, a3, a4]
    exact same_q A
  · rw [Cert.Reference6Ideal.Read.val_main_v58_eq, a0, a1, a2, a3, a4]
    exact same_k A
  · rw [Cert.Reference6Ideal.Read.val_main_v63_eq, a0, a3, a4]
    exact same_v A
  · rw [Cert.Reference6Ideal.Read.val_main_v64_eq, a0, a3, a4]
    exact same_u A

/-- The reference's frame: it has no semaphores. -/
theorem frame_reference : Cert.quiescent_Reference6Ideal (hReference6Ideal := Cert.Reference6Ideal.Gen.facts) := fun m ρ _ =>
  (θ_run Cert.Reference6Ideal.defs _ _).mono (fun r h => ⟨fun c => (h c).2.2.2.2, sem_eq_zero_of_no_sems rfl r.2⟩)
    (Cert.Reference6Ideal.Value.run m ρ)

end Cert.Proof.InFwd

end
-- ==== Proof.FwRef.lean ====
/- The reference of the feed-forward block's forward pass at an index. -/
module

public import proofs.«01_k».proof.Proof.Gen.Reference7Ideal.Read
public import proofs.«01_k».proof.Proof.FwMath
public import Idealize.ShloMosaic.Lib.Pointwise
public import Idealize.ShloMosaic.Lib.ValueIdxCoords

@[expose] public section

set_option maxRecDepth 16384
set_option maxHeartbeats 1600000

noncomputable section

namespace Cert.Proof.FfnFwd

open Cert.Reference7Ideal Cert.Reference7Ideal.Gen Cert.Reference7Ideal.Read Idealize.ShloMosaic Idealize.ShloMosaic.TcCoe Idealize.SL.Sem Idealize.ShloMosaic.StableHlo
open Cert.Proof.Fwd (hat lin gated)

variable {x0 : FVec Ideal S8192x1024 .f32} {x1 : FVec Ideal S1024 .f32} {x2 x3 : FVec Ideal S1024x2816 .f32} {x4 : FVec Ideal S2816x1024 .f32}
  {X : ℕ → ℕ → EReal} {G : ℕ → EReal} {Wg Wu Wd : ℕ → ℕ → EReal}

variable (h0 : ∀ t j, x0 (ix2 t j) = X t.val j.val) (h1 : ∀ j, x1 (ix1 j) = G j.val)
include h0 h1

theorem ref_norm (t : Fin 8192) (j : Fin 1024) : val_main_v12 (F := Ideal) x0 x1 (ix2 t j) = hat (X t.val) j.val * G j.val := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  simp only [h0, h1]
  rfl

theorem ref_gate (h2 : ∀ j k, x2 (ix2 j k) = Wg j.val k.val) (t : Fin 8192) (k : Fin 2816) :
    val_main_v13 (F := Ideal) x0 x1 x2 (ix2 t k) = lin (X t.val) G Wg k.val := by
  have e := ref_norm h0 h1
  pointwise [val_main_v13]
  simp only [e, h2]
  rfl

theorem ref_up (h3 : ∀ j k, x3 (ix2 j k) = Wu j.val k.val) (t : Fin 8192) (k : Fin 2816) :
    val_main_v14 (F := Ideal) x0 x1 x3 (ix2 t k) = lin (X t.val) G Wu k.val := by
  have e := ref_norm h0 h1
  pointwise [val_main_v14]
  simp only [e, h3]
  rfl

theorem ref_out (h2 : ∀ j k, x2 (ix2 j k) = Wg j.val k.val) (h3 : ∀ j k, x3 (ix2 j k) = Wu j.val k.val)
    (h4 : ∀ k j, x4 (ix2 k j) = Wd k.val j.val) (t : Fin 8192) (j : Fin 1024) :
    val_main_v20 (F := Ideal) x0 x1 x2 x3 x4 (ix2 t j) = Fwd.after (X t.val) G Wg Wu Wd j.val := by
  have g := ref_gate h0 h1 h2
  have u := ref_up h0 h1 h3
  pointwise [val_main_call0_v0, val_main_call0_v1, val_main_call0_cst, val_main_call0_v2, val_main_call0_v3, val_main_call0_cst_0, val_main_call0_v4, val_main_call0_v5, val_main_v15, val_main_v16, val_main_v17, val_main_cst_2, val_main_v18, val_main_v19, val_main_v20]
  simp only [h0, g, u, h4]
  rfl

end Cert.Proof.FfnFwd

end
-- ==== Proof.FwRead.lean ====
/- What one point of the feed-forward block's forward pass reads: a block of rows, the gain and the three matrices. -/
module

public import proofs.«01_k».proof.Proof.Gen.Kernel7Ideal.Frame
public import proofs.«01_k».proof.Proof.FwMath
public import Idealize.ShloMosaic.Lib.Pipeline.ValueKit
public import Idealize.ShloMosaic.Lib.Pipeline.ReadBack
public import Idealize.ShloMosaic.Lib.Pointwise
public import Idealize.ShloMosaic.Lib.ValueIdxCoords

@[expose] public section

set_option maxRecDepth 16384

noncomputable section

namespace Cert.Proof.FfnFwd

open Cert.Kernel7Ideal Cert.Kernel7Ideal.Gen Idealize.ShloMosaic Idealize.ShloMosaic.TcCoe Idealize.SL.Sem Idealize.ShloMosaic.StableHlo
open Cert.Proof.Fwd

/-- Where each window of a point lies. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

theorem row_lt (t : Fin cfg0.N) (i : Fin 512) : 512 * t.val + i.val < 8192 := by
  have : cfg0.N = 16 := N_0
  omega

variable (m : (ℓ : Loc nD τ sig) → Buf (Elt Ideal) ℓ) (c : Dev nD)

/-- The arguments as functions of their coordinates. -/
structure Args (X : ℕ → ℕ → EReal) (G : ℕ → EReal) (Wg Wu Wd : ℕ → ℕ → EReal) : Prop where
  x : ∀ (t : Fin 8192) (j : Fin 1024), (show FVec Ideal S8192x1024 .f32 from m ((c : Thread nD τ).loc main_arg0)) (ix2 t j) = X t.val j.val
  g : ∀ j : Fin 1024, (show FVec Ideal S1024 .f32 from m ((c : Thread nD τ).loc main_arg1)) (ix1 j) = G j.val
  wg : ∀ (j : Fin 1024) (k : Fin 2816), (show FVec Ideal S1024x2816 .f32 from m ((c : Thread nD τ).loc main_arg2)) (ix2 j k) = Wg j.val k.val
  wu : ∀ (j : Fin 1024) (k : Fin 2816), (show FVec Ideal S1024x2816 .f32 from m ((c : Thread nD τ).loc main_arg3)) (ix2 j k) = Wu j.val k.val
  wd : ∀ (k : Fin 2816) (j : Fin 1024), (show FVec Ideal S2816x1024 .f32 from m ((c : Thread nD τ).loc main_arg4)) (ix2 k j) = Wd k.val j.val

/-- Every memory's arguments are such functions. -/
theorem args : ∃ (X : ℕ → ℕ → EReal) (G : ℕ → EReal) (Wg Wu Wd : ℕ → ℕ → EReal), Args m c X G Wg Wu Wd := by
  obtain ⟨X, hX⟩ := of_rows fun i j => (show FVec Ideal S8192x1024 .f32 from m ((c : Thread nD τ).loc main_arg0)) (ix2 i j)
  obtain ⟨G, hG⟩ := of_row fun i => (show FVec Ideal S1024 .f32 from m ((c : Thread nD τ).loc main_arg1)) (ix1 i)
  obtain ⟨Wg, hg⟩ := of_rows fun i j => (show FVec Ideal S1024x2816 .f32 from m ((c : Thread nD τ).loc main_arg2)) (ix2 i j)
  obtain ⟨Wu, hu⟩ := of_rows fun i j => (show FVec Ideal S1024x2816 .f32 from m ((c : Thread nD τ).loc main_arg3)) (ix2 i j)
  obtain ⟨Wd, hd⟩ := of_rows fun i j => (show FVec Ideal S2816x1024 .f32 from m ((c : Thread nD τ).loc main_arg4)) (ix2 i j)
  exact ⟨X, G, Wg, Wu, Wd, hX, hG, hg, hu, hd⟩

variable {m c} {X : ℕ → ℕ → EReal} {G : ℕ → EReal} {Wg Wu Wd : ℕ → ℕ → EReal} (A : Args m c X G Wg Wu Wd) (t : Fin cfg0.N)

include A

theorem lane_g (u : Fin 1) (j : Fin 1024) : (show FVec Ideal S1x1024 .f32 from V m c main_v4) (ix2 u j) = G j.val := by
  show (StableHlo.after hostOps0 (fun b => m (c, b)) (Proc.devRef .tc main_v4) : FVec Ideal S1x1024 .f32) (ix2 u j) = _
  after_results
  pointwise
  exact A.g j

theorem lane_wg (k : Fin 2816) (j : Fin 1024) : (show FVec Ideal S2816x1024 .bf16 from V m c main_v1) (ix2 k j) = Wg j.val k.val := by
  show (StableHlo.after hostOps0 (fun b => m (c, b)) (Proc.devRef .tc main_v1) : FVec Ideal S2816x1024 .bf16) (ix2 k j) = _
  after_results
  pointwise
  exact A.wg j k

theorem lane_wu (k : Fin 2816) (j : Fin 1024) : (show FVec Ideal S2816x1024 .bf16 from V m c main_v3) (ix2 k j) = Wu j.val k.val := by
  show (StableHlo.after hostOps0 (fun b => m (c, b)) (Proc.devRef .tc main_v3) : FVec Ideal S2816x1024 .bf16) (ix2 k j) = _
  after_results
  pointwise
  exact A.wu j k

theorem lane_wd (k : Fin 2816) (j : Fin 1024) : (show FVec Ideal S2816x1024 .bf16 from V m c main_v5) (ix2 k j) = Wd k.val j.val := by
  show (StableHlo.after hostOps0 (fun b => m (c, b)) (Proc.devRef .tc main_v5) : FVec Ideal S2816x1024 .bf16) (ix2 k j) = _
  after_results
  pointwise
  exact A.wd k j

theorem read_x (i : Fin 512) (j : Fin 1024) :
    (show FVec Ideal S512x1024 .f32 from iblk m c 0 t) (ix2 i j) = X (512 * t.val + i.val) j.val := by
  rw [← A.x ⟨512 * t.val + i.val, row_lt t i⟩ j]
  blk_point [iblk, V, idx t]

theorem read_g (i : Fin 1) (j : Fin 1024) : (show FVec Ideal S1x1024 .f32 from iblk m c 1 t) (ix2 i j) = G j.val := by
  rw [← lane_g A i j]
  blk_point [iblk, idx t]

theorem read_wg (k : Fin 2816) (j : Fin 1024) : (show FVec Ideal S2816x1024 .bf16 from iblk m c 2 t) (ix2 k j) = Wg j.val k.val := by
  rw [← lane_wg A k j]
  blk_point [iblk, idx t]

theorem read_wu (k : Fin 2816) (j : Fin 1024) : (show FVec Ideal S2816x1024 .bf16 from iblk m c 3 t) (ix2 k j) = Wu j.val k.val := by
  rw [← lane_wu A k j]
  blk_point [iblk, idx t]

theorem read_wd (k : Fin 2816) (j : Fin 1024) : (show FVec Ideal S2816x1024 .bf16 from iblk m c 4 t) (ix2 k j) = Wd k.val j.val := by
  rw [← lane_wd A k j]
  blk_point [iblk, idx t]

end Cert.Proof.FfnFwd

end
-- ==== Proof.FwPoint.lean ====
/- One point of the feed-forward block's forward pass, which works through its 2816 middle columns in eleven pieces of 256,
   and the three arrays the kernel leaves. -/
module

public import proofs.«01_k».proof.Proof.FwRead

@[expose] public section

set_option maxRecDepth 16384

noncomputable section

namespace Cert.Proof.FfnFwd

open Cert.Kernel7Ideal Cert.Kernel7Ideal.Gen Idealize.ShloMosaic Idealize.ShloMosaic.TcCoe Idealize.SL.Sem Idealize.ShloMosaic.StableHlo
open Cert.Proof.Fwd

variable {m : (ℓ : Loc nD τ sig) → Buf (Elt Ideal) ℓ} {c : Dev nD} {X : ℕ → ℕ → EReal} {G : ℕ → EReal} {Wg Wu Wd : ℕ → ℕ → EReal}
  (A : Args m c X G Wg Wu Wd) (t : Fin cfg0.N)

include A

/-- The normalised rows. -/
theorem h_block (i : Fin 512) (j : Fin 1024) :
    k0_pay2 (F := Ideal) (iblk m c 0 t) (iblk m c 1 t) (ix2 i j) = hat (X (512 * t.val + i.val)) j.val * G j.val := by
  have hx := read_x A t
  have hg := read_g A t
  generalize iblk m c 0 t = x at hx ⊢
  generalize iblk m c 1 t = g at hg ⊢
  pointwise [k0_pay2]
  simp only [hx, hg]
  rfl

omit A in
/-- Pieces of one array `f` that cover it leave `f`. -/
theorem blocks (f : FVec Ideal S512x2816 .bf16) {L : List (View.Piece (Elt Ideal) S512x2816 .bf16)} (h : View.PiecesOf f L)
    (hc : ∀ y, ∃ p ∈ L, y ∈ p.1.set) (y : S512x2816.Idx) : View.canon L y = f y := by
  simpa using View.canon_append_of_piecesOf f [] L h y (hc y)

set_option maxHeartbeats 1600000

theorem out_gate (y : S512x2816.Idx) : (show FVec Ideal S512x2816 .bf16 from (outsAt0 m c t).2.1) y
    = lin (X (512 * t.val + (y 0).val)) G Wg (y 1).val := by
  have hh := h_block A t
  have hw := read_wg A t
  unfold outsAt0 out0_A_6
  frame_out
  generalize iblk m c 0 t = x at hh ⊢
  generalize iblk m c 1 t = g at hh ⊢
  generalize iblk m c 2 t = w at hw ⊢
  refine blocks (fun i => lin (X (512 * t.val + (i 0).val)) G Wg (i 1).val) ?_ (View.cover_of_tiledBy _ ![512, 256] (by sl_kernel_rfl)) y
  refine ⟨?_, ?_, ?_, ?_, ?_, ?_, ?_, ?_, ?_, ?_, ?_, trivial⟩
  all_goals
    intro s
    obtain ⟨a, b, rfl⟩ : ∃ (a : Fin 512) (b : Fin 256), s = ValueIdx.ix2 a b := ⟨s 0, s 1, ValueIdx.eq_ix2 s⟩
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    blk_simp
    simp only [ValueIdx.ix2_0, ValueIdx.ix2_1]
    simp only [hh, hw]
    rfl

theorem out_up (y : S512x2816.Idx) : (show FVec Ideal S512x2816 .bf16 from (outsAt0 m c t).2.2) y
    = lin (X (512 * t.val + (y 0).val)) G Wu (y 1).val := by
  have hh := h_block A t
  have hw := read_wu A t
  unfold outsAt0 out0_A_7
  frame_out
  generalize iblk m c 0 t = x at hh ⊢
  generalize iblk m c 1 t = g at hh ⊢
  generalize iblk m c 3 t = w at hw ⊢
  refine blocks (fun i => lin (X (512 * t.val + (i 0).val)) G Wu (i 1).val) ?_ (View.cover_of_tiledBy _ ![512, 256] (by sl_kernel_rfl)) y
  refine ⟨?_, ?_, ?_, ?_, ?_, ?_, ?_, ?_, ?_, ?_, ?_, trivial⟩
  all_goals
    intro s
    obtain ⟨a, b, rfl⟩ : ∃ (a : Fin 512) (b : Fin 256), s = ValueIdx.ix2 a b := ⟨s 0, s 1, ValueIdx.eq_ix2 s⟩
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    blk_simp
    simp only [ValueIdx.ix2_0, ValueIdx.ix2_1]
    simp only [hh, hw]
    rfl

theorem out_y (i : Fin 512) (j : Fin 1024) : (show FVec Ideal S512x1024 .f32 from (outsAt0 m c t).1) (ix2 i j)
    = after (X (512 * t.val + i.val)) G Wg Wu Wd j.val := by
  have hh := h_block A t
  have hg := read_wg A t
  have hu := read_wu A t
  have hd := read_wd A t
  have hx := read_x A t
  unfold outsAt0 out0_A_5
  frame_out
  generalize iblk m c 0 t = x at hx hh ⊢
  generalize iblk m c 1 t = g at hh ⊢
  generalize iblk m c 2 t = wg at hg ⊢
  generalize iblk m c 3 t = wu at hu ⊢
  generalize iblk m c 4 t = wd at hd ⊢
  pointwise [k0_pay1]
  simp only [hx, hd, View.readCov_eq_canon']
  refine congrArg (fun z : EReal => _ + _ * z) (Finset.sum_congr rfl fun k _ => congrArg (fun z : EReal => z * _) ?_)
  refine (blocks (fun q => gated (lin (X (512 * t.val + (q 0).val)) G Wg (q 1).val) (lin (X (512 * t.val + (q 0).val)) G Wu (q 1).val)) ?_
    (View.cover_of_tiledBy _ ![512, 256] (by sl_kernel_rfl)) _).trans ?_
  · refine ⟨?_, ?_, ?_, ?_, ?_, ?_, ?_, ?_, ?_, ?_, ?_, trivial⟩
    all_goals
      intro s
      obtain ⟨a, b, rfl⟩ : ∃ (a : Fin 512) (b : Fin 256), s = ValueIdx.ix2 a b := ⟨s 0, s 1, ValueIdx.eq_ix2 s⟩
      pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      blk_simp
      simp only [ValueIdx.ix2_0, ValueIdx.ix2_1]
      simp only [hh, hg, hu, zero_sub]
      rfl
  · simp

omit t

/-- The arrays the kernel leaves: the rows after the block, -/
theorem arr_y : (dats m 0 c).arrAt 5 cfg0.N = (show FVec Ideal S8192x1024 .f32 from fun q => after (X (q 0).val) G Wg Wu Wd (q 1).val) := by
  refine (dats m 0 c).arrAt_eq_of_covers 5 _ (by decide +kernel) fun t _ y => ?_
  blk_simp
  rw [after0_5]
  refine ((congrArg (show FVec Ideal S512x1024 .f32 from (outsAt0 m c t).1) (ValueIdx.eq_ix2 y)).trans (out_y A t (y 0) (y 1))).trans ?_
  have h0 : win0_5.index t 0 * 512 + (y 0).val = 512 * t.val + (y 0).val := by simp [idx t, Nat.mul_comm]
  have h1 : win0_5.index t 1 * 1024 + (y 1).val = (y 1).val := by simp [idx t]
  rw [h0, h1]

/-- the gate, -/
theorem arr_gate : (dats m 0 c).arrAt 6 cfg0.N = (show FVec Ideal S8192x2816 .bf16 from fun q => lin (X (q 0).val) G Wg (q 1).val) := by
  refine (dats m 0 c).arrAt_eq_of_covers 6 _ (by decide +kernel) fun t _ y => ?_
  blk_simp
  rw [after0_6]
  refine (out_gate A t y).trans ?_
  have h0 : win0_6.index t 0 * 512 + (y 0).val = 512 * t.val + (y 0).val := by simp [idx t, Nat.mul_comm]
  have h1 : win0_6.index t 1 * 2816 + (y 1).val = (y 1).val := by simp [idx t]
  rw [h0, h1]

/-- and the linear branch. -/
theorem arr_up : (dats m 0 c).arrAt 7 cfg0.N = (show FVec Ideal S8192x2816 .bf16 from fun q => lin (X (q 0).val) G Wu (q 1).val) := by
  refine (dats m 0 c).arrAt_eq_of_covers 7 _ (by decide +kernel) fun t _ y => ?_
  blk_simp
  rw [after0_7]
  refine (out_up A t y).trans ?_
  have h0 : win0_7.index t 0 * 512 + (y 0).val = 512 * t.val + (y 0).val := by simp [idx t, Nat.mul_comm]
  have h1 : win0_7.index t 1 * 2816 + (y 1).val = (y 1).val := by simp [idx t]
  rw [h0, h1]

end Cert.Proof.FfnFwd

end
-- ==== Proof.FwClaim.lean ====
/- The feed-forward block's forward pass: both programs end with the same three arrays. -/
module

public import proofs.«01_k».proof.Defs
public import Idealize.ShloMosaic.Lib.Quiescent
public import proofs.«01_k».proof.Proof.Gen.Reference7Ideal
public import proofs.«01_k».proof.Proof.Gen.Reference7Ideal.Run
public import proofs.«01_k».proof.Proof.Gen.Kernel7Ideal.Value
public import proofs.«01_k».proof.Proof.FwRef
public import proofs.«01_k».proof.Proof.FwPoint

@[expose] public section

set_option maxRecDepth 16384
set_option maxHeartbeats 1600000

noncomputable section

namespace Cert.Proof.FfnFwd

open Idealize.ShloMosaic Idealize.ShloMosaic.TcCoe Idealize.SL.Sem Cert.Kernel7Ideal

variable {m : (ℓ : Loc nD τ sig) → Buf (Elt Ideal) ℓ} {c : Dev nD} {X : ℕ → ℕ → EReal} {G : ℕ → EReal} {Wg Wu Wd : ℕ → ℕ → EReal}
  (A : Args m c X G Wg Wu Wd)

include A

/-- The reference's results of the kernel's arguments are the kernel's. -/
theorem same_y : (show FVec Ideal S8192x1024 .f32 from Cert.Reference7Ideal.Read.val_main_v20 (F := Ideal) (m (c.tc.loc main_arg0))
    (m (c.tc.loc main_arg1)) (m (c.tc.loc main_arg2)) (m (c.tc.loc main_arg3)) (m (c.tc.loc main_arg4))) = (Gen.dats m 0 c).arrAt 5 cfg0.N := by
  rw [arr_y A]
  funext i
  rw [ValueIdx.eq_ix2 i]
  exact ref_out A.x A.g A.wg A.wu A.wd (i 0) (i 1)

theorem same_gate : (show FVec Ideal S8192x2816 .bf16 from Cert.Reference7Ideal.Read.val_main_v21 (F := Ideal) (m (c.tc.loc main_arg0))
    (m (c.tc.loc main_arg1)) (m (c.tc.loc main_arg2))) = (Gen.dats m 0 c).arrAt 6 cfg0.N := by
  rw [arr_gate A]
  funext i
  rw [ValueIdx.eq_ix2 i]
  exact ref_gate A.x A.g A.wg (i 0) (i 1)

theorem same_up : (show FVec Ideal S8192x2816 .bf16 from Cert.Reference7Ideal.Read.val_main_v22 (F := Ideal) (m (c.tc.loc main_arg0))
    (m (c.tc.loc main_arg1)) (m (c.tc.loc main_arg3))) = (Gen.dats m 0 c).arrAt 7 cfg0.N := by
  rw [arr_up A]
  funext i
  rw [ValueIdx.eq_ix2 i]
  exact ref_up A.x A.g A.wu (i 0) (i 1)

omit A

/-- The block's three results are the reference's. -/
theorem algebraic : Cert.algebraic_Kernel7Ideal_Reference7Ideal (hKernel7Ideal := Cert.Kernel7Ideal.Gen.facts)
    (hReference7Ideal := Cert.Reference7Ideal.Gen.facts) := by
  intro m g m' g' _ hag
  refine ⟨fun c => (Gen.dats m 0 c).arrAt 5 cfg0.N, fun c => (Gen.dats m 0 c).arrAt 6 cfg0.N, fun c => (Gen.dats m 0 c).arrAt 7 cfg0.N,
    Cert.Kernel7Ideal.Value.run_blocks m g, ?_⟩
  refine (θ_run Cert.Reference7Ideal.defs _ _).mono (fun r h c => ?_) (Cert.Reference7Ideal.Value.run m' g')
  obtain ⟨X, G, Wg, Wu, Wd, A⟩ := args m c
  obtain ⟨a0, a1, a2, a3, a4⟩ := hag c
  obtain ⟨r0, r1, r2, rest⟩ := h c
  refine ⟨r0.trans ?_, r1.trans ?_, r2.trans ?_, rest⟩
  · rw [Cert.Reference7Ideal.Read.val_main_v20_eq, a0, a1, a2, a3, a4]
    exact same_y A
  · rw [Cert.Reference7Ideal.Read.val_main_v21_eq, a0, a1, a2]
    exact same_gate A
  · rw [Cert.Reference7Ideal.Read.val_main_v22_eq, a0, a1, a3]
    exact same_up A

/-- The reference's frame: it has no semaphores. -/
theorem frame_reference : Cert.quiescent_Reference7Ideal (hReference7Ideal := Cert.Reference7Ideal.Gen.facts) := fun m ρ _ =>
  (θ_run Cert.Reference7Ideal.defs _ _).mono (fun r h => ⟨fun c => (h c).2.2.2, sem_eq_zero_of_no_sems rfl r.2⟩)
    (Cert.Reference7Ideal.Value.run m ρ)

end Cert.Proof.FfnFwd

end
-- ==== Proof.MxRef.lean ====
/- The reference of the feed-forward block's forward pass with the mixers' output projection, at an index. -/
module

public import proofs.«01_k».proof.Proof.Gen.Reference8Ideal.Read
public import proofs.«01_k».proof.Proof.FwMath
public import Idealize.ShloMosaic.Lib.Pointwise
public import Idealize.ShloMosaic.Lib.ValueIdxCoords

@[expose] public section

set_option maxRecDepth 16384
set_option maxHeartbeats 1600000

noncomputable section

namespace Cert.Proof.MixFwd

open Cert.Reference8Ideal Cert.Reference8Ideal.Gen Cert.Reference8Ideal.Read Idealize.ShloMosaic Idealize.ShloMosaic.TcCoe Idealize.SL.Sem Idealize.ShloMosaic.StableHlo
open Cert.Proof.Fwd (hat lin gated mixed)

variable {x0 : FVec Ideal S8192x1024 .f32} {x1 x2 : FVec Ideal S8192x512 .f32} {x3 : FVec Ideal S1024x1024 .f32} {x4 : FVec Ideal S1024 .f32}
  {x5 x6 : FVec Ideal S1024x2816 .f32} {x7 : FVec Ideal S2816x1024 .f32} {X P Q W M : ℕ → ℕ → EReal} {G : ℕ → EReal} {Wg Wu Wd : ℕ → ℕ → EReal}

/-- The two mixers' rows side by side: their product with the matrix is the sum of the products with its halves. -/
def side (p q : ℕ → EReal) (k : ℕ) : EReal := if k < 512 then p k else q (k - 512)

theorem sum_side (p q : ℕ → EReal) (W : ℕ → ℕ → EReal) (j : ℕ) : ∑ k : Fin 1024, side p q k * W k j
    = ∑ k : Fin 512, p k * W k j + ∑ k : Fin 512, q k * W (512 + k) j := by
  refine (Fin.sum_univ_add (a := 512) (b := 512) fun k => side p q k.val * W k.val j).trans ?_
  refine congrArg₂ (fun u v => u + v) (Finset.sum_congr rfl fun k _ => ?_) (Finset.sum_congr rfl fun k _ => ?_)
  · rw [Fin.val_castAdd, side, if_pos k.isLt]
  · rw [Fin.val_natAdd, side, if_neg (by omega), Nat.add_sub_cancel_left]

theorem ref_side (h1 : ∀ t k, x1 (ix2 t k) = P t.val k.val) (h2 : ∀ t k, x2 (ix2 t k) = Q t.val k.val)
    (t : Fin 8192) (k : Fin 1024) : val_main_v0 (F := Ideal) x1 x2 (ix2 t k) = side (P t.val) (Q t.val) k.val := by
  pointwise [val_main_v0]
  unfold side
  split_ifs <;> simp_all

theorem ref_mix (h0 : ∀ t j, x0 (ix2 t j) = X t.val j.val) (h1 : ∀ t k, x1 (ix2 t k) = P t.val k.val)
    (h2 : ∀ t k, x2 (ix2 t k) = Q t.val k.val) (h3 : ∀ k j, x3 (ix2 k j) = W k.val j.val)
    (t : Fin 8192) (j : Fin 1024) : val_main_v2 (F := Ideal) x0 x1 x2 x3 (ix2 t j) = mixed (X t.val) (P t.val) (Q t.val) W j.val := by
  have e := ref_side h1 h2
  pointwise [val_main_v1, val_main_v2]
  simp only [e, h0, h3, sum_side, ← add_assoc]
  rfl

section Block

variable (hm : ∀ t j, val_main_v2 (F := Ideal) x0 x1 x2 x3 (ix2 t j) = M t.val j.val) (h4 : ∀ j, x4 (ix1 j) = G j.val)
include hm h4

theorem ref_norm (t : Fin 8192) (j : Fin 1024) : val_main_v15 (F := Ideal) x0 x1 x2 x3 x4 (ix2 t j) = hat (M t.val) j.val * G j.val := by
  pointwise [val_main_v3, val_main_v4, val_main_v5, val_main_v6, val_main_v7, val_main_v8, val_main_v9, val_main_v10, val_main_v11, val_main_v12, val_main_v13, val_main_v14, val_main_v15, val_main_cst, val_main_cst_0, val_main_cst_1]
  simp only [hm, h4]
  rfl

theorem ref_gate (h5 : ∀ j k, x5 (ix2 j k) = Wg j.val k.val) (t : Fin 8192) (k : Fin 2816) :
    val_main_v16 (F := Ideal) x0 x1 x2 x3 x4 x5 (ix2 t k) = lin (M t.val) G Wg k.val := by
  have e := ref_norm hm h4
  pointwise [val_main_v16]
  simp only [e, h5]
  rfl

theorem ref_up (h6 : ∀ j k, x6 (ix2 j k) = Wu j.val k.val) (t : Fin 8192) (k : Fin 2816) :
    val_main_v17 (F := Ideal) x0 x1 x2 x3 x4 x6 (ix2 t k) = lin (M t.val) G Wu k.val := by
  have e := ref_norm hm h4
  pointwise [val_main_v17]
  simp only [e, h6]
  rfl

theorem ref_out (h5 : ∀ j k, x5 (ix2 j k) = Wg j.val k.val) (h6 : ∀ j k, x6 (ix2 j k) = Wu j.val k.val)
    (h7 : ∀ k j, x7 (ix2 k j) = Wd k.val j.val) (t : Fin 8192) (j : Fin 1024) :
    val_main_v23 (F := Ideal) x0 x1 x2 x3 x4 x5 x6 x7 (ix2 t j) = Fwd.after (M t.val) G Wg Wu Wd j.val := by
  have g := ref_gate hm h4 h5
  have u := ref_up hm h4 h6
  pointwise [val_main_call0_v0, val_main_call0_v1, val_main_call0_cst, val_main_call0_v2, val_main_call0_v3, val_main_call0_cst_0, val_main_call0_v4, val_main_call0_v5, val_main_v18, val_main_v19, val_main_v20, val_main_cst_2, val_main_v21, val_main_v22, val_main_v23]
  simp only [hm, g, u, h7]
  rfl

end Block

end Cert.Proof.MixFwd

end
-- ==== Proof.MxRead.lean ====
/- What one point of the feed-forward block's forward pass with the mixers' output projection reads. -/
module

public import proofs.«01_k».proof.Proof.Gen.Kernel8Ideal.Frame
public import proofs.«01_k».proof.Proof.FwMath
public import Idealize.ShloMosaic.Lib.Pipeline.ValueKit
public import Idealize.ShloMosaic.Lib.Pipeline.ReadBack
public import Idealize.ShloMosaic.Lib.Pointwise
public import Idealize.ShloMosaic.Lib.ValueIdxCoords

@[expose] public section

set_option maxRecDepth 16384

noncomputable section

namespace Cert.Proof.MixFwd

open Cert.Kernel8Ideal Cert.Kernel8Ideal.Gen Idealize.ShloMosaic Idealize.ShloMosaic.TcCoe Idealize.SL.Sem Idealize.ShloMosaic.StableHlo
open Cert.Proof.Fwd

/-- Where each window of a point lies. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![0, 0] ∧ win0_8.index t = ![t.val, 0] ∧ win0_9.index t = ![t.val, 0] ∧ win0_10.index t = ![t.val, 0]
    ∧ win0_11.index t = ![t.val, 0] :=
  (by decide +kernel : ∀ t : Fin grid0.N, _)

theorem row_lt (t : Fin cfg0.N) (i : Fin 512) : 512 * t.val + i.val < 8192 := by
  have : cfg0.N = 16 := N_0
  omega

variable (m : (ℓ : Loc nD τ sig) → Buf (Elt Ideal) ℓ) (c : Dev nD)

/-- The arguments as functions of their coordinates. -/
structure Args (X P Q W : ℕ → ℕ → EReal) (G : ℕ → EReal) (Wg Wu Wd : ℕ → ℕ → EReal) : Prop where
  x : ∀ (t : Fin 8192) (j : Fin 1024), (show FVec Ideal S8192x1024 .f32 from m ((c : Thread nD τ).loc main_arg0)) (ix2 t j) = X t.val j.val
  p : ∀ (t : Fin 8192) (k : Fin 512), (show FVec Ideal S8192x512 .f32 from m ((c : Thread nD τ).loc main_arg1)) (ix2 t k) = P t.val k.val
  q : ∀ (t : Fin 8192) (k : Fin 512), (show FVec Ideal S8192x512 .f32 from m ((c : Thread nD τ).loc main_arg2)) (ix2 t k) = Q t.val k.val
  w : ∀ (k j : Fin 1024), (show FVec Ideal S1024x1024 .f32 from m ((c : Thread nD τ).loc main_arg3)) (ix2 k j) = W k.val j.val
  g : ∀ j : Fin 1024, (show FVec Ideal S1024 .f32 from m ((c : Thread nD τ).loc main_arg4)) (ix1 j) = G j.val
  wg : ∀ (j : Fin 1024) (k : Fin 2816), (show FVec Ideal S1024x2816 .f32 from m ((c : Thread nD τ).loc main_arg5)) (ix2 j k) = Wg j.val k.val
  wu : ∀ (j : Fin 1024) (k : Fin 2816), (show FVec Ideal S1024x2816 .f32 from m ((c : Thread nD τ).loc main_arg6)) (ix2 j k) = Wu j.val k.val
  wd : ∀ (k : Fin 2816) (j : Fin 1024), (show FVec Ideal S2816x1024 .f32 from m ((c : Thread nD τ).loc main_arg7)) (ix2 k j) = Wd k.val j.val

/-- Every memory's arguments are such functions. -/
theorem args : ∃ (X P Q W : ℕ → ℕ → EReal) (G : ℕ → EReal) (Wg Wu Wd : ℕ → ℕ → EReal), Args m c X P Q W G Wg Wu Wd := by
  obtain ⟨X, hX⟩ := of_rows fun i j => (show FVec Ideal S8192x1024 .f32 from m ((c : Thread nD τ).loc main_arg0)) (ix2 i j)
  obtain ⟨P, hP⟩ := of_rows fun i j => (show FVec Ideal S8192x512 .f32 from m ((c : Thread nD τ).loc main_arg1)) (ix2 i j)
  obtain ⟨Q, hQ⟩ := of_rows fun i j => (show FVec Ideal S8192x512 .f32 from m ((c : Thread nD τ).loc main_arg2)) (ix2 i j)
  obtain ⟨W, hW⟩ := of_rows fun i j => (show FVec Ideal S1024x1024 .f32 from m ((c : Thread nD τ).loc main_arg3)) (ix2 i j)
  obtain ⟨G, hG⟩ := of_row fun i => (show FVec Ideal S1024 .f32 from m ((c : Thread nD τ).loc main_arg4)) (ix1 i)
  obtain ⟨Wg, hg⟩ := of_rows fun i j => (show FVec Ideal S1024x2816 .f32 from m ((c : Thread nD τ).loc main_arg5)) (ix2 i j)
  obtain ⟨Wu, hu⟩ := of_rows fun i j => (show FVec Ideal S1024x2816 .f32 from m ((c : Thread nD τ).loc main_arg6)) (ix2 i j)
  obtain ⟨Wd, hd⟩ := of_rows fun i j => (show FVec Ideal S2816x1024 .f32 from m ((c : Thread nD τ).loc main_arg7)) (ix2 i j)
  exact ⟨X, P, Q, W, G, Wg, Wu, Wd, hX, hP, hQ, hW, hG, hg, hu, hd⟩

variable {m c} {X P Q W : ℕ → ℕ → EReal} {G : ℕ → EReal} {Wg Wu Wd : ℕ → ℕ → EReal}
  (A : Args m c X P Q W G Wg Wu Wd) (t : Fin cfg0.N)

include A

theorem read_x (i : Fin 512) (j : Fin 1024) :
    (show FVec Ideal S512x1024 .f32 from iblk m c 0 t) (ix2 i j) = X (512 * t.val + i.val) j.val := by
  rw [← A.x ⟨512 * t.val + i.val, row_lt t i⟩ j]
  blk_point [iblk, V, idx t]

theorem lane_g (u : Fin 1) (j : Fin 1024) : (show FVec Ideal S1x1024 .f32 from V m c main_v7) (ix2 u j) = G j.val := by
  show (StableHlo.after hostOps0 (fun b => m (c, b)) (Proc.devRef .tc main_v7) : FVec Ideal S1x1024 .f32) (ix2 u j) = _
  after_results
  pointwise
  exact A.g j

theorem lane_p (r : Fin 8192) (k : Fin 512) : (show FVec Ideal S8192x512 .bf16 from V m c main_v4) (ix2 r k) = P r.val k.val := by
  show (StableHlo.after hostOps0 (fun b => m (c, b)) (Proc.devRef .tc main_v4) : FVec Ideal S8192x512 .bf16) (ix2 r k) = _
  after_results
  pointwise
  exact A.p r k

theorem lane_q (r : Fin 8192) (k : Fin 512) : (show FVec Ideal S8192x512 .bf16 from V m c main_v5) (ix2 r k) = Q r.val k.val := by
  show (StableHlo.after hostOps0 (fun b => m (c, b)) (Proc.devRef .tc main_v5) : FVec Ideal S8192x512 .bf16) (ix2 r k) = _
  after_results
  pointwise
  exact A.q r k

theorem lane_w (k j : Fin 1024) : (show FVec Ideal S1024x1024 .bf16 from V m c main_v6) (ix2 k j) = W k.val j.val := by
  show (StableHlo.after hostOps0 (fun b => m (c, b)) (Proc.devRef .tc main_v6) : FVec Ideal S1024x1024 .bf16) (ix2 k j) = _
  after_results
  pointwise
  exact A.w k j

theorem lane_wg (k : Fin 2816) (j : Fin 1024) : (show FVec Ideal S2816x1024 .bf16 from V m c main_v1) (ix2 k j) = Wg j.val k.val := by
  show (StableHlo.after hostOps0 (fun b => m (c, b)) (Proc.devRef .tc main_v1) : FVec Ideal S2816x1024 .bf16) (ix2 k j) = _
  after_results
  pointwise
  exact A.wg j k

theorem lane_wu (k : Fin 2816) (j : Fin 1024) : (show FVec Ideal S2816x1024 .bf16 from V m c main_v3) (ix2 k j) = Wu j.val k.val := by
  show (StableHlo.after hostOps0 (fun b => m (c, b)) (Proc.devRef .tc main_v3) : FVec Ideal S2816x1024 .bf16) (ix2 k j) = _
  after_results
  pointwise
  exact A.wu j k

theorem lane_wd (k : Fin 2816) (j : Fin 1024) : (show FVec Ideal S2816x1024 .bf16 from V m c main_v8) (ix2 k j) = Wd k.val j.val := by
  show (StableHlo.after hostOps0 (fun b => m (c, b)) (Proc.devRef .tc main_v8) : FVec Ideal S2816x1024 .bf16) (ix2 k j) = _
  after_results
  pointwise
  exact A.wd k j

theorem read_g (i : Fin 1) (j : Fin 1024) : (show FVec Ideal S1x1024 .f32 from iblk m c 1 t) (ix2 i j) = G j.val := by
  rw [← lane_g A i j]
  blk_point [iblk, idx t]

theorem read_p (i : Fin 512) (k : Fin 512) :
    (show FVec Ideal S512x512 .bf16 from iblk m c 5 t) (ix2 i k) = P (512 * t.val + i.val) k.val := by
  refine Eq.trans ?_ (lane_p A ⟨512 * t.val + i.val, row_lt t i⟩ k)
  blk_point [iblk, idx t]

theorem read_q (i : Fin 512) (k : Fin 512) :
    (show FVec Ideal S512x512 .bf16 from iblk m c 6 t) (ix2 i k) = Q (512 * t.val + i.val) k.val := by
  refine Eq.trans ?_ (lane_q A ⟨512 * t.val + i.val, row_lt t i⟩ k)
  blk_point [iblk, idx t]

theorem read_w (k j : Fin 1024) : (show FVec Ideal S1024x1024 .bf16 from iblk m c 7 t) (ix2 k j) = W k.val j.val := by
  rw [← lane_w A k j]
  blk_point [iblk, idx t]

theorem read_wg (k : Fin 2816) (j : Fin 1024) :
    (show FVec Ideal S2816x1024 .bf16 from iblk m c 2 t) (ix2 k j) = Wg j.val k.val := by
  rw [← lane_wg A k j]
  blk_point [iblk, idx t]

theorem read_wu (k : Fin 2816) (j : Fin 1024) :
    (show FVec Ideal S2816x1024 .bf16 from iblk m c 3 t) (ix2 k j) = Wu j.val k.val := by
  rw [← lane_wu A k j]
  blk_point [iblk, idx t]

theorem read_wd (k : Fin 2816) (j : Fin 1024) :
    (show FVec Ideal S2816x1024 .bf16 from iblk m c 4 t) (ix2 k j) = Wd k.val j.val := by
  rw [← lane_wd A k j]
  blk_point [iblk, idx t]

/-- The two halves of the output projection. -/
theorem read_top (k : Fin 512) (j : Fin 1024) : (show FVec Ideal S512x1024 .bf16 from View.ld (iblk m c 7 t)
      (Rect.unit (s := S1024x1024) ![0, 0] S512x1024.size inb_S1024x1024_S512x1024_0_0)) (ix2 k j) = W k.val j.val := by
  rw [← read_w A t ⟨k.val, by omega⟩ j]
  generalize iblk m c 7 t = w
  pointwise

theorem read_bottom (k : Fin 512) (j : Fin 1024) : (show FVec Ideal S512x1024 .bf16 from View.ld (iblk m c 7 t)
      (Rect.unit (s := S1024x1024) ![512, 0] S512x1024.size inb_S1024x1024_S512x1024_512_0)) (ix2 k j) = W (512 + k.val) j.val := by
  rw [← read_w A t ⟨512 + k.val, by omega⟩ j]
  generalize iblk m c 7 t = w
  pointwise

end Cert.Proof.MixFwd
-- ==== Proof.MxPoint.lean ====
/- One point of the feed-forward block's forward pass with the mixers' output projection, and the four arrays the kernel leaves. -/
module

public import proofs.«01_k».proof.Proof.MxRead

@[expose] public section

set_option maxRecDepth 16384

noncomputable section

namespace Cert.Proof.MixFwd

open Cert.Kernel8Ideal Cert.Kernel8Ideal.Gen Idealize.ShloMosaic Idealize.ShloMosaic.TcCoe Idealize.SL.Sem Idealize.ShloMosaic.StableHlo
open Cert.Proof.Fwd

/-- Row `r` after the mixers, for the arguments as functions of the row. -/
def mixAt (X P Q W : ℕ → ℕ → EReal) (r : ℕ) : ℕ → EReal := mixed (X r) (P r) (Q r) W

variable {m : (ℓ : Loc nD τ sig) → Buf (Elt Ideal) ℓ} {c : Dev nD} {X P Q W : ℕ → ℕ → EReal} {G : ℕ → EReal}
  {Wg Wu Wd : ℕ → ℕ → EReal} (A : Args m c X P Q W G Wg Wu Wd) (t : Fin cfg0.N)

/-- The halves of the output projection as the body reads them, the mixed rows and the normalised ones. -/
abbrev top (m : (ℓ : Loc nD τ sig) → Buf (Elt Ideal) ℓ) (c : Dev nD) (t : Fin cfg0.N) : FVec Ideal S512x1024 .bf16 :=
  View.ld (iblk m c 7 t) (Rect.unit (s := S1024x1024) ![0, 0] ![512, 1024] inb_S1024x1024_S512x1024_0_0)
abbrev bottom (m : (ℓ : Loc nD τ sig) → Buf (Elt Ideal) ℓ) (c : Dev nD) (t : Fin cfg0.N) : FVec Ideal S512x1024 .bf16 :=
  View.ld (iblk m c 7 t) (Rect.unit (s := S1024x1024) ![512, 0] ![512, 1024] inb_S1024x1024_S512x1024_512_0)

include A

theorem mix_block (i : Fin 512) (j : Fin 1024) :
    k0_pay3 (F := Ideal) (iblk m c 0 t) (iblk m c 5 t) (top m c t) (iblk m c 6 t) (bottom m c t) (ix2 i j)
      = mixAt X P Q W (512 * t.val + i.val) j.val := by
  have hx := read_x A t
  have hp := read_p A t
  have hq := read_q A t
  have ht : ∀ (k : Fin 512) (j : Fin 1024), top m c t (ix2 k j) = W k.val j.val := read_top A t
  have hb : ∀ (k : Fin 512) (j : Fin 1024), bottom m c t (ix2 k j) = W (512 + k.val) j.val := read_bottom A t
  generalize top m c t = a at ht ⊢
  generalize bottom m c t = b at hb ⊢
  generalize iblk m c 0 t = x at hx ⊢
  generalize iblk m c 5 t = p at hp ⊢
  generalize iblk m c 6 t = q at hq ⊢
  pointwise [k0_pay3]
  simp only [hx, hp, hq, ht, hb]
  rfl

theorem h_block (i : Fin 512) (j : Fin 1024) :
    k0_pay4 (F := Ideal) (iblk m c 0 t) (iblk m c 5 t) (top m c t) (iblk m c 6 t) (bottom m c t) (iblk m c 1 t) (ix2 i j)
      = hat (mixAt X P Q W (512 * t.val + i.val)) j.val * G j.val := by
  have hm := mix_block A t
  have hg := read_g A t
  generalize top m c t = a at hm ⊢
  generalize bottom m c t = b at hm ⊢
  generalize iblk m c 0 t = x at hm ⊢
  generalize iblk m c 5 t = p at hm ⊢
  generalize iblk m c 6 t = q at hm ⊢
  generalize iblk m c 1 t = g at hg ⊢
  pointwise [k0_pay4]
  simp only [hm, hg]
  rfl

omit A in
/-- Pieces of one array `f` that cover it leave `f`. -/
theorem blocks (f : FVec Ideal S512x2816 .bf16) {L : List (View.Piece (Elt Ideal) S512x2816 .bf16)} (h : View.PiecesOf f L)
    (hc : ∀ y, ∃ p ∈ L, y ∈ p.1.set) (y : S512x2816.Idx) : View.canon L y = f y := by
  simpa using View.canon_append_of_piecesOf f [] L h y (hc y)

set_option maxHeartbeats 1600000

theorem out_gate (y : S512x2816.Idx) : (show FVec Ideal S512x2816 .bf16 from (outsAt0 m c t).2.1) y
    = lin (mixAt X P Q W (512 * t.val + (y 0).val)) G Wg (y 1).val := by
  have hh := h_block A t
  have hw := read_wg A t
  unfold outsAt0 out0_A_9
  frame_out
  generalize iblk m c 0 t = x at hh ⊢
  generalize iblk m c 5 t = p at hh ⊢
  generalize iblk m c 6 t = q at hh ⊢
  generalize iblk m c 1 t = g at hh ⊢
  generalize iblk m c 2 t = w at hw ⊢
  refine blocks (fun i => lin (mixAt X P Q W (512 * t.val + (i 0).val)) G Wg (i 1).val) ?_ (View.cover_of_tiledBy _ ![512, 256] (by sl_kernel_rfl)) y
  refine ⟨?_, ?_, ?_, ?_, ?_, ?_, ?_, ?_, ?_, ?_, ?_, trivial⟩
  all_goals
    intro s
    obtain ⟨a, b, rfl⟩ : ∃ (a : Fin 512) (b : Fin 256), s = ValueIdx.ix2 a b := ⟨s 0, s 1, ValueIdx.eq_ix2 s⟩
    pointwise [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    blk_simp
    simp only [ValueIdx.ix2_0, ValueIdx.ix2_1]
    simp only [hw]
    exact Finset.sum_congr rfl fun k _ => congrArg (fun z : EReal => z * _) (hh a k)

theorem out_up (y : S512x2816.Idx) : (show FVec Ideal S512x2816 .bf16 from (outsAt0 m c t).2.2.1) y
    = lin (mixAt X P Q W (512 * t.val + (y 0).val)) G Wu (y 1).val := by
  have hh := h_block A t
  have hw := read_wu A t
  unfold outsAt0 out0_A_10
  frame_out
  generalize iblk m c 0 t = x at hh ⊢
  generalize iblk m c 5 t = p at hh ⊢
  generalize iblk m c 6 t = q at hh ⊢
  generalize iblk m c 1 t = g at hh ⊢
  generalize iblk m c 3 t = w at hw ⊢
  refine blocks (fun i => lin (mixAt X P Q W (512 * t.val + (i 0).val)) G Wu (i 1).val) ?_ (View.cover_of_tiledBy _ ![512, 256] (by sl_kernel_rfl)) y
  refine ⟨?_, ?_, ?_, ?_, ?_, ?_, ?_, ?_, ?_, ?_, ?_, trivial⟩
  all_goals
    intro s
    obtain ⟨a, b, rfl⟩ : ∃ (a : Fin 512) (b : Fin 256), s = ValueIdx.ix2 a b := ⟨s 0, s 1, ValueIdx.eq_ix2 s⟩
    pointwise [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    blk_simp
    simp only [ValueIdx.ix2_0, ValueIdx.ix2_1]
    simp only [hw]
    exact Finset.sum_congr rfl fun k _ => congrArg (fun z : EReal => z * _) (hh a k)

theorem out_y (i : Fin 512) (j : Fin 1024) : (show FVec Ideal S512x1024 .f32 from (outsAt0 m c t).1) (ix2 i j)
    = after (mixAt X P Q W (512 * t.val + i.val)) G Wg Wu Wd j.val := by
  have hh := h_block A t
  have hg := read_wg A t
  have hu := read_wu A t
  have hd := read_wd A t
  have hx := mix_block A t
  unfold outsAt0 out0_A_8
  frame_out
  generalize iblk m c 0 t = x at hx hh ⊢
  generalize iblk m c 5 t = p at hx hh ⊢
  generalize iblk m c 6 t = q at hx hh ⊢
  generalize iblk m c 1 t = g at hh ⊢
  generalize iblk m c 2 t = wg at hg ⊢
  generalize iblk m c 3 t = wu at hu ⊢
  generalize iblk m c 4 t = wd at hd ⊢
  pointwise [k0_pay2]
  simp only [hd, View.readCov_eq_canon']
  refine congrArg₂ (fun u z : EReal => u + _ * z) (hx i j) (Finset.sum_congr rfl fun k _ => congrArg (fun z : EReal => z * _) ?_)
  refine (blocks (fun q => gated (lin (mixAt X P Q W (512 * t.val + (q 0).val)) G Wg (q 1).val) (lin (mixAt X P Q W (512 * t.val + (q 0).val)) G Wu (q 1).val)) ?_
    (View.cover_of_tiledBy _ ![512, 256] (by sl_kernel_rfl)) _).trans ?_
  · refine ⟨?_, ?_, ?_, ?_, ?_, ?_, ?_, ?_, ?_, ?_, ?_, trivial⟩
    all_goals
      intro s
      obtain ⟨a, b, rfl⟩ : ∃ (a : Fin 512) (b : Fin 256), s = ValueIdx.ix2 a b := ⟨s 0, s 1, ValueIdx.eq_ix2 s⟩
      pointwise [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      blk_simp
      simp only [ValueIdx.ix2_0, ValueIdx.ix2_1]
      simp only [hg, hu, zero_sub]
      exact congrArg₂ gated (Finset.sum_congr rfl fun k _ => congrArg (fun z : EReal => z * _) (hh a k)) (Finset.sum_congr rfl fun k _ => congrArg (fun z : EReal => z * _) (hh a k))
  · simp

theorem out_mix (i : Fin 512) (j : Fin 1024) : (show FVec Ideal S512x1024 .f32 from (outsAt0 m c t).2.2.2) (ix2 i j)
    = mixAt X P Q W (512 * t.val + i.val) j.val := by
  unfold outsAt0 out0_A_11
  frame_out
  exact mix_block A t i j

omit t

/-- The arrays the kernel leaves: the rows after the block, -/
theorem arr_y : (dats m 0 c).arrAt 8 cfg0.N = (show FVec Ideal S8192x1024 .f32 from fun q => after (mixAt X P Q W (q 0).val) G Wg Wu Wd (q 1).val) := by
  refine (dats m 0 c).arrAt_eq_of_covers 8 _ (by decide +kernel) fun t _ y => ?_
  blk_simp
  rw [after0_8]
  refine ((congrArg (show FVec Ideal S512x1024 .f32 from (outsAt0 m c t).1) (ValueIdx.eq_ix2 y)).trans (out_y A t (y 0) (y 1))).trans ?_
  have h0 : win0_8.index t 0 * 512 + (y 0).val = 512 * t.val + (y 0).val := by simp [idx t, Nat.mul_comm]
  have h1 : win0_8.index t 1 * 1024 + (y 1).val = (y 1).val := by simp [idx t]
  rw [h0, h1]

/-- the gate, -/
theorem arr_gate : (dats m 0 c).arrAt 9 cfg0.N = (show FVec Ideal S8192x2816 .bf16 from fun q => lin (mixAt X P Q W (q 0).val) G Wg (q 1).val) := by
  refine (dats m 0 c).arrAt_eq_of_covers 9 _ (by decide +kernel) fun t _ y => ?_
  blk_simp
  rw [after0_9]
  refine (out_gate A t y).trans ?_
  have h0 : win0_9.index t 0 * 512 + (y 0).val = 512 * t.val + (y 0).val := by simp [idx t, Nat.mul_comm]
  have h1 : win0_9.index t 1 * 2816 + (y 1).val = (y 1).val := by simp [idx t]
  rw [h0, h1]

/-- the linear branch, -/
theorem arr_up : (dats m 0 c).arrAt 10 cfg0.N = (show FVec Ideal S8192x2816 .bf16 from fun q => lin (mixAt X P Q W (q 0).val) G Wu (q 1).val) := by
  refine (dats m 0 c).arrAt_eq_of_covers 10 _ (by decide +kernel) fun t _ y => ?_
  blk_simp
  rw [after0_10]
  refine (out_up A t y).trans ?_
  have h0 : win0_10.index t 0 * 512 + (y 0).val = 512 * t.val + (y 0).val := by simp [idx t, Nat.mul_comm]
  have h1 : win0_10.index t 1 * 2816 + (y 1).val = (y 1).val := by simp [idx t]
  rw [h0, h1]

/-- and the mixed rows. -/
theorem arr_mix : (dats m 0 c).arrAt 11 cfg0.N = (show FVec Ideal S8192x1024 .f32 from fun q => mixAt X P Q W (q 0).val (q 1).val) := by
  refine (dats m 0 c).arrAt_eq_of_covers 11 _ (by decide +kernel) fun t _ y => ?_
  blk_simp
  rw [after0_11]
  refine ((congrArg (show FVec Ideal S512x1024 .f32 from (outsAt0 m c t).2.2.2) (ValueIdx.eq_ix2 y)).trans (out_mix A t (y 0) (y 1))).trans ?_
  have h0 : win0_11.index t 0 * 512 + (y 0).val = 512 * t.val + (y 0).val := by simp [idx t, Nat.mul_comm]
  have h1 : win0_11.index t 1 * 1024 + (y 1).val = (y 1).val := by simp [idx t]
  rw [h0, h1]

end Cert.Proof.MixFwd

end
-- ==== Proof.MxClaim.lean ====
/- The feed-forward block's forward pass with the mixers' output projection: both programs end with the same four arrays. -/
module

public import proofs.«01_k».proof.Defs
public import Idealize.ShloMosaic.Lib.Quiescent
public import proofs.«01_k».proof.Proof.Gen.Reference8Ideal
public import proofs.«01_k».proof.Proof.Gen.Reference8Ideal.Run
public import proofs.«01_k».proof.Proof.Gen.Kernel8Ideal.Value
public import proofs.«01_k».proof.Proof.MxRef
public import proofs.«01_k».proof.Proof.MxPoint

@[expose] public section

set_option maxRecDepth 16384
set_option maxHeartbeats 1600000

noncomputable section

namespace Cert.Proof.MixFwd

open Idealize.ShloMosaic Idealize.ShloMosaic.TcCoe Idealize.SL.Sem Cert.Kernel8Ideal

variable {m : (ℓ : Loc nD τ sig) → Buf (Elt Ideal) ℓ} {c : Dev nD} {X P Q W : ℕ → ℕ → EReal} {G : ℕ → EReal}
  {Wg Wu Wd : ℕ → ℕ → EReal} (A : Args m c X P Q W G Wg Wu Wd)

include A

/-- The reference's results of the kernel's arguments are the kernel's. -/
theorem same_y : (show FVec Ideal S8192x1024 .f32 from Cert.Reference8Ideal.Read.val_main_v23 (F := Ideal)
    (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))) = (Gen.dats m 0 c).arrAt 8 cfg0.N := by
  rw [arr_y A]
  funext i
  rw [ValueIdx.eq_ix2 i]
  exact ref_out (M := mixAt X P Q W) (ref_mix A.x A.p A.q A.w) A.g A.wg A.wu A.wd (i 0) (i 1)

theorem same_gate : (show FVec Ideal S8192x2816 .bf16 from Cert.Reference8Ideal.Read.val_main_v24 (F := Ideal)
    (m (c.tc.loc main_arg0)) (m (c.tc.loc main_arg1)) (m (c.tc.loc main_arg2)) (m (c.tc.loc main_arg3)) (m (c.tc.loc main_arg4)) (m (c.tc.loc main_arg5))) = (Gen.dats m 0 c).arrAt 9 cfg0.N := by
  rw [arr_gate A]
  funext i
  rw [ValueIdx.eq_ix2 i]
  exact ref_gate (M := mixAt X P Q W) (ref_mix A.x A.p A.q A.w) A.g A.wg (i 0) (i 1)

theorem same_up : (show FVec Ideal S8192x2816 .bf16 from Cert.Reference8Ideal.Read.val_main_v25 (F := Ideal)
    (m (c.tc.loc main_arg0)) (m (c.tc.loc main_arg1)) (m (c.tc.loc main_arg2)) (m (c.tc.loc main_arg3)) (m (c.tc.loc main_arg4)) (m (c.tc.loc main_arg6))) = (Gen.dats m 0 c).arrAt 10 cfg0.N := by
  rw [arr_up A]
  funext i
  rw [ValueIdx.eq_ix2 i]
  exact ref_up (M := mixAt X P Q W) (ref_mix A.x A.p A.q A.w) A.g A.wu (i 0) (i 1)

theorem same_mix : (show FVec Ideal S8192x1024 .f32 from Cert.Reference8Ideal.Read.val_main_v2 (F := Ideal)
    (m (c.tc.loc main_arg0)) (m (c.tc.loc main_arg1)) (m (c.tc.loc main_arg2)) (m (c.tc.loc main_arg3))) = (Gen.dats m 0 c).arrAt 11 cfg0.N := by
  rw [arr_mix A]
  funext i
  rw [ValueIdx.eq_ix2 i]
  exact ref_mix A.x A.p A.q A.w (i 0) (i 1)

omit A

/-- The block's four results are the reference's. -/
theorem algebraic : Cert.algebraic_Kernel8Ideal_Reference8Ideal (hKernel8Ideal := Cert.Kernel8Ideal.Gen.facts)
    (hReference8Ideal := Cert.Reference8Ideal.Gen.facts) := by
  intro m g m' g' _ hag
  refine ⟨fun c => (Gen.dats m 0 c).arrAt 8 cfg0.N, fun c => (Gen.dats m 0 c).arrAt 9 cfg0.N, fun c => (Gen.dats m 0 c).arrAt 10 cfg0.N,
    fun c => (Gen.dats m 0 c).arrAt 11 cfg0.N, Cert.Kernel8Ideal.Value.run_blocks m g, ?_⟩
  refine (θ_run Cert.Reference8Ideal.defs _ _).mono (fun r h c => ?_) (Cert.Reference8Ideal.Value.run m' g')
  obtain ⟨X, P, Q, W, G, Wg, Wu, Wd, A⟩ := args m c
  obtain ⟨a0, a1, a2, a3, a4, a5, a6, a7⟩ := hag c
  obtain ⟨r0, r1, r2, r3, rest⟩ := h c
  refine ⟨r0.trans ?_, r1.trans ?_, r2.trans ?_, r3.trans ?_, rest⟩
  · rw [Cert.Reference8Ideal.Read.val_main_v23_eq, a0, a1, a2, a3, a4, a5, a6, a7]
    exact same_y A
  · rw [Cert.Reference8Ideal.Read.val_main_v24_eq, a0, a1, a2, a3, a4, a5]
    exact same_gate A
  · rw [Cert.Reference8Ideal.Read.val_main_v25_eq, a0, a1, a2, a3, a4, a6]
    exact same_up A
  · rw [Cert.Reference8Ideal.Read.val_main_v2_eq, a0, a1, a2, a3]
    exact same_mix A

/-- The reference's frame: it has no semaphores. -/
theorem frame_reference : Cert.quiescent_Reference8Ideal (hReference8Ideal := Cert.Reference8Ideal.Gen.facts) := fun m ρ _ =>
  (θ_run Cert.Reference8Ideal.defs _ _).mono (fun r h => ⟨fun c => (h c).2.2.2.2, sem_eq_zero_of_no_sems rfl r.2⟩)
    (Cert.Reference8Ideal.Value.run m ρ)

end Cert.Proof.MixFwd

end
-- ==== Proof.lean ====
/- The claim: every part of it from the module that proves it. -/
module

public import proofs.«01_k».proof.Proof.Gen.ReferenceIdeal.Read
public import proofs.«01_k».proof.Proof.Gen.ReferenceIdeal.Run
public import proofs.«01_k».proof.Defs
public import proofs.«01_k».proof.Proof.InClaim
public import proofs.«01_k».proof.Proof.AtClaim
public import proofs.«01_k».proof.Proof.FfClaim
public import proofs.«01_k».proof.Proof.LsClaim
public import proofs.«01_k».proof.Proof.AxClaim
public import proofs.«01_k».proof.Proof.IfClaim
public import proofs.«01_k».proof.Proof.FwClaim
public import proofs.«01_k».proof.Proof.MxClaim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  InProj.pre_facts, Cert.Pre_finite2.Gen.facts, Ffn.pre_facts, Loss.pre_facts, Cert.Pre_finite5.Gen.facts,
  fun m ρ _ => Cert.Kernel.Gen.frame m ρ, fun m ρ _ => Cert.KernelIdeal.Gen.frame m ρ, fun m ρ _ => Cert.KernelIdeal.Gen.frame m ρ,
  InProj.frame_reference, fun m ρ _ => InProj.frame_reference m ρ trivial,
  Attn.frame_kernel, Attn.frame_ideal, fun m ρ _ => Attn.frame_ideal m ρ trivial,
  Attn.frame_reference, fun m ρ _ => Attn.frame_reference m ρ trivial,
  fun m ρ _ => Cert.Kernel3.Gen.frame m ρ, fun m ρ _ => Cert.Kernel3Ideal.Gen.frame m ρ, fun m ρ _ => Cert.Kernel3Ideal.Gen.frame m ρ,
  Ffn.frame_reference, fun m ρ _ => Ffn.frame_reference m ρ trivial,
  fun m ρ _ => Cert.Kernel4.Gen.frame m ρ, fun m ρ _ => Cert.Kernel4Ideal.Gen.frame m ρ, fun m ρ _ => Cert.Kernel4Ideal.Gen.frame m ρ,
  Loss.frame_reference, fun m ρ _ => Loss.frame_reference m ρ trivial,
  fun m ρ _ => Cert.Kernel5.Gen.frame m ρ, fun m ρ _ => Cert.Kernel5Ideal.Gen.frame m ρ, fun m ρ _ => Cert.Kernel5Ideal.Gen.frame m ρ,
  AttnFwd.frame_reference, fun m ρ _ => AttnFwd.frame_reference m ρ trivial,
  fun m ρ _ => Cert.Kernel6.Gen.frame m ρ, fun m ρ _ => Cert.Kernel6Ideal.Gen.frame m ρ,
  InFwd.frame_reference,
  fun m ρ _ => Cert.Kernel7.Gen.frame m ρ, fun m ρ _ => Cert.Kernel7Ideal.Gen.frame m ρ, FfnFwd.frame_reference,
  fun m ρ _ => Cert.Kernel8.Gen.frame m ρ, fun m ρ _ => Cert.Kernel8Ideal.Gen.frame m ρ, MixFwd.frame_reference,
  trivial, InProj.algebraic, trivial, Attn.algebraic, trivial, Ffn.algebraic, trivial, Loss.algebraic, trivial, AttnFwd.algebraic,
  trivial, InFwd.algebraic, trivial, FfnFwd.algebraic, trivial, MixFwd.algebraic⟩

end Cert.Proof

end
